-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4)
      ∧ r.2.mem ((c.tc : Thread Cert.AttnKernel.nD Cert.AttnKernel.τ).loc Cert.AttnKernel.main_arg5) = m ((c.tc : Thread Cert.AttnKernel.nD Cert.AttnKernel.τ).loc Cert.AttnKernel.main_arg5))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 128]⟩ ⟨2, ![2048, 4096]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_AttnKernel_AttnKernelIdeal : Prop :=
  True

def algebraic_AttnKernelIdeal_AttnReferenceIdeal [hAttnKernelIdeal : Cert.AttnKernelIdeal.Facts] [hAttnReferenceIdeal : Cert.AttnReferenceIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal m →
    (∀ c : Dev Cert.AttnKernelIdeal.nD,
      m ((c.tc : Thread Cert.AttnKernelIdeal.nD Cert.AttnKernelIdeal.τ).loc Cert.AttnKernelIdeal.main_arg0) = m' (((0 : Dev Cert.AttnReferenceIdeal.nD).tc : Thread Cert.AttnReferenceIdeal.nD Cert.AttnReferenceIdeal.τ).loc Cert.AttnReferenceIdeal.main_arg0)
      ∧ m ((c.tc : Thread Cert.AttnKernelIdeal.nD Cert.AttnKernelIdeal.τ).loc Cert.AttnKernelIdeal.main_arg1) = m' (((0 : Dev Cert.AttnReferenceIdeal.nD).tc : Thread Cert.AttnReferenceIdeal.nD Cert.AttnReferenceIdeal.τ).loc Cert.AttnReferenceIdeal.main_arg1)
      ∧ m ((c.tc : Thread Cert.AttnKernelIdeal.nD Cert.AttnKernelIdeal.τ).loc Cert.AttnKernelIdeal.main_arg2) = m' (((0 : Dev Cert.AttnReferenceIdeal.nD).tc : Thread Cert.AttnReferenceIdeal.nD Cert.AttnReferenceIdeal.τ).loc Cert.AttnReferenceIdeal.main_arg2)
      ∧ m ((c.tc : Thread Cert.AttnKernelIdeal.nD Cert.AttnKernelIdeal.τ).loc Cert.AttnKernelIdeal.main_arg3) = m' (((0 : Dev Cert.AttnReferenceIdeal.nD).tc : Thread Cert.AttnReferenceIdeal.nD Cert.AttnReferenceIdeal.τ).loc Cert.AttnReferenceIdeal.main_arg3)
      ∧ m ((c.tc : Thread Cert.AttnKernelIdeal.nD Cert.AttnKernelIdeal.τ).loc Cert.AttnKernelIdeal.main_arg4) = m' (((0 : Dev Cert.AttnReferenceIdeal.nD).tc : Thread Cert.AttnReferenceIdeal.nD Cert.AttnReferenceIdeal.τ).loc Cert.AttnReferenceIdeal.main_arg4)
      ∧ m ((c.tc : Thread Cert.AttnKernelIdeal.nD Cert.AttnKernelIdeal.τ).loc Cert.AttnKernelIdeal.main_arg5) = m' (((0 : Dev Cert.AttnReferenceIdeal.nD).tc : Thread Cert.AttnReferenceIdeal.nD Cert.AttnReferenceIdeal.τ).loc Cert.AttnReferenceIdeal.main_arg5)) →
    ∃ (v0 : Buf (Elt Ideal) (((0 : Dev Cert.AttnReferenceIdeal.nD).tc : Thread Cert.AttnReferenceIdeal.nD Cert.AttnReferenceIdeal.τ).loc Cert.AttnReferenceIdeal.main_v30)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v1) = v0
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
          ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ θ_run (Cert.AttnReferenceIdeal.defs (F := Ideal)) (onTc (τ := Cert.AttnReferenceIdeal.τ) (Cert.AttnReferenceIdeal.main (F := Ideal))) ⟨m', fun _ => 0, g'⟩ (fun r =>
          r.2.mem (((0 : Dev Cert.AttnReferenceIdeal.nD).tc : Thread Cert.AttnReferenceIdeal.nD Cert.AttnReferenceIdeal.τ).loc Cert.AttnReferenceIdeal.main_v30) = v0
          ∧ r.2.mem (((0 : Dev Cert.AttnReferenceIdeal.nD).tc : Thread Cert.AttnReferenceIdeal.nD Cert.AttnReferenceIdeal.τ).loc Cert.AttnReferenceIdeal.main_arg0) = m' (((0 : Dev Cert.AttnReferenceIdeal.nD).tc : Thread Cert.AttnReferenceIdeal.nD Cert.AttnReferenceIdeal.τ).loc Cert.AttnReferenceIdeal.main_arg0)
          ∧ r.2.mem (((0 : Dev Cert.AttnReferenceIdeal.nD).tc : Thread Cert.AttnReferenceIdeal.nD Cert.AttnReferenceIdeal.τ).loc Cert.AttnReferenceIdeal.main_arg1) = m' (((0 : Dev Cert.AttnReferenceIdeal.nD).tc : Thread Cert.AttnReferenceIdeal.nD Cert.AttnReferenceIdeal.τ).loc Cert.AttnReferenceIdeal.main_arg1)
          ∧ r.2.mem (((0 : Dev Cert.AttnReferenceIdeal.nD).tc : Thread Cert.AttnReferenceIdeal.nD Cert.AttnReferenceIdeal.τ).loc Cert.AttnReferenceIdeal.main_arg2) = m' (((0 : Dev Cert.AttnReferenceIdeal.nD).tc : Thread Cert.AttnReferenceIdeal.nD Cert.AttnReferenceIdeal.τ).loc Cert.AttnReferenceIdeal.main_arg2)
          ∧ r.2.mem (((0 : Dev Cert.AttnReferenceIdeal.nD).tc : Thread Cert.AttnReferenceIdeal.nD Cert.AttnReferenceIdeal.τ).loc Cert.AttnReferenceIdeal.main_arg3) = m' (((0 : Dev Cert.AttnReferenceIdeal.nD).tc : Thread Cert.AttnReferenceIdeal.nD Cert.AttnReferenceIdeal.τ).loc Cert.AttnReferenceIdeal.main_arg3)
          ∧ r.2.mem (((0 : Dev Cert.AttnReferenceIdeal.nD).tc : Thread Cert.AttnReferenceIdeal.nD Cert.AttnReferenceIdeal.τ).loc Cert.AttnReferenceIdeal.main_arg4) = m' (((0 : Dev Cert.AttnReferenceIdeal.nD).tc : Thread Cert.AttnReferenceIdeal.nD Cert.AttnReferenceIdeal.τ).loc Cert.AttnReferenceIdeal.main_arg4)
          ∧ r.2.mem (((0 : Dev Cert.AttnReferenceIdeal.nD).tc : Thread Cert.AttnReferenceIdeal.nD Cert.AttnReferenceIdeal.τ).loc Cert.AttnReferenceIdeal.main_arg5) = m' (((0 : Dev Cert.AttnReferenceIdeal.nD).tc : Thread Cert.AttnReferenceIdeal.nD Cert.AttnReferenceIdeal.τ).loc Cert.AttnReferenceIdeal.main_arg5))

def Claim : Prop :=
  ∃ (hKernel : Cert.Kernel.Facts) (hKernelIdeal : Cert.KernelIdeal.Facts) (hReferenceIdeal : Cert.ReferenceIdeal.Facts) (hAttnKernel : Cert.AttnKernel.Facts) (hAttnKernelIdeal : Cert.AttnKernelIdeal.Facts) (hAttnReferenceIdeal : Cert.AttnReferenceIdeal.Facts),
    quiescent_Kernel (hKernel := hKernel)
    ∧ quiescent_KernelIdeal (hKernelIdeal := hKernelIdeal)
    ∧ quiescent_ReferenceIdeal (hReferenceIdeal := hReferenceIdeal)
    ∧ quiescent_AttnKernel (hAttnKernel := hAttnKernel)
    ∧ quiescent_AttnKernelIdeal (hAttnKernelIdeal := hAttnKernelIdeal)
    ∧ quiescent_AttnReferenceIdeal (hAttnReferenceIdeal := hAttnReferenceIdeal)
    ∧ preserves_Kernel_KernelIdeal
    ∧ algebraic_KernelIdeal_ReferenceIdeal (hKernelIdeal := hKernelIdeal) (hReferenceIdeal := hReferenceIdeal)
    ∧ preserves_AttnKernel_AttnKernelIdeal
    ∧ algebraic_AttnKernelIdeal_AttnReferenceIdeal (hAttnKernelIdeal := hAttnKernelIdeal) (hAttnReferenceIdeal := hAttnReferenceIdeal)
-- ==== Kernel.lean ====
abbrev S1024x2048 : Shape := ⟨2, ![1024, 2048]⟩
abbrev S2048x128 : Shape := ⟨2, ![2048, 128]⟩
abbrev S128x2048 : Shape := ⟨2, ![128, 2048]⟩
abbrev S1024x4096 : Shape := ⟨2, ![1024, 4096]⟩
abbrev S4x2x64x1024 : Shape := ⟨4, ![4, 2, 64, 1024]⟩
abbrev S4x64x1024 : Shape := ⟨3, ![4, 64, 1024]⟩
abbrev S4x2 : Shape := ⟨2, ![4, 2]⟩
abbrev S4 : Shape := ⟨1, ![4]⟩
abbrev S_ : Shape := ⟨0, ![]⟩
abbrev S1024x128 : Shape := ⟨2, ![1024, 128]⟩
abbrev S64x1024 : Shape := ⟨2, ![64, 1024]⟩
abbrev S1x1x64x1024 : Shape := ⟨4, ![1, 1, 64, 1024]⟩
abbrev S1x1 : Shape := ⟨2, ![1, 1]⟩
abbrev S1 : Shape := ⟨1, ![1]⟩
abbrev S1x64x1024 : Shape := ⟨3, ![1, 64, 1024]⟩

abbrev nBuf : Space → Nat
  | .hbm => 5
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S1024x4096, .bf16⟩
  | .local _ .vmem, ⟨0, _⟩ => ⟨S1024x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S1024x4096, .bf16⟩
  | .local _ .vmem, ⟨5, _⟩ => ⟨S1024x4096, .f32⟩
  | .local _ .vmem, ⟨6, _⟩ => ⟨S4x2x64x1024, .bf16⟩
  | .local _ .vmem, ⟨7, _⟩ => ⟨S4x2x64x1024, .bf16⟩
  | .local _ .vmem, ⟨8, _⟩ => ⟨S4x64x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 9 29 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 32
abbrev τ : Topo := Topo.v7x

variable {F : FTy → Type} [FloatOps F]

abbrev grid0 : Pipeline.Grid := .none

def k0_dev1 (d0 : Dev nD) : Nat :=
  let c0_i32_306 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_305 : BitVec 32 := 1#32
  let v424 : BitVec 32 := Scalar.muli v280 c1_i32_305
  let v425 : BitVec 32 := Scalar.addi c0_i32_306 v424
  v425.toNat
def k0_dev2 (d0 : Dev nD) : Nat :=
  let c0_i32_309 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_308 : BitVec 32 := 1#32
  let v426 : BitVec 32 := Scalar.muli v404 c1_i32_308
  let v427 : BitVec 32 := Scalar.addi c0_i32_309 v426
  v427.toNat
def k0_dev3 (d0 : Dev nD) : Nat :=
  let c0_i32_312 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_311 : BitVec 32 := 1#32
  let v428 : BitVec 32 := Scalar.muli v422 c1_i32_311
  let v429 : BitVec 32 := Scalar.addi c0_i32_312 v428
  v429.toNat
def k0_off1 (d0 : Dev nD) (c0_i32_326 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v447 : BitVec 32 := Scalar.subi v156 c0_i32_326
  let c16_i32_327 : BitVec 32 := 16#32
  let c0_i32_328 : BitVec 32 := 0#32
  let v448 : BitVec 1 := Scalar.cmpi .eq c16_i32_327 c0_i32_328
  let c1_i32_329 : BitVec 32 := 1#32
  let v449 : BitVec 32 := Scalar.select v448 c1_i32_329 c16_i32_327
  let v450 : BitVec 32 := Scalar.remsi v447 v449
  let c0_i32_331 : BitVec 32 := 0#32
  let v452 : BitVec 1 := Scalar.cmpi .slt v450 c0_i32_331
  let c0_i32_332 : BitVec 32 := 0#32
  let v453 : BitVec 1 := Scalar.cmpi .slt v449 c0_i32_332
  let v454 : BitVec 1 := Scalar.xori v452 v453
  let c0_i32_330 : BitVec 32 := 0#32
  let v451 : BitVec 1 := Scalar.cmpi .ne v450 c0_i32_330
  let v455 : BitVec 1 := Scalar.andi v454 v451
  let v456 : BitVec 32 := Scalar.addi v450 v449
  let v457 : BitVec 32 := Scalar.select v455 v456 v450
  let c64_i32 : BitVec 32 := 64#32
  let v469 : BitVec 32 := Scalar.muli v457 c64_i32
  let v471 : Index := Scalar.indexCast v469
  let c0_341 : Index := 0#32
  ![v471.toNat, 0]
def k0_dev4 (d0 : Dev nD) : Nat :=
  let c0_i32_355 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_354 : BitVec 32 := 1#32
  let v477 : BitVec 32 := Scalar.muli v280 c1_i32_354
  let v478 : BitVec 32 := Scalar.addi c0_i32_355 v477
  v478.toNat
def k0_off2 (d0 : Dev nD) (c0_i32_360 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v487 : BitVec 32 := Scalar.subi v156 c0_i32_360
  let c16_i32_361 : BitVec 32 := 16#32
  let c0_i32_362 : BitVec 32 := 0#32
  let v488 : BitVec 1 := Scalar.cmpi .eq c16_i32_361 c0_i32_362
  let c1_i32_363 : BitVec 32 := 1#32
  let v489 : BitVec 32 := Scalar.select v488 c1_i32_363 c16_i32_361
  let v490 : BitVec 32 := Scalar.remsi v487 v489
  let c0_i32_365 : BitVec 32 := 0#32
  let v492 : BitVec 1 := Scalar.cmpi .slt v490 c0_i32_365
  let c0_i32_366 : BitVec 32 := 0#32
  let v493 : BitVec 1 := Scalar.cmpi .slt v489 c0_i32_366
  let v494 : BitVec 1 := Scalar.xori v492 v493
  let c0_i32_364 : BitVec 32 := 0#32
  let v491 : BitVec 1 := Scalar.cmpi .ne v490 c0_i32_364
  let v495 : BitVec 1 := Scalar.andi v494 v491
  let v496 : BitVec 32 := Scalar.addi v490 v489
  let v497 : BitVec 32 := Scalar.select v495 v496 v490
  let c64_i32_374 : BitVec 32 := 64#32
  let v509 : BitVec 32 := Scalar.muli v497 c64_i32_374
  let v511 : Index := Scalar.indexCast v509
  let c1024 : Index := 1024#32
  ![v511.toNat, 1024]
def k0_dev5 (d0 : Dev nD) : Nat :=
  let c0_i32_388 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_387 : BitVec 32 := 1#32
  let v517 : BitVec 32 := Scalar.muli v280 c1_i32_387
  let v518 : BitVec 32 := Scalar.addi c0_i32_388 v517
  v518.toNat
def k0_off3 (d0 : Dev nD) (c0_i32_393 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v527 : BitVec 32 := Scalar.subi v156 c0_i32_393
  let c16_i32_394 : BitVec 32 := 16#32
  let c0_i32_395 : BitVec 32 := 0#32
  let v528 : BitVec 1 := Scalar.cmpi .eq c16_i32_394 c0_i32_395
  let c1_i32_396 : BitVec 32 := 1#32
  let v529 : BitVec 32 := Scalar.select v528 c1_i32_396 c16_i32_394
  let v530 : BitVec 32 := Scalar.remsi v527 v529
  let c0_i32_398 : BitVec 32 := 0#32
  let v532 : BitVec 1 := Scalar.cmpi .slt v530 c0_i32_398
  let c0_i32_399 : BitVec 32 := 0#32
  let v533 : BitVec 1 := Scalar.cmpi .slt v529 c0_i32_399
  let v534 : BitVec 1 := Scalar.xori v532 v533
  let c0_i32_397 : BitVec 32 := 0#32
  let v531 : BitVec 1 := Scalar.cmpi .ne v530 c0_i32_397
  let v535 : BitVec 1 := Scalar.andi v534 v531
  let v536 : BitVec 32 := Scalar.addi v530 v529
  let v537 : BitVec 32 := Scalar.select v535 v536 v530
  let c64_i32_406 : BitVec 32 := 64#32
  let v549 : BitVec 32 := Scalar.muli v537 c64_i32_406
  let v551 : Index := Scalar.indexCast v549
  let c2048_408 : Index := 2048#32
  ![v551.toNat, 2048]
def k0_off3_at (r : Fin 16) : BitVec 32 :=
  if r.val < 8 then
    if r.val < 4 then
      if r.val < 2 then
        if r.val < 1 then
          0#32
        else
          4294967295#32
      else
        if r.val < 3 then
          4294967294#32
        else
          4294967293#32
    else
      if r.val < 6 then
        if r.val < 5 then
          4294967292#32
        else
          4294967291#32
      else
        if r.val < 7 then
          4294967290#32
        else
          4294967289#32
  else
    if r.val < 12 then
      if r.val < 10 then
        if r.val < 9 then
          4294967288#32
        else
          4294967287#32
      else
        if r.val < 11 then
          4294967286#32
        else
          4294967285#32
    else
      if r.val < 14 then
        if r.val < 13 then
          4294967284#32
        else
          4294967283#32
      else
        if r.val < 15 then
          4294967282#32
        else
          4294967281#32
def k0_dev6 (d0 : Dev nD) : Nat :=
  let c0_i32_421 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_420 : BitVec 32 := 1#32
  let v557 : BitVec 32 := Scalar.muli v404 c1_i32_420
  let v558 : BitVec 32 := Scalar.addi c0_i32_421 v557
  v558.toNat
def k0_off4 (d0 : Dev nD) (c0_i32_426 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v567 : BitVec 32 := Scalar.subi v156 c0_i32_426
  let c16_i32_427 : BitVec 32 := 16#32
  let c0_i32_428 : BitVec 32 := 0#32
  let v568 : BitVec 1 := Scalar.cmpi .eq c16_i32_427 c0_i32_428
  let c1_i32_429 : BitVec 32 := 1#32
  let v569 : BitVec 32 := Scalar.select v568 c1_i32_429 c16_i32_427
  let v570 : BitVec 32 := Scalar.remsi v567 v569
  let c0_i32_431 : BitVec 32 := 0#32
  let v572 : BitVec 1 := Scalar.cmpi .slt v570 c0_i32_431
  let c0_i32_432 : BitVec 32 := 0#32
  let v573 : BitVec 1 := Scalar.cmpi .slt v569 c0_i32_432
  let v574 : BitVec 1 := Scalar.xori v572 v573
  let c0_i32_430 : BitVec 32 := 0#32
  let v571 : BitVec 1 := Scalar.cmpi .ne v570 c0_i32_430
  let v575 : BitVec 1 := Scalar.andi v574 v571
  let v576 : BitVec 32 := Scalar.addi v570 v569
  let v577 : BitVec 32 := Scalar.select v575 v576 v570
  let c64_i32_440 : BitVec 32 := 64#32
  let v589 : BitVec 32 := Scalar.muli v577 c64_i32_440
  let v591 : Index := Scalar.indexCast v589
  let c3072 : Index := 3072#32
  ![v591.toNat, 3072]
def k0_off4_at (r : Fin 16) : BitVec 32 :=
  if r.val < 8 then
    if r.val < 4 then
      if r.val < 2 then
        if r.val < 1 then
          0#32
        else
          4294967295#32
      else
        if r.val < 3 then
          4294967294#32
        else
          4294967293#32
    else
      if r.val < 6 then
        if r.val < 5 then
          4294967292#32
        else
          4294967291#32
      else
        if r.val < 7 then
          4294967290#32
        else
          4294967289#32
  else
    if r.val < 12 then
      if r.val < 10 then
        if r.val < 9 then
          4294967288#32
        else
          4294967287#32
      else
        if r.val < 11 then
          4294967286#32
        else
          4294967285#32
    else
      if r.val < 14 then
        if r.val < 13 then
          4294967284#32
        else
          4294967283#32
      else
        if r.val < 15 then
          4294967282#32
        else
          4294967281#32
def k0_dev7 (d0 : Dev nD) : Nat :=
  let c0_i32_454 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_453 : BitVec 32 := 1#32
  let v597 : BitVec 32 := Scalar.muli v404 c1_i32_453
  let v598 : BitVec 32 := Scalar.addi c0_i32_454 v597
  v598.toNat
def k0_dev8 (d0 : Dev nD) : Nat :=
  let c0_i32_496 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_495 : BitVec 32 := 1#32
  let v633 : BitVec 32 := Scalar.muli v404 c1_i32_495
  let v634 : BitVec 32 := Scalar.addi c0_i32_496 v633
  v634.toNat
def k0_dev9 (d0 : Dev nD) : Nat :=
  let c0_i32_527 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_526 : BitVec 32 := 1#32
  let v665 : BitVec 32 := Scalar.muli v280 c1_i32_526
  let v666 : BitVec 32 := Scalar.addi c0_i32_527 v665
  v666.toNat
def k0_dev10 (d0 : Dev nD) : Nat :=
  let c0_i32_569 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_568 : BitVec 32 := 1#32
  let v701 : BitVec 32 := Scalar.muli v404 c1_i32_568
  let v702 : BitVec 32 := Scalar.addi c0_i32_569 v701
  v702.toNat
def k0_dev11 (d0 : Dev nD) : Nat :=
  let c0_i32_600 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_599 : BitVec 32 := 1#32
  let v733 : BitVec 32 := Scalar.muli v280 c1_i32_599
  let v734 : BitVec 32 := Scalar.addi c0_i32_600 v733
  v734.toNat
def k0_dev12 (d0 : Dev nD) : Nat :=
  let c0_i32_642 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_641 : BitVec 32 := 1#32
  let v769 : BitVec 32 := Scalar.muli v280 c1_i32_641
  let v770 : BitVec 32 := Scalar.addi c0_i32_642 v769
  v770.toNat
def k0_dev13 (d0 : Dev nD) : Nat :=
  let c0_i32_672 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_671 : BitVec 32 := 1#32
  let v801 : BitVec 32 := Scalar.muli v404 c1_i32_671
  let v802 : BitVec 32 := Scalar.addi c0_i32_672 v801
  v802.toNat
def k0_dev14 (d0 : Dev nD) : Nat :=
  let c0_i32_714 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_713 : BitVec 32 := 1#32
  let v837 : BitVec 32 := Scalar.muli v280 c1_i32_713
  let v838 : BitVec 32 := Scalar.addi c0_i32_714 v837
  v838.toNat
def k0_dev15 (d0 : Dev nD) : Nat :=
  let c0_i32_745 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_744 : BitVec 32 := 1#32
  let v869 : BitVec 32 := Scalar.muli v404 c1_i32_744
  let v870 : BitVec 32 := Scalar.addi c0_i32_745 v869
  v870.toNat
def k0_dev16 (d0 : Dev nD) : Nat :=
  let c0_i32_787 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_786 : BitVec 32 := 1#32
  let v905 : BitVec 32 := Scalar.muli v404 c1_i32_786
  let v906 : BitVec 32 := Scalar.addi c0_i32_787 v905
  v906.toNat
def k0_dev17 (d0 : Dev nD) : Nat :=
  let c0_i32_822 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_821 : BitVec 32 := 1#32
  let v939 : BitVec 32 := Scalar.muli v280 c1_i32_821
  let v940 : BitVec 32 := Scalar.addi c0_i32_822 v939
  v940.toNat
def k0_dev18 (d0 : Dev nD) : Nat :=
  let c0_i32_864 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_863 : BitVec 32 := 1#32
  let v975 : BitVec 32 := Scalar.muli v404 c1_i32_863
  let v976 : BitVec 32 := Scalar.addi c0_i32_864 v975
  v976.toNat
def k0_dev19 (d0 : Dev nD) : Nat :=
  let c0_i32_899 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_898 : BitVec 32 := 1#32
  let v1009 : BitVec 32 := Scalar.muli v280 c1_i32_898
  let v1010 : BitVec 32 := Scalar.addi c0_i32_899 v1009
  v1010.toNat
def k0_dev20 (d0 : Dev nD) : Nat :=
  let c0_i32_941 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_940 : BitVec 32 := 1#32
  let v1045 : BitVec 32 := Scalar.muli v280 c1_i32_940
  let v1046 : BitVec 32 := Scalar.addi c0_i32_941 v1045
  v1046.toNat
def k0_dev21 (d0 : Dev nD) : Nat :=
  let c0_i32_975 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_974 : BitVec 32 := 1#32
  let v1079 : BitVec 32 := Scalar.muli v404 c1_i32_974
  let v1080 : BitVec 32 := Scalar.addi c0_i32_975 v1079
  v1080.toNat
def k0_dev22 (d0 : Dev nD) : Nat :=
  let c0_i32_1017 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1016 : BitVec 32 := 1#32
  let v1115 : BitVec 32 := Scalar.muli v280 c1_i32_1016
  let v1116 : BitVec 32 := Scalar.addi c0_i32_1017 v1115
  v1116.toNat
def k0_dev23 (d0 : Dev nD) : Nat :=
  let c0_i32_1052 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1051 : BitVec 32 := 1#32
  let v1149 : BitVec 32 := Scalar.muli v404 c1_i32_1051
  let v1150 : BitVec 32 := Scalar.addi c0_i32_1052 v1149
  v1150.toNat
def k0_dev24 (d0 : Dev nD) : Nat :=
  let c0_i32_1094 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1093 : BitVec 32 := 1#32
  let v1185 : BitVec 32 := Scalar.muli v404 c1_i32_1093
  let v1186 : BitVec 32 := Scalar.addi c0_i32_1094 v1185
  v1186.toNat
def k0_dev25 (d0 : Dev nD) : Nat :=
  let c0_i32_1129 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1128 : BitVec 32 := 1#32
  let v1219 : BitVec 32 := Scalar.muli v280 c1_i32_1128
  let v1220 : BitVec 32 := Scalar.addi c0_i32_1129 v1219
  v1220.toNat
def k0_dev26 (d0 : Dev nD) : Nat :=
  let c0_i32_1171 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1170 : BitVec 32 := 1#32
  let v1255 : BitVec 32 := Scalar.muli v404 c1_i32_1170
  let v1256 : BitVec 32 := Scalar.addi c0_i32_1171 v1255
  v1256.toNat
def k0_dev27 (d0 : Dev nD) : Nat :=
  let c0_i32_1206 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1205 : BitVec 32 := 1#32
  let v1289 : BitVec 32 := Scalar.muli v280 c1_i32_1205
  let v1290 : BitVec 32 := Scalar.addi c0_i32_1206 v1289
  v1290.toNat
def k0_dev28 (d0 : Dev nD) : Nat :=
  let c0_i32_1248 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1247 : BitVec 32 := 1#32
  let v1325 : BitVec 32 := Scalar.muli v280 c1_i32_1247
  let v1326 : BitVec 32 := Scalar.addi c0_i32_1248 v1325
  v1326.toNat
def k0_dev29 (d0 : Dev nD) : Nat :=
  let c0_i32_1282 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1281 : BitVec 32 := 1#32
  let v1359 : BitVec 32 := Scalar.muli v404 c1_i32_1281
  let v1360 : BitVec 32 := Scalar.addi c0_i32_1282 v1359
  v1360.toNat
def k0_dev30 (d0 : Dev nD) : Nat :=
  let c0_i32_1324 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1323 : BitVec 32 := 1#32
  let v1395 : BitVec 32 := Scalar.muli v280 c1_i32_1323
  let v1396 : BitVec 32 := Scalar.addi c0_i32_1324 v1395
  v1396.toNat
def k0_dev31 (d0 : Dev nD) : Nat :=
  let c0_i32_1359 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1358 : BitVec 32 := 1#32
  let v1429 : BitVec 32 := Scalar.muli v404 c1_i32_1358
  let v1430 : BitVec 32 := Scalar.addi c0_i32_1359 v1429
  v1430.toNat
def k0_dev32 (d0 : Dev nD) : Nat :=
  let c0_i32_1401 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1400 : BitVec 32 := 1#32
  let v1465 : BitVec 32 := Scalar.muli v404 c1_i32_1400
  let v1466 : BitVec 32 := Scalar.addi c0_i32_1401 v1465
  v1466.toNat
def k0_dev33 (d0 : Dev nD) : Nat :=
  let c0_i32_1436 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1435 : BitVec 32 := 1#32
  let v1499 : BitVec 32 := Scalar.muli v280 c1_i32_1435
  let v1500 : BitVec 32 := Scalar.addi c0_i32_1436 v1499
  v1500.toNat
def k0_dev34 (d0 : Dev nD) : Nat :=
  let c0_i32_1478 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1477 : BitVec 32 := 1#32
  let v1535 : BitVec 32 := Scalar.muli v404 c1_i32_1477
  let v1536 : BitVec 32 := Scalar.addi c0_i32_1478 v1535
  v1536.toNat
def k0_dev35 (d0 : Dev nD) : Nat :=
  let c0_i32_1513 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1512 : BitVec 32 := 1#32
  let v1569 : BitVec 32 := Scalar.muli v280 c1_i32_1512
  let v1570 : BitVec 32 := Scalar.addi c0_i32_1513 v1569
  v1570.toNat
def k0_dev36 (d0 : Dev nD) : Nat :=
  let c0_i32_1555 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1554 : BitVec 32 := 1#32
  let v1605 : BitVec 32 := Scalar.muli v280 c1_i32_1554
  let v1606 : BitVec 32 := Scalar.addi c0_i32_1555 v1605
  v1606.toNat
def k0_dev37 (d0 : Dev nD) : Nat :=
  let c0_i32_1589 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1588 : BitVec 32 := 1#32
  let v1639 : BitVec 32 := Scalar.muli v404 c1_i32_1588
  let v1640 : BitVec 32 := Scalar.addi c0_i32_1589 v1639
  v1640.toNat
def k0_dev38 (d0 : Dev nD) : Nat :=
  let c0_i32_1631 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1630 : BitVec 32 := 1#32
  let v1675 : BitVec 32 := Scalar.muli v280 c1_i32_1630
  let v1676 : BitVec 32 := Scalar.addi c0_i32_1631 v1675
  v1676.toNat
def k0_dev39 (d0 : Dev nD) : Nat :=
  let c0_i32_1666 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1665 : BitVec 32 := 1#32
  let v1709 : BitVec 32 := Scalar.muli v404 c1_i32_1665
  let v1710 : BitVec 32 := Scalar.addi c0_i32_1666 v1709
  v1710.toNat
def k0_dev40 (d0 : Dev nD) : Nat :=
  let c0_i32_1708 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1707 : BitVec 32 := 1#32
  let v1745 : BitVec 32 := Scalar.muli v404 c1_i32_1707
  let v1746 : BitVec 32 := Scalar.addi c0_i32_1708 v1745
  v1746.toNat
def k0_dev41 (d0 : Dev nD) : Nat :=
  let c0_i32_1743 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1742 : BitVec 32 := 1#32
  let v1779 : BitVec 32 := Scalar.muli v280 c1_i32_1742
  let v1780 : BitVec 32 := Scalar.addi c0_i32_1743 v1779
  v1780.toNat
def k0_dev42 (d0 : Dev nD) : Nat :=
  let c0_i32_1785 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1784 : BitVec 32 := 1#32
  let v1815 : BitVec 32 := Scalar.muli v404 c1_i32_1784
  let v1816 : BitVec 32 := Scalar.addi c0_i32_1785 v1815
  v1816.toNat
def k0_dev43 (d0 : Dev nD) : Nat :=
  let c0_i32_1820 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1819 : BitVec 32 := 1#32
  let v1849 : BitVec 32 := Scalar.muli v280 c1_i32_1819
  let v1850 : BitVec 32 := Scalar.addi c0_i32_1820 v1849
  v1850.toNat
def k0_dev44 (d0 : Dev nD) : Nat :=
  let c0_i32_1862 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1861 : BitVec 32 := 1#32
  let v1885 : BitVec 32 := Scalar.muli v280 c1_i32_1861
  let v1886 : BitVec 32 := Scalar.addi c0_i32_1862 v1885
  v1886.toNat
def k0_dev45 (d0 : Dev nD) : Nat :=
  let c0_i32_1896 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1895 : BitVec 32 := 1#32
  let v1919 : BitVec 32 := Scalar.muli v404 c1_i32_1895
  let v1920 : BitVec 32 := Scalar.addi c0_i32_1896 v1919
  v1920.toNat
def k0_dev46 (d0 : Dev nD) : Nat :=
  let c0_i32_1938 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1937 : BitVec 32 := 1#32
  let v1955 : BitVec 32 := Scalar.muli v280 c1_i32_1937
  let v1956 : BitVec 32 := Scalar.addi c0_i32_1938 v1955
  v1956.toNat
def k0_dev47 (d0 : Dev nD) : Nat :=
  let c0_i32_1973 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1972 : BitVec 32 := 1#32
  let v1989 : BitVec 32 := Scalar.muli v404 c1_i32_1972
  let v1990 : BitVec 32 := Scalar.addi c0_i32_1973 v1989
  v1990.toNat
def k0_dev48 (d0 : Dev nD) : Nat :=
  let c0_i32_2015 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2014 : BitVec 32 := 1#32
  let v2025 : BitVec 32 := Scalar.muli v404 c1_i32_2014
  let v2026 : BitVec 32 := Scalar.addi c0_i32_2015 v2025
  v2026.toNat
def k0_dev49 (d0 : Dev nD) : Nat :=
  let c0_i32_2050 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2049 : BitVec 32 := 1#32
  let v2059 : BitVec 32 := Scalar.muli v280 c1_i32_2049
  let v2060 : BitVec 32 := Scalar.addi c0_i32_2050 v2059
  v2060.toNat
def k0_dev50 (d0 : Dev nD) : Nat :=
  let c0_i32_2092 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2091 : BitVec 32 := 1#32
  let v2095 : BitVec 32 := Scalar.muli v404 c1_i32_2091
  let v2096 : BitVec 32 := Scalar.addi c0_i32_2092 v2095
  v2096.toNat
def k0_dev51 (d0 : Dev nD) : Nat :=
  let c0_i32_2127 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2126 : BitVec 32 := 1#32
  let v2129 : BitVec 32 := Scalar.muli v280 c1_i32_2126
  let v2130 : BitVec 32 := Scalar.addi c0_i32_2127 v2129
  v2130.toNat
def k0_dev52 (d0 : Dev nD) : Nat :=
  let c0_i32_2169 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2168 : BitVec 32 := 1#32
  let v2165 : BitVec 32 := Scalar.muli v280 c1_i32_2168
  let v2166 : BitVec 32 := Scalar.addi c0_i32_2169 v2165
  v2166.toNat
def k0_dev53 (d0 : Dev nD) : Nat :=
  let c0_i32_2203 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2202 : BitVec 32 := 1#32
  let v2199 : BitVec 32 := Scalar.muli v404 c1_i32_2202
  let v2200 : BitVec 32 := Scalar.addi c0_i32_2203 v2199
  v2200.toNat
def k0_dev54 (d0 : Dev nD) : Nat :=
  let c0_i32_2245 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2244 : BitVec 32 := 1#32
  let v2235 : BitVec 32 := Scalar.muli v280 c1_i32_2244
  let v2236 : BitVec 32 := Scalar.addi c0_i32_2245 v2235
  v2236.toNat
def k0_dev55 (d0 : Dev nD) : Nat :=
  let c0_i32_2280 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2279 : BitVec 32 := 1#32
  let v2269 : BitVec 32 := Scalar.muli v404 c1_i32_2279
  let v2270 : BitVec 32 := Scalar.addi c0_i32_2280 v2269
  v2270.toNat
def k0_dev56 (d0 : Dev nD) : Nat :=
  let c0_i32_2322 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2321 : BitVec 32 := 1#32
  let v2305 : BitVec 32 := Scalar.muli v404 c1_i32_2321
  let v2306 : BitVec 32 := Scalar.addi c0_i32_2322 v2305
  v2306.toNat
def k0_dev57 (d0 : Dev nD) : Nat :=
  let c0_i32_2357 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2356 : BitVec 32 := 1#32
  let v2339 : BitVec 32 := Scalar.muli v280 c1_i32_2356
  let v2340 : BitVec 32 := Scalar.addi c0_i32_2357 v2339
  v2340.toNat
def k0_dev58 (d0 : Dev nD) : Nat :=
  let c0_i32_2399 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2398 : BitVec 32 := 1#32
  let v2375 : BitVec 32 := Scalar.muli v404 c1_i32_2398
  let v2376 : BitVec 32 := Scalar.addi c0_i32_2399 v2375
  v2376.toNat
def k0_dev59 (d0 : Dev nD) : Nat :=
  let c0_i32_2434 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2433 : BitVec 32 := 1#32
  let v2409 : BitVec 32 := Scalar.muli v280 c1_i32_2433
  let v2410 : BitVec 32 := Scalar.addi c0_i32_2434 v2409
  v2410.toNat
def k0_dev60 (d0 : Dev nD) : Nat :=
  let c0_i32_2476 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2475 : BitVec 32 := 1#32
  let v2445 : BitVec 32 := Scalar.muli v280 c1_i32_2475
  let v2446 : BitVec 32 := Scalar.addi c0_i32_2476 v2445
  v2446.toNat
def k0_dev61 (d0 : Dev nD) : Nat :=
  let c0_i32_2510 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2509 : BitVec 32 := 1#32
  let v2479 : BitVec 32 := Scalar.muli v404 c1_i32_2509
  let v2480 : BitVec 32 := Scalar.addi c0_i32_2510 v2479
  v2480.toNat
def k0_dev62 (d0 : Dev nD) : Nat :=
  let c0_i32_2552 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2551 : BitVec 32 := 1#32
  let v2515 : BitVec 32 := Scalar.muli v280 c1_i32_2551
  let v2516 : BitVec 32 := Scalar.addi c0_i32_2552 v2515
  v2516.toNat
def k0_dev63 (d0 : Dev nD) : Nat :=
  let c0_i32_2587 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2586 : BitVec 32 := 1#32
  let v2549 : BitVec 32 := Scalar.muli v404 c1_i32_2586
  let v2550 : BitVec 32 := Scalar.addi c0_i32_2587 v2549
  v2550.toNat
def k0_dev64 (d0 : Dev nD) : Nat :=
  let c0_i32_2629 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2628 : BitVec 32 := 1#32
  let v2585 : BitVec 32 := Scalar.muli v404 c1_i32_2628
  let v2586 : BitVec 32 := Scalar.addi c0_i32_2629 v2585
  v2586.toNat
def k0_dev65 (d0 : Dev nD) : Nat :=
  let c0_i32_2664 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2663 : BitVec 32 := 1#32
  let v2619 : BitVec 32 := Scalar.muli v280 c1_i32_2663
  let v2620 : BitVec 32 := Scalar.addi c0_i32_2664 v2619
  v2620.toNat
def k0_dev66 (d0 : Dev nD) : Nat :=
  let c0_i32_2706 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2705 : BitVec 32 := 1#32
  let v2655 : BitVec 32 := Scalar.muli v404 c1_i32_2705
  let v2656 : BitVec 32 := Scalar.addi c0_i32_2706 v2655
  v2656.toNat
def k0_dev67 (d0 : Dev nD) : Nat :=
  let c0_i32_2741 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2740 : BitVec 32 := 1#32
  let v2689 : BitVec 32 := Scalar.muli v280 c1_i32_2740
  let v2690 : BitVec 32 := Scalar.addi c0_i32_2741 v2689
  v2690.toNat
def k0_dev68 (d0 : Dev nD) : Nat :=
  let c0_i32_2783 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2782 : BitVec 32 := 1#32
  let v2725 : BitVec 32 := Scalar.muli v280 c1_i32_2782
  let v2726 : BitVec 32 := Scalar.addi c0_i32_2783 v2725
  v2726.toNat
def k0_dev69 (d0 : Dev nD) : Nat :=
  let c0_i32_2817 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2816 : BitVec 32 := 1#32
  let v2759 : BitVec 32 := Scalar.muli v404 c1_i32_2816
  let v2760 : BitVec 32 := Scalar.addi c0_i32_2817 v2759
  v2760.toNat
def k0_dev70 (d0 : Dev nD) : Nat :=
  let c0_i32_2859 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2858 : BitVec 32 := 1#32
  let v2795 : BitVec 32 := Scalar.muli v280 c1_i32_2858
  let v2796 : BitVec 32 := Scalar.addi c0_i32_2859 v2795
  v2796.toNat
def k0_dev71 (d0 : Dev nD) : Nat :=
  let c0_i32_2894 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2893 : BitVec 32 := 1#32
  let v2829 : BitVec 32 := Scalar.muli v404 c1_i32_2893
  let v2830 : BitVec 32 := Scalar.addi c0_i32_2894 v2829
  v2830.toNat
def k0_dev72 (d0 : Dev nD) : Nat :=
  let c0_i32_2936 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2935 : BitVec 32 := 1#32
  let v2865 : BitVec 32 := Scalar.muli v404 c1_i32_2935
  let v2866 : BitVec 32 := Scalar.addi c0_i32_2936 v2865
  v2866.toNat
def k0_dev73 (d0 : Dev nD) : Nat :=
  let c0_i32_2971 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2970 : BitVec 32 := 1#32
  let v2899 : BitVec 32 := Scalar.muli v280 c1_i32_2970
  let v2900 : BitVec 32 := Scalar.addi c0_i32_2971 v2899
  v2900.toNat
def k0_dev74 (d0 : Dev nD) : Nat :=
  let c0_i32_3013 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3012 : BitVec 32 := 1#32
  let v2935 : BitVec 32 := Scalar.muli v404 c1_i32_3012
  let v2936 : BitVec 32 := Scalar.addi c0_i32_3013 v2935
  v2936.toNat
def k0_dev75 (d0 : Dev nD) : Nat :=
  let c0_i32_3048 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3047 : BitVec 32 := 1#32
  let v2969 : BitVec 32 := Scalar.muli v280 c1_i32_3047
  let v2970 : BitVec 32 := Scalar.addi c0_i32_3048 v2969
  v2970.toNat
def k0_dev76 (d0 : Dev nD) : Nat :=
  let c0_i32_3090 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3089 : BitVec 32 := 1#32
  let v3005 : BitVec 32 := Scalar.muli v280 c1_i32_3089
  let v3006 : BitVec 32 := Scalar.addi c0_i32_3090 v3005
  v3006.toNat
def k0_dev77 (d0 : Dev nD) : Nat :=
  let c0_i32_3124 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3123 : BitVec 32 := 1#32
  let v3039 : BitVec 32 := Scalar.muli v404 c1_i32_3123
  let v3040 : BitVec 32 := Scalar.addi c0_i32_3124 v3039
  v3040.toNat
def k0_dev78 (d0 : Dev nD) : Nat :=
  let c0_i32_3166 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3165 : BitVec 32 := 1#32
  let v3075 : BitVec 32 := Scalar.muli v280 c1_i32_3165
  let v3076 : BitVec 32 := Scalar.addi c0_i32_3166 v3075
  v3076.toNat
def k0_dev79 (d0 : Dev nD) : Nat :=
  let c0_i32_3201 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3200 : BitVec 32 := 1#32
  let v3109 : BitVec 32 := Scalar.muli v404 c1_i32_3200
  let v3110 : BitVec 32 := Scalar.addi c0_i32_3201 v3109
  v3110.toNat
def k0_dev80 (d0 : Dev nD) : Nat :=
  let c0_i32_3243 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3242 : BitVec 32 := 1#32
  let v3145 : BitVec 32 := Scalar.muli v404 c1_i32_3242
  let v3146 : BitVec 32 := Scalar.addi c0_i32_3243 v3145
  v3146.toNat
def k0_dev81 (d0 : Dev nD) : Nat :=
  let c0_i32_3278 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3277 : BitVec 32 := 1#32
  let v3179 : BitVec 32 := Scalar.muli v280 c1_i32_3277
  let v3180 : BitVec 32 := Scalar.addi c0_i32_3278 v3179
  v3180.toNat
def k0_dev82 (d0 : Dev nD) : Nat :=
  let c0_i32_3320 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3319 : BitVec 32 := 1#32
  let v3215 : BitVec 32 := Scalar.muli v404 c1_i32_3319
  let v3216 : BitVec 32 := Scalar.addi c0_i32_3320 v3215
  v3216.toNat
def k0_dev83 (d0 : Dev nD) : Nat :=
  let c0_i32_3355 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3354 : BitVec 32 := 1#32
  let v3249 : BitVec 32 := Scalar.muli v280 c1_i32_3354
  let v3250 : BitVec 32 := Scalar.addi c0_i32_3355 v3249
  v3250.toNat
def k0_dev84 (d0 : Dev nD) : Nat :=
  let c0_i32_3397 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3396 : BitVec 32 := 1#32
  let v3285 : BitVec 32 := Scalar.muli v280 c1_i32_3396
  let v3286 : BitVec 32 := Scalar.addi c0_i32_3397 v3285
  v3286.toNat
def k0_dev85 (d0 : Dev nD) : Nat :=
  let c0_i32_3431 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3430 : BitVec 32 := 1#32
  let v3319 : BitVec 32 := Scalar.muli v404 c1_i32_3430
  let v3320 : BitVec 32 := Scalar.addi c0_i32_3431 v3319
  v3320.toNat
def k0_dev86 (d0 : Dev nD) : Nat :=
  let c0_i32_3473 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3472 : BitVec 32 := 1#32
  let v3355 : BitVec 32 := Scalar.muli v280 c1_i32_3472
  let v3356 : BitVec 32 := Scalar.addi c0_i32_3473 v3355
  v3356.toNat
def k0_dev87 (d0 : Dev nD) : Nat :=
  let c0_i32_3508 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3507 : BitVec 32 := 1#32
  let v3389 : BitVec 32 := Scalar.muli v404 c1_i32_3507
  let v3390 : BitVec 32 := Scalar.addi c0_i32_3508 v3389
  v3390.toNat

variable {F : FTy → Type} [FloatOps F]

def k0_dev88 (d0 : Dev nD) : Nat :=
  let c0_i32_3550 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3549 : BitVec 32 := 1#32
  let v3425 : BitVec 32 := Scalar.muli v404 c1_i32_3549
  let v3426 : BitVec 32 := Scalar.addi c0_i32_3550 v3425
  v3426.toNat
def k0_dev89 (d0 : Dev nD) : Nat :=
  let c0_i32_3585 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3584 : BitVec 32 := 1#32
  let v3459 : BitVec 32 := Scalar.muli v280 c1_i32_3584
  let v3460 : BitVec 32 := Scalar.addi c0_i32_3585 v3459
  v3460.toNat
def k0_dev90 (d0 : Dev nD) : Nat :=
  let c0_i32_3627 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3626 : BitVec 32 := 1#32
  let v3495 : BitVec 32 := Scalar.muli v404 c1_i32_3626
  let v3496 : BitVec 32 := Scalar.addi c0_i32_3627 v3495
  v3496.toNat
def k0_dev91 (d0 : Dev nD) : Nat :=
  let c0_i32_3662 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3661 : BitVec 32 := 1#32
  let v3529 : BitVec 32 := Scalar.muli v280 c1_i32_3661
  let v3530 : BitVec 32 := Scalar.addi c0_i32_3662 v3529
  v3530.toNat
def k0_dev92 (d0 : Dev nD) : Nat :=
  let c0_i32_3704 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3703 : BitVec 32 := 1#32
  let v3565 : BitVec 32 := Scalar.muli v280 c1_i32_3703
  let v3566 : BitVec 32 := Scalar.addi c0_i32_3704 v3565
  v3566.toNat
def k0_dev93 (d0 : Dev nD) : Nat :=
  let c0_i32_3738 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3737 : BitVec 32 := 1#32
  let v3599 : BitVec 32 := Scalar.muli v404 c1_i32_3737
  let v3600 : BitVec 32 := Scalar.addi c0_i32_3738 v3599
  v3600.toNat
def k0_dev94 (d0 : Dev nD) : Nat :=
  let c0_i32_3780 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3779 : BitVec 32 := 1#32
  let v3635 : BitVec 32 := Scalar.muli v280 c1_i32_3779
  let v3636 : BitVec 32 := Scalar.addi c0_i32_3780 v3635
  v3636.toNat
def k0_dev95 (d0 : Dev nD) : Nat :=
  let c0_i32_3815 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3814 : BitVec 32 := 1#32
  let v3669 : BitVec 32 := Scalar.muli v404 c1_i32_3814
  let v3670 : BitVec 32 := Scalar.addi c0_i32_3815 v3669
  v3670.toNat
def k0_dev96 (d0 : Dev nD) : Nat :=
  let c0_i32_3857 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3856 : BitVec 32 := 1#32
  let v3705 : BitVec 32 := Scalar.muli v404 c1_i32_3856
  let v3706 : BitVec 32 := Scalar.addi c0_i32_3857 v3705
  v3706.toNat
def k0_dev97 (d0 : Dev nD) : Nat :=
  let c0_i32_3892 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3891 : BitVec 32 := 1#32
  let v3739 : BitVec 32 := Scalar.muli v280 c1_i32_3891
  let v3740 : BitVec 32 := Scalar.addi c0_i32_3892 v3739
  v3740.toNat
def k0_dev98 (d0 : Dev nD) : Nat :=
  let c0_i32_3934 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3933 : BitVec 32 := 1#32
  let v3775 : BitVec 32 := Scalar.muli v404 c1_i32_3933
  let v3776 : BitVec 32 := Scalar.addi c0_i32_3934 v3775
  v3776.toNat
def k0_dev99 (d0 : Dev nD) : Nat :=
  let c0_i32_3969 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3968 : BitVec 32 := 1#32
  let v3809 : BitVec 32 := Scalar.muli v280 c1_i32_3968
  let v3810 : BitVec 32 := Scalar.addi c0_i32_3969 v3809
  v3810.toNat
def k0_dev100 (d0 : Dev nD) : Nat :=
  let c0_i32_4011 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4010 : BitVec 32 := 1#32
  let v3845 : BitVec 32 := Scalar.muli v280 c1_i32_4010
  let v3846 : BitVec 32 := Scalar.addi c0_i32_4011 v3845
  v3846.toNat
def k0_dev101 (d0 : Dev nD) : Nat :=
  let c0_i32_4045 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4044 : BitVec 32 := 1#32
  let v3879 : BitVec 32 := Scalar.muli v404 c1_i32_4044
  let v3880 : BitVec 32 := Scalar.addi c0_i32_4045 v3879
  v3880.toNat
def k0_dev102 (d0 : Dev nD) : Nat :=
  let c0_i32_4087 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4086 : BitVec 32 := 1#32
  let v3915 : BitVec 32 := Scalar.muli v280 c1_i32_4086
  let v3916 : BitVec 32 := Scalar.addi c0_i32_4087 v3915
  v3916.toNat
def k0_dev103 (d0 : Dev nD) : Nat :=
  let c0_i32_4122 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4121 : BitVec 32 := 1#32
  let v3949 : BitVec 32 := Scalar.muli v404 c1_i32_4121
  let v3950 : BitVec 32 := Scalar.addi c0_i32_4122 v3949
  v3950.toNat
def k0_dev104 (d0 : Dev nD) : Nat :=
  let c0_i32_4164 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4163 : BitVec 32 := 1#32
  let v3985 : BitVec 32 := Scalar.muli v404 c1_i32_4163
  let v3986 : BitVec 32 := Scalar.addi c0_i32_4164 v3985
  v3986.toNat
def k0_dev105 (d0 : Dev nD) : Nat :=
  let c0_i32_4199 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4198 : BitVec 32 := 1#32
  let v4019 : BitVec 32 := Scalar.muli v280 c1_i32_4198
  let v4020 : BitVec 32 := Scalar.addi c0_i32_4199 v4019
  v4020.toNat
def k0_dev106 (d0 : Dev nD) : Nat :=
  let c0_i32_4241 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4240 : BitVec 32 := 1#32
  let v4055 : BitVec 32 := Scalar.muli v404 c1_i32_4240
  let v4056 : BitVec 32 := Scalar.addi c0_i32_4241 v4055
  v4056.toNat
def k0_dev107 (d0 : Dev nD) : Nat :=
  let c0_i32_4276 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4275 : BitVec 32 := 1#32
  let v4089 : BitVec 32 := Scalar.muli v280 c1_i32_4275
  let v4090 : BitVec 32 := Scalar.addi c0_i32_4276 v4089
  v4090.toNat
def k0_dev108 (d0 : Dev nD) : Nat :=
  let c0_i32_4318 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4317 : BitVec 32 := 1#32
  let v4125 : BitVec 32 := Scalar.muli v280 c1_i32_4317
  let v4126 : BitVec 32 := Scalar.addi c0_i32_4318 v4125
  v4126.toNat
def k0_dev109 (d0 : Dev nD) : Nat :=
  let c0_i32_4352 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4351 : BitVec 32 := 1#32
  let v4159 : BitVec 32 := Scalar.muli v404 c1_i32_4351
  let v4160 : BitVec 32 := Scalar.addi c0_i32_4352 v4159
  v4160.toNat
def k0_dev110 (d0 : Dev nD) : Nat :=
  let c0_i32_4394 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4393 : BitVec 32 := 1#32
  let v4195 : BitVec 32 := Scalar.muli v280 c1_i32_4393
  let v4196 : BitVec 32 := Scalar.addi c0_i32_4394 v4195
  v4196.toNat
def k0_dev111 (d0 : Dev nD) : Nat :=
  let c0_i32_4429 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4428 : BitVec 32 := 1#32
  let v4229 : BitVec 32 := Scalar.muli v404 c1_i32_4428
  let v4230 : BitVec 32 := Scalar.addi c0_i32_4429 v4229
  v4230.toNat
def k0_dev112 (d0 : Dev nD) : Nat :=
  let c0_i32_4471 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4470 : BitVec 32 := 1#32
  let v4265 : BitVec 32 := Scalar.muli v404 c1_i32_4470
  let v4266 : BitVec 32 := Scalar.addi c0_i32_4471 v4265
  v4266.toNat
def k0_dev113 (d0 : Dev nD) : Nat :=
  let c0_i32_4506 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4505 : BitVec 32 := 1#32
  let v4299 : BitVec 32 := Scalar.muli v280 c1_i32_4505
  let v4300 : BitVec 32 := Scalar.addi c0_i32_4506 v4299
  v4300.toNat
def k0_dev114 (d0 : Dev nD) : Nat :=
  let c0_i32_4548 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4547 : BitVec 32 := 1#32
  let v4335 : BitVec 32 := Scalar.muli v404 c1_i32_4547
  let v4336 : BitVec 32 := Scalar.addi c0_i32_4548 v4335
  v4336.toNat
def k0_dev115 (d0 : Dev nD) : Nat :=
  let c0_i32_4583 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4582 : BitVec 32 := 1#32
  let v4369 : BitVec 32 := Scalar.muli v280 c1_i32_4582
  let v4370 : BitVec 32 := Scalar.addi c0_i32_4583 v4369
  v4370.toNat
def k0_dev116 (d0 : Dev nD) : Nat :=
  let c0_i32_4625 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4624 : BitVec 32 := 1#32
  let v4405 : BitVec 32 := Scalar.muli v280 c1_i32_4624
  let v4406 : BitVec 32 := Scalar.addi c0_i32_4625 v4405
  v4406.toNat
def k0_dev117 (d0 : Dev nD) : Nat :=
  let c0_i32_4659 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4658 : BitVec 32 := 1#32
  let v4439 : BitVec 32 := Scalar.muli v404 c1_i32_4658
  let v4440 : BitVec 32 := Scalar.addi c0_i32_4659 v4439
  v4440.toNat
def k0_dev118 (d0 : Dev nD) : Nat :=
  let c0_i32_4701 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4700 : BitVec 32 := 1#32
  let v4475 : BitVec 32 := Scalar.muli v280 c1_i32_4700
  let v4476 : BitVec 32 := Scalar.addi c0_i32_4701 v4475
  v4476.toNat
def k0_dev119 (d0 : Dev nD) : Nat :=
  let c0_i32_4736 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4735 : BitVec 32 := 1#32
  let v4509 : BitVec 32 := Scalar.muli v404 c1_i32_4735
  let v4510 : BitVec 32 := Scalar.addi c0_i32_4736 v4509
  v4510.toNat
def k0_dev120 (d0 : Dev nD) : Nat :=
  let c0_i32_4778 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4777 : BitVec 32 := 1#32
  let v4545 : BitVec 32 := Scalar.muli v404 c1_i32_4777
  let v4546 : BitVec 32 := Scalar.addi c0_i32_4778 v4545
  v4546.toNat
def k0_dev121 (d0 : Dev nD) : Nat :=
  let c0_i32_4816 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4815 : BitVec 32 := 1#32
  let v4573 : BitVec 32 := Scalar.muli v404 c1_i32_4815
  let v4574 : BitVec 32 := Scalar.addi c0_i32_4816 v4573
  v4574.toNat
def k0_dev122 (d0 : Dev nD) : Nat :=
  let c0_i32_4854 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4853 : BitVec 32 := 1#32
  let v4601 : BitVec 32 := Scalar.muli v280 c1_i32_4853
  let v4602 : BitVec 32 := Scalar.addi c0_i32_4854 v4601
  v4602.toNat
def k0_dev123 (d0 : Dev nD) : Nat :=
  let c0_i32_4892 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4891 : BitVec 32 := 1#32
  let v4629 : BitVec 32 := Scalar.muli v280 c1_i32_4891
  let v4630 : BitVec 32 := Scalar.addi c0_i32_4892 v4629
  v4630.toNat
def k0_off5 (d0 : Dev nD) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_4893 : BitVec 32 := 1#32
  let v4631 : BitVec 32 := Scalar.addi v156 c1_i32_4893
  let c16_i32_4894 : BitVec 32 := 16#32
  let c0_i32_4895 : BitVec 32 := 0#32
  let v4632 : BitVec 1 := Scalar.cmpi .eq c16_i32_4894 c0_i32_4895
  let c1_i32_4896 : BitVec 32 := 1#32
  let v4633 : BitVec 32 := Scalar.select v4632 c1_i32_4896 c16_i32_4894
  let v4634 : BitVec 32 := Scalar.remsi v4631 v4633
  let c0_i32_4898 : BitVec 32 := 0#32
  let v4636 : BitVec 1 := Scalar.cmpi .slt v4634 c0_i32_4898
  let c0_i32_4899 : BitVec 32 := 0#32
  let v4637 : BitVec 1 := Scalar.cmpi .slt v4633 c0_i32_4899
  let v4638 : BitVec 1 := Scalar.xori v4636 v4637
  let c0_i32_4897 : BitVec 32 := 0#32
  let v4635 : BitVec 1 := Scalar.cmpi .ne v4634 c0_i32_4897
  let v4639 : BitVec 1 := Scalar.andi v4638 v4635
  let v4640 : BitVec 32 := Scalar.addi v4634 v4633
  let v4641 : BitVec 32 := Scalar.select v4639 v4640 v4634
  let c64_i32_4900 : BitVec 32 := 64#32
  let v4642 : BitVec 32 := Scalar.muli v4641 c64_i32_4900
  let v4643 : Index := Scalar.indexCast v4642
  let c0_4901 : Index := 0#32
  ![v4643.toNat, 0]
def k0_dev124 (d0 : Dev nD) : Nat :=
  let c0_i32_4912 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_4911 : BitVec 32 := 1#32
  let v4649 : BitVec 32 := Scalar.muli v422 c1_i32_4911
  let v4650 : BitVec 32 := Scalar.addi c0_i32_4912 v4649
  v4650.toNat
def k0_off6 (d0 : Dev nD) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_4917 : BitVec 32 := 1#32
  let v4659 : BitVec 32 := Scalar.addi v156 c1_i32_4917
  let c16_i32_4918 : BitVec 32 := 16#32
  let c0_i32_4919 : BitVec 32 := 0#32
  let v4660 : BitVec 1 := Scalar.cmpi .eq c16_i32_4918 c0_i32_4919
  let c1_i32_4920 : BitVec 32 := 1#32
  let v4661 : BitVec 32 := Scalar.select v4660 c1_i32_4920 c16_i32_4918
  let v4662 : BitVec 32 := Scalar.remsi v4659 v4661
  let c0_i32_4922 : BitVec 32 := 0#32
  let v4664 : BitVec 1 := Scalar.cmpi .slt v4662 c0_i32_4922
  let c0_i32_4923 : BitVec 32 := 0#32
  let v4665 : BitVec 1 := Scalar.cmpi .slt v4661 c0_i32_4923
  let v4666 : BitVec 1 := Scalar.xori v4664 v4665
  let c0_i32_4921 : BitVec 32 := 0#32
  let v4663 : BitVec 1 := Scalar.cmpi .ne v4662 c0_i32_4921
  let v4667 : BitVec 1 := Scalar.andi v4666 v4663
  let v4668 : BitVec 32 := Scalar.addi v4662 v4661
  let v4669 : BitVec 32 := Scalar.select v4667 v4668 v4662
  let c64_i32_4924 : BitVec 32 := 64#32
  let v4670 : BitVec 32 := Scalar.muli v4669 c64_i32_4924
  let v4671 : Index := Scalar.indexCast v4670
  let c1024_4925 : Index := 1024#32
  ![v4671.toNat, 1024]
def k0_dev125 (d0 : Dev nD) : Nat :=
  let c0_i32_4936 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_4935 : BitVec 32 := 1#32
  let v4677 : BitVec 32 := Scalar.muli v422 c1_i32_4935
  let v4678 : BitVec 32 := Scalar.addi c0_i32_4936 v4677
  v4678.toNat
def k0_off7 (d0 : Dev nD) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c_m1_i32_4941 : BitVec 32 := 4294967295#32
  let v4687 : BitVec 32 := Scalar.addi v156 c_m1_i32_4941
  let c16_i32_4942 : BitVec 32 := 16#32
  let c0_i32_4943 : BitVec 32 := 0#32
  let v4688 : BitVec 1 := Scalar.cmpi .eq c16_i32_4942 c0_i32_4943
  let c1_i32_4944 : BitVec 32 := 1#32
  let v4689 : BitVec 32 := Scalar.select v4688 c1_i32_4944 c16_i32_4942
  let v4690 : BitVec 32 := Scalar.remsi v4687 v4689
  let c0_i32_4946 : BitVec 32 := 0#32
  let v4692 : BitVec 1 := Scalar.cmpi .slt v4690 c0_i32_4946
  let c0_i32_4947 : BitVec 32 := 0#32
  let v4693 : BitVec 1 := Scalar.cmpi .slt v4689 c0_i32_4947
  let v4694 : BitVec 1 := Scalar.xori v4692 v4693
  let c0_i32_4945 : BitVec 32 := 0#32
  let v4691 : BitVec 1 := Scalar.cmpi .ne v4690 c0_i32_4945
  let v4695 : BitVec 1 := Scalar.andi v4694 v4691
  let v4696 : BitVec 32 := Scalar.addi v4690 v4689
  let v4697 : BitVec 32 := Scalar.select v4695 v4696 v4690
  let c64_i32_4948 : BitVec 32 := 64#32
  let v4698 : BitVec 32 := Scalar.muli v4697 c64_i32_4948
  let v4699 : Index := Scalar.indexCast v4698
  let c2048_4949 : Index := 2048#32
  ![v4699.toNat, 2048]
def k0_dev126 (d0 : Dev nD) : Nat :=
  let c0_i32_4960 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_4959 : BitVec 32 := 1#32
  let v4705 : BitVec 32 := Scalar.muli v422 c1_i32_4959
  let v4706 : BitVec 32 := Scalar.addi c0_i32_4960 v4705
  v4706.toNat
def k0_off8 (d0 : Dev nD) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c_m1_i32_4965 : BitVec 32 := 4294967295#32
  let v4715 : BitVec 32 := Scalar.addi v156 c_m1_i32_4965
  let c16_i32_4966 : BitVec 32 := 16#32
  let c0_i32_4967 : BitVec 32 := 0#32
  let v4716 : BitVec 1 := Scalar.cmpi .eq c16_i32_4966 c0_i32_4967
  let c1_i32_4968 : BitVec 32 := 1#32
  let v4717 : BitVec 32 := Scalar.select v4716 c1_i32_4968 c16_i32_4966
  let v4718 : BitVec 32 := Scalar.remsi v4715 v4717
  let c0_i32_4970 : BitVec 32 := 0#32
  let v4720 : BitVec 1 := Scalar.cmpi .slt v4718 c0_i32_4970
  let c0_i32_4971 : BitVec 32 := 0#32
  let v4721 : BitVec 1 := Scalar.cmpi .slt v4717 c0_i32_4971
  let v4722 : BitVec 1 := Scalar.xori v4720 v4721
  let c0_i32_4969 : BitVec 32 := 0#32
  let v4719 : BitVec 1 := Scalar.cmpi .ne v4718 c0_i32_4969
  let v4723 : BitVec 1 := Scalar.andi v4722 v4719
  let v4724 : BitVec 32 := Scalar.addi v4718 v4717
  let v4725 : BitVec 32 := Scalar.select v4723 v4724 v4718
  let c64_i32_4972 : BitVec 32 := 64#32
  let v4726 : BitVec 32 := Scalar.muli v4725 c64_i32_4972
  let v4727 : Index := Scalar.indexCast v4726
  let c3072_4973 : Index := 3072#32
  ![v4727.toNat, 3072]
def k0_dev127 (d0 : Dev nD) : Nat :=
  let c0_i32_4984 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_4983 : BitVec 32 := 1#32
  let v4733 : BitVec 32 := Scalar.muli v422 c1_i32_4983
  let v4734 : BitVec 32 := Scalar.addi c0_i32_4984 v4733
  v4734.toNat
def k0_off9 (d0 : Dev nD) (c1_i32_5097 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4837 : BitVec 32 := Scalar.addi v156 c1_i32_5097
  let c16_i32_5098 : BitVec 32 := 16#32
  let c0_i32_5099 : BitVec 32 := 0#32
  let v4838 : BitVec 1 := Scalar.cmpi .eq c16_i32_5098 c0_i32_5099
  let c1_i32_5100 : BitVec 32 := 1#32
  let v4839 : BitVec 32 := Scalar.select v4838 c1_i32_5100 c16_i32_5098
  let v4840 : BitVec 32 := Scalar.remsi v4837 v4839
  let c0_i32_5102 : BitVec 32 := 0#32
  let v4842 : BitVec 1 := Scalar.cmpi .slt v4840 c0_i32_5102
  let c0_i32_5103 : BitVec 32 := 0#32
  let v4843 : BitVec 1 := Scalar.cmpi .slt v4839 c0_i32_5103
  let v4844 : BitVec 1 := Scalar.xori v4842 v4843
  let c0_i32_5101 : BitVec 32 := 0#32
  let v4841 : BitVec 1 := Scalar.cmpi .ne v4840 c0_i32_5101
  let v4845 : BitVec 1 := Scalar.andi v4844 v4841
  let v4846 : BitVec 32 := Scalar.addi v4840 v4839
  let v4847 : BitVec 32 := Scalar.select v4845 v4846 v4840
  let c64_i32_5111 : BitVec 32 := 64#32
  let v4859 : BitVec 32 := Scalar.muli v4847 c64_i32_5111
  let c0_i32_5119 : BitVec 32 := 0#32
  ![v4859.toNat, 0]
def k0_off9_at (r : Fin 15) : BitVec 32 :=
  if r.val < 7 then
    if r.val < 3 then
      if r.val < 1 then
        1#32
      else
        if r.val < 2 then
          0#32
        else
          4294967295#32
    else
      if r.val < 5 then
        if r.val < 4 then
          4294967294#32
        else
          4294967293#32
      else
        if r.val < 6 then
          4294967292#32
        else
          4294967291#32
  else
    if r.val < 11 then
      if r.val < 9 then
        if r.val < 8 then
          4294967290#32
        else
          4294967289#32
      else
        if r.val < 10 then
          4294967288#32
        else
          4294967287#32
    else
      if r.val < 13 then
        if r.val < 12 then
          4294967286#32
        else
          4294967285#32
      else
        if r.val < 14 then
          4294967284#32
        else
          4294967283#32
def k0_dev128 (d0 : Dev nD) : Nat :=
  let c0_i32_5118 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5117 : BitVec 32 := 1#32
  let v4861 : BitVec 32 := Scalar.muli v280 c1_i32_5117
  let v4862 : BitVec 32 := Scalar.addi c0_i32_5118 v4861
  v4862.toNat
def k0_off10 (d0 : Dev nD) (c1_i32_5125 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4871 : BitVec 32 := Scalar.addi v156 c1_i32_5125
  let c16_i32_5126 : BitVec 32 := 16#32
  let c0_i32_5127 : BitVec 32 := 0#32
  let v4872 : BitVec 1 := Scalar.cmpi .eq c16_i32_5126 c0_i32_5127
  let c1_i32_5128 : BitVec 32 := 1#32
  let v4873 : BitVec 32 := Scalar.select v4872 c1_i32_5128 c16_i32_5126
  let v4874 : BitVec 32 := Scalar.remsi v4871 v4873
  let c0_i32_5130 : BitVec 32 := 0#32
  let v4876 : BitVec 1 := Scalar.cmpi .slt v4874 c0_i32_5130
  let c0_i32_5131 : BitVec 32 := 0#32
  let v4877 : BitVec 1 := Scalar.cmpi .slt v4873 c0_i32_5131
  let v4878 : BitVec 1 := Scalar.xori v4876 v4877
  let c0_i32_5129 : BitVec 32 := 0#32
  let v4875 : BitVec 1 := Scalar.cmpi .ne v4874 c0_i32_5129
  let v4879 : BitVec 1 := Scalar.andi v4878 v4875
  let v4880 : BitVec 32 := Scalar.addi v4874 v4873
  let v4881 : BitVec 32 := Scalar.select v4879 v4880 v4874
  let c64_i32_5139 : BitVec 32 := 64#32
  let v4893 : BitVec 32 := Scalar.muli v4881 c64_i32_5139
  let c1024_i32 : BitVec 32 := 1024#32
  ![v4893.toNat, 1024]
def k0_off10_at (r : Fin 15) : BitVec 32 :=
  if r.val < 7 then
    if r.val < 3 then
      if r.val < 1 then
        1#32
      else
        if r.val < 2 then
          0#32
        else
          4294967295#32
    else
      if r.val < 5 then
        if r.val < 4 then
          4294967294#32
        else
          4294967293#32
      else
        if r.val < 6 then
          4294967292#32
        else
          4294967291#32
  else
    if r.val < 11 then
      if r.val < 9 then
        if r.val < 8 then
          4294967290#32
        else
          4294967289#32
      else
        if r.val < 10 then
          4294967288#32
        else
          4294967287#32
    else
      if r.val < 13 then
        if r.val < 12 then
          4294967286#32
        else
          4294967285#32
      else
        if r.val < 14 then
          4294967284#32
        else
          4294967283#32
def k0_dev129 (d0 : Dev nD) : Nat :=
  let c0_i32_5146 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5145 : BitVec 32 := 1#32
  let v4895 : BitVec 32 := Scalar.muli v280 c1_i32_5145
  let v4896 : BitVec 32 := Scalar.addi c0_i32_5146 v4895
  v4896.toNat
def k0_off11 (d0 : Dev nD) (c_m1_i32_5152 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4905 : BitVec 32 := Scalar.addi v156 c_m1_i32_5152
  let c16_i32_5153 : BitVec 32 := 16#32
  let c0_i32_5154 : BitVec 32 := 0#32
  let v4906 : BitVec 1 := Scalar.cmpi .eq c16_i32_5153 c0_i32_5154
  let c1_i32_5155 : BitVec 32 := 1#32
  let v4907 : BitVec 32 := Scalar.select v4906 c1_i32_5155 c16_i32_5153
  let v4908 : BitVec 32 := Scalar.remsi v4905 v4907
  let c0_i32_5157 : BitVec 32 := 0#32
  let v4910 : BitVec 1 := Scalar.cmpi .slt v4908 c0_i32_5157
  let c0_i32_5158 : BitVec 32 := 0#32
  let v4911 : BitVec 1 := Scalar.cmpi .slt v4907 c0_i32_5158
  let v4912 : BitVec 1 := Scalar.xori v4910 v4911
  let c0_i32_5156 : BitVec 32 := 0#32
  let v4909 : BitVec 1 := Scalar.cmpi .ne v4908 c0_i32_5156
  let v4913 : BitVec 1 := Scalar.andi v4912 v4909
  let v4914 : BitVec 32 := Scalar.addi v4908 v4907
  let v4915 : BitVec 32 := Scalar.select v4913 v4914 v4908
  let c64_i32_5166 : BitVec 32 := 64#32
  let v4927 : BitVec 32 := Scalar.muli v4915 c64_i32_5166
  let c2048_i32 : BitVec 32 := 2048#32
  ![v4927.toNat, 2048]
def k0_off11_at (r : Fin 15) : BitVec 32 :=
  if r.val < 7 then
    if r.val < 3 then
      if r.val < 1 then
        4294967295#32
      else
        if r.val < 2 then
          0#32
        else
          1#32
    else
      if r.val < 5 then
        if r.val < 4 then
          2#32
        else
          3#32
      else
        if r.val < 6 then
          4#32
        else
          5#32
  else
    if r.val < 11 then
      if r.val < 9 then
        if r.val < 8 then
          6#32
        else
          7#32
      else
        if r.val < 10 then
          8#32
        else
          9#32
    else
      if r.val < 13 then
        if r.val < 12 then
          10#32
        else
          11#32
      else
        if r.val < 14 then
          12#32
        else
          13#32
def k0_dev130 (d0 : Dev nD) : Nat :=
  let c0_i32_5173 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5172 : BitVec 32 := 1#32
  let v4929 : BitVec 32 := Scalar.muli v404 c1_i32_5172
  let v4930 : BitVec 32 := Scalar.addi c0_i32_5173 v4929
  v4930.toNat
def k0_off12 (d0 : Dev nD) (c_m1_i32_5179 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4939 : BitVec 32 := Scalar.addi v156 c_m1_i32_5179
  let c16_i32_5180 : BitVec 32 := 16#32
  let c0_i32_5181 : BitVec 32 := 0#32
  let v4940 : BitVec 1 := Scalar.cmpi .eq c16_i32_5180 c0_i32_5181
  let c1_i32_5182 : BitVec 32 := 1#32
  let v4941 : BitVec 32 := Scalar.select v4940 c1_i32_5182 c16_i32_5180
  let v4942 : BitVec 32 := Scalar.remsi v4939 v4941
  let c0_i32_5184 : BitVec 32 := 0#32
  let v4944 : BitVec 1 := Scalar.cmpi .slt v4942 c0_i32_5184
  let c0_i32_5185 : BitVec 32 := 0#32
  let v4945 : BitVec 1 := Scalar.cmpi .slt v4941 c0_i32_5185
  let v4946 : BitVec 1 := Scalar.xori v4944 v4945
  let c0_i32_5183 : BitVec 32 := 0#32
  let v4943 : BitVec 1 := Scalar.cmpi .ne v4942 c0_i32_5183
  let v4947 : BitVec 1 := Scalar.andi v4946 v4943
  let v4948 : BitVec 32 := Scalar.addi v4942 v4941
  let v4949 : BitVec 32 := Scalar.select v4947 v4948 v4942
  let c64_i32_5193 : BitVec 32 := 64#32
  let v4961 : BitVec 32 := Scalar.muli v4949 c64_i32_5193
  let c3072_i32 : BitVec 32 := 3072#32
  ![v4961.toNat, 3072]
def k0_off12_at (r : Fin 15) : BitVec 32 :=
  if r.val < 7 then
    if r.val < 3 then
      if r.val < 1 then
        4294967295#32
      else
        if r.val < 2 then
          0#32
        else
          1#32
    else
      if r.val < 5 then
        if r.val < 4 then
          2#32
        else
          3#32
      else
        if r.val < 6 then
          4#32
        else
          5#32
  else
    if r.val < 11 then
      if r.val < 9 then
        if r.val < 8 then
          6#32
        else
          7#32
      else
        if r.val < 10 then
          8#32
        else
          9#32
    else
      if r.val < 13 then
        if r.val < 12 then
          10#32
        else
          11#32
      else
        if r.val < 14 then
          12#32
        else
          13#32
def k0_dev131 (d0 : Dev nD) : Nat :=
  let c0_i32_5200 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5199 : BitVec 32 := 1#32
  let v4963 : BitVec 32 := Scalar.muli v404 c1_i32_5199
  let v4964 : BitVec 32 := Scalar.addi c0_i32_5200 v4963
  v4964.toNat
def k0_off13 (d0 : Dev nD) (c0_i32_5104 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4848 : BitVec 32 := Scalar.subi v156 c0_i32_5104
  let c16_i32_5105 : BitVec 32 := 16#32
  let c0_i32_5106 : BitVec 32 := 0#32
  let v4849 : BitVec 1 := Scalar.cmpi .eq c16_i32_5105 c0_i32_5106
  let c1_i32_5107 : BitVec 32 := 1#32
  let v4850 : BitVec 32 := Scalar.select v4849 c1_i32_5107 c16_i32_5105
  let v4851 : BitVec 32 := Scalar.remsi v4848 v4850
  let c0_i32_5109 : BitVec 32 := 0#32
  let v4853 : BitVec 1 := Scalar.cmpi .slt v4851 c0_i32_5109
  let c0_i32_5110 : BitVec 32 := 0#32
  let v4854 : BitVec 1 := Scalar.cmpi .slt v4850 c0_i32_5110
  let v4855 : BitVec 1 := Scalar.xori v4853 v4854
  let c0_i32_5108 : BitVec 32 := 0#32
  let v4852 : BitVec 1 := Scalar.cmpi .ne v4851 c0_i32_5108
  let v4856 : BitVec 1 := Scalar.andi v4855 v4852
  let v4857 : BitVec 32 := Scalar.addi v4851 v4850
  let v4858 : BitVec 32 := Scalar.select v4856 v4857 v4851
  let c64_i32_5112 : BitVec 32 := 64#32
  let v4860 : BitVec 32 := Scalar.muli v4858 c64_i32_5112
  let c0_i32_5215 : BitVec 32 := 0#32
  ![v4860.toNat, 0]
def k0_dev132 (d0 : Dev nD) : Nat :=
  let c0_i32_5221 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5220 : BitVec 32 := 1#32
  let v4983 : BitVec 32 := Scalar.muli v404 c1_i32_5220
  let v4984 : BitVec 32 := Scalar.addi c0_i32_5221 v4983
  v4984.toNat
def k0_dev133 (d0 : Dev nD) : Nat :=
  let c0_i32_5247 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5246 : BitVec 32 := 1#32
  let v5011 : BitVec 32 := Scalar.muli v280 c1_i32_5246
  let v5012 : BitVec 32 := Scalar.addi c0_i32_5247 v5011
  v5012.toNat
def k0_off14 (d0 : Dev nD) (c0_i32_5132 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4882 : BitVec 32 := Scalar.subi v156 c0_i32_5132
  let c16_i32_5133 : BitVec 32 := 16#32
  let c0_i32_5134 : BitVec 32 := 0#32
  let v4883 : BitVec 1 := Scalar.cmpi .eq c16_i32_5133 c0_i32_5134
  let c1_i32_5135 : BitVec 32 := 1#32
  let v4884 : BitVec 32 := Scalar.select v4883 c1_i32_5135 c16_i32_5133
  let v4885 : BitVec 32 := Scalar.remsi v4882 v4884
  let c0_i32_5137 : BitVec 32 := 0#32
  let v4887 : BitVec 1 := Scalar.cmpi .slt v4885 c0_i32_5137
  let c0_i32_5138 : BitVec 32 := 0#32
  let v4888 : BitVec 1 := Scalar.cmpi .slt v4884 c0_i32_5138
  let v4889 : BitVec 1 := Scalar.xori v4887 v4888
  let c0_i32_5136 : BitVec 32 := 0#32
  let v4886 : BitVec 1 := Scalar.cmpi .ne v4885 c0_i32_5136
  let v4890 : BitVec 1 := Scalar.andi v4889 v4886
  let v4891 : BitVec 32 := Scalar.addi v4885 v4884
  let v4892 : BitVec 32 := Scalar.select v4890 v4891 v4885
  let c64_i32_5140 : BitVec 32 := 64#32
  let v4894 : BitVec 32 := Scalar.muli v4892 c64_i32_5140
  let c1024_i32_5263 : BitVec 32 := 1024#32
  ![v4894.toNat, 1024]
def k0_dev134 (d0 : Dev nD) : Nat :=
  let c0_i32_5269 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5268 : BitVec 32 := 1#32
  let v5031 : BitVec 32 := Scalar.muli v404 c1_i32_5268
  let v5032 : BitVec 32 := Scalar.addi c0_i32_5269 v5031
  v5032.toNat
def k0_dev135 (d0 : Dev nD) : Nat :=
  let c0_i32_5295 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5294 : BitVec 32 := 1#32
  let v5059 : BitVec 32 := Scalar.muli v280 c1_i32_5294
  let v5060 : BitVec 32 := Scalar.addi c0_i32_5295 v5059
  v5060.toNat
def k0_off15 (d0 : Dev nD) (c0_i32_5159 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4916 : BitVec 32 := Scalar.subi v156 c0_i32_5159
  let c16_i32_5160 : BitVec 32 := 16#32
  let c0_i32_5161 : BitVec 32 := 0#32
  let v4917 : BitVec 1 := Scalar.cmpi .eq c16_i32_5160 c0_i32_5161
  let c1_i32_5162 : BitVec 32 := 1#32
  let v4918 : BitVec 32 := Scalar.select v4917 c1_i32_5162 c16_i32_5160
  let v4919 : BitVec 32 := Scalar.remsi v4916 v4918
  let c0_i32_5164 : BitVec 32 := 0#32
  let v4921 : BitVec 1 := Scalar.cmpi .slt v4919 c0_i32_5164
  let c0_i32_5165 : BitVec 32 := 0#32
  let v4922 : BitVec 1 := Scalar.cmpi .slt v4918 c0_i32_5165
  let v4923 : BitVec 1 := Scalar.xori v4921 v4922
  let c0_i32_5163 : BitVec 32 := 0#32
  let v4920 : BitVec 1 := Scalar.cmpi .ne v4919 c0_i32_5163
  let v4924 : BitVec 1 := Scalar.andi v4923 v4920
  let v4925 : BitVec 32 := Scalar.addi v4919 v4918
  let v4926 : BitVec 32 := Scalar.select v4924 v4925 v4919
  let c64_i32_5167 : BitVec 32 := 64#32
  let v4928 : BitVec 32 := Scalar.muli v4926 c64_i32_5167
  let c2048_i32_5311 : BitVec 32 := 2048#32
  ![v4928.toNat, 2048]
def k0_off15_at (r : Fin 15) : BitVec 32 :=
  if r.val < 7 then
    if r.val < 3 then
      if r.val < 1 then
        0#32
      else
        if r.val < 2 then
          4294967295#32
        else
          4294967294#32
    else
      if r.val < 5 then
        if r.val < 4 then
          4294967293#32
        else
          4294967292#32
      else
        if r.val < 6 then
          4294967291#32
        else
          4294967290#32
  else
    if r.val < 11 then
      if r.val < 9 then
        if r.val < 8 then
          4294967289#32
        else
          4294967288#32
      else
        if r.val < 10 then
          4294967287#32
        else
          4294967286#32
    else
      if r.val < 13 then
        if r.val < 12 then
          4294967285#32
        else
          4294967284#32
      else
        if r.val < 14 then
          4294967283#32
        else
          4294967282#32
def k0_dev136 (d0 : Dev nD) : Nat :=
  let c0_i32_5317 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5316 : BitVec 32 := 1#32
  let v5079 : BitVec 32 := Scalar.muli v280 c1_i32_5316
  let v5080 : BitVec 32 := Scalar.addi c0_i32_5317 v5079
  v5080.toNat
def k0_dev137 (d0 : Dev nD) : Nat :=
  let c0_i32_5343 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5342 : BitVec 32 := 1#32
  let v5107 : BitVec 32 := Scalar.muli v404 c1_i32_5342
  let v5108 : BitVec 32 := Scalar.addi c0_i32_5343 v5107
  v5108.toNat
def k0_off16 (d0 : Dev nD) (c0_i32_5186 : BitVec 32) : Fin 2 → Nat :=
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v4950 : BitVec 32 := Scalar.subi v156 c0_i32_5186
  let c16_i32_5187 : BitVec 32 := 16#32
  let c0_i32_5188 : BitVec 32 := 0#32
  let v4951 : BitVec 1 := Scalar.cmpi .eq c16_i32_5187 c0_i32_5188
  let c1_i32_5189 : BitVec 32 := 1#32
  let v4952 : BitVec 32 := Scalar.select v4951 c1_i32_5189 c16_i32_5187
  let v4953 : BitVec 32 := Scalar.remsi v4950 v4952
  let c0_i32_5191 : BitVec 32 := 0#32
  let v4955 : BitVec 1 := Scalar.cmpi .slt v4953 c0_i32_5191
  let c0_i32_5192 : BitVec 32 := 0#32
  let v4956 : BitVec 1 := Scalar.cmpi .slt v4952 c0_i32_5192
  let v4957 : BitVec 1 := Scalar.xori v4955 v4956
  let c0_i32_5190 : BitVec 32 := 0#32
  let v4954 : BitVec 1 := Scalar.cmpi .ne v4953 c0_i32_5190
  let v4958 : BitVec 1 := Scalar.andi v4957 v4954
  let v4959 : BitVec 32 := Scalar.addi v4953 v4952
  let v4960 : BitVec 32 := Scalar.select v4958 v4959 v4953
  let c64_i32_5194 : BitVec 32 := 64#32
  let v4962 : BitVec 32 := Scalar.muli v4960 c64_i32_5194
  let c3072_i32_5359 : BitVec 32 := 3072#32
  ![v4962.toNat, 3072]
def k0_off16_at (r : Fin 15) : BitVec 32 :=
  if r.val < 7 then
    if r.val < 3 then
      if r.val < 1 then
        0#32
      else
        if r.val < 2 then
          4294967295#32
        else
          4294967294#32
    else
      if r.val < 5 then
        if r.val < 4 then
          4294967293#32
        else
          4294967292#32
      else
        if r.val < 6 then
          4294967291#32
        else
          4294967290#32
  else
    if r.val < 11 then
      if r.val < 9 then
        if r.val < 8 then
          4294967289#32
        else
          4294967288#32
      else
        if r.val < 10 then
          4294967287#32
        else
          4294967286#32
    else
      if r.val < 13 then
        if r.val < 12 then
          4294967285#32
        else
          4294967284#32
      else
        if r.val < 14 then
          4294967283#32
        else
          4294967282#32
def k0_dev138 (d0 : Dev nD) : Nat :=
  let c0_i32_5365 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5364 : BitVec 32 := 1#32
  let v5127 : BitVec 32 := Scalar.muli v280 c1_i32_5364
  let v5128 : BitVec 32 := Scalar.addi c0_i32_5365 v5127
  v5128.toNat
def k0_dev139 (d0 : Dev nD) : Nat :=
  let c0_i32_5391 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5390 : BitVec 32 := 1#32
  let v5155 : BitVec 32 := Scalar.muli v404 c1_i32_5390
  let v5156 : BitVec 32 := Scalar.addi c0_i32_5391 v5155
  v5156.toNat
def k0_dev140 (d0 : Dev nD) : Nat :=
  let c0_i32_5413 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5412 : BitVec 32 := 1#32
  let v5175 : BitVec 32 := Scalar.muli v404 c1_i32_5412
  let v5176 : BitVec 32 := Scalar.addi c0_i32_5413 v5175
  v5176.toNat
def k0_dev141 (d0 : Dev nD) : Nat :=
  let c0_i32_5439 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5438 : BitVec 32 := 1#32
  let v5203 : BitVec 32 := Scalar.muli v280 c1_i32_5438
  let v5204 : BitVec 32 := Scalar.addi c0_i32_5439 v5203
  v5204.toNat
def k0_dev142 (d0 : Dev nD) : Nat :=
  let c0_i32_5461 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5460 : BitVec 32 := 1#32
  let v5223 : BitVec 32 := Scalar.muli v404 c1_i32_5460
  let v5224 : BitVec 32 := Scalar.addi c0_i32_5461 v5223
  v5224.toNat
def k0_dev143 (d0 : Dev nD) : Nat :=
  let c0_i32_5487 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5486 : BitVec 32 := 1#32
  let v5251 : BitVec 32 := Scalar.muli v280 c1_i32_5486
  let v5252 : BitVec 32 := Scalar.addi c0_i32_5487 v5251
  v5252.toNat
def k0_dev144 (d0 : Dev nD) : Nat :=
  let c0_i32_5509 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5508 : BitVec 32 := 1#32
  let v5271 : BitVec 32 := Scalar.muli v280 c1_i32_5508
  let v5272 : BitVec 32 := Scalar.addi c0_i32_5509 v5271
  v5272.toNat
def k0_dev145 (d0 : Dev nD) : Nat :=
  let c0_i32_5535 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5534 : BitVec 32 := 1#32
  let v5299 : BitVec 32 := Scalar.muli v404 c1_i32_5534
  let v5300 : BitVec 32 := Scalar.addi c0_i32_5535 v5299
  v5300.toNat
def k0_dev146 (d0 : Dev nD) : Nat :=
  let c0_i32_5557 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5556 : BitVec 32 := 1#32
  let v5319 : BitVec 32 := Scalar.muli v280 c1_i32_5556
  let v5320 : BitVec 32 := Scalar.addi c0_i32_5557 v5319
  v5320.toNat
def k0_dev147 (d0 : Dev nD) : Nat :=
  let c0_i32_5583 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5582 : BitVec 32 := 1#32
  let v5347 : BitVec 32 := Scalar.muli v404 c1_i32_5582
  let v5348 : BitVec 32 := Scalar.addi c0_i32_5583 v5347
  v5348.toNat
def k0_dev148 (d0 : Dev nD) : Nat :=
  let c0_i32_5605 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5604 : BitVec 32 := 1#32
  let v5367 : BitVec 32 := Scalar.muli v404 c1_i32_5604
  let v5368 : BitVec 32 := Scalar.addi c0_i32_5605 v5367
  v5368.toNat
def k0_dev149 (d0 : Dev nD) : Nat :=
  let c0_i32_5631 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5630 : BitVec 32 := 1#32
  let v5395 : BitVec 32 := Scalar.muli v280 c1_i32_5630
  let v5396 : BitVec 32 := Scalar.addi c0_i32_5631 v5395
  v5396.toNat
def k0_dev150 (d0 : Dev nD) : Nat :=
  let c0_i32_5653 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5652 : BitVec 32 := 1#32
  let v5415 : BitVec 32 := Scalar.muli v404 c1_i32_5652
  let v5416 : BitVec 32 := Scalar.addi c0_i32_5653 v5415
  v5416.toNat
def k0_dev151 (d0 : Dev nD) : Nat :=
  let c0_i32_5679 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5678 : BitVec 32 := 1#32
  let v5443 : BitVec 32 := Scalar.muli v280 c1_i32_5678
  let v5444 : BitVec 32 := Scalar.addi c0_i32_5679 v5443
  v5444.toNat
def k0_dev152 (d0 : Dev nD) : Nat :=
  let c0_i32_5701 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5700 : BitVec 32 := 1#32
  let v5463 : BitVec 32 := Scalar.muli v280 c1_i32_5700
  let v5464 : BitVec 32 := Scalar.addi c0_i32_5701 v5463
  v5464.toNat
def k0_dev153 (d0 : Dev nD) : Nat :=
  let c0_i32_5727 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5726 : BitVec 32 := 1#32
  let v5491 : BitVec 32 := Scalar.muli v404 c1_i32_5726
  let v5492 : BitVec 32 := Scalar.addi c0_i32_5727 v5491
  v5492.toNat
def k0_dev154 (d0 : Dev nD) : Nat :=
  let c0_i32_5749 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5748 : BitVec 32 := 1#32
  let v5511 : BitVec 32 := Scalar.muli v280 c1_i32_5748
  let v5512 : BitVec 32 := Scalar.addi c0_i32_5749 v5511
  v5512.toNat
def k0_dev155 (d0 : Dev nD) : Nat :=
  let c0_i32_5775 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5774 : BitVec 32 := 1#32
  let v5539 : BitVec 32 := Scalar.muli v404 c1_i32_5774
  let v5540 : BitVec 32 := Scalar.addi c0_i32_5775 v5539
  v5540.toNat
def k0_dev156 (d0 : Dev nD) : Nat :=
  let c0_i32_5797 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5796 : BitVec 32 := 1#32
  let v5559 : BitVec 32 := Scalar.muli v404 c1_i32_5796
  let v5560 : BitVec 32 := Scalar.addi c0_i32_5797 v5559
  v5560.toNat
def k0_dev157 (d0 : Dev nD) : Nat :=
  let c0_i32_5823 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5822 : BitVec 32 := 1#32
  let v5587 : BitVec 32 := Scalar.muli v280 c1_i32_5822
  let v5588 : BitVec 32 := Scalar.addi c0_i32_5823 v5587
  v5588.toNat
def k0_dev158 (d0 : Dev nD) : Nat :=
  let c0_i32_5845 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5844 : BitVec 32 := 1#32
  let v5607 : BitVec 32 := Scalar.muli v404 c1_i32_5844
  let v5608 : BitVec 32 := Scalar.addi c0_i32_5845 v5607
  v5608.toNat
def k0_dev159 (d0 : Dev nD) : Nat :=
  let c0_i32_5871 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5870 : BitVec 32 := 1#32
  let v5635 : BitVec 32 := Scalar.muli v280 c1_i32_5870
  let v5636 : BitVec 32 := Scalar.addi c0_i32_5871 v5635
  v5636.toNat
def k0_dev160 (d0 : Dev nD) : Nat :=
  let c0_i32_5893 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5892 : BitVec 32 := 1#32
  let v5655 : BitVec 32 := Scalar.muli v280 c1_i32_5892
  let v5656 : BitVec 32 := Scalar.addi c0_i32_5893 v5655
  v5656.toNat
def k0_dev161 (d0 : Dev nD) : Nat :=
  let c0_i32_5919 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5918 : BitVec 32 := 1#32
  let v5683 : BitVec 32 := Scalar.muli v404 c1_i32_5918
  let v5684 : BitVec 32 := Scalar.addi c0_i32_5919 v5683
  v5684.toNat
def k0_dev162 (d0 : Dev nD) : Nat :=
  let c0_i32_5941 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5940 : BitVec 32 := 1#32
  let v5703 : BitVec 32 := Scalar.muli v280 c1_i32_5940
  let v5704 : BitVec 32 := Scalar.addi c0_i32_5941 v5703
  v5704.toNat
def k0_dev163 (d0 : Dev nD) : Nat :=
  let c0_i32_5967 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5966 : BitVec 32 := 1#32
  let v5731 : BitVec 32 := Scalar.muli v404 c1_i32_5966
  let v5732 : BitVec 32 := Scalar.addi c0_i32_5967 v5731
  v5732.toNat
def k0_dev164 (d0 : Dev nD) : Nat :=
  let c0_i32_5989 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5988 : BitVec 32 := 1#32
  let v5751 : BitVec 32 := Scalar.muli v404 c1_i32_5988
  let v5752 : BitVec 32 := Scalar.addi c0_i32_5989 v5751
  v5752.toNat
def k0_dev165 (d0 : Dev nD) : Nat :=
  let c0_i32_6015 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6014 : BitVec 32 := 1#32
  let v5779 : BitVec 32 := Scalar.muli v280 c1_i32_6014
  let v5780 : BitVec 32 := Scalar.addi c0_i32_6015 v5779
  v5780.toNat
def k0_dev166 (d0 : Dev nD) : Nat :=
  let c0_i32_6037 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6036 : BitVec 32 := 1#32
  let v5799 : BitVec 32 := Scalar.muli v404 c1_i32_6036
  let v5800 : BitVec 32 := Scalar.addi c0_i32_6037 v5799
  v5800.toNat
def k0_dev167 (d0 : Dev nD) : Nat :=
  let c0_i32_6063 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6062 : BitVec 32 := 1#32
  let v5827 : BitVec 32 := Scalar.muli v280 c1_i32_6062
  let v5828 : BitVec 32 := Scalar.addi c0_i32_6063 v5827
  v5828.toNat
def k0_dev168 (d0 : Dev nD) : Nat :=
  let c0_i32_6085 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6084 : BitVec 32 := 1#32
  let v5847 : BitVec 32 := Scalar.muli v280 c1_i32_6084
  let v5848 : BitVec 32 := Scalar.addi c0_i32_6085 v5847
  v5848.toNat
def k0_dev169 (d0 : Dev nD) : Nat :=
  let c0_i32_6111 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6110 : BitVec 32 := 1#32
  let v5875 : BitVec 32 := Scalar.muli v404 c1_i32_6110
  let v5876 : BitVec 32 := Scalar.addi c0_i32_6111 v5875
  v5876.toNat
def k0_dev170 (d0 : Dev nD) : Nat :=
  let c0_i32_6133 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6132 : BitVec 32 := 1#32
  let v5895 : BitVec 32 := Scalar.muli v280 c1_i32_6132
  let v5896 : BitVec 32 := Scalar.addi c0_i32_6133 v5895
  v5896.toNat
def k0_dev171 (d0 : Dev nD) : Nat :=
  let c0_i32_6159 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6158 : BitVec 32 := 1#32
  let v5923 : BitVec 32 := Scalar.muli v404 c1_i32_6158
  let v5924 : BitVec 32 := Scalar.addi c0_i32_6159 v5923
  v5924.toNat
def k0_dev172 (d0 : Dev nD) : Nat :=
  let c0_i32_6181 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6180 : BitVec 32 := 1#32
  let v5943 : BitVec 32 := Scalar.muli v404 c1_i32_6180
  let v5944 : BitVec 32 := Scalar.addi c0_i32_6181 v5943
  v5944.toNat

variable {F : FTy → Type} [FloatOps F]

def k0_dev173 (d0 : Dev nD) : Nat :=
  let c0_i32_6207 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6206 : BitVec 32 := 1#32
  let v5971 : BitVec 32 := Scalar.muli v280 c1_i32_6206
  let v5972 : BitVec 32 := Scalar.addi c0_i32_6207 v5971
  v5972.toNat
def k0_dev174 (d0 : Dev nD) : Nat :=
  let c0_i32_6229 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6228 : BitVec 32 := 1#32
  let v5991 : BitVec 32 := Scalar.muli v404 c1_i32_6228
  let v5992 : BitVec 32 := Scalar.addi c0_i32_6229 v5991
  v5992.toNat
def k0_dev175 (d0 : Dev nD) : Nat :=
  let c0_i32_6255 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6254 : BitVec 32 := 1#32
  let v6019 : BitVec 32 := Scalar.muli v280 c1_i32_6254
  let v6020 : BitVec 32 := Scalar.addi c0_i32_6255 v6019
  v6020.toNat
def k0_dev176 (d0 : Dev nD) : Nat :=
  let c0_i32_6277 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6276 : BitVec 32 := 1#32
  let v6039 : BitVec 32 := Scalar.muli v280 c1_i32_6276
  let v6040 : BitVec 32 := Scalar.addi c0_i32_6277 v6039
  v6040.toNat
def k0_dev177 (d0 : Dev nD) : Nat :=
  let c0_i32_6303 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6302 : BitVec 32 := 1#32
  let v6067 : BitVec 32 := Scalar.muli v404 c1_i32_6302
  let v6068 : BitVec 32 := Scalar.addi c0_i32_6303 v6067
  v6068.toNat
def k0_dev178 (d0 : Dev nD) : Nat :=
  let c0_i32_6325 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6324 : BitVec 32 := 1#32
  let v6087 : BitVec 32 := Scalar.muli v280 c1_i32_6324
  let v6088 : BitVec 32 := Scalar.addi c0_i32_6325 v6087
  v6088.toNat
def k0_dev179 (d0 : Dev nD) : Nat :=
  let c0_i32_6351 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6350 : BitVec 32 := 1#32
  let v6115 : BitVec 32 := Scalar.muli v404 c1_i32_6350
  let v6116 : BitVec 32 := Scalar.addi c0_i32_6351 v6115
  v6116.toNat
def k0_dev180 (d0 : Dev nD) : Nat :=
  let c0_i32_6373 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6372 : BitVec 32 := 1#32
  let v6135 : BitVec 32 := Scalar.muli v404 c1_i32_6372
  let v6136 : BitVec 32 := Scalar.addi c0_i32_6373 v6135
  v6136.toNat
def k0_dev181 (d0 : Dev nD) : Nat :=
  let c0_i32_6399 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6398 : BitVec 32 := 1#32
  let v6163 : BitVec 32 := Scalar.muli v280 c1_i32_6398
  let v6164 : BitVec 32 := Scalar.addi c0_i32_6399 v6163
  v6164.toNat
def k0_dev182 (d0 : Dev nD) : Nat :=
  let c0_i32_6421 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6420 : BitVec 32 := 1#32
  let v6183 : BitVec 32 := Scalar.muli v404 c1_i32_6420
  let v6184 : BitVec 32 := Scalar.addi c0_i32_6421 v6183
  v6184.toNat
def k0_dev183 (d0 : Dev nD) : Nat :=
  let c0_i32_6447 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6446 : BitVec 32 := 1#32
  let v6211 : BitVec 32 := Scalar.muli v280 c1_i32_6446
  let v6212 : BitVec 32 := Scalar.addi c0_i32_6447 v6211
  v6212.toNat
def k0_dev184 (d0 : Dev nD) : Nat :=
  let c0_i32_6469 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6468 : BitVec 32 := 1#32
  let v6231 : BitVec 32 := Scalar.muli v280 c1_i32_6468
  let v6232 : BitVec 32 := Scalar.addi c0_i32_6469 v6231
  v6232.toNat
def k0_dev185 (d0 : Dev nD) : Nat :=
  let c0_i32_6495 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6494 : BitVec 32 := 1#32
  let v6259 : BitVec 32 := Scalar.muli v404 c1_i32_6494
  let v6260 : BitVec 32 := Scalar.addi c0_i32_6495 v6259
  v6260.toNat
def k0_dev186 (d0 : Dev nD) : Nat :=
  let c0_i32_6517 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6516 : BitVec 32 := 1#32
  let v6279 : BitVec 32 := Scalar.muli v280 c1_i32_6516
  let v6280 : BitVec 32 := Scalar.addi c0_i32_6517 v6279
  v6280.toNat
def k0_dev187 (d0 : Dev nD) : Nat :=
  let c0_i32_6543 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6542 : BitVec 32 := 1#32
  let v6307 : BitVec 32 := Scalar.muli v404 c1_i32_6542
  let v6308 : BitVec 32 := Scalar.addi c0_i32_6543 v6307
  v6308.toNat
def k0_dev188 (d0 : Dev nD) : Nat :=
  let c0_i32_6565 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6564 : BitVec 32 := 1#32
  let v6327 : BitVec 32 := Scalar.muli v404 c1_i32_6564
  let v6328 : BitVec 32 := Scalar.addi c0_i32_6565 v6327
  v6328.toNat
def k0_dev189 (d0 : Dev nD) : Nat :=
  let c0_i32_6591 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6590 : BitVec 32 := 1#32
  let v6355 : BitVec 32 := Scalar.muli v280 c1_i32_6590
  let v6356 : BitVec 32 := Scalar.addi c0_i32_6591 v6355
  v6356.toNat
def k0_dev190 (d0 : Dev nD) : Nat :=
  let c0_i32_6613 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6612 : BitVec 32 := 1#32
  let v6375 : BitVec 32 := Scalar.muli v404 c1_i32_6612
  let v6376 : BitVec 32 := Scalar.addi c0_i32_6613 v6375
  v6376.toNat
def k0_dev191 (d0 : Dev nD) : Nat :=
  let c0_i32_6639 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6638 : BitVec 32 := 1#32
  let v6403 : BitVec 32 := Scalar.muli v280 c1_i32_6638
  let v6404 : BitVec 32 := Scalar.addi c0_i32_6639 v6403
  v6404.toNat
def k0_dev192 (d0 : Dev nD) : Nat :=
  let c0_i32_6661 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6660 : BitVec 32 := 1#32
  let v6423 : BitVec 32 := Scalar.muli v280 c1_i32_6660
  let v6424 : BitVec 32 := Scalar.addi c0_i32_6661 v6423
  v6424.toNat
def k0_dev193 (d0 : Dev nD) : Nat :=
  let c0_i32_6687 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6686 : BitVec 32 := 1#32
  let v6451 : BitVec 32 := Scalar.muli v404 c1_i32_6686
  let v6452 : BitVec 32 := Scalar.addi c0_i32_6687 v6451
  v6452.toNat
def k0_dev194 (d0 : Dev nD) : Nat :=
  let c0_i32_6709 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6708 : BitVec 32 := 1#32
  let v6471 : BitVec 32 := Scalar.muli v280 c1_i32_6708
  let v6472 : BitVec 32 := Scalar.addi c0_i32_6709 v6471
  v6472.toNat
def k0_dev195 (d0 : Dev nD) : Nat :=
  let c0_i32_6735 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6734 : BitVec 32 := 1#32
  let v6499 : BitVec 32 := Scalar.muli v404 c1_i32_6734
  let v6500 : BitVec 32 := Scalar.addi c0_i32_6735 v6499
  v6500.toNat
def k0_dev196 (d0 : Dev nD) : Nat :=
  let c0_i32_6757 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6756 : BitVec 32 := 1#32
  let v6519 : BitVec 32 := Scalar.muli v404 c1_i32_6756
  let v6520 : BitVec 32 := Scalar.addi c0_i32_6757 v6519
  v6520.toNat
def k0_dev197 (d0 : Dev nD) : Nat :=
  let c0_i32_6783 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6782 : BitVec 32 := 1#32
  let v6547 : BitVec 32 := Scalar.muli v280 c1_i32_6782
  let v6548 : BitVec 32 := Scalar.addi c0_i32_6783 v6547
  v6548.toNat
def k0_dev198 (d0 : Dev nD) : Nat :=
  let c0_i32_6805 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6804 : BitVec 32 := 1#32
  let v6567 : BitVec 32 := Scalar.muli v404 c1_i32_6804
  let v6568 : BitVec 32 := Scalar.addi c0_i32_6805 v6567
  v6568.toNat
def k0_dev199 (d0 : Dev nD) : Nat :=
  let c0_i32_6831 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6830 : BitVec 32 := 1#32
  let v6595 : BitVec 32 := Scalar.muli v280 c1_i32_6830
  let v6596 : BitVec 32 := Scalar.addi c0_i32_6831 v6595
  v6596.toNat
def k0_dev200 (d0 : Dev nD) : Nat :=
  let c0_i32_6853 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6852 : BitVec 32 := 1#32
  let v6615 : BitVec 32 := Scalar.muli v280 c1_i32_6852
  let v6616 : BitVec 32 := Scalar.addi c0_i32_6853 v6615
  v6616.toNat
def k0_dev201 (d0 : Dev nD) : Nat :=
  let c0_i32_6879 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6878 : BitVec 32 := 1#32
  let v6643 : BitVec 32 := Scalar.muli v404 c1_i32_6878
  let v6644 : BitVec 32 := Scalar.addi c0_i32_6879 v6643
  v6644.toNat
def k0_dev202 (d0 : Dev nD) : Nat :=
  let c0_i32_6901 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6900 : BitVec 32 := 1#32
  let v6663 : BitVec 32 := Scalar.muli v280 c1_i32_6900
  let v6664 : BitVec 32 := Scalar.addi c0_i32_6901 v6663
  v6664.toNat
def k0_dev203 (d0 : Dev nD) : Nat :=
  let c0_i32_6927 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6926 : BitVec 32 := 1#32
  let v6691 : BitVec 32 := Scalar.muli v404 c1_i32_6926
  let v6692 : BitVec 32 := Scalar.addi c0_i32_6927 v6691
  v6692.toNat
def k0_dev204 (d0 : Dev nD) : Nat :=
  let c0_i32_6949 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6948 : BitVec 32 := 1#32
  let v6711 : BitVec 32 := Scalar.muli v404 c1_i32_6948
  let v6712 : BitVec 32 := Scalar.addi c0_i32_6949 v6711
  v6712.toNat
def k0_dev205 (d0 : Dev nD) : Nat :=
  let c0_i32_6975 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6974 : BitVec 32 := 1#32
  let v6739 : BitVec 32 := Scalar.muli v280 c1_i32_6974
  let v6740 : BitVec 32 := Scalar.addi c0_i32_6975 v6739
  v6740.toNat
def k0_dev206 (d0 : Dev nD) : Nat :=
  let c0_i32_6997 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6996 : BitVec 32 := 1#32
  let v6759 : BitVec 32 := Scalar.muli v404 c1_i32_6996
  let v6760 : BitVec 32 := Scalar.addi c0_i32_6997 v6759
  v6760.toNat
def k0_dev207 (d0 : Dev nD) : Nat :=
  let c0_i32_7023 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7022 : BitVec 32 := 1#32
  let v6787 : BitVec 32 := Scalar.muli v280 c1_i32_7022
  let v6788 : BitVec 32 := Scalar.addi c0_i32_7023 v6787
  v6788.toNat
def k0_dev208 (d0 : Dev nD) : Nat :=
  let c0_i32_7045 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7044 : BitVec 32 := 1#32
  let v6807 : BitVec 32 := Scalar.muli v280 c1_i32_7044
  let v6808 : BitVec 32 := Scalar.addi c0_i32_7045 v6807
  v6808.toNat
def k0_dev209 (d0 : Dev nD) : Nat :=
  let c0_i32_7071 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7070 : BitVec 32 := 1#32
  let v6835 : BitVec 32 := Scalar.muli v404 c1_i32_7070
  let v6836 : BitVec 32 := Scalar.addi c0_i32_7071 v6835
  v6836.toNat
def k0_dev210 (d0 : Dev nD) : Nat :=
  let c0_i32_7093 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7092 : BitVec 32 := 1#32
  let v6855 : BitVec 32 := Scalar.muli v280 c1_i32_7092
  let v6856 : BitVec 32 := Scalar.addi c0_i32_7093 v6855
  v6856.toNat
def k0_dev211 (d0 : Dev nD) : Nat :=
  let c0_i32_7119 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7118 : BitVec 32 := 1#32
  let v6883 : BitVec 32 := Scalar.muli v404 c1_i32_7118
  let v6884 : BitVec 32 := Scalar.addi c0_i32_7119 v6883
  v6884.toNat
def k0_dev212 (d0 : Dev nD) : Nat :=
  let c0_i32_7141 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7140 : BitVec 32 := 1#32
  let v6903 : BitVec 32 := Scalar.muli v404 c1_i32_7140
  let v6904 : BitVec 32 := Scalar.addi c0_i32_7141 v6903
  v6904.toNat
def k0_dev213 (d0 : Dev nD) : Nat :=
  let c0_i32_7167 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7166 : BitVec 32 := 1#32
  let v6931 : BitVec 32 := Scalar.muli v280 c1_i32_7166
  let v6932 : BitVec 32 := Scalar.addi c0_i32_7167 v6931
  v6932.toNat
def k0_dev214 (d0 : Dev nD) : Nat :=
  let c0_i32_7189 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7188 : BitVec 32 := 1#32
  let v6951 : BitVec 32 := Scalar.muli v404 c1_i32_7188
  let v6952 : BitVec 32 := Scalar.addi c0_i32_7189 v6951
  v6952.toNat
def k0_dev215 (d0 : Dev nD) : Nat :=
  let c0_i32_7215 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7214 : BitVec 32 := 1#32
  let v6979 : BitVec 32 := Scalar.muli v280 c1_i32_7214
  let v6980 : BitVec 32 := Scalar.addi c0_i32_7215 v6979
  v6980.toNat
def k0_dev216 (d0 : Dev nD) : Nat :=
  let c0_i32_7237 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7236 : BitVec 32 := 1#32
  let v6999 : BitVec 32 := Scalar.muli v280 c1_i32_7236
  let v7000 : BitVec 32 := Scalar.addi c0_i32_7237 v6999
  v7000.toNat
def k0_dev217 (d0 : Dev nD) : Nat :=
  let c0_i32_7263 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7262 : BitVec 32 := 1#32
  let v7027 : BitVec 32 := Scalar.muli v404 c1_i32_7262
  let v7028 : BitVec 32 := Scalar.addi c0_i32_7263 v7027
  v7028.toNat
def k0_dev218 (d0 : Dev nD) : Nat :=
  let c0_i32_7285 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7284 : BitVec 32 := 1#32
  let v7047 : BitVec 32 := Scalar.muli v280 c1_i32_7284
  let v7048 : BitVec 32 := Scalar.addi c0_i32_7285 v7047
  v7048.toNat
def k0_dev219 (d0 : Dev nD) : Nat :=
  let c0_i32_7311 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7310 : BitVec 32 := 1#32
  let v7075 : BitVec 32 := Scalar.muli v404 c1_i32_7310
  let v7076 : BitVec 32 := Scalar.addi c0_i32_7311 v7075
  v7076.toNat
def k0_dev220 (d0 : Dev nD) : Nat :=
  let c0_i32_7333 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7332 : BitVec 32 := 1#32
  let v7095 : BitVec 32 := Scalar.muli v404 c1_i32_7332
  let v7096 : BitVec 32 := Scalar.addi c0_i32_7333 v7095
  v7096.toNat
def k0_dev221 (d0 : Dev nD) : Nat :=
  let c0_i32_7359 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7358 : BitVec 32 := 1#32
  let v7123 : BitVec 32 := Scalar.muli v280 c1_i32_7358
  let v7124 : BitVec 32 := Scalar.addi c0_i32_7359 v7123
  v7124.toNat
def k0_dev222 (d0 : Dev nD) : Nat :=
  let c0_i32_7381 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7380 : BitVec 32 := 1#32
  let v7143 : BitVec 32 := Scalar.muli v404 c1_i32_7380
  let v7144 : BitVec 32 := Scalar.addi c0_i32_7381 v7143
  v7144.toNat
def k0_dev223 (d0 : Dev nD) : Nat :=
  let c0_i32_7407 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7406 : BitVec 32 := 1#32
  let v7171 : BitVec 32 := Scalar.muli v280 c1_i32_7406
  let v7172 : BitVec 32 := Scalar.addi c0_i32_7407 v7171
  v7172.toNat
def k0_dev224 (d0 : Dev nD) : Nat :=
  let c0_i32_7429 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7428 : BitVec 32 := 1#32
  let v7191 : BitVec 32 := Scalar.muli v280 c1_i32_7428
  let v7192 : BitVec 32 := Scalar.addi c0_i32_7429 v7191
  v7192.toNat
def k0_dev225 (d0 : Dev nD) : Nat :=
  let c0_i32_7455 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7454 : BitVec 32 := 1#32
  let v7219 : BitVec 32 := Scalar.muli v404 c1_i32_7454
  let v7220 : BitVec 32 := Scalar.addi c0_i32_7455 v7219
  v7220.toNat
def k0_dev226 (d0 : Dev nD) : Nat :=
  let c0_i32_7477 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7476 : BitVec 32 := 1#32
  let v7239 : BitVec 32 := Scalar.muli v280 c1_i32_7476
  let v7240 : BitVec 32 := Scalar.addi c0_i32_7477 v7239
  v7240.toNat
def k0_dev227 (d0 : Dev nD) : Nat :=
  let c0_i32_7503 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7502 : BitVec 32 := 1#32
  let v7267 : BitVec 32 := Scalar.muli v404 c1_i32_7502
  let v7268 : BitVec 32 := Scalar.addi c0_i32_7503 v7267
  v7268.toNat
def k0_dev228 (d0 : Dev nD) : Nat :=
  let c0_i32_7525 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7524 : BitVec 32 := 1#32
  let v7287 : BitVec 32 := Scalar.muli v404 c1_i32_7524
  let v7288 : BitVec 32 := Scalar.addi c0_i32_7525 v7287
  v7288.toNat
def k0_dev229 (d0 : Dev nD) : Nat :=
  let c0_i32_7551 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7550 : BitVec 32 := 1#32
  let v7315 : BitVec 32 := Scalar.muli v280 c1_i32_7550
  let v7316 : BitVec 32 := Scalar.addi c0_i32_7551 v7315
  v7316.toNat
def k0_dev230 (d0 : Dev nD) : Nat :=
  let c0_i32_7573 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7572 : BitVec 32 := 1#32
  let v7335 : BitVec 32 := Scalar.muli v404 c1_i32_7572
  let v7336 : BitVec 32 := Scalar.addi c0_i32_7573 v7335
  v7336.toNat
def k0_dev231 (d0 : Dev nD) : Nat :=
  let c0_i32_7599 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7598 : BitVec 32 := 1#32
  let v7363 : BitVec 32 := Scalar.muli v280 c1_i32_7598
  let v7364 : BitVec 32 := Scalar.addi c0_i32_7599 v7363
  v7364.toNat
def k0_dev232 (d0 : Dev nD) : Nat :=
  let c0_i32_7621 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7620 : BitVec 32 := 1#32
  let v7383 : BitVec 32 := Scalar.muli v280 c1_i32_7620
  let v7384 : BitVec 32 := Scalar.addi c0_i32_7621 v7383
  v7384.toNat
def k0_dev233 (d0 : Dev nD) : Nat :=
  let c0_i32_7647 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7646 : BitVec 32 := 1#32
  let v7411 : BitVec 32 := Scalar.muli v404 c1_i32_7646
  let v7412 : BitVec 32 := Scalar.addi c0_i32_7647 v7411
  v7412.toNat
def k0_dev234 (d0 : Dev nD) : Nat :=
  let c0_i32_7669 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7668 : BitVec 32 := 1#32
  let v7431 : BitVec 32 := Scalar.muli v280 c1_i32_7668
  let v7432 : BitVec 32 := Scalar.addi c0_i32_7669 v7431
  v7432.toNat
def k0_dev235 (d0 : Dev nD) : Nat :=
  let c0_i32_7695 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7694 : BitVec 32 := 1#32
  let v7459 : BitVec 32 := Scalar.muli v404 c1_i32_7694
  let v7460 : BitVec 32 := Scalar.addi c0_i32_7695 v7459
  v7460.toNat
def k0_dev236 (d0 : Dev nD) : Nat :=
  let c0_i32_7738 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7737 : BitVec 32 := 1#32
  let v7503 : BitVec 32 := Scalar.muli v280 c1_i32_7737
  let v7504 : BitVec 32 := Scalar.addi c0_i32_7738 v7503
  v7504.toNat
def k0_dev237 (d0 : Dev nD) : Nat :=
  let c0_i32_7781 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7780 : BitVec 32 := 1#32
  let v7547 : BitVec 32 := Scalar.muli v280 c1_i32_7780
  let v7548 : BitVec 32 := Scalar.addi c0_i32_7781 v7547
  v7548.toNat
def k0_dev238 (d0 : Dev nD) : Nat :=
  let c0_i32_7824 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7823 : BitVec 32 := 1#32
  let v7591 : BitVec 32 := Scalar.muli v404 c1_i32_7823
  let v7592 : BitVec 32 := Scalar.addi c0_i32_7824 v7591
  v7592.toNat
def k0_dev239 (d0 : Dev nD) : Nat :=
  let c0_i32_7867 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7866 : BitVec 32 := 1#32
  let v7635 : BitVec 32 := Scalar.muli v404 c1_i32_7866
  let v7636 : BitVec 32 := Scalar.addi c0_i32_7867 v7635
  v7636.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x2048 : Shape := ⟨2, ![1024, 2048]⟩
abbrev S2048x4096 : Shape := ⟨2, ![2048, 4096]⟩
abbrev S4096x2048 : Shape := ⟨2, ![4096, 2048]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x4096, .f32⟩
  | .hbm, ⟨2, _⟩ => ⟨S4096x2048, .f32⟩
  | .hbm, ⟨3, _⟩ => ⟨S4096x2048, .f32⟩
  | .hbm, ⟨4, _⟩ => ⟨S1024x4096, .f32⟩
  | .hbm, ⟨5, _⟩ => ⟨S1024x2048, .f32⟩
  | .hbm, ⟨6, _⟩ => ⟨S1024x2048, .f32⟩
  | .hbm, ⟨7, _⟩ => ⟨S1024x4096, .f32⟩
  | .hbm, ⟨8, _⟩ => ⟨S1024x4096, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== AttnKernel.lean ====
abbrev S1024x2048 : Shape := ⟨2, ![1024, 2048]⟩
abbrev S2048x2048 : Shape := ⟨2, ![2048, 2048]⟩
abbrev S2048x512 : Shape := ⟨2, ![2048, 512]⟩
abbrev S2048x32 : Shape := ⟨2, ![2048, 32]⟩
abbrev S1024x4096 : Shape := ⟨2, ![1024, 4096]⟩
abbrev S4x2 : Shape := ⟨2, ![4, 2]⟩
abbrev S_ : Shape := ⟨0, ![]⟩
abbrev S32x2048 : Shape := ⟨2, ![32, 2048]⟩
abbrev S1024x32 : Shape := ⟨2, ![1024, 32]⟩
abbrev S32x512 : Shape := ⟨2, ![32, 512]⟩
abbrev S1024x128 : Shape := ⟨2, ![1024, 128]⟩
abbrev S32x128 : Shape := ⟨2, ![32, 128]⟩
abbrev S32x1024 : Shape := ⟨2, ![32, 1024]⟩
abbrev S32x32 : Shape := ⟨2, ![32, 32]⟩
abbrev S32 : Shape := ⟨1, ![32]⟩
abbrev S32x1 : Shape := ⟨2, ![32, 1]⟩
abbrev S128x2048 : Shape := ⟨2, ![128, 2048]⟩
abbrev S1x1 : Shape := ⟨2, ![1, 1]⟩
abbrev S64x512 : Shape := ⟨2, ![64, 512]⟩

abbrev nBuf : Space → Nat
  | .hbm => 7
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x512, .f32⟩
  | .hbm, ⟨3, _⟩ => ⟨S2048x32, .f32⟩
  | .hbm, ⟨4, _⟩ => ⟨S2048x2048, .f32⟩
  | .hbm, ⟨5, _⟩ => ⟨S1024x4096, .bf16⟩
  | .hbm, ⟨6, _⟩ => ⟨S1024x2048, .bf16⟩
  | .local _ .vmem, ⟨0, _⟩ => ⟨S1024x2048, .f32⟩
  | .local _ .vmem, ⟨1, _⟩ => ⟨S2048x2048, .f32⟩
  | .local _ .vmem, ⟨2, _⟩ => ⟨S2048x512, .f32⟩
  | .local _ .vmem, ⟨3, _⟩ => ⟨S2048x32, .f32⟩
  | .local _ .vmem, ⟨4, _⟩ => ⟨S2048x2048, .f32⟩
  | .local _ .vmem, ⟨5, _⟩ => ⟨S1024x4096, .bf16⟩
  | .local _ .vmem, ⟨6, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  (ofTc nBuf bufTy 9 25 bufScoped semScoped dmaSemScoped tileCredit tileCredit_eq_zero tileCredit_pos).withBarriers [(1, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier1 : Sem sig := 8

abbrev nD : Nat := 32
abbrev τ : Topo := Topo.v7x

variable {F : FTy → Type} [FloatOps F]

abbrev grid0 : Pipeline.Grid := .none

def k0_dev1 (d0 : Dev nD) : Nat :=
  let c0_i32_306 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_305 : BitVec 32 := 1#32
  let v424 : BitVec 32 := Scalar.muli v280 c1_i32_305
  let v425 : BitVec 32 := Scalar.addi c0_i32_306 v424
  v425.toNat
def k0_dev2 (d0 : Dev nD) : Nat :=
  let c0_i32_309 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_308 : BitVec 32 := 1#32
  let v426 : BitVec 32 := Scalar.muli v404 c1_i32_308
  let v427 : BitVec 32 := Scalar.addi c0_i32_309 v426
  v427.toNat
def k0_dev3 (d0 : Dev nD) : Nat :=
  let c0_i32_312 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_311 : BitVec 32 := 1#32
  let v428 : BitVec 32 := Scalar.muli v422 c1_i32_311
  let v429 : BitVec 32 := Scalar.addi c0_i32_312 v428
  v429.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_313 : BitVec 32 := 32#32
  let v430 : BitVec 32 := Scalar.muli v2 c32_i32_313
  let v431 : Index := Scalar.indexCast v430
  let c0 : Index := 0#32
  ![v431.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_507 : BitVec 32 := 32#32
  let v916 : BitVec 32 := Scalar.muli v2 c32_i32_507
  let c0_i32_510 : BitVec 32 := 0#32
  ![v916.toNat, 0]
def k0_dev4 (d0 : Dev nD) : Nat :=
  let c0_i32_509 : BitVec 32 := 0#32
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c1_i32_508 : BitVec 32 := 1#32
  let v917 : BitVec 32 := Scalar.muli v422 c1_i32_508
  let v918 : BitVec 32 := Scalar.addi c0_i32_509 v917
  v918.toNat
def k0_off3 (d0 : Dev nD) : Fin 2 → Nat :=
  let c8_i32_303 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v421 : BitVec 32 := Scalar.muli c8_i32_303 v19
  let c2_i32_294 : BitVec 32 := 2#32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v406 : BitVec 32 := Scalar.muli c2_i32_294 v46
  let c2_i32_295 : BitVec 32 := 2#32
  let c0_i32_296 : BitVec 32 := 0#32
  let v407 : BitVec 1 := Scalar.cmpi .eq c2_i32_295 c0_i32_296
  let c1_i32_297 : BitVec 32 := 1#32
  let v408 : BitVec 32 := Scalar.select v407 c1_i32_297 c2_i32_295
  let v409 : BitVec 32 := Scalar.remsi v46 v408
  let c0_i32_299 : BitVec 32 := 0#32
  let v411 : BitVec 1 := Scalar.cmpi .slt v409 c0_i32_299
  let c0_i32_300 : BitVec 32 := 0#32
  let v412 : BitVec 1 := Scalar.cmpi .slt v408 c0_i32_300
  let v413 : BitVec 1 := Scalar.xori v411 v412
  let c0_i32_298 : BitVec 32 := 0#32
  let v410 : BitVec 1 := Scalar.cmpi .ne v409 c0_i32_298
  let v414 : BitVec 1 := Scalar.andi v413 v410
  let v415 : BitVec 32 := Scalar.addi v409 v408
  let v416 : BitVec 32 := Scalar.select v414 v415 v409
  let c0_i32_301 : BitVec 32 := 0#32
  let v417 : BitVec 1 := Scalar.cmpi .eq v416 c0_i32_301
  let c1_i32_293 : BitVec 32 := 1#32
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let v405 : BitVec 32 := Scalar.subi c1_i32_293 v60
  let c1_i32_302 : BitVec 32 := 1#32
  let v418 : BitVec 32 := Scalar.subi c1_i32_302 v405
  let v419 : BitVec 32 := Scalar.select v417 v405 v418
  let v420 : BitVec 32 := Scalar.addi v406 v419
  let v422 : BitVec 32 := Scalar.addi v421 v420
  let c32_i32_505 : BitVec 32 := 32#32
  let v914 : BitVec 32 := Scalar.muli v422 c32_i32_505
  let c0_i32_517 : BitVec 32 := 0#32
  ![v914.toNat, 0]
def k0_off4 (d0 : Dev nD) (c0_i32_519 : BitVec 32) : Fin 2 → Nat :=
  let c0_i32_530 : BitVec 32 := 0#32
  let c0_i32_529 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v927 : BitVec 32 := Scalar.subi v156 c0_i32_519
  let c16_i32_520 : BitVec 32 := 16#32
  let c0_i32_521 : BitVec 32 := 0#32
  let v928 : BitVec 1 := Scalar.cmpi .eq c16_i32_520 c0_i32_521
  let c1_i32_522 : BitVec 32 := 1#32
  let v929 : BitVec 32 := Scalar.select v928 c1_i32_522 c16_i32_520
  let v930 : BitVec 32 := Scalar.remsi v927 v929
  let c0_i32_524 : BitVec 32 := 0#32
  let v932 : BitVec 1 := Scalar.cmpi .slt v930 c0_i32_524
  let c0_i32_525 : BitVec 32 := 0#32
  let v933 : BitVec 1 := Scalar.cmpi .slt v929 c0_i32_525
  let v934 : BitVec 1 := Scalar.xori v932 v933
  let c0_i32_523 : BitVec 32 := 0#32
  let v931 : BitVec 1 := Scalar.cmpi .ne v930 c0_i32_523
  let v935 : BitVec 1 := Scalar.andi v934 v931
  let v936 : BitVec 32 := Scalar.addi v930 v929
  let v937 : BitVec 32 := Scalar.select v935 v936 v930
  let c0_i32_526 : BitVec 32 := 0#32
  let v938 : BitVec 1 := Scalar.cmpi .eq v937 c0_i32_526
  let c1_i32_527 : BitVec 32 := 1#32
  let c0_i32_528 : BitVec 32 := 0#32
  let v939 : BitVec 32 := Scalar.select v938 c1_i32_527 c0_i32_528
  let v940 : BitVec 32 := Scalar.muli c0_i32_529 v939
  let v941 : BitVec 32 := Scalar.addi c0_i32_530 v940
  let c1_i32_534 : BitVec 32 := 1#32
  let c1_i32_531 : BitVec 32 := 1#32
  let v942 : BitVec 1 := Scalar.cmpi .eq v937 c1_i32_531
  let c1_i32_532 : BitVec 32 := 1#32
  let c0_i32_533 : BitVec 32 := 0#32
  let v943 : BitVec 32 := Scalar.select v942 c1_i32_532 c0_i32_533
  let v944 : BitVec 32 := Scalar.muli c1_i32_534 v943
  let v945 : BitVec 32 := Scalar.addi v941 v944
  let c2_i32_538 : BitVec 32 := 2#32
  let c2_i32_535 : BitVec 32 := 2#32
  let v946 : BitVec 1 := Scalar.cmpi .eq v937 c2_i32_535
  let c1_i32_536 : BitVec 32 := 1#32
  let c0_i32_537 : BitVec 32 := 0#32
  let v947 : BitVec 32 := Scalar.select v946 c1_i32_536 c0_i32_537
  let v948 : BitVec 32 := Scalar.muli c2_i32_538 v947
  let v949 : BitVec 32 := Scalar.addi v945 v948
  let c3_i32_542 : BitVec 32 := 3#32
  let c3_i32_539 : BitVec 32 := 3#32
  let v950 : BitVec 1 := Scalar.cmpi .eq v937 c3_i32_539
  let c1_i32_540 : BitVec 32 := 1#32
  let c0_i32_541 : BitVec 32 := 0#32
  let v951 : BitVec 32 := Scalar.select v950 c1_i32_540 c0_i32_541
  let v952 : BitVec 32 := Scalar.muli c3_i32_542 v951
  let v953 : BitVec 32 := Scalar.addi v949 v952
  let c7_i32_546 : BitVec 32 := 7#32
  let c4_i32_543 : BitVec 32 := 4#32
  let v954 : BitVec 1 := Scalar.cmpi .eq v937 c4_i32_543
  let c1_i32_544 : BitVec 32 := 1#32
  let c0_i32_545 : BitVec 32 := 0#32
  let v955 : BitVec 32 := Scalar.select v954 c1_i32_544 c0_i32_545
  let v956 : BitVec 32 := Scalar.muli c7_i32_546 v955
  let v957 : BitVec 32 := Scalar.addi v953 v956
  let c6_i32_550 : BitVec 32 := 6#32
  let c5_i32_547 : BitVec 32 := 5#32
  let v958 : BitVec 1 := Scalar.cmpi .eq v937 c5_i32_547
  let c1_i32_548 : BitVec 32 := 1#32
  let c0_i32_549 : BitVec 32 := 0#32
  let v959 : BitVec 32 := Scalar.select v958 c1_i32_548 c0_i32_549
  let v960 : BitVec 32 := Scalar.muli c6_i32_550 v959
  let v961 : BitVec 32 := Scalar.addi v957 v960
  let c5_i32_554 : BitVec 32 := 5#32
  let c6_i32_551 : BitVec 32 := 6#32
  let v962 : BitVec 1 := Scalar.cmpi .eq v937 c6_i32_551
  let c1_i32_552 : BitVec 32 := 1#32
  let c0_i32_553 : BitVec 32 := 0#32
  let v963 : BitVec 32 := Scalar.select v962 c1_i32_552 c0_i32_553
  let v964 : BitVec 32 := Scalar.muli c5_i32_554 v963
  let v965 : BitVec 32 := Scalar.addi v961 v964
  let c9_i32_558 : BitVec 32 := 9#32
  let c7_i32_555 : BitVec 32 := 7#32
  let v966 : BitVec 1 := Scalar.cmpi .eq v937 c7_i32_555
  let c1_i32_556 : BitVec 32 := 1#32
  let c0_i32_557 : BitVec 32 := 0#32
  let v967 : BitVec 32 := Scalar.select v966 c1_i32_556 c0_i32_557
  let v968 : BitVec 32 := Scalar.muli c9_i32_558 v967
  let v969 : BitVec 32 := Scalar.addi v965 v968
  let c10_i32_562 : BitVec 32 := 10#32
  let c8_i32_559 : BitVec 32 := 8#32
  let v970 : BitVec 1 := Scalar.cmpi .eq v937 c8_i32_559
  let c1_i32_560 : BitVec 32 := 1#32
  let c0_i32_561 : BitVec 32 := 0#32
  let v971 : BitVec 32 := Scalar.select v970 c1_i32_560 c0_i32_561
  let v972 : BitVec 32 := Scalar.muli c10_i32_562 v971
  let v973 : BitVec 32 := Scalar.addi v969 v972
  let c11_i32_566 : BitVec 32 := 11#32
  let c9_i32_563 : BitVec 32 := 9#32
  let v974 : BitVec 1 := Scalar.cmpi .eq v937 c9_i32_563
  let c1_i32_564 : BitVec 32 := 1#32
  let c0_i32_565 : BitVec 32 := 0#32
  let v975 : BitVec 32 := Scalar.select v974 c1_i32_564 c0_i32_565
  let v976 : BitVec 32 := Scalar.muli c11_i32_566 v975
  let v977 : BitVec 32 := Scalar.addi v973 v976
  let c15_i32_570 : BitVec 32 := 15#32
  let c10_i32_567 : BitVec 32 := 10#32
  let v978 : BitVec 1 := Scalar.cmpi .eq v937 c10_i32_567
  let c1_i32_568 : BitVec 32 := 1#32
  let c0_i32_569 : BitVec 32 := 0#32
  let v979 : BitVec 32 := Scalar.select v978 c1_i32_568 c0_i32_569
  let v980 : BitVec 32 := Scalar.muli c15_i32_570 v979
  let v981 : BitVec 32 := Scalar.addi v977 v980
  let c14_i32_574 : BitVec 32 := 14#32
  let c11_i32_571 : BitVec 32 := 11#32
  let v982 : BitVec 1 := Scalar.cmpi .eq v937 c11_i32_571
  let c1_i32_572 : BitVec 32 := 1#32
  let c0_i32_573 : BitVec 32 := 0#32
  let v983 : BitVec 32 := Scalar.select v982 c1_i32_572 c0_i32_573
  let v984 : BitVec 32 := Scalar.muli c14_i32_574 v983
  let v985 : BitVec 32 := Scalar.addi v981 v984
  let c13_i32_578 : BitVec 32 := 13#32
  let c12_i32_575 : BitVec 32 := 12#32
  let v986 : BitVec 1 := Scalar.cmpi .eq v937 c12_i32_575
  let c1_i32_576 : BitVec 32 := 1#32
  let c0_i32_577 : BitVec 32 := 0#32
  let v987 : BitVec 32 := Scalar.select v986 c1_i32_576 c0_i32_577
  let v988 : BitVec 32 := Scalar.muli c13_i32_578 v987
  let v989 : BitVec 32 := Scalar.addi v985 v988
  let c12_i32_582 : BitVec 32 := 12#32
  let c13_i32_579 : BitVec 32 := 13#32
  let v990 : BitVec 1 := Scalar.cmpi .eq v937 c13_i32_579
  let c1_i32_580 : BitVec 32 := 1#32
  let c0_i32_581 : BitVec 32 := 0#32
  let v991 : BitVec 32 := Scalar.select v990 c1_i32_580 c0_i32_581
  let v992 : BitVec 32 := Scalar.muli c12_i32_582 v991
  let v993 : BitVec 32 := Scalar.addi v989 v992
  let c8_i32_586 : BitVec 32 := 8#32
  let c14_i32_583 : BitVec 32 := 14#32
  let v994 : BitVec 1 := Scalar.cmpi .eq v937 c14_i32_583
  let c1_i32_584 : BitVec 32 := 1#32
  let c0_i32_585 : BitVec 32 := 0#32
  let v995 : BitVec 32 := Scalar.select v994 c1_i32_584 c0_i32_585
  let v996 : BitVec 32 := Scalar.muli c8_i32_586 v995
  let v997 : BitVec 32 := Scalar.addi v993 v996
  let c4_i32_590 : BitVec 32 := 4#32
  let c15_i32_587 : BitVec 32 := 15#32
  let v998 : BitVec 1 := Scalar.cmpi .eq v937 c15_i32_587
  let c1_i32_588 : BitVec 32 := 1#32
  let c0_i32_589 : BitVec 32 := 0#32
  let v999 : BitVec 32 := Scalar.select v998 c1_i32_588 c0_i32_589
  let v1000 : BitVec 32 := Scalar.muli c4_i32_590 v999
  let v1001 : BitVec 32 := Scalar.addi v997 v1000
  let c64_i32 : BitVec 32 := 64#32
  let v1077 : BitVec 32 := Scalar.muli v1001 c64_i32
  let c0_i32_670 : BitVec 32 := 0#32
  ![v1077.toNat, 0]
def k0_dev5 (d0 : Dev nD) : Nat :=
  let c0_i32_669 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_668 : BitVec 32 := 1#32
  let v1079 : BitVec 32 := Scalar.muli v280 c1_i32_668
  let v1080 : BitVec 32 := Scalar.addi c0_i32_669 v1079
  v1080.toNat
def k0_off5 (d0 : Dev nD) (c0_i32_672 : BitVec 32) : Fin 2 → Nat :=
  let c0_i32_683 : BitVec 32 := 0#32
  let c0_i32_682 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v1087 : BitVec 32 := Scalar.subi v156 c0_i32_672
  let c16_i32_673 : BitVec 32 := 16#32
  let c0_i32_674 : BitVec 32 := 0#32
  let v1088 : BitVec 1 := Scalar.cmpi .eq c16_i32_673 c0_i32_674
  let c1_i32_675 : BitVec 32 := 1#32
  let v1089 : BitVec 32 := Scalar.select v1088 c1_i32_675 c16_i32_673
  let v1090 : BitVec 32 := Scalar.remsi v1087 v1089
  let c0_i32_677 : BitVec 32 := 0#32
  let v1092 : BitVec 1 := Scalar.cmpi .slt v1090 c0_i32_677
  let c0_i32_678 : BitVec 32 := 0#32
  let v1093 : BitVec 1 := Scalar.cmpi .slt v1089 c0_i32_678
  let v1094 : BitVec 1 := Scalar.xori v1092 v1093
  let c0_i32_676 : BitVec 32 := 0#32
  let v1091 : BitVec 1 := Scalar.cmpi .ne v1090 c0_i32_676
  let v1095 : BitVec 1 := Scalar.andi v1094 v1091
  let v1096 : BitVec 32 := Scalar.addi v1090 v1089
  let v1097 : BitVec 32 := Scalar.select v1095 v1096 v1090
  let c0_i32_679 : BitVec 32 := 0#32
  let v1098 : BitVec 1 := Scalar.cmpi .eq v1097 c0_i32_679
  let c1_i32_680 : BitVec 32 := 1#32
  let c0_i32_681 : BitVec 32 := 0#32
  let v1099 : BitVec 32 := Scalar.select v1098 c1_i32_680 c0_i32_681
  let v1100 : BitVec 32 := Scalar.muli c0_i32_682 v1099
  let v1101 : BitVec 32 := Scalar.addi c0_i32_683 v1100
  let c1_i32_687 : BitVec 32 := 1#32
  let c1_i32_684 : BitVec 32 := 1#32
  let v1102 : BitVec 1 := Scalar.cmpi .eq v1097 c1_i32_684
  let c1_i32_685 : BitVec 32 := 1#32
  let c0_i32_686 : BitVec 32 := 0#32
  let v1103 : BitVec 32 := Scalar.select v1102 c1_i32_685 c0_i32_686
  let v1104 : BitVec 32 := Scalar.muli c1_i32_687 v1103
  let v1105 : BitVec 32 := Scalar.addi v1101 v1104
  let c2_i32_691 : BitVec 32 := 2#32
  let c2_i32_688 : BitVec 32 := 2#32
  let v1106 : BitVec 1 := Scalar.cmpi .eq v1097 c2_i32_688
  let c1_i32_689 : BitVec 32 := 1#32
  let c0_i32_690 : BitVec 32 := 0#32
  let v1107 : BitVec 32 := Scalar.select v1106 c1_i32_689 c0_i32_690
  let v1108 : BitVec 32 := Scalar.muli c2_i32_691 v1107
  let v1109 : BitVec 32 := Scalar.addi v1105 v1108
  let c3_i32_695 : BitVec 32 := 3#32
  let c3_i32_692 : BitVec 32 := 3#32
  let v1110 : BitVec 1 := Scalar.cmpi .eq v1097 c3_i32_692
  let c1_i32_693 : BitVec 32 := 1#32
  let c0_i32_694 : BitVec 32 := 0#32
  let v1111 : BitVec 32 := Scalar.select v1110 c1_i32_693 c0_i32_694
  let v1112 : BitVec 32 := Scalar.muli c3_i32_695 v1111
  let v1113 : BitVec 32 := Scalar.addi v1109 v1112
  let c7_i32_699 : BitVec 32 := 7#32
  let c4_i32_696 : BitVec 32 := 4#32
  let v1114 : BitVec 1 := Scalar.cmpi .eq v1097 c4_i32_696
  let c1_i32_697 : BitVec 32 := 1#32
  let c0_i32_698 : BitVec 32 := 0#32
  let v1115 : BitVec 32 := Scalar.select v1114 c1_i32_697 c0_i32_698
  let v1116 : BitVec 32 := Scalar.muli c7_i32_699 v1115
  let v1117 : BitVec 32 := Scalar.addi v1113 v1116
  let c6_i32_703 : BitVec 32 := 6#32
  let c5_i32_700 : BitVec 32 := 5#32
  let v1118 : BitVec 1 := Scalar.cmpi .eq v1097 c5_i32_700
  let c1_i32_701 : BitVec 32 := 1#32
  let c0_i32_702 : BitVec 32 := 0#32
  let v1119 : BitVec 32 := Scalar.select v1118 c1_i32_701 c0_i32_702
  let v1120 : BitVec 32 := Scalar.muli c6_i32_703 v1119
  let v1121 : BitVec 32 := Scalar.addi v1117 v1120
  let c5_i32_707 : BitVec 32 := 5#32
  let c6_i32_704 : BitVec 32 := 6#32
  let v1122 : BitVec 1 := Scalar.cmpi .eq v1097 c6_i32_704
  let c1_i32_705 : BitVec 32 := 1#32
  let c0_i32_706 : BitVec 32 := 0#32
  let v1123 : BitVec 32 := Scalar.select v1122 c1_i32_705 c0_i32_706
  let v1124 : BitVec 32 := Scalar.muli c5_i32_707 v1123
  let v1125 : BitVec 32 := Scalar.addi v1121 v1124
  let c9_i32_711 : BitVec 32 := 9#32
  let c7_i32_708 : BitVec 32 := 7#32
  let v1126 : BitVec 1 := Scalar.cmpi .eq v1097 c7_i32_708
  let c1_i32_709 : BitVec 32 := 1#32
  let c0_i32_710 : BitVec 32 := 0#32
  let v1127 : BitVec 32 := Scalar.select v1126 c1_i32_709 c0_i32_710
  let v1128 : BitVec 32 := Scalar.muli c9_i32_711 v1127
  let v1129 : BitVec 32 := Scalar.addi v1125 v1128
  let c10_i32_715 : BitVec 32 := 10#32
  let c8_i32_712 : BitVec 32 := 8#32
  let v1130 : BitVec 1 := Scalar.cmpi .eq v1097 c8_i32_712
  let c1_i32_713 : BitVec 32 := 1#32
  let c0_i32_714 : BitVec 32 := 0#32
  let v1131 : BitVec 32 := Scalar.select v1130 c1_i32_713 c0_i32_714
  let v1132 : BitVec 32 := Scalar.muli c10_i32_715 v1131
  let v1133 : BitVec 32 := Scalar.addi v1129 v1132
  let c11_i32_719 : BitVec 32 := 11#32
  let c9_i32_716 : BitVec 32 := 9#32
  let v1134 : BitVec 1 := Scalar.cmpi .eq v1097 c9_i32_716
  let c1_i32_717 : BitVec 32 := 1#32
  let c0_i32_718 : BitVec 32 := 0#32
  let v1135 : BitVec 32 := Scalar.select v1134 c1_i32_717 c0_i32_718
  let v1136 : BitVec 32 := Scalar.muli c11_i32_719 v1135
  let v1137 : BitVec 32 := Scalar.addi v1133 v1136
  let c15_i32_723 : BitVec 32 := 15#32
  let c10_i32_720 : BitVec 32 := 10#32
  let v1138 : BitVec 1 := Scalar.cmpi .eq v1097 c10_i32_720
  let c1_i32_721 : BitVec 32 := 1#32
  let c0_i32_722 : BitVec 32 := 0#32
  let v1139 : BitVec 32 := Scalar.select v1138 c1_i32_721 c0_i32_722
  let v1140 : BitVec 32 := Scalar.muli c15_i32_723 v1139
  let v1141 : BitVec 32 := Scalar.addi v1137 v1140
  let c14_i32_727 : BitVec 32 := 14#32
  let c11_i32_724 : BitVec 32 := 11#32
  let v1142 : BitVec 1 := Scalar.cmpi .eq v1097 c11_i32_724
  let c1_i32_725 : BitVec 32 := 1#32
  let c0_i32_726 : BitVec 32 := 0#32
  let v1143 : BitVec 32 := Scalar.select v1142 c1_i32_725 c0_i32_726
  let v1144 : BitVec 32 := Scalar.muli c14_i32_727 v1143
  let v1145 : BitVec 32 := Scalar.addi v1141 v1144
  let c13_i32_731 : BitVec 32 := 13#32
  let c12_i32_728 : BitVec 32 := 12#32
  let v1146 : BitVec 1 := Scalar.cmpi .eq v1097 c12_i32_728
  let c1_i32_729 : BitVec 32 := 1#32
  let c0_i32_730 : BitVec 32 := 0#32
  let v1147 : BitVec 32 := Scalar.select v1146 c1_i32_729 c0_i32_730
  let v1148 : BitVec 32 := Scalar.muli c13_i32_731 v1147
  let v1149 : BitVec 32 := Scalar.addi v1145 v1148
  let c12_i32_735 : BitVec 32 := 12#32
  let c13_i32_732 : BitVec 32 := 13#32
  let v1150 : BitVec 1 := Scalar.cmpi .eq v1097 c13_i32_732
  let c1_i32_733 : BitVec 32 := 1#32
  let c0_i32_734 : BitVec 32 := 0#32
  let v1151 : BitVec 32 := Scalar.select v1150 c1_i32_733 c0_i32_734
  let v1152 : BitVec 32 := Scalar.muli c12_i32_735 v1151
  let v1153 : BitVec 32 := Scalar.addi v1149 v1152
  let c8_i32_739 : BitVec 32 := 8#32
  let c14_i32_736 : BitVec 32 := 14#32
  let v1154 : BitVec 1 := Scalar.cmpi .eq v1097 c14_i32_736
  let c1_i32_737 : BitVec 32 := 1#32
  let c0_i32_738 : BitVec 32 := 0#32
  let v1155 : BitVec 32 := Scalar.select v1154 c1_i32_737 c0_i32_738
  let v1156 : BitVec 32 := Scalar.muli c8_i32_739 v1155
  let v1157 : BitVec 32 := Scalar.addi v1153 v1156
  let c4_i32_743 : BitVec 32 := 4#32
  let c15_i32_740 : BitVec 32 := 15#32
  let v1158 : BitVec 1 := Scalar.cmpi .eq v1097 c15_i32_740
  let c1_i32_741 : BitVec 32 := 1#32
  let c0_i32_742 : BitVec 32 := 0#32
  let v1159 : BitVec 32 := Scalar.select v1158 c1_i32_741 c0_i32_742
  let v1160 : BitVec 32 := Scalar.muli c4_i32_743 v1159
  let v1161 : BitVec 32 := Scalar.addi v1157 v1160
  let c64_i32_816 : BitVec 32 := 64#32
  let v1237 : BitVec 32 := Scalar.muli v1161 c64_i32_816
  let c512_i32 : BitVec 32 := 512#32
  ![v1237.toNat, 512]
def k0_dev6 (d0 : Dev nD) : Nat :=
  let c0_i32_823 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_822 : BitVec 32 := 1#32
  let v1239 : BitVec 32 := Scalar.muli v280 c1_i32_822
  let v1240 : BitVec 32 := Scalar.addi c0_i32_823 v1239
  v1240.toNat
def k0_off6 (d0 : Dev nD) (c0_i32_825 : BitVec 32) : Fin 2 → Nat :=
  let c0_i32_836 : BitVec 32 := 0#32
  let c0_i32_835 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v1247 : BitVec 32 := Scalar.subi v156 c0_i32_825
  let c16_i32_826 : BitVec 32 := 16#32
  let c0_i32_827 : BitVec 32 := 0#32
  let v1248 : BitVec 1 := Scalar.cmpi .eq c16_i32_826 c0_i32_827
  let c1_i32_828 : BitVec 32 := 1#32
  let v1249 : BitVec 32 := Scalar.select v1248 c1_i32_828 c16_i32_826
  let v1250 : BitVec 32 := Scalar.remsi v1247 v1249
  let c0_i32_830 : BitVec 32 := 0#32
  let v1252 : BitVec 1 := Scalar.cmpi .slt v1250 c0_i32_830
  let c0_i32_831 : BitVec 32 := 0#32
  let v1253 : BitVec 1 := Scalar.cmpi .slt v1249 c0_i32_831
  let v1254 : BitVec 1 := Scalar.xori v1252 v1253
  let c0_i32_829 : BitVec 32 := 0#32
  let v1251 : BitVec 1 := Scalar.cmpi .ne v1250 c0_i32_829
  let v1255 : BitVec 1 := Scalar.andi v1254 v1251
  let v1256 : BitVec 32 := Scalar.addi v1250 v1249
  let v1257 : BitVec 32 := Scalar.select v1255 v1256 v1250
  let c0_i32_832 : BitVec 32 := 0#32
  let v1258 : BitVec 1 := Scalar.cmpi .eq v1257 c0_i32_832
  let c1_i32_833 : BitVec 32 := 1#32
  let c0_i32_834 : BitVec 32 := 0#32
  let v1259 : BitVec 32 := Scalar.select v1258 c1_i32_833 c0_i32_834
  let v1260 : BitVec 32 := Scalar.muli c0_i32_835 v1259
  let v1261 : BitVec 32 := Scalar.addi c0_i32_836 v1260
  let c1_i32_840 : BitVec 32 := 1#32
  let c1_i32_837 : BitVec 32 := 1#32
  let v1262 : BitVec 1 := Scalar.cmpi .eq v1257 c1_i32_837
  let c1_i32_838 : BitVec 32 := 1#32
  let c0_i32_839 : BitVec 32 := 0#32
  let v1263 : BitVec 32 := Scalar.select v1262 c1_i32_838 c0_i32_839
  let v1264 : BitVec 32 := Scalar.muli c1_i32_840 v1263
  let v1265 : BitVec 32 := Scalar.addi v1261 v1264
  let c2_i32_844 : BitVec 32 := 2#32
  let c2_i32_841 : BitVec 32 := 2#32
  let v1266 : BitVec 1 := Scalar.cmpi .eq v1257 c2_i32_841
  let c1_i32_842 : BitVec 32 := 1#32
  let c0_i32_843 : BitVec 32 := 0#32
  let v1267 : BitVec 32 := Scalar.select v1266 c1_i32_842 c0_i32_843
  let v1268 : BitVec 32 := Scalar.muli c2_i32_844 v1267
  let v1269 : BitVec 32 := Scalar.addi v1265 v1268
  let c3_i32_848 : BitVec 32 := 3#32
  let c3_i32_845 : BitVec 32 := 3#32
  let v1270 : BitVec 1 := Scalar.cmpi .eq v1257 c3_i32_845
  let c1_i32_846 : BitVec 32 := 1#32
  let c0_i32_847 : BitVec 32 := 0#32
  let v1271 : BitVec 32 := Scalar.select v1270 c1_i32_846 c0_i32_847
  let v1272 : BitVec 32 := Scalar.muli c3_i32_848 v1271
  let v1273 : BitVec 32 := Scalar.addi v1269 v1272
  let c7_i32_852 : BitVec 32 := 7#32
  let c4_i32_849 : BitVec 32 := 4#32
  let v1274 : BitVec 1 := Scalar.cmpi .eq v1257 c4_i32_849
  let c1_i32_850 : BitVec 32 := 1#32
  let c0_i32_851 : BitVec 32 := 0#32
  let v1275 : BitVec 32 := Scalar.select v1274 c1_i32_850 c0_i32_851
  let v1276 : BitVec 32 := Scalar.muli c7_i32_852 v1275
  let v1277 : BitVec 32 := Scalar.addi v1273 v1276
  let c6_i32_856 : BitVec 32 := 6#32
  let c5_i32_853 : BitVec 32 := 5#32
  let v1278 : BitVec 1 := Scalar.cmpi .eq v1257 c5_i32_853
  let c1_i32_854 : BitVec 32 := 1#32
  let c0_i32_855 : BitVec 32 := 0#32
  let v1279 : BitVec 32 := Scalar.select v1278 c1_i32_854 c0_i32_855
  let v1280 : BitVec 32 := Scalar.muli c6_i32_856 v1279
  let v1281 : BitVec 32 := Scalar.addi v1277 v1280
  let c5_i32_860 : BitVec 32 := 5#32
  let c6_i32_857 : BitVec 32 := 6#32
  let v1282 : BitVec 1 := Scalar.cmpi .eq v1257 c6_i32_857
  let c1_i32_858 : BitVec 32 := 1#32
  let c0_i32_859 : BitVec 32 := 0#32
  let v1283 : BitVec 32 := Scalar.select v1282 c1_i32_858 c0_i32_859
  let v1284 : BitVec 32 := Scalar.muli c5_i32_860 v1283
  let v1285 : BitVec 32 := Scalar.addi v1281 v1284
  let c9_i32_864 : BitVec 32 := 9#32
  let c7_i32_861 : BitVec 32 := 7#32
  let v1286 : BitVec 1 := Scalar.cmpi .eq v1257 c7_i32_861
  let c1_i32_862 : BitVec 32 := 1#32
  let c0_i32_863 : BitVec 32 := 0#32
  let v1287 : BitVec 32 := Scalar.select v1286 c1_i32_862 c0_i32_863
  let v1288 : BitVec 32 := Scalar.muli c9_i32_864 v1287
  let v1289 : BitVec 32 := Scalar.addi v1285 v1288
  let c10_i32_868 : BitVec 32 := 10#32
  let c8_i32_865 : BitVec 32 := 8#32
  let v1290 : BitVec 1 := Scalar.cmpi .eq v1257 c8_i32_865
  let c1_i32_866 : BitVec 32 := 1#32
  let c0_i32_867 : BitVec 32 := 0#32
  let v1291 : BitVec 32 := Scalar.select v1290 c1_i32_866 c0_i32_867
  let v1292 : BitVec 32 := Scalar.muli c10_i32_868 v1291
  let v1293 : BitVec 32 := Scalar.addi v1289 v1292
  let c11_i32_872 : BitVec 32 := 11#32
  let c9_i32_869 : BitVec 32 := 9#32
  let v1294 : BitVec 1 := Scalar.cmpi .eq v1257 c9_i32_869
  let c1_i32_870 : BitVec 32 := 1#32
  let c0_i32_871 : BitVec 32 := 0#32
  let v1295 : BitVec 32 := Scalar.select v1294 c1_i32_870 c0_i32_871
  let v1296 : BitVec 32 := Scalar.muli c11_i32_872 v1295
  let v1297 : BitVec 32 := Scalar.addi v1293 v1296
  let c15_i32_876 : BitVec 32 := 15#32
  let c10_i32_873 : BitVec 32 := 10#32
  let v1298 : BitVec 1 := Scalar.cmpi .eq v1257 c10_i32_873
  let c1_i32_874 : BitVec 32 := 1#32
  let c0_i32_875 : BitVec 32 := 0#32
  let v1299 : BitVec 32 := Scalar.select v1298 c1_i32_874 c0_i32_875
  let v1300 : BitVec 32 := Scalar.muli c15_i32_876 v1299
  let v1301 : BitVec 32 := Scalar.addi v1297 v1300
  let c14_i32_880 : BitVec 32 := 14#32
  let c11_i32_877 : BitVec 32 := 11#32
  let v1302 : BitVec 1 := Scalar.cmpi .eq v1257 c11_i32_877
  let c1_i32_878 : BitVec 32 := 1#32
  let c0_i32_879 : BitVec 32 := 0#32
  let v1303 : BitVec 32 := Scalar.select v1302 c1_i32_878 c0_i32_879
  let v1304 : BitVec 32 := Scalar.muli c14_i32_880 v1303
  let v1305 : BitVec 32 := Scalar.addi v1301 v1304
  let c13_i32_884 : BitVec 32 := 13#32
  let c12_i32_881 : BitVec 32 := 12#32
  let v1306 : BitVec 1 := Scalar.cmpi .eq v1257 c12_i32_881
  let c1_i32_882 : BitVec 32 := 1#32
  let c0_i32_883 : BitVec 32 := 0#32
  let v1307 : BitVec 32 := Scalar.select v1306 c1_i32_882 c0_i32_883
  let v1308 : BitVec 32 := Scalar.muli c13_i32_884 v1307
  let v1309 : BitVec 32 := Scalar.addi v1305 v1308
  let c12_i32_888 : BitVec 32 := 12#32
  let c13_i32_885 : BitVec 32 := 13#32
  let v1310 : BitVec 1 := Scalar.cmpi .eq v1257 c13_i32_885
  let c1_i32_886 : BitVec 32 := 1#32
  let c0_i32_887 : BitVec 32 := 0#32
  let v1311 : BitVec 32 := Scalar.select v1310 c1_i32_886 c0_i32_887
  let v1312 : BitVec 32 := Scalar.muli c12_i32_888 v1311
  let v1313 : BitVec 32 := Scalar.addi v1309 v1312
  let c8_i32_892 : BitVec 32 := 8#32
  let c14_i32_889 : BitVec 32 := 14#32
  let v1314 : BitVec 1 := Scalar.cmpi .eq v1257 c14_i32_889
  let c1_i32_890 : BitVec 32 := 1#32
  let c0_i32_891 : BitVec 32 := 0#32
  let v1315 : BitVec 32 := Scalar.select v1314 c1_i32_890 c0_i32_891
  let v1316 : BitVec 32 := Scalar.muli c8_i32_892 v1315
  let v1317 : BitVec 32 := Scalar.addi v1313 v1316
  let c4_i32_896 : BitVec 32 := 4#32
  let c15_i32_893 : BitVec 32 := 15#32
  let v1318 : BitVec 1 := Scalar.cmpi .eq v1257 c15_i32_893
  let c1_i32_894 : BitVec 32 := 1#32
  let c0_i32_895 : BitVec 32 := 0#32
  let v1319 : BitVec 32 := Scalar.select v1318 c1_i32_894 c0_i32_895
  let v1320 : BitVec 32 := Scalar.muli c4_i32_896 v1319
  let v1321 : BitVec 32 := Scalar.addi v1317 v1320
  let c64_i32_968 : BitVec 32 := 64#32
  let v1397 : BitVec 32 := Scalar.muli v1321 c64_i32_968
  let c1024_i32 : BitVec 32 := 1024#32
  ![v1397.toNat, 1024]
def k0_off6_at (r : Fin 16) : BitVec 32 :=
  if r.val < 8 then
    if r.val < 4 then
      if r.val < 2 then
        if r.val < 1 then
          0#32
        else
          4294967295#32
      else
        if r.val < 3 then
          4294967294#32
        else
          4294967293#32
    else
      if r.val < 6 then
        if r.val < 5 then
          4294967292#32
        else
          4294967291#32
      else
        if r.val < 7 then
          4294967290#32
        else
          4294967289#32
  else
    if r.val < 12 then
      if r.val < 10 then
        if r.val < 9 then
          4294967288#32
        else
          4294967287#32
      else
        if r.val < 11 then
          4294967286#32
        else
          4294967285#32
    else
      if r.val < 14 then
        if r.val < 13 then
          4294967284#32
        else
          4294967283#32
      else
        if r.val < 15 then
          4294967282#32
        else
          4294967281#32
def k0_dev7 (d0 : Dev nD) : Nat :=
  let c0_i32_975 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_974 : BitVec 32 := 1#32
  let v1399 : BitVec 32 := Scalar.muli v404 c1_i32_974
  let v1400 : BitVec 32 := Scalar.addi c0_i32_975 v1399
  v1400.toNat
def k0_off7 (d0 : Dev nD) (c0_i32_977 : BitVec 32) : Fin 2 → Nat :=
  let c0_i32_988 : BitVec 32 := 0#32
  let c0_i32_987 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let v1407 : BitVec 32 := Scalar.subi v156 c0_i32_977
  let c16_i32_978 : BitVec 32 := 16#32
  let c0_i32_979 : BitVec 32 := 0#32
  let v1408 : BitVec 1 := Scalar.cmpi .eq c16_i32_978 c0_i32_979
  let c1_i32_980 : BitVec 32 := 1#32
  let v1409 : BitVec 32 := Scalar.select v1408 c1_i32_980 c16_i32_978
  let v1410 : BitVec 32 := Scalar.remsi v1407 v1409
  let c0_i32_982 : BitVec 32 := 0#32
  let v1412 : BitVec 1 := Scalar.cmpi .slt v1410 c0_i32_982
  let c0_i32_983 : BitVec 32 := 0#32
  let v1413 : BitVec 1 := Scalar.cmpi .slt v1409 c0_i32_983
  let v1414 : BitVec 1 := Scalar.xori v1412 v1413
  let c0_i32_981 : BitVec 32 := 0#32
  let v1411 : BitVec 1 := Scalar.cmpi .ne v1410 c0_i32_981
  let v1415 : BitVec 1 := Scalar.andi v1414 v1411
  let v1416 : BitVec 32 := Scalar.addi v1410 v1409
  let v1417 : BitVec 32 := Scalar.select v1415 v1416 v1410
  let c0_i32_984 : BitVec 32 := 0#32
  let v1418 : BitVec 1 := Scalar.cmpi .eq v1417 c0_i32_984
  let c1_i32_985 : BitVec 32 := 1#32
  let c0_i32_986 : BitVec 32 := 0#32
  let v1419 : BitVec 32 := Scalar.select v1418 c1_i32_985 c0_i32_986
  let v1420 : BitVec 32 := Scalar.muli c0_i32_987 v1419
  let v1421 : BitVec 32 := Scalar.addi c0_i32_988 v1420
  let c1_i32_992 : BitVec 32 := 1#32
  let c1_i32_989 : BitVec 32 := 1#32
  let v1422 : BitVec 1 := Scalar.cmpi .eq v1417 c1_i32_989
  let c1_i32_990 : BitVec 32 := 1#32
  let c0_i32_991 : BitVec 32 := 0#32
  let v1423 : BitVec 32 := Scalar.select v1422 c1_i32_990 c0_i32_991
  let v1424 : BitVec 32 := Scalar.muli c1_i32_992 v1423
  let v1425 : BitVec 32 := Scalar.addi v1421 v1424
  let c2_i32_996 : BitVec 32 := 2#32
  let c2_i32_993 : BitVec 32 := 2#32
  let v1426 : BitVec 1 := Scalar.cmpi .eq v1417 c2_i32_993
  let c1_i32_994 : BitVec 32 := 1#32
  let c0_i32_995 : BitVec 32 := 0#32
  let v1427 : BitVec 32 := Scalar.select v1426 c1_i32_994 c0_i32_995
  let v1428 : BitVec 32 := Scalar.muli c2_i32_996 v1427
  let v1429 : BitVec 32 := Scalar.addi v1425 v1428
  let c3_i32_1000 : BitVec 32 := 3#32
  let c3_i32_997 : BitVec 32 := 3#32
  let v1430 : BitVec 1 := Scalar.cmpi .eq v1417 c3_i32_997
  let c1_i32_998 : BitVec 32 := 1#32
  let c0_i32_999 : BitVec 32 := 0#32
  let v1431 : BitVec 32 := Scalar.select v1430 c1_i32_998 c0_i32_999
  let v1432 : BitVec 32 := Scalar.muli c3_i32_1000 v1431
  let v1433 : BitVec 32 := Scalar.addi v1429 v1432
  let c7_i32_1004 : BitVec 32 := 7#32
  let c4_i32_1001 : BitVec 32 := 4#32
  let v1434 : BitVec 1 := Scalar.cmpi .eq v1417 c4_i32_1001
  let c1_i32_1002 : BitVec 32 := 1#32
  let c0_i32_1003 : BitVec 32 := 0#32
  let v1435 : BitVec 32 := Scalar.select v1434 c1_i32_1002 c0_i32_1003
  let v1436 : BitVec 32 := Scalar.muli c7_i32_1004 v1435
  let v1437 : BitVec 32 := Scalar.addi v1433 v1436
  let c6_i32_1008 : BitVec 32 := 6#32
  let c5_i32_1005 : BitVec 32 := 5#32
  let v1438 : BitVec 1 := Scalar.cmpi .eq v1417 c5_i32_1005
  let c1_i32_1006 : BitVec 32 := 1#32
  let c0_i32_1007 : BitVec 32 := 0#32
  let v1439 : BitVec 32 := Scalar.select v1438 c1_i32_1006 c0_i32_1007
  let v1440 : BitVec 32 := Scalar.muli c6_i32_1008 v1439
  let v1441 : BitVec 32 := Scalar.addi v1437 v1440
  let c5_i32_1012 : BitVec 32 := 5#32
  let c6_i32_1009 : BitVec 32 := 6#32
  let v1442 : BitVec 1 := Scalar.cmpi .eq v1417 c6_i32_1009
  let c1_i32_1010 : BitVec 32 := 1#32
  let c0_i32_1011 : BitVec 32 := 0#32
  let v1443 : BitVec 32 := Scalar.select v1442 c1_i32_1010 c0_i32_1011
  let v1444 : BitVec 32 := Scalar.muli c5_i32_1012 v1443
  let v1445 : BitVec 32 := Scalar.addi v1441 v1444
  let c9_i32_1016 : BitVec 32 := 9#32
  let c7_i32_1013 : BitVec 32 := 7#32
  let v1446 : BitVec 1 := Scalar.cmpi .eq v1417 c7_i32_1013
  let c1_i32_1014 : BitVec 32 := 1#32
  let c0_i32_1015 : BitVec 32 := 0#32
  let v1447 : BitVec 32 := Scalar.select v1446 c1_i32_1014 c0_i32_1015
  let v1448 : BitVec 32 := Scalar.muli c9_i32_1016 v1447
  let v1449 : BitVec 32 := Scalar.addi v1445 v1448
  let c10_i32_1020 : BitVec 32 := 10#32
  let c8_i32_1017 : BitVec 32 := 8#32
  let v1450 : BitVec 1 := Scalar.cmpi .eq v1417 c8_i32_1017
  let c1_i32_1018 : BitVec 32 := 1#32
  let c0_i32_1019 : BitVec 32 := 0#32
  let v1451 : BitVec 32 := Scalar.select v1450 c1_i32_1018 c0_i32_1019
  let v1452 : BitVec 32 := Scalar.muli c10_i32_1020 v1451
  let v1453 : BitVec 32 := Scalar.addi v1449 v1452
  let c11_i32_1024 : BitVec 32 := 11#32
  let c9_i32_1021 : BitVec 32 := 9#32
  let v1454 : BitVec 1 := Scalar.cmpi .eq v1417 c9_i32_1021
  let c1_i32_1022 : BitVec 32 := 1#32
  let c0_i32_1023 : BitVec 32 := 0#32
  let v1455 : BitVec 32 := Scalar.select v1454 c1_i32_1022 c0_i32_1023
  let v1456 : BitVec 32 := Scalar.muli c11_i32_1024 v1455
  let v1457 : BitVec 32 := Scalar.addi v1453 v1456
  let c15_i32_1028 : BitVec 32 := 15#32
  let c10_i32_1025 : BitVec 32 := 10#32
  let v1458 : BitVec 1 := Scalar.cmpi .eq v1417 c10_i32_1025
  let c1_i32_1026 : BitVec 32 := 1#32
  let c0_i32_1027 : BitVec 32 := 0#32
  let v1459 : BitVec 32 := Scalar.select v1458 c1_i32_1026 c0_i32_1027
  let v1460 : BitVec 32 := Scalar.muli c15_i32_1028 v1459
  let v1461 : BitVec 32 := Scalar.addi v1457 v1460
  let c14_i32_1032 : BitVec 32 := 14#32
  let c11_i32_1029 : BitVec 32 := 11#32
  let v1462 : BitVec 1 := Scalar.cmpi .eq v1417 c11_i32_1029
  let c1_i32_1030 : BitVec 32 := 1#32
  let c0_i32_1031 : BitVec 32 := 0#32
  let v1463 : BitVec 32 := Scalar.select v1462 c1_i32_1030 c0_i32_1031
  let v1464 : BitVec 32 := Scalar.muli c14_i32_1032 v1463
  let v1465 : BitVec 32 := Scalar.addi v1461 v1464
  let c13_i32_1036 : BitVec 32 := 13#32
  let c12_i32_1033 : BitVec 32 := 12#32
  let v1466 : BitVec 1 := Scalar.cmpi .eq v1417 c12_i32_1033
  let c1_i32_1034 : BitVec 32 := 1#32
  let c0_i32_1035 : BitVec 32 := 0#32
  let v1467 : BitVec 32 := Scalar.select v1466 c1_i32_1034 c0_i32_1035
  let v1468 : BitVec 32 := Scalar.muli c13_i32_1036 v1467
  let v1469 : BitVec 32 := Scalar.addi v1465 v1468
  let c12_i32_1040 : BitVec 32 := 12#32
  let c13_i32_1037 : BitVec 32 := 13#32
  let v1470 : BitVec 1 := Scalar.cmpi .eq v1417 c13_i32_1037
  let c1_i32_1038 : BitVec 32 := 1#32
  let c0_i32_1039 : BitVec 32 := 0#32
  let v1471 : BitVec 32 := Scalar.select v1470 c1_i32_1038 c0_i32_1039
  let v1472 : BitVec 32 := Scalar.muli c12_i32_1040 v1471
  let v1473 : BitVec 32 := Scalar.addi v1469 v1472
  let c8_i32_1044 : BitVec 32 := 8#32
  let c14_i32_1041 : BitVec 32 := 14#32
  let v1474 : BitVec 1 := Scalar.cmpi .eq v1417 c14_i32_1041
  let c1_i32_1042 : BitVec 32 := 1#32
  let c0_i32_1043 : BitVec 32 := 0#32
  let v1475 : BitVec 32 := Scalar.select v1474 c1_i32_1042 c0_i32_1043
  let v1476 : BitVec 32 := Scalar.muli c8_i32_1044 v1475
  let v1477 : BitVec 32 := Scalar.addi v1473 v1476
  let c4_i32_1048 : BitVec 32 := 4#32
  let c15_i32_1045 : BitVec 32 := 15#32
  let v1478 : BitVec 1 := Scalar.cmpi .eq v1417 c15_i32_1045
  let c1_i32_1046 : BitVec 32 := 1#32
  let c0_i32_1047 : BitVec 32 := 0#32
  let v1479 : BitVec 32 := Scalar.select v1478 c1_i32_1046 c0_i32_1047
  let v1480 : BitVec 32 := Scalar.muli c4_i32_1048 v1479
  let v1481 : BitVec 32 := Scalar.addi v1477 v1480
  let c64_i32_1121 : BitVec 32 := 64#32
  let v1557 : BitVec 32 := Scalar.muli v1481 c64_i32_1121
  let c1536_i32 : BitVec 32 := 1536#32
  ![v1557.toNat, 1536]
def k0_off7_at (r : Fin 16) : BitVec 32 :=
  if r.val < 8 then
    if r.val < 4 then
      if r.val < 2 then
        if r.val < 1 then
          0#32
        else
          4294967295#32
      else
        if r.val < 3 then
          4294967294#32
        else
          4294967293#32
    else
      if r.val < 6 then
        if r.val < 5 then
          4294967292#32
        else
          4294967291#32
      else
        if r.val < 7 then
          4294967290#32
        else
          4294967289#32
  else
    if r.val < 12 then
      if r.val < 10 then
        if r.val < 9 then
          4294967288#32
        else
          4294967287#32
      else
        if r.val < 11 then
          4294967286#32
        else
          4294967285#32
    else
      if r.val < 14 then
        if r.val < 13 then
          4294967284#32
        else
          4294967283#32
      else
        if r.val < 15 then
          4294967282#32
        else
          4294967281#32
def k0_dev8 (d0 : Dev nD) : Nat :=
  let c0_i32_1128 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1127 : BitVec 32 := 1#32
  let v1559 : BitVec 32 := Scalar.muli v404 c1_i32_1127
  let v1560 : BitVec 32 := Scalar.addi c0_i32_1128 v1559
  v1560.toNat
def k0_dev9 (d0 : Dev nD) : Nat :=
  let c0_i32_1149 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1148 : BitVec 32 := 1#32
  let v1579 : BitVec 32 := Scalar.muli v404 c1_i32_1148
  let v1580 : BitVec 32 := Scalar.addi c0_i32_1149 v1579
  v1580.toNat
def k0_dev10 (d0 : Dev nD) : Nat :=
  let c0_i32_1301 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1300 : BitVec 32 := 1#32
  let v1733 : BitVec 32 := Scalar.muli v280 c1_i32_1300
  let v1734 : BitVec 32 := Scalar.addi c0_i32_1301 v1733
  v1734.toNat
def k0_dev11 (d0 : Dev nD) : Nat :=
  let c0_i32_1323 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1322 : BitVec 32 := 1#32
  let v1753 : BitVec 32 := Scalar.muli v404 c1_i32_1322
  let v1754 : BitVec 32 := Scalar.addi c0_i32_1323 v1753
  v1754.toNat
def k0_dev12 (d0 : Dev nD) : Nat :=
  let c0_i32_1475 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1474 : BitVec 32 := 1#32
  let v1907 : BitVec 32 := Scalar.muli v280 c1_i32_1474
  let v1908 : BitVec 32 := Scalar.addi c0_i32_1475 v1907
  v1908.toNat
def k0_dev13 (d0 : Dev nD) : Nat :=
  let c0_i32_1497 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1496 : BitVec 32 := 1#32
  let v1927 : BitVec 32 := Scalar.muli v280 c1_i32_1496
  let v1928 : BitVec 32 := Scalar.addi c0_i32_1497 v1927
  v1928.toNat
def k0_dev14 (d0 : Dev nD) : Nat :=
  let c0_i32_1648 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1647 : BitVec 32 := 1#32
  let v2081 : BitVec 32 := Scalar.muli v404 c1_i32_1647
  let v2082 : BitVec 32 := Scalar.addi c0_i32_1648 v2081
  v2082.toNat
def k0_dev15 (d0 : Dev nD) : Nat :=
  let c0_i32_1670 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1669 : BitVec 32 := 1#32
  let v2101 : BitVec 32 := Scalar.muli v280 c1_i32_1669
  let v2102 : BitVec 32 := Scalar.addi c0_i32_1670 v2101
  v2102.toNat
def k0_dev16 (d0 : Dev nD) : Nat :=
  let c0_i32_1822 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1821 : BitVec 32 := 1#32
  let v2255 : BitVec 32 := Scalar.muli v404 c1_i32_1821
  let v2256 : BitVec 32 := Scalar.addi c0_i32_1822 v2255
  v2256.toNat
def k0_dev17 (d0 : Dev nD) : Nat :=
  let c0_i32_1844 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_1843 : BitVec 32 := 1#32
  let v2275 : BitVec 32 := Scalar.muli v404 c1_i32_1843
  let v2276 : BitVec 32 := Scalar.addi c0_i32_1844 v2275
  v2276.toNat
def k0_dev18 (d0 : Dev nD) : Nat :=
  let c0_i32_2000 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_1999 : BitVec 32 := 1#32
  let v2431 : BitVec 32 := Scalar.muli v280 c1_i32_1999
  let v2432 : BitVec 32 := Scalar.addi c0_i32_2000 v2431
  v2432.toNat
def k0_dev19 (d0 : Dev nD) : Nat :=
  let c0_i32_2022 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2021 : BitVec 32 := 1#32
  let v2451 : BitVec 32 := Scalar.muli v404 c1_i32_2021
  let v2452 : BitVec 32 := Scalar.addi c0_i32_2022 v2451
  v2452.toNat
def k0_dev20 (d0 : Dev nD) : Nat :=
  let c0_i32_2178 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2177 : BitVec 32 := 1#32
  let v2607 : BitVec 32 := Scalar.muli v280 c1_i32_2177
  let v2608 : BitVec 32 := Scalar.addi c0_i32_2178 v2607
  v2608.toNat
def k0_dev21 (d0 : Dev nD) : Nat :=
  let c0_i32_2200 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2199 : BitVec 32 := 1#32
  let v2627 : BitVec 32 := Scalar.muli v280 c1_i32_2199
  let v2628 : BitVec 32 := Scalar.addi c0_i32_2200 v2627
  v2628.toNat
def k0_dev22 (d0 : Dev nD) : Nat :=
  let c0_i32_2355 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2354 : BitVec 32 := 1#32
  let v2783 : BitVec 32 := Scalar.muli v404 c1_i32_2354
  let v2784 : BitVec 32 := Scalar.addi c0_i32_2355 v2783
  v2784.toNat
def k0_dev23 (d0 : Dev nD) : Nat :=
  let c0_i32_2377 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2376 : BitVec 32 := 1#32
  let v2803 : BitVec 32 := Scalar.muli v280 c1_i32_2376
  let v2804 : BitVec 32 := Scalar.addi c0_i32_2377 v2803
  v2804.toNat
def k0_dev24 (d0 : Dev nD) : Nat :=
  let c0_i32_2533 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2532 : BitVec 32 := 1#32
  let v2959 : BitVec 32 := Scalar.muli v404 c1_i32_2532
  let v2960 : BitVec 32 := Scalar.addi c0_i32_2533 v2959
  v2960.toNat
def k0_dev25 (d0 : Dev nD) : Nat :=
  let c0_i32_2555 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2554 : BitVec 32 := 1#32
  let v2979 : BitVec 32 := Scalar.muli v404 c1_i32_2554
  let v2980 : BitVec 32 := Scalar.addi c0_i32_2555 v2979
  v2980.toNat
def k0_dev26 (d0 : Dev nD) : Nat :=
  let c0_i32_2711 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2710 : BitVec 32 := 1#32
  let v3135 : BitVec 32 := Scalar.muli v280 c1_i32_2710
  let v3136 : BitVec 32 := Scalar.addi c0_i32_2711 v3135
  v3136.toNat
def k0_dev27 (d0 : Dev nD) : Nat :=
  let c0_i32_2733 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_2732 : BitVec 32 := 1#32
  let v3155 : BitVec 32 := Scalar.muli v404 c1_i32_2732
  let v3156 : BitVec 32 := Scalar.addi c0_i32_2733 v3155
  v3156.toNat
def k0_dev28 (d0 : Dev nD) : Nat :=
  let c0_i32_2889 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2888 : BitVec 32 := 1#32
  let v3311 : BitVec 32 := Scalar.muli v280 c1_i32_2888
  let v3312 : BitVec 32 := Scalar.addi c0_i32_2889 v3311
  v3312.toNat
def k0_dev29 (d0 : Dev nD) : Nat :=
  let c0_i32_2911 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_2910 : BitVec 32 := 1#32
  let v3331 : BitVec 32 := Scalar.muli v280 c1_i32_2910
  let v3332 : BitVec 32 := Scalar.addi c0_i32_2911 v3331
  v3332.toNat
def k0_dev30 (d0 : Dev nD) : Nat :=
  let c0_i32_3066 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3065 : BitVec 32 := 1#32
  let v3487 : BitVec 32 := Scalar.muli v404 c1_i32_3065
  let v3488 : BitVec 32 := Scalar.addi c0_i32_3066 v3487
  v3488.toNat
def k0_dev31 (d0 : Dev nD) : Nat :=
  let c0_i32_3088 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3087 : BitVec 32 := 1#32
  let v3507 : BitVec 32 := Scalar.muli v280 c1_i32_3087
  let v3508 : BitVec 32 := Scalar.addi c0_i32_3088 v3507
  v3508.toNat
def k0_dev32 (d0 : Dev nD) : Nat :=
  let c0_i32_3244 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3243 : BitVec 32 := 1#32
  let v3663 : BitVec 32 := Scalar.muli v404 c1_i32_3243
  let v3664 : BitVec 32 := Scalar.addi c0_i32_3244 v3663
  v3664.toNat
def k0_dev33 (d0 : Dev nD) : Nat :=
  let c0_i32_3266 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3265 : BitVec 32 := 1#32
  let v3683 : BitVec 32 := Scalar.muli v404 c1_i32_3265
  let v3684 : BitVec 32 := Scalar.addi c0_i32_3266 v3683
  v3684.toNat
def k0_dev34 (d0 : Dev nD) : Nat :=
  let c0_i32_3422 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3421 : BitVec 32 := 1#32
  let v3839 : BitVec 32 := Scalar.muli v280 c1_i32_3421
  let v3840 : BitVec 32 := Scalar.addi c0_i32_3422 v3839
  v3840.toNat
def k0_dev35 (d0 : Dev nD) : Nat :=
  let c0_i32_3444 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3443 : BitVec 32 := 1#32
  let v3859 : BitVec 32 := Scalar.muli v404 c1_i32_3443
  let v3860 : BitVec 32 := Scalar.addi c0_i32_3444 v3859
  v3860.toNat
def k0_dev36 (d0 : Dev nD) : Nat :=
  let c0_i32_3600 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3599 : BitVec 32 := 1#32
  let v4015 : BitVec 32 := Scalar.muli v280 c1_i32_3599
  let v4016 : BitVec 32 := Scalar.addi c0_i32_3600 v4015
  v4016.toNat
def k0_dev37 (d0 : Dev nD) : Nat :=
  let c0_i32_3622 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3621 : BitVec 32 := 1#32
  let v4035 : BitVec 32 := Scalar.muli v280 c1_i32_3621
  let v4036 : BitVec 32 := Scalar.addi c0_i32_3622 v4035
  v4036.toNat
def k0_dev38 (d0 : Dev nD) : Nat :=
  let c0_i32_3777 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3776 : BitVec 32 := 1#32
  let v4191 : BitVec 32 := Scalar.muli v404 c1_i32_3776
  let v4192 : BitVec 32 := Scalar.addi c0_i32_3777 v4191
  v4192.toNat
def k0_dev39 (d0 : Dev nD) : Nat :=
  let c0_i32_3799 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_3798 : BitVec 32 := 1#32
  let v4211 : BitVec 32 := Scalar.muli v280 c1_i32_3798
  let v4212 : BitVec 32 := Scalar.addi c0_i32_3799 v4211
  v4212.toNat
def k0_dev40 (d0 : Dev nD) : Nat :=
  let c0_i32_3955 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3954 : BitVec 32 := 1#32
  let v4367 : BitVec 32 := Scalar.muli v404 c1_i32_3954
  let v4368 : BitVec 32 := Scalar.addi c0_i32_3955 v4367
  v4368.toNat
def k0_dev41 (d0 : Dev nD) : Nat :=
  let c0_i32_3977 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_3976 : BitVec 32 := 1#32
  let v4387 : BitVec 32 := Scalar.muli v404 c1_i32_3976
  let v4388 : BitVec 32 := Scalar.addi c0_i32_3977 v4387
  v4388.toNat
def k0_dev42 (d0 : Dev nD) : Nat :=
  let c0_i32_4133 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4132 : BitVec 32 := 1#32
  let v4543 : BitVec 32 := Scalar.muli v280 c1_i32_4132
  let v4544 : BitVec 32 := Scalar.addi c0_i32_4133 v4543
  v4544.toNat
def k0_dev43 (d0 : Dev nD) : Nat :=
  let c0_i32_4155 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4154 : BitVec 32 := 1#32
  let v4563 : BitVec 32 := Scalar.muli v404 c1_i32_4154
  let v4564 : BitVec 32 := Scalar.addi c0_i32_4155 v4563
  v4564.toNat
def k0_dev44 (d0 : Dev nD) : Nat :=
  let c0_i32_4311 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4310 : BitVec 32 := 1#32
  let v4719 : BitVec 32 := Scalar.muli v280 c1_i32_4310
  let v4720 : BitVec 32 := Scalar.addi c0_i32_4311 v4719
  v4720.toNat
def k0_dev45 (d0 : Dev nD) : Nat :=
  let c0_i32_4333 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4332 : BitVec 32 := 1#32
  let v4739 : BitVec 32 := Scalar.muli v280 c1_i32_4332
  let v4740 : BitVec 32 := Scalar.addi c0_i32_4333 v4739
  v4740.toNat
def k0_dev46 (d0 : Dev nD) : Nat :=
  let c0_i32_4488 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4487 : BitVec 32 := 1#32
  let v4895 : BitVec 32 := Scalar.muli v404 c1_i32_4487
  let v4896 : BitVec 32 := Scalar.addi c0_i32_4488 v4895
  v4896.toNat
def k0_dev47 (d0 : Dev nD) : Nat :=
  let c0_i32_4510 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4509 : BitVec 32 := 1#32
  let v4915 : BitVec 32 := Scalar.muli v280 c1_i32_4509
  let v4916 : BitVec 32 := Scalar.addi c0_i32_4510 v4915
  v4916.toNat
def k0_dev48 (d0 : Dev nD) : Nat :=
  let c0_i32_4666 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4665 : BitVec 32 := 1#32
  let v5071 : BitVec 32 := Scalar.muli v404 c1_i32_4665
  let v5072 : BitVec 32 := Scalar.addi c0_i32_4666 v5071
  v5072.toNat
def k0_dev49 (d0 : Dev nD) : Nat :=
  let c0_i32_4688 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4687 : BitVec 32 := 1#32
  let v5091 : BitVec 32 := Scalar.muli v404 c1_i32_4687
  let v5092 : BitVec 32 := Scalar.addi c0_i32_4688 v5091
  v5092.toNat
def k0_dev50 (d0 : Dev nD) : Nat :=
  let c0_i32_4844 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_4843 : BitVec 32 := 1#32
  let v5247 : BitVec 32 := Scalar.muli v280 c1_i32_4843
  let v5248 : BitVec 32 := Scalar.addi c0_i32_4844 v5247
  v5248.toNat
def k0_dev51 (d0 : Dev nD) : Nat :=
  let c0_i32_4866 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_4865 : BitVec 32 := 1#32
  let v5267 : BitVec 32 := Scalar.muli v404 c1_i32_4865
  let v5268 : BitVec 32 := Scalar.addi c0_i32_4866 v5267
  v5268.toNat
def k0_dev52 (d0 : Dev nD) : Nat :=
  let c0_i32_5022 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5021 : BitVec 32 := 1#32
  let v5423 : BitVec 32 := Scalar.muli v280 c1_i32_5021
  let v5424 : BitVec 32 := Scalar.addi c0_i32_5022 v5423
  v5424.toNat
def k0_dev53 (d0 : Dev nD) : Nat :=
  let c0_i32_5044 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5043 : BitVec 32 := 1#32
  let v5443 : BitVec 32 := Scalar.muli v280 c1_i32_5043
  let v5444 : BitVec 32 := Scalar.addi c0_i32_5044 v5443
  v5444.toNat
def k0_dev54 (d0 : Dev nD) : Nat :=
  let c0_i32_5199 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5198 : BitVec 32 := 1#32
  let v5599 : BitVec 32 := Scalar.muli v404 c1_i32_5198
  let v5600 : BitVec 32 := Scalar.addi c0_i32_5199 v5599
  v5600.toNat
def k0_dev55 (d0 : Dev nD) : Nat :=
  let c0_i32_5221 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5220 : BitVec 32 := 1#32
  let v5619 : BitVec 32 := Scalar.muli v280 c1_i32_5220
  let v5620 : BitVec 32 := Scalar.addi c0_i32_5221 v5619
  v5620.toNat
def k0_dev56 (d0 : Dev nD) : Nat :=
  let c0_i32_5377 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5376 : BitVec 32 := 1#32
  let v5775 : BitVec 32 := Scalar.muli v404 c1_i32_5376
  let v5776 : BitVec 32 := Scalar.addi c0_i32_5377 v5775
  v5776.toNat
def k0_dev57 (d0 : Dev nD) : Nat :=
  let c0_i32_5399 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5398 : BitVec 32 := 1#32
  let v5795 : BitVec 32 := Scalar.muli v404 c1_i32_5398
  let v5796 : BitVec 32 := Scalar.addi c0_i32_5399 v5795
  v5796.toNat
def k0_dev58 (d0 : Dev nD) : Nat :=
  let c0_i32_5555 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5554 : BitVec 32 := 1#32
  let v5951 : BitVec 32 := Scalar.muli v280 c1_i32_5554
  let v5952 : BitVec 32 := Scalar.addi c0_i32_5555 v5951
  v5952.toNat
def k0_dev59 (d0 : Dev nD) : Nat :=
  let c0_i32_5577 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5576 : BitVec 32 := 1#32
  let v5971 : BitVec 32 := Scalar.muli v404 c1_i32_5576
  let v5972 : BitVec 32 := Scalar.addi c0_i32_5577 v5971
  v5972.toNat
def k0_dev60 (d0 : Dev nD) : Nat :=
  let c0_i32_5733 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5732 : BitVec 32 := 1#32
  let v6127 : BitVec 32 := Scalar.muli v280 c1_i32_5732
  let v6128 : BitVec 32 := Scalar.addi c0_i32_5733 v6127
  v6128.toNat
def k0_dev61 (d0 : Dev nD) : Nat :=
  let c0_i32_5755 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5754 : BitVec 32 := 1#32
  let v6147 : BitVec 32 := Scalar.muli v280 c1_i32_5754
  let v6148 : BitVec 32 := Scalar.addi c0_i32_5755 v6147
  v6148.toNat
def k0_dev62 (d0 : Dev nD) : Nat :=
  let c0_i32_5910 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_5909 : BitVec 32 := 1#32
  let v6303 : BitVec 32 := Scalar.muli v404 c1_i32_5909
  let v6304 : BitVec 32 := Scalar.addi c0_i32_5910 v6303
  v6304.toNat
def k0_dev63 (d0 : Dev nD) : Nat :=
  let c0_i32_5932 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_5931 : BitVec 32 := 1#32
  let v6323 : BitVec 32 := Scalar.muli v280 c1_i32_5931
  let v6324 : BitVec 32 := Scalar.addi c0_i32_5932 v6323
  v6324.toNat
def k0_dev64 (d0 : Dev nD) : Nat :=
  let c0_i32_6088 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6087 : BitVec 32 := 1#32
  let v6479 : BitVec 32 := Scalar.muli v404 c1_i32_6087
  let v6480 : BitVec 32 := Scalar.addi c0_i32_6088 v6479
  v6480.toNat
def k0_dev65 (d0 : Dev nD) : Nat :=
  let c0_i32_6110 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6109 : BitVec 32 := 1#32
  let v6499 : BitVec 32 := Scalar.muli v404 c1_i32_6109
  let v6500 : BitVec 32 := Scalar.addi c0_i32_6110 v6499
  v6500.toNat
def k0_dev66 (d0 : Dev nD) : Nat :=
  let c0_i32_6266 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6265 : BitVec 32 := 1#32
  let v6655 : BitVec 32 := Scalar.muli v280 c1_i32_6265
  let v6656 : BitVec 32 := Scalar.addi c0_i32_6266 v6655
  v6656.toNat
def k0_dev67 (d0 : Dev nD) : Nat :=
  let c0_i32_6288 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6287 : BitVec 32 := 1#32
  let v6675 : BitVec 32 := Scalar.muli v404 c1_i32_6287
  let v6676 : BitVec 32 := Scalar.addi c0_i32_6288 v6675
  v6676.toNat
def k0_dev68 (d0 : Dev nD) : Nat :=
  let c0_i32_6444 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6443 : BitVec 32 := 1#32
  let v6831 : BitVec 32 := Scalar.muli v280 c1_i32_6443
  let v6832 : BitVec 32 := Scalar.addi c0_i32_6444 v6831
  v6832.toNat
def k0_dev69 (d0 : Dev nD) : Nat :=
  let c0_i32_6466 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6465 : BitVec 32 := 1#32
  let v6851 : BitVec 32 := Scalar.muli v280 c1_i32_6465
  let v6852 : BitVec 32 := Scalar.addi c0_i32_6466 v6851
  v6852.toNat
def k0_dev70 (d0 : Dev nD) : Nat :=
  let c0_i32_6621 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6620 : BitVec 32 := 1#32
  let v7007 : BitVec 32 := Scalar.muli v404 c1_i32_6620
  let v7008 : BitVec 32 := Scalar.addi c0_i32_6621 v7007
  v7008.toNat
def k0_dev71 (d0 : Dev nD) : Nat :=
  let c0_i32_6643 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6642 : BitVec 32 := 1#32
  let v7027 : BitVec 32 := Scalar.muli v280 c1_i32_6642
  let v7028 : BitVec 32 := Scalar.addi c0_i32_6643 v7027
  v7028.toNat
def k0_dev72 (d0 : Dev nD) : Nat :=
  let c0_i32_6799 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6798 : BitVec 32 := 1#32
  let v7183 : BitVec 32 := Scalar.muli v404 c1_i32_6798
  let v7184 : BitVec 32 := Scalar.addi c0_i32_6799 v7183
  v7184.toNat
def k0_dev73 (d0 : Dev nD) : Nat :=
  let c0_i32_6821 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6820 : BitVec 32 := 1#32
  let v7203 : BitVec 32 := Scalar.muli v404 c1_i32_6820
  let v7204 : BitVec 32 := Scalar.addi c0_i32_6821 v7203
  v7204.toNat
def k0_dev74 (d0 : Dev nD) : Nat :=
  let c0_i32_6977 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_6976 : BitVec 32 := 1#32
  let v7359 : BitVec 32 := Scalar.muli v280 c1_i32_6976
  let v7360 : BitVec 32 := Scalar.addi c0_i32_6977 v7359
  v7360.toNat
def k0_dev75 (d0 : Dev nD) : Nat :=
  let c0_i32_6999 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_6998 : BitVec 32 := 1#32
  let v7379 : BitVec 32 := Scalar.muli v404 c1_i32_6998
  let v7380 : BitVec 32 := Scalar.addi c0_i32_6999 v7379
  v7380.toNat
def k0_dev76 (d0 : Dev nD) : Nat :=
  let c0_i32_7155 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7154 : BitVec 32 := 1#32
  let v7535 : BitVec 32 := Scalar.muli v280 c1_i32_7154
  let v7536 : BitVec 32 := Scalar.addi c0_i32_7155 v7535
  v7536.toNat
def k0_dev77 (d0 : Dev nD) : Nat :=
  let c0_i32_7177 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7176 : BitVec 32 := 1#32
  let v7555 : BitVec 32 := Scalar.muli v280 c1_i32_7176
  let v7556 : BitVec 32 := Scalar.addi c0_i32_7177 v7555
  v7556.toNat
def k0_dev78 (d0 : Dev nD) : Nat :=
  let c0_i32_7332 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7331 : BitVec 32 := 1#32
  let v7711 : BitVec 32 := Scalar.muli v404 c1_i32_7331
  let v7712 : BitVec 32 := Scalar.addi c0_i32_7332 v7711
  v7712.toNat
def k0_dev79 (d0 : Dev nD) : Nat :=
  let c0_i32_7354 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7353 : BitVec 32 := 1#32
  let v7731 : BitVec 32 := Scalar.muli v280 c1_i32_7353
  let v7732 : BitVec 32 := Scalar.addi c0_i32_7354 v7731
  v7732.toNat
def k0_dev80 (d0 : Dev nD) : Nat :=
  let c0_i32_7510 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7509 : BitVec 32 := 1#32
  let v7887 : BitVec 32 := Scalar.muli v404 c1_i32_7509
  let v7888 : BitVec 32 := Scalar.addi c0_i32_7510 v7887
  v7888.toNat
def k0_dev81 (d0 : Dev nD) : Nat :=
  let c0_i32_7532 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7531 : BitVec 32 := 1#32
  let v7907 : BitVec 32 := Scalar.muli v404 c1_i32_7531
  let v7908 : BitVec 32 := Scalar.addi c0_i32_7532 v7907
  v7908.toNat
def k0_dev82 (d0 : Dev nD) : Nat :=
  let c0_i32_7688 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7687 : BitVec 32 := 1#32
  let v8063 : BitVec 32 := Scalar.muli v280 c1_i32_7687
  let v8064 : BitVec 32 := Scalar.addi c0_i32_7688 v8063
  v8064.toNat
def k0_dev83 (d0 : Dev nD) : Nat :=
  let c0_i32_7710 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_7709 : BitVec 32 := 1#32
  let v8083 : BitVec 32 := Scalar.muli v404 c1_i32_7709
  let v8084 : BitVec 32 := Scalar.addi c0_i32_7710 v8083
  v8084.toNat
def k0_dev84 (d0 : Dev nD) : Nat :=
  let c0_i32_7866 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7865 : BitVec 32 := 1#32
  let v8239 : BitVec 32 := Scalar.muli v280 c1_i32_7865
  let v8240 : BitVec 32 := Scalar.addi c0_i32_7866 v8239
  v8240.toNat
def k0_dev85 (d0 : Dev nD) : Nat :=
  let c0_i32_7888 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_7887 : BitVec 32 := 1#32
  let v8259 : BitVec 32 := Scalar.muli v280 c1_i32_7887
  let v8260 : BitVec 32 := Scalar.addi c0_i32_7888 v8259
  v8260.toNat
def k0_dev86 (d0 : Dev nD) : Nat :=
  let c0_i32_8043 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8042 : BitVec 32 := 1#32
  let v8415 : BitVec 32 := Scalar.muli v404 c1_i32_8042
  let v8416 : BitVec 32 := Scalar.addi c0_i32_8043 v8415
  v8416.toNat

variable {F : FTy → Type} [FloatOps F]

def k0_dev87 (d0 : Dev nD) : Nat :=
  let c0_i32_8065 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_8064 : BitVec 32 := 1#32
  let v8435 : BitVec 32 := Scalar.muli v280 c1_i32_8064
  let v8436 : BitVec 32 := Scalar.addi c0_i32_8065 v8435
  v8436.toNat
def k0_dev88 (d0 : Dev nD) : Nat :=
  let c0_i32_8221 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8220 : BitVec 32 := 1#32
  let v8591 : BitVec 32 := Scalar.muli v404 c1_i32_8220
  let v8592 : BitVec 32 := Scalar.addi c0_i32_8221 v8591
  v8592.toNat
def k0_dev89 (d0 : Dev nD) : Nat :=
  let c0_i32_8243 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8242 : BitVec 32 := 1#32
  let v8611 : BitVec 32 := Scalar.muli v404 c1_i32_8242
  let v8612 : BitVec 32 := Scalar.addi c0_i32_8243 v8611
  v8612.toNat
def k0_dev90 (d0 : Dev nD) : Nat :=
  let c0_i32_8399 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_8398 : BitVec 32 := 1#32
  let v8767 : BitVec 32 := Scalar.muli v280 c1_i32_8398
  let v8768 : BitVec 32 := Scalar.addi c0_i32_8399 v8767
  v8768.toNat
def k0_dev91 (d0 : Dev nD) : Nat :=
  let c0_i32_8421 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8420 : BitVec 32 := 1#32
  let v8787 : BitVec 32 := Scalar.muli v404 c1_i32_8420
  let v8788 : BitVec 32 := Scalar.addi c0_i32_8421 v8787
  v8788.toNat
def k0_dev92 (d0 : Dev nD) : Nat :=
  let c0_i32_8577 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_8576 : BitVec 32 := 1#32
  let v8943 : BitVec 32 := Scalar.muli v280 c1_i32_8576
  let v8944 : BitVec 32 := Scalar.addi c0_i32_8577 v8943
  v8944.toNat
def k0_dev93 (d0 : Dev nD) : Nat :=
  let c0_i32_8599 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_8598 : BitVec 32 := 1#32
  let v8963 : BitVec 32 := Scalar.muli v280 c1_i32_8598
  let v8964 : BitVec 32 := Scalar.addi c0_i32_8599 v8963
  v8964.toNat
def k0_dev94 (d0 : Dev nD) : Nat :=
  let c0_i32_8754 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8753 : BitVec 32 := 1#32
  let v9119 : BitVec 32 := Scalar.muli v404 c1_i32_8753
  let v9120 : BitVec 32 := Scalar.addi c0_i32_8754 v9119
  v9120.toNat
def k0_dev95 (d0 : Dev nD) : Nat :=
  let c0_i32_8776 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_8775 : BitVec 32 := 1#32
  let v9139 : BitVec 32 := Scalar.muli v280 c1_i32_8775
  let v9140 : BitVec 32 := Scalar.addi c0_i32_8776 v9139
  v9140.toNat
def k0_dev96 (d0 : Dev nD) : Nat :=
  let c0_i32_8932 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8931 : BitVec 32 := 1#32
  let v9295 : BitVec 32 := Scalar.muli v404 c1_i32_8931
  let v9296 : BitVec 32 := Scalar.addi c0_i32_8932 v9295
  v9296.toNat
def k0_dev97 (d0 : Dev nD) : Nat :=
  let c0_i32_8954 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_8953 : BitVec 32 := 1#32
  let v9315 : BitVec 32 := Scalar.muli v404 c1_i32_8953
  let v9316 : BitVec 32 := Scalar.addi c0_i32_8954 v9315
  v9316.toNat
def k0_dev98 (d0 : Dev nD) : Nat :=
  let c0_i32_9110 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_9109 : BitVec 32 := 1#32
  let v9471 : BitVec 32 := Scalar.muli v280 c1_i32_9109
  let v9472 : BitVec 32 := Scalar.addi c0_i32_9110 v9471
  v9472.toNat
def k0_dev99 (d0 : Dev nD) : Nat :=
  let c0_i32_9132 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_9131 : BitVec 32 := 1#32
  let v9491 : BitVec 32 := Scalar.muli v404 c1_i32_9131
  let v9492 : BitVec 32 := Scalar.addi c0_i32_9132 v9491
  v9492.toNat
def k0_dev100 (d0 : Dev nD) : Nat :=
  let c0_i32_9288 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_9287 : BitVec 32 := 1#32
  let v9647 : BitVec 32 := Scalar.muli v280 c1_i32_9287
  let v9648 : BitVec 32 := Scalar.addi c0_i32_9288 v9647
  v9648.toNat
def k0_dev101 (d0 : Dev nD) : Nat :=
  let c0_i32_9310 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_9309 : BitVec 32 := 1#32
  let v9667 : BitVec 32 := Scalar.muli v280 c1_i32_9309
  let v9668 : BitVec 32 := Scalar.addi c0_i32_9310 v9667
  v9668.toNat
def k0_dev102 (d0 : Dev nD) : Nat :=
  let c0_i32_9465 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_9464 : BitVec 32 := 1#32
  let v9823 : BitVec 32 := Scalar.muli v404 c1_i32_9464
  let v9824 : BitVec 32 := Scalar.addi c0_i32_9465 v9823
  v9824.toNat
def k0_dev103 (d0 : Dev nD) : Nat :=
  let c0_i32_9487 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_9486 : BitVec 32 := 1#32
  let v9843 : BitVec 32 := Scalar.muli v280 c1_i32_9486
  let v9844 : BitVec 32 := Scalar.addi c0_i32_9487 v9843
  v9844.toNat
def k0_dev104 (d0 : Dev nD) : Nat :=
  let c0_i32_9643 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_9642 : BitVec 32 := 1#32
  let v9999 : BitVec 32 := Scalar.muli v404 c1_i32_9642
  let v10000 : BitVec 32 := Scalar.addi c0_i32_9643 v9999
  v10000.toNat
def k0_dev105 (d0 : Dev nD) : Nat :=
  let c0_i32_9665 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_9664 : BitVec 32 := 1#32
  let v10019 : BitVec 32 := Scalar.muli v404 c1_i32_9664
  let v10020 : BitVec 32 := Scalar.addi c0_i32_9665 v10019
  v10020.toNat
def k0_dev106 (d0 : Dev nD) : Nat :=
  let c0_i32_9821 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_9820 : BitVec 32 := 1#32
  let v10175 : BitVec 32 := Scalar.muli v280 c1_i32_9820
  let v10176 : BitVec 32 := Scalar.addi c0_i32_9821 v10175
  v10176.toNat
def k0_dev107 (d0 : Dev nD) : Nat :=
  let c0_i32_9843 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_9842 : BitVec 32 := 1#32
  let v10195 : BitVec 32 := Scalar.muli v404 c1_i32_9842
  let v10196 : BitVec 32 := Scalar.addi c0_i32_9843 v10195
  v10196.toNat
def k0_dev108 (d0 : Dev nD) : Nat :=
  let c0_i32_9999 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_9998 : BitVec 32 := 1#32
  let v10351 : BitVec 32 := Scalar.muli v280 c1_i32_9998
  let v10352 : BitVec 32 := Scalar.addi c0_i32_9999 v10351
  v10352.toNat
def k0_dev109 (d0 : Dev nD) : Nat :=
  let c0_i32_10021 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_10020 : BitVec 32 := 1#32
  let v10371 : BitVec 32 := Scalar.muli v280 c1_i32_10020
  let v10372 : BitVec 32 := Scalar.addi c0_i32_10021 v10371
  v10372.toNat
def k0_dev110 (d0 : Dev nD) : Nat :=
  let c0_i32_10176 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_10175 : BitVec 32 := 1#32
  let v10527 : BitVec 32 := Scalar.muli v404 c1_i32_10175
  let v10528 : BitVec 32 := Scalar.addi c0_i32_10176 v10527
  v10528.toNat
def k0_dev111 (d0 : Dev nD) : Nat :=
  let c0_i32_10198 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_10197 : BitVec 32 := 1#32
  let v10547 : BitVec 32 := Scalar.muli v280 c1_i32_10197
  let v10548 : BitVec 32 := Scalar.addi c0_i32_10198 v10547
  v10548.toNat
def k0_dev112 (d0 : Dev nD) : Nat :=
  let c0_i32_10354 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_10353 : BitVec 32 := 1#32
  let v10703 : BitVec 32 := Scalar.muli v404 c1_i32_10353
  let v10704 : BitVec 32 := Scalar.addi c0_i32_10354 v10703
  v10704.toNat
def k0_dev113 (d0 : Dev nD) : Nat :=
  let c0_i32_10527 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_10526 : BitVec 32 := 1#32
  let v10875 : BitVec 32 := Scalar.muli v280 c1_i32_10526
  let v10876 : BitVec 32 := Scalar.addi c0_i32_10527 v10875
  v10876.toNat
def k0_dev114 (d0 : Dev nD) : Nat :=
  let c0_i32_10700 : BitVec 32 := 0#32
  let c8_i32_193 : BitVec 32 := 8#32
  let c0_i32_108 : BitVec 32 := 0#32
  let c0_i32_107 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_96 : BitVec 32 := 1#32
  let v157 : BitVec 32 := Scalar.addi v156 c1_i32_96
  let c16_i32 : BitVec 32 := 16#32
  let c0_i32_97 : BitVec 32 := 0#32
  let v158 : BitVec 1 := Scalar.cmpi .eq c16_i32 c0_i32_97
  let c1_i32_98 : BitVec 32 := 1#32
  let v159 : BitVec 32 := Scalar.select v158 c1_i32_98 c16_i32
  let v160 : BitVec 32 := Scalar.remsi v157 v159
  let c0_i32_100 : BitVec 32 := 0#32
  let v162 : BitVec 1 := Scalar.cmpi .slt v160 c0_i32_100
  let c0_i32_101 : BitVec 32 := 0#32
  let v163 : BitVec 1 := Scalar.cmpi .slt v159 c0_i32_101
  let v164 : BitVec 1 := Scalar.xori v162 v163
  let c0_i32_99 : BitVec 32 := 0#32
  let v161 : BitVec 1 := Scalar.cmpi .ne v160 c0_i32_99
  let v165 : BitVec 1 := Scalar.andi v164 v161
  let v166 : BitVec 32 := Scalar.addi v160 v159
  let v167 : BitVec 32 := Scalar.select v165 v166 v160
  let c0_i32_102 : BitVec 32 := 0#32
  let v168 : BitVec 1 := Scalar.cmpi .eq v167 c0_i32_102
  let c1_i32_103 : BitVec 32 := 1#32
  let c0_i32_104 : BitVec 32 := 0#32
  let v169 : BitVec 32 := Scalar.select v168 c1_i32_103 c0_i32_104
  let v172 : BitVec 32 := Scalar.muli c0_i32_107 v169
  let v173 : BitVec 32 := Scalar.addi c0_i32_108 v172
  let c0_i32_113 : BitVec 32 := 0#32
  let c1_i32_109 : BitVec 32 := 1#32
  let v174 : BitVec 1 := Scalar.cmpi .eq v167 c1_i32_109
  let c1_i32_110 : BitVec 32 := 1#32
  let c0_i32_111 : BitVec 32 := 0#32
  let v175 : BitVec 32 := Scalar.select v174 c1_i32_110 c0_i32_111
  let v178 : BitVec 32 := Scalar.muli c0_i32_113 v175
  let v179 : BitVec 32 := Scalar.addi v173 v178
  let c0_i32_118 : BitVec 32 := 0#32
  let c2_i32_114 : BitVec 32 := 2#32
  let v180 : BitVec 1 := Scalar.cmpi .eq v167 c2_i32_114
  let c1_i32_115 : BitVec 32 := 1#32
  let c0_i32_116 : BitVec 32 := 0#32
  let v181 : BitVec 32 := Scalar.select v180 c1_i32_115 c0_i32_116
  let v184 : BitVec 32 := Scalar.muli c0_i32_118 v181
  let v185 : BitVec 32 := Scalar.addi v179 v184
  let c0_i32_123 : BitVec 32 := 0#32
  let c3_i32_119 : BitVec 32 := 3#32
  let v186 : BitVec 1 := Scalar.cmpi .eq v167 c3_i32_119
  let c1_i32_120 : BitVec 32 := 1#32
  let c0_i32_121 : BitVec 32 := 0#32
  let v187 : BitVec 32 := Scalar.select v186 c1_i32_120 c0_i32_121
  let v190 : BitVec 32 := Scalar.muli c0_i32_123 v187
  let v191 : BitVec 32 := Scalar.addi v185 v190
  let c1_i32_128 : BitVec 32 := 1#32
  let c4_i32_124 : BitVec 32 := 4#32
  let v192 : BitVec 1 := Scalar.cmpi .eq v167 c4_i32_124
  let c1_i32_125 : BitVec 32 := 1#32
  let c0_i32_126 : BitVec 32 := 0#32
  let v193 : BitVec 32 := Scalar.select v192 c1_i32_125 c0_i32_126
  let v196 : BitVec 32 := Scalar.muli c1_i32_128 v193
  let v197 : BitVec 32 := Scalar.addi v191 v196
  let c1_i32_133 : BitVec 32 := 1#32
  let c5_i32_129 : BitVec 32 := 5#32
  let v198 : BitVec 1 := Scalar.cmpi .eq v167 c5_i32_129
  let c1_i32_130 : BitVec 32 := 1#32
  let c0_i32_131 : BitVec 32 := 0#32
  let v199 : BitVec 32 := Scalar.select v198 c1_i32_130 c0_i32_131
  let v202 : BitVec 32 := Scalar.muli c1_i32_133 v199
  let v203 : BitVec 32 := Scalar.addi v197 v202
  let c1_i32_138 : BitVec 32 := 1#32
  let c6_i32_134 : BitVec 32 := 6#32
  let v204 : BitVec 1 := Scalar.cmpi .eq v167 c6_i32_134
  let c1_i32_135 : BitVec 32 := 1#32
  let c0_i32_136 : BitVec 32 := 0#32
  let v205 : BitVec 32 := Scalar.select v204 c1_i32_135 c0_i32_136
  let v208 : BitVec 32 := Scalar.muli c1_i32_138 v205
  let v209 : BitVec 32 := Scalar.addi v203 v208
  let c2_i32_143 : BitVec 32 := 2#32
  let c7_i32_139 : BitVec 32 := 7#32
  let v210 : BitVec 1 := Scalar.cmpi .eq v167 c7_i32_139
  let c1_i32_140 : BitVec 32 := 1#32
  let c0_i32_141 : BitVec 32 := 0#32
  let v211 : BitVec 32 := Scalar.select v210 c1_i32_140 c0_i32_141
  let v214 : BitVec 32 := Scalar.muli c2_i32_143 v211
  let v215 : BitVec 32 := Scalar.addi v209 v214
  let c2_i32_148 : BitVec 32 := 2#32
  let c8_i32_144 : BitVec 32 := 8#32
  let v216 : BitVec 1 := Scalar.cmpi .eq v167 c8_i32_144
  let c1_i32_145 : BitVec 32 := 1#32
  let c0_i32_146 : BitVec 32 := 0#32
  let v217 : BitVec 32 := Scalar.select v216 c1_i32_145 c0_i32_146
  let v220 : BitVec 32 := Scalar.muli c2_i32_148 v217
  let v221 : BitVec 32 := Scalar.addi v215 v220
  let c2_i32_153 : BitVec 32 := 2#32
  let c9_i32_149 : BitVec 32 := 9#32
  let v222 : BitVec 1 := Scalar.cmpi .eq v167 c9_i32_149
  let c1_i32_150 : BitVec 32 := 1#32
  let c0_i32_151 : BitVec 32 := 0#32
  let v223 : BitVec 32 := Scalar.select v222 c1_i32_150 c0_i32_151
  let v226 : BitVec 32 := Scalar.muli c2_i32_153 v223
  let v227 : BitVec 32 := Scalar.addi v221 v226
  let c3_i32_158 : BitVec 32 := 3#32
  let c10_i32_154 : BitVec 32 := 10#32
  let v228 : BitVec 1 := Scalar.cmpi .eq v167 c10_i32_154
  let c1_i32_155 : BitVec 32 := 1#32
  let c0_i32_156 : BitVec 32 := 0#32
  let v229 : BitVec 32 := Scalar.select v228 c1_i32_155 c0_i32_156
  let v232 : BitVec 32 := Scalar.muli c3_i32_158 v229
  let v233 : BitVec 32 := Scalar.addi v227 v232
  let c3_i32_163 : BitVec 32 := 3#32
  let c11_i32_159 : BitVec 32 := 11#32
  let v234 : BitVec 1 := Scalar.cmpi .eq v167 c11_i32_159
  let c1_i32_160 : BitVec 32 := 1#32
  let c0_i32_161 : BitVec 32 := 0#32
  let v235 : BitVec 32 := Scalar.select v234 c1_i32_160 c0_i32_161
  let v238 : BitVec 32 := Scalar.muli c3_i32_163 v235
  let v239 : BitVec 32 := Scalar.addi v233 v238
  let c3_i32_168 : BitVec 32 := 3#32
  let c12_i32_164 : BitVec 32 := 12#32
  let v240 : BitVec 1 := Scalar.cmpi .eq v167 c12_i32_164
  let c1_i32_165 : BitVec 32 := 1#32
  let c0_i32_166 : BitVec 32 := 0#32
  let v241 : BitVec 32 := Scalar.select v240 c1_i32_165 c0_i32_166
  let v244 : BitVec 32 := Scalar.muli c3_i32_168 v241
  let v245 : BitVec 32 := Scalar.addi v239 v244
  let c3_i32_173 : BitVec 32 := 3#32
  let c13_i32_169 : BitVec 32 := 13#32
  let v246 : BitVec 1 := Scalar.cmpi .eq v167 c13_i32_169
  let c1_i32_170 : BitVec 32 := 1#32
  let c0_i32_171 : BitVec 32 := 0#32
  let v247 : BitVec 32 := Scalar.select v246 c1_i32_170 c0_i32_171
  let v250 : BitVec 32 := Scalar.muli c3_i32_173 v247
  let v251 : BitVec 32 := Scalar.addi v245 v250
  let c2_i32_178 : BitVec 32 := 2#32
  let c14_i32_174 : BitVec 32 := 14#32
  let v252 : BitVec 1 := Scalar.cmpi .eq v167 c14_i32_174
  let c1_i32_175 : BitVec 32 := 1#32
  let c0_i32_176 : BitVec 32 := 0#32
  let v253 : BitVec 32 := Scalar.select v252 c1_i32_175 c0_i32_176
  let v256 : BitVec 32 := Scalar.muli c2_i32_178 v253
  let v257 : BitVec 32 := Scalar.addi v251 v256
  let c1_i32_183 : BitVec 32 := 1#32
  let c15_i32_179 : BitVec 32 := 15#32
  let v258 : BitVec 1 := Scalar.cmpi .eq v167 c15_i32_179
  let c1_i32_180 : BitVec 32 := 1#32
  let c0_i32_181 : BitVec 32 := 0#32
  let v259 : BitVec 32 := Scalar.select v258 c1_i32_180 c0_i32_181
  let v262 : BitVec 32 := Scalar.muli c1_i32_183 v259
  let v263 : BitVec 32 := Scalar.addi v257 v262
  let v279 : BitVec 32 := Scalar.muli c8_i32_193 v263
  let c2_i32_184 : BitVec 32 := 2#32
  let c0_i32_106 : BitVec 32 := 0#32
  let c0_i32_105 : BitVec 32 := 0#32
  let v170 : BitVec 32 := Scalar.muli c0_i32_105 v169
  let v171 : BitVec 32 := Scalar.addi c0_i32_106 v170
  let c1_i32_112 : BitVec 32 := 1#32
  let v176 : BitVec 32 := Scalar.muli c1_i32_112 v175
  let v177 : BitVec 32 := Scalar.addi v171 v176
  let c2_i32_117 : BitVec 32 := 2#32
  let v182 : BitVec 32 := Scalar.muli c2_i32_117 v181
  let v183 : BitVec 32 := Scalar.addi v177 v182
  let c3_i32_122 : BitVec 32 := 3#32
  let v188 : BitVec 32 := Scalar.muli c3_i32_122 v187
  let v189 : BitVec 32 := Scalar.addi v183 v188
  let c3_i32_127 : BitVec 32 := 3#32
  let v194 : BitVec 32 := Scalar.muli c3_i32_127 v193
  let v195 : BitVec 32 := Scalar.addi v189 v194
  let c2_i32_132 : BitVec 32 := 2#32
  let v200 : BitVec 32 := Scalar.muli c2_i32_132 v199
  let v201 : BitVec 32 := Scalar.addi v195 v200
  let c1_i32_137 : BitVec 32 := 1#32
  let v206 : BitVec 32 := Scalar.muli c1_i32_137 v205
  let v207 : BitVec 32 := Scalar.addi v201 v206
  let c1_i32_142 : BitVec 32 := 1#32
  let v212 : BitVec 32 := Scalar.muli c1_i32_142 v211
  let v213 : BitVec 32 := Scalar.addi v207 v212
  let c2_i32_147 : BitVec 32 := 2#32
  let v218 : BitVec 32 := Scalar.muli c2_i32_147 v217
  let v219 : BitVec 32 := Scalar.addi v213 v218
  let c3_i32_152 : BitVec 32 := 3#32
  let v224 : BitVec 32 := Scalar.muli c3_i32_152 v223
  let v225 : BitVec 32 := Scalar.addi v219 v224
  let c3_i32_157 : BitVec 32 := 3#32
  let v230 : BitVec 32 := Scalar.muli c3_i32_157 v229
  let v231 : BitVec 32 := Scalar.addi v225 v230
  let c2_i32_162 : BitVec 32 := 2#32
  let v236 : BitVec 32 := Scalar.muli c2_i32_162 v235
  let v237 : BitVec 32 := Scalar.addi v231 v236
  let c1_i32_167 : BitVec 32 := 1#32
  let v242 : BitVec 32 := Scalar.muli c1_i32_167 v241
  let v243 : BitVec 32 := Scalar.addi v237 v242
  let c0_i32_172 : BitVec 32 := 0#32
  let v248 : BitVec 32 := Scalar.muli c0_i32_172 v247
  let v249 : BitVec 32 := Scalar.addi v243 v248
  let c0_i32_177 : BitVec 32 := 0#32
  let v254 : BitVec 32 := Scalar.muli c0_i32_177 v253
  let v255 : BitVec 32 := Scalar.addi v249 v254
  let c0_i32_182 : BitVec 32 := 0#32
  let v260 : BitVec 32 := Scalar.muli c0_i32_182 v259
  let v261 : BitVec 32 := Scalar.addi v255 v260
  let v264 : BitVec 32 := Scalar.muli c2_i32_184 v261
  let c2_i32_185 : BitVec 32 := 2#32
  let c0_i32_186 : BitVec 32 := 0#32
  let v265 : BitVec 1 := Scalar.cmpi .eq c2_i32_185 c0_i32_186
  let c1_i32_187 : BitVec 32 := 1#32
  let v266 : BitVec 32 := Scalar.select v265 c1_i32_187 c2_i32_185
  let v267 : BitVec 32 := Scalar.remsi v261 v266
  let c0_i32_189 : BitVec 32 := 0#32
  let v269 : BitVec 1 := Scalar.cmpi .slt v267 c0_i32_189
  let c0_i32_190 : BitVec 32 := 0#32
  let v270 : BitVec 1 := Scalar.cmpi .slt v266 c0_i32_190
  let v271 : BitVec 1 := Scalar.xori v269 v270
  let c0_i32_188 : BitVec 32 := 0#32
  let v268 : BitVec 1 := Scalar.cmpi .ne v267 c0_i32_188
  let v272 : BitVec 1 := Scalar.andi v271 v268
  let v273 : BitVec 32 := Scalar.addi v267 v266
  let v274 : BitVec 32 := Scalar.select v272 v273 v267
  let c0_i32_191 : BitVec 32 := 0#32
  let v275 : BitVec 1 := Scalar.cmpi .eq v274 c0_i32_191
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_192 : BitVec 32 := 1#32
  let v276 : BitVec 32 := Scalar.subi c1_i32_192 v60
  let v277 : BitVec 32 := Scalar.select v275 v60 v276
  let v278 : BitVec 32 := Scalar.addi v264 v277
  let v280 : BitVec 32 := Scalar.addi v279 v278
  let c1_i32_10699 : BitVec 32 := 1#32
  let v11047 : BitVec 32 := Scalar.muli v280 c1_i32_10699
  let v11048 : BitVec 32 := Scalar.addi c0_i32_10700 v11047
  v11048.toNat
def k0_dev115 (d0 : Dev nD) : Nat :=
  let c0_i32_10872 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_10871 : BitVec 32 := 1#32
  let v11219 : BitVec 32 := Scalar.muli v404 c1_i32_10871
  let v11220 : BitVec 32 := Scalar.addi c0_i32_10872 v11219
  v11220.toNat
def k0_dev116 (d0 : Dev nD) : Nat :=
  let c0_i32_11045 : BitVec 32 := 0#32
  let c8_i32_292 : BitVec 32 := 8#32
  let c0_i32_207 : BitVec 32 := 0#32
  let c0_i32_206 : BitVec 32 := 0#32
  let c0_i32_31 : BitVec 32 := 0#32
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let c0_i32_26 : BitVec 32 := 0#32
  let v61 : BitVec 1 := Scalar.cmpi .eq v46 c0_i32_26
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c0_i32_27 : BitVec 32 := 0#32
  let v62 : BitVec 1 := Scalar.cmpi .eq v19 c0_i32_27
  let v63 : BitVec 1 := Scalar.andi v61 v62
  let c1_i32_28 : BitVec 32 := 1#32
  let c0_i32_29 : BitVec 32 := 0#32
  let v64 : BitVec 32 := Scalar.select v63 c1_i32_28 c0_i32_29
  let v65 : BitVec 32 := Scalar.muli c0_i32_30 v64
  let v66 : BitVec 32 := Scalar.addi c0_i32_31 v65
  let c1_i32_36 : BitVec 32 := 1#32
  let c1_i32_32 : BitVec 32 := 1#32
  let v67 : BitVec 1 := Scalar.cmpi .eq v46 c1_i32_32
  let c0_i32_33 : BitVec 32 := 0#32
  let v68 : BitVec 1 := Scalar.cmpi .eq v19 c0_i32_33
  let v69 : BitVec 1 := Scalar.andi v67 v68
  let c1_i32_34 : BitVec 32 := 1#32
  let c0_i32_35 : BitVec 32 := 0#32
  let v70 : BitVec 32 := Scalar.select v69 c1_i32_34 c0_i32_35
  let v71 : BitVec 32 := Scalar.muli c1_i32_36 v70
  let v72 : BitVec 32 := Scalar.addi v66 v71
  let c2_i32_41 : BitVec 32 := 2#32
  let c2_i32_37 : BitVec 32 := 2#32
  let v73 : BitVec 1 := Scalar.cmpi .eq v46 c2_i32_37
  let c0_i32_38 : BitVec 32 := 0#32
  let v74 : BitVec 1 := Scalar.cmpi .eq v19 c0_i32_38
  let v75 : BitVec 1 := Scalar.andi v73 v74
  let c1_i32_39 : BitVec 32 := 1#32
  let c0_i32_40 : BitVec 32 := 0#32
  let v76 : BitVec 32 := Scalar.select v75 c1_i32_39 c0_i32_40
  let v77 : BitVec 32 := Scalar.muli c2_i32_41 v76
  let v78 : BitVec 32 := Scalar.addi v72 v77
  let c3_i32_45 : BitVec 32 := 3#32
  let c3_i32 : BitVec 32 := 3#32
  let v79 : BitVec 1 := Scalar.cmpi .eq v46 c3_i32
  let c0_i32_42 : BitVec 32 := 0#32
  let v80 : BitVec 1 := Scalar.cmpi .eq v19 c0_i32_42
  let v81 : BitVec 1 := Scalar.andi v79 v80
  let c1_i32_43 : BitVec 32 := 1#32
  let c0_i32_44 : BitVec 32 := 0#32
  let v82 : BitVec 32 := Scalar.select v81 c1_i32_43 c0_i32_44
  let v83 : BitVec 32 := Scalar.muli c3_i32_45 v82
  let v84 : BitVec 32 := Scalar.addi v78 v83
  let c4_i32_50 : BitVec 32 := 4#32
  let c3_i32_46 : BitVec 32 := 3#32
  let v85 : BitVec 1 := Scalar.cmpi .eq v46 c3_i32_46
  let c1_i32_47 : BitVec 32 := 1#32
  let v86 : BitVec 1 := Scalar.cmpi .eq v19 c1_i32_47
  let v87 : BitVec 1 := Scalar.andi v85 v86
  let c1_i32_48 : BitVec 32 := 1#32
  let c0_i32_49 : BitVec 32 := 0#32
  let v88 : BitVec 32 := Scalar.select v87 c1_i32_48 c0_i32_49
  let v89 : BitVec 32 := Scalar.muli c4_i32_50 v88
  let v90 : BitVec 32 := Scalar.addi v84 v89
  let c5_i32 : BitVec 32 := 5#32
  let c2_i32_51 : BitVec 32 := 2#32
  let v91 : BitVec 1 := Scalar.cmpi .eq v46 c2_i32_51
  let c1_i32_52 : BitVec 32 := 1#32
  let v92 : BitVec 1 := Scalar.cmpi .eq v19 c1_i32_52
  let v93 : BitVec 1 := Scalar.andi v91 v92
  let c1_i32_53 : BitVec 32 := 1#32
  let c0_i32_54 : BitVec 32 := 0#32
  let v94 : BitVec 32 := Scalar.select v93 c1_i32_53 c0_i32_54
  let v95 : BitVec 32 := Scalar.muli c5_i32 v94
  let v96 : BitVec 32 := Scalar.addi v90 v95
  let c6_i32 : BitVec 32 := 6#32
  let c1_i32_55 : BitVec 32 := 1#32
  let v97 : BitVec 1 := Scalar.cmpi .eq v46 c1_i32_55
  let c1_i32_56 : BitVec 32 := 1#32
  let v98 : BitVec 1 := Scalar.cmpi .eq v19 c1_i32_56
  let v99 : BitVec 1 := Scalar.andi v97 v98
  let c1_i32_57 : BitVec 32 := 1#32
  let c0_i32_58 : BitVec 32 := 0#32
  let v100 : BitVec 32 := Scalar.select v99 c1_i32_57 c0_i32_58
  let v101 : BitVec 32 := Scalar.muli c6_i32 v100
  let v102 : BitVec 32 := Scalar.addi v96 v101
  let c7_i32 : BitVec 32 := 7#32
  let c1_i32_59 : BitVec 32 := 1#32
  let v103 : BitVec 1 := Scalar.cmpi .eq v46 c1_i32_59
  let c2_i32_60 : BitVec 32 := 2#32
  let v104 : BitVec 1 := Scalar.cmpi .eq v19 c2_i32_60
  let v105 : BitVec 1 := Scalar.andi v103 v104
  let c1_i32_61 : BitVec 32 := 1#32
  let c0_i32_62 : BitVec 32 := 0#32
  let v106 : BitVec 32 := Scalar.select v105 c1_i32_61 c0_i32_62
  let v107 : BitVec 32 := Scalar.muli c7_i32 v106
  let v108 : BitVec 32 := Scalar.addi v102 v107
  let c8_i32_67 : BitVec 32 := 8#32
  let c2_i32_63 : BitVec 32 := 2#32
  let v109 : BitVec 1 := Scalar.cmpi .eq v46 c2_i32_63
  let c2_i32_64 : BitVec 32 := 2#32
  let v110 : BitVec 1 := Scalar.cmpi .eq v19 c2_i32_64
  let v111 : BitVec 1 := Scalar.andi v109 v110
  let c1_i32_65 : BitVec 32 := 1#32
  let c0_i32_66 : BitVec 32 := 0#32
  let v112 : BitVec 32 := Scalar.select v111 c1_i32_65 c0_i32_66
  let v113 : BitVec 32 := Scalar.muli c8_i32_67 v112
  let v114 : BitVec 32 := Scalar.addi v108 v113
  let c9_i32 : BitVec 32 := 9#32
  let c3_i32_68 : BitVec 32 := 3#32
  let v115 : BitVec 1 := Scalar.cmpi .eq v46 c3_i32_68
  let c2_i32_69 : BitVec 32 := 2#32
  let v116 : BitVec 1 := Scalar.cmpi .eq v19 c2_i32_69
  let v117 : BitVec 1 := Scalar.andi v115 v116
  let c1_i32_70 : BitVec 32 := 1#32
  let c0_i32_71 : BitVec 32 := 0#32
  let v118 : BitVec 32 := Scalar.select v117 c1_i32_70 c0_i32_71
  let v119 : BitVec 32 := Scalar.muli c9_i32 v118
  let v120 : BitVec 32 := Scalar.addi v114 v119
  let c10_i32 : BitVec 32 := 10#32
  let c3_i32_72 : BitVec 32 := 3#32
  let v121 : BitVec 1 := Scalar.cmpi .eq v46 c3_i32_72
  let c3_i32_73 : BitVec 32 := 3#32
  let v122 : BitVec 1 := Scalar.cmpi .eq v19 c3_i32_73
  let v123 : BitVec 1 := Scalar.andi v121 v122
  let c1_i32_74 : BitVec 32 := 1#32
  let c0_i32_75 : BitVec 32 := 0#32
  let v124 : BitVec 32 := Scalar.select v123 c1_i32_74 c0_i32_75
  let v125 : BitVec 32 := Scalar.muli c10_i32 v124
  let v126 : BitVec 32 := Scalar.addi v120 v125
  let c11_i32 : BitVec 32 := 11#32
  let c2_i32_76 : BitVec 32 := 2#32
  let v127 : BitVec 1 := Scalar.cmpi .eq v46 c2_i32_76
  let c3_i32_77 : BitVec 32 := 3#32
  let v128 : BitVec 1 := Scalar.cmpi .eq v19 c3_i32_77
  let v129 : BitVec 1 := Scalar.andi v127 v128
  let c1_i32_78 : BitVec 32 := 1#32
  let c0_i32_79 : BitVec 32 := 0#32
  let v130 : BitVec 32 := Scalar.select v129 c1_i32_78 c0_i32_79
  let v131 : BitVec 32 := Scalar.muli c11_i32 v130
  let v132 : BitVec 32 := Scalar.addi v126 v131
  let c12_i32 : BitVec 32 := 12#32
  let c1_i32_80 : BitVec 32 := 1#32
  let v133 : BitVec 1 := Scalar.cmpi .eq v46 c1_i32_80
  let c3_i32_81 : BitVec 32 := 3#32
  let v134 : BitVec 1 := Scalar.cmpi .eq v19 c3_i32_81
  let v135 : BitVec 1 := Scalar.andi v133 v134
  let c1_i32_82 : BitVec 32 := 1#32
  let c0_i32_83 : BitVec 32 := 0#32
  let v136 : BitVec 32 := Scalar.select v135 c1_i32_82 c0_i32_83
  let v137 : BitVec 32 := Scalar.muli c12_i32 v136
  let v138 : BitVec 32 := Scalar.addi v132 v137
  let c13_i32 : BitVec 32 := 13#32
  let c0_i32_84 : BitVec 32 := 0#32
  let v139 : BitVec 1 := Scalar.cmpi .eq v46 c0_i32_84
  let c3_i32_85 : BitVec 32 := 3#32
  let v140 : BitVec 1 := Scalar.cmpi .eq v19 c3_i32_85
  let v141 : BitVec 1 := Scalar.andi v139 v140
  let c1_i32_86 : BitVec 32 := 1#32
  let c0_i32_87 : BitVec 32 := 0#32
  let v142 : BitVec 32 := Scalar.select v141 c1_i32_86 c0_i32_87
  let v143 : BitVec 32 := Scalar.muli c13_i32 v142
  let v144 : BitVec 32 := Scalar.addi v138 v143
  let c14_i32 : BitVec 32 := 14#32
  let c0_i32_88 : BitVec 32 := 0#32
  let v145 : BitVec 1 := Scalar.cmpi .eq v46 c0_i32_88
  let c2_i32_89 : BitVec 32 := 2#32
  let v146 : BitVec 1 := Scalar.cmpi .eq v19 c2_i32_89
  let v147 : BitVec 1 := Scalar.andi v145 v146
  let c1_i32_90 : BitVec 32 := 1#32
  let c0_i32_91 : BitVec 32 := 0#32
  let v148 : BitVec 32 := Scalar.select v147 c1_i32_90 c0_i32_91
  let v149 : BitVec 32 := Scalar.muli c14_i32 v148
  let v150 : BitVec 32 := Scalar.addi v144 v149
  let c15_i32 : BitVec 32 := 15#32
  let c0_i32_92 : BitVec 32 := 0#32
  let v151 : BitVec 1 := Scalar.cmpi .eq v46 c0_i32_92
  let c1_i32_93 : BitVec 32 := 1#32
  let v152 : BitVec 1 := Scalar.cmpi .eq v19 c1_i32_93
  let v153 : BitVec 1 := Scalar.andi v151 v152
  let c1_i32_94 : BitVec 32 := 1#32
  let c0_i32_95 : BitVec 32 := 0#32
  let v154 : BitVec 32 := Scalar.select v153 c1_i32_94 c0_i32_95
  let v155 : BitVec 32 := Scalar.muli c15_i32 v154
  let v156 : BitVec 32 := Scalar.addi v150 v155
  let c1_i32_194 : BitVec 32 := 1#32
  let v281 : BitVec 32 := Scalar.subi v156 c1_i32_194
  let c16_i32_195 : BitVec 32 := 16#32
  let c0_i32_196 : BitVec 32 := 0#32
  let v282 : BitVec 1 := Scalar.cmpi .eq c16_i32_195 c0_i32_196
  let c1_i32_197 : BitVec 32 := 1#32
  let v283 : BitVec 32 := Scalar.select v282 c1_i32_197 c16_i32_195
  let v284 : BitVec 32 := Scalar.remsi v281 v283
  let c0_i32_199 : BitVec 32 := 0#32
  let v286 : BitVec 1 := Scalar.cmpi .slt v284 c0_i32_199
  let c0_i32_200 : BitVec 32 := 0#32
  let v287 : BitVec 1 := Scalar.cmpi .slt v283 c0_i32_200
  let v288 : BitVec 1 := Scalar.xori v286 v287
  let c0_i32_198 : BitVec 32 := 0#32
  let v285 : BitVec 1 := Scalar.cmpi .ne v284 c0_i32_198
  let v289 : BitVec 1 := Scalar.andi v288 v285
  let v290 : BitVec 32 := Scalar.addi v284 v283
  let v291 : BitVec 32 := Scalar.select v289 v290 v284
  let c0_i32_201 : BitVec 32 := 0#32
  let v292 : BitVec 1 := Scalar.cmpi .eq v291 c0_i32_201
  let c1_i32_202 : BitVec 32 := 1#32
  let c0_i32_203 : BitVec 32 := 0#32
  let v293 : BitVec 32 := Scalar.select v292 c1_i32_202 c0_i32_203
  let v296 : BitVec 32 := Scalar.muli c0_i32_206 v293
  let v297 : BitVec 32 := Scalar.addi c0_i32_207 v296
  let c0_i32_212 : BitVec 32 := 0#32
  let c1_i32_208 : BitVec 32 := 1#32
  let v298 : BitVec 1 := Scalar.cmpi .eq v291 c1_i32_208
  let c1_i32_209 : BitVec 32 := 1#32
  let c0_i32_210 : BitVec 32 := 0#32
  let v299 : BitVec 32 := Scalar.select v298 c1_i32_209 c0_i32_210
  let v302 : BitVec 32 := Scalar.muli c0_i32_212 v299
  let v303 : BitVec 32 := Scalar.addi v297 v302
  let c0_i32_217 : BitVec 32 := 0#32
  let c2_i32_213 : BitVec 32 := 2#32
  let v304 : BitVec 1 := Scalar.cmpi .eq v291 c2_i32_213
  let c1_i32_214 : BitVec 32 := 1#32
  let c0_i32_215 : BitVec 32 := 0#32
  let v305 : BitVec 32 := Scalar.select v304 c1_i32_214 c0_i32_215
  let v308 : BitVec 32 := Scalar.muli c0_i32_217 v305
  let v309 : BitVec 32 := Scalar.addi v303 v308
  let c0_i32_222 : BitVec 32 := 0#32
  let c3_i32_218 : BitVec 32 := 3#32
  let v310 : BitVec 1 := Scalar.cmpi .eq v291 c3_i32_218
  let c1_i32_219 : BitVec 32 := 1#32
  let c0_i32_220 : BitVec 32 := 0#32
  let v311 : BitVec 32 := Scalar.select v310 c1_i32_219 c0_i32_220
  let v314 : BitVec 32 := Scalar.muli c0_i32_222 v311
  let v315 : BitVec 32 := Scalar.addi v309 v314
  let c1_i32_227 : BitVec 32 := 1#32
  let c4_i32_223 : BitVec 32 := 4#32
  let v316 : BitVec 1 := Scalar.cmpi .eq v291 c4_i32_223
  let c1_i32_224 : BitVec 32 := 1#32
  let c0_i32_225 : BitVec 32 := 0#32
  let v317 : BitVec 32 := Scalar.select v316 c1_i32_224 c0_i32_225
  let v320 : BitVec 32 := Scalar.muli c1_i32_227 v317
  let v321 : BitVec 32 := Scalar.addi v315 v320
  let c1_i32_232 : BitVec 32 := 1#32
  let c5_i32_228 : BitVec 32 := 5#32
  let v322 : BitVec 1 := Scalar.cmpi .eq v291 c5_i32_228
  let c1_i32_229 : BitVec 32 := 1#32
  let c0_i32_230 : BitVec 32 := 0#32
  let v323 : BitVec 32 := Scalar.select v322 c1_i32_229 c0_i32_230
  let v326 : BitVec 32 := Scalar.muli c1_i32_232 v323
  let v327 : BitVec 32 := Scalar.addi v321 v326
  let c1_i32_237 : BitVec 32 := 1#32
  let c6_i32_233 : BitVec 32 := 6#32
  let v328 : BitVec 1 := Scalar.cmpi .eq v291 c6_i32_233
  let c1_i32_234 : BitVec 32 := 1#32
  let c0_i32_235 : BitVec 32 := 0#32
  let v329 : BitVec 32 := Scalar.select v328 c1_i32_234 c0_i32_235
  let v332 : BitVec 32 := Scalar.muli c1_i32_237 v329
  let v333 : BitVec 32 := Scalar.addi v327 v332
  let c2_i32_242 : BitVec 32 := 2#32
  let c7_i32_238 : BitVec 32 := 7#32
  let v334 : BitVec 1 := Scalar.cmpi .eq v291 c7_i32_238
  let c1_i32_239 : BitVec 32 := 1#32
  let c0_i32_240 : BitVec 32 := 0#32
  let v335 : BitVec 32 := Scalar.select v334 c1_i32_239 c0_i32_240
  let v338 : BitVec 32 := Scalar.muli c2_i32_242 v335
  let v339 : BitVec 32 := Scalar.addi v333 v338
  let c2_i32_247 : BitVec 32 := 2#32
  let c8_i32_243 : BitVec 32 := 8#32
  let v340 : BitVec 1 := Scalar.cmpi .eq v291 c8_i32_243
  let c1_i32_244 : BitVec 32 := 1#32
  let c0_i32_245 : BitVec 32 := 0#32
  let v341 : BitVec 32 := Scalar.select v340 c1_i32_244 c0_i32_245
  let v344 : BitVec 32 := Scalar.muli c2_i32_247 v341
  let v345 : BitVec 32 := Scalar.addi v339 v344
  let c2_i32_252 : BitVec 32 := 2#32
  let c9_i32_248 : BitVec 32 := 9#32
  let v346 : BitVec 1 := Scalar.cmpi .eq v291 c9_i32_248
  let c1_i32_249 : BitVec 32 := 1#32
  let c0_i32_250 : BitVec 32 := 0#32
  let v347 : BitVec 32 := Scalar.select v346 c1_i32_249 c0_i32_250
  let v350 : BitVec 32 := Scalar.muli c2_i32_252 v347
  let v351 : BitVec 32 := Scalar.addi v345 v350
  let c3_i32_257 : BitVec 32 := 3#32
  let c10_i32_253 : BitVec 32 := 10#32
  let v352 : BitVec 1 := Scalar.cmpi .eq v291 c10_i32_253
  let c1_i32_254 : BitVec 32 := 1#32
  let c0_i32_255 : BitVec 32 := 0#32
  let v353 : BitVec 32 := Scalar.select v352 c1_i32_254 c0_i32_255
  let v356 : BitVec 32 := Scalar.muli c3_i32_257 v353
  let v357 : BitVec 32 := Scalar.addi v351 v356
  let c3_i32_262 : BitVec 32 := 3#32
  let c11_i32_258 : BitVec 32 := 11#32
  let v358 : BitVec 1 := Scalar.cmpi .eq v291 c11_i32_258
  let c1_i32_259 : BitVec 32 := 1#32
  let c0_i32_260 : BitVec 32 := 0#32
  let v359 : BitVec 32 := Scalar.select v358 c1_i32_259 c0_i32_260
  let v362 : BitVec 32 := Scalar.muli c3_i32_262 v359
  let v363 : BitVec 32 := Scalar.addi v357 v362
  let c3_i32_267 : BitVec 32 := 3#32
  let c12_i32_263 : BitVec 32 := 12#32
  let v364 : BitVec 1 := Scalar.cmpi .eq v291 c12_i32_263
  let c1_i32_264 : BitVec 32 := 1#32
  let c0_i32_265 : BitVec 32 := 0#32
  let v365 : BitVec 32 := Scalar.select v364 c1_i32_264 c0_i32_265
  let v368 : BitVec 32 := Scalar.muli c3_i32_267 v365
  let v369 : BitVec 32 := Scalar.addi v363 v368
  let c3_i32_272 : BitVec 32 := 3#32
  let c13_i32_268 : BitVec 32 := 13#32
  let v370 : BitVec 1 := Scalar.cmpi .eq v291 c13_i32_268
  let c1_i32_269 : BitVec 32 := 1#32
  let c0_i32_270 : BitVec 32 := 0#32
  let v371 : BitVec 32 := Scalar.select v370 c1_i32_269 c0_i32_270
  let v374 : BitVec 32 := Scalar.muli c3_i32_272 v371
  let v375 : BitVec 32 := Scalar.addi v369 v374
  let c2_i32_277 : BitVec 32 := 2#32
  let c14_i32_273 : BitVec 32 := 14#32
  let v376 : BitVec 1 := Scalar.cmpi .eq v291 c14_i32_273
  let c1_i32_274 : BitVec 32 := 1#32
  let c0_i32_275 : BitVec 32 := 0#32
  let v377 : BitVec 32 := Scalar.select v376 c1_i32_274 c0_i32_275
  let v380 : BitVec 32 := Scalar.muli c2_i32_277 v377
  let v381 : BitVec 32 := Scalar.addi v375 v380
  let c1_i32_282 : BitVec 32 := 1#32
  let c15_i32_278 : BitVec 32 := 15#32
  let v382 : BitVec 1 := Scalar.cmpi .eq v291 c15_i32_278
  let c1_i32_279 : BitVec 32 := 1#32
  let c0_i32_280 : BitVec 32 := 0#32
  let v383 : BitVec 32 := Scalar.select v382 c1_i32_279 c0_i32_280
  let v386 : BitVec 32 := Scalar.muli c1_i32_282 v383
  let v387 : BitVec 32 := Scalar.addi v381 v386
  let v403 : BitVec 32 := Scalar.muli c8_i32_292 v387
  let c2_i32_283 : BitVec 32 := 2#32
  let c0_i32_205 : BitVec 32 := 0#32
  let c0_i32_204 : BitVec 32 := 0#32
  let v294 : BitVec 32 := Scalar.muli c0_i32_204 v293
  let v295 : BitVec 32 := Scalar.addi c0_i32_205 v294
  let c1_i32_211 : BitVec 32 := 1#32
  let v300 : BitVec 32 := Scalar.muli c1_i32_211 v299
  let v301 : BitVec 32 := Scalar.addi v295 v300
  let c2_i32_216 : BitVec 32 := 2#32
  let v306 : BitVec 32 := Scalar.muli c2_i32_216 v305
  let v307 : BitVec 32 := Scalar.addi v301 v306
  let c3_i32_221 : BitVec 32 := 3#32
  let v312 : BitVec 32 := Scalar.muli c3_i32_221 v311
  let v313 : BitVec 32 := Scalar.addi v307 v312
  let c3_i32_226 : BitVec 32 := 3#32
  let v318 : BitVec 32 := Scalar.muli c3_i32_226 v317
  let v319 : BitVec 32 := Scalar.addi v313 v318
  let c2_i32_231 : BitVec 32 := 2#32
  let v324 : BitVec 32 := Scalar.muli c2_i32_231 v323
  let v325 : BitVec 32 := Scalar.addi v319 v324
  let c1_i32_236 : BitVec 32 := 1#32
  let v330 : BitVec 32 := Scalar.muli c1_i32_236 v329
  let v331 : BitVec 32 := Scalar.addi v325 v330
  let c1_i32_241 : BitVec 32 := 1#32
  let v336 : BitVec 32 := Scalar.muli c1_i32_241 v335
  let v337 : BitVec 32 := Scalar.addi v331 v336
  let c2_i32_246 : BitVec 32 := 2#32
  let v342 : BitVec 32 := Scalar.muli c2_i32_246 v341
  let v343 : BitVec 32 := Scalar.addi v337 v342
  let c3_i32_251 : BitVec 32 := 3#32
  let v348 : BitVec 32 := Scalar.muli c3_i32_251 v347
  let v349 : BitVec 32 := Scalar.addi v343 v348
  let c3_i32_256 : BitVec 32 := 3#32
  let v354 : BitVec 32 := Scalar.muli c3_i32_256 v353
  let v355 : BitVec 32 := Scalar.addi v349 v354
  let c2_i32_261 : BitVec 32 := 2#32
  let v360 : BitVec 32 := Scalar.muli c2_i32_261 v359
  let v361 : BitVec 32 := Scalar.addi v355 v360
  let c1_i32_266 : BitVec 32 := 1#32
  let v366 : BitVec 32 := Scalar.muli c1_i32_266 v365
  let v367 : BitVec 32 := Scalar.addi v361 v366
  let c0_i32_271 : BitVec 32 := 0#32
  let v372 : BitVec 32 := Scalar.muli c0_i32_271 v371
  let v373 : BitVec 32 := Scalar.addi v367 v372
  let c0_i32_276 : BitVec 32 := 0#32
  let v378 : BitVec 32 := Scalar.muli c0_i32_276 v377
  let v379 : BitVec 32 := Scalar.addi v373 v378
  let c0_i32_281 : BitVec 32 := 0#32
  let v384 : BitVec 32 := Scalar.muli c0_i32_281 v383
  let v385 : BitVec 32 := Scalar.addi v379 v384
  let v388 : BitVec 32 := Scalar.muli c2_i32_283 v385
  let c2_i32_284 : BitVec 32 := 2#32
  let c0_i32_285 : BitVec 32 := 0#32
  let v389 : BitVec 1 := Scalar.cmpi .eq c2_i32_284 c0_i32_285
  let c1_i32_286 : BitVec 32 := 1#32
  let v390 : BitVec 32 := Scalar.select v389 c1_i32_286 c2_i32_284
  let v391 : BitVec 32 := Scalar.remsi v385 v390
  let c0_i32_288 : BitVec 32 := 0#32
  let v393 : BitVec 1 := Scalar.cmpi .slt v391 c0_i32_288
  let c0_i32_289 : BitVec 32 := 0#32
  let v394 : BitVec 1 := Scalar.cmpi .slt v390 c0_i32_289
  let v395 : BitVec 1 := Scalar.xori v393 v394
  let c0_i32_287 : BitVec 32 := 0#32
  let v392 : BitVec 1 := Scalar.cmpi .ne v391 c0_i32_287
  let v396 : BitVec 1 := Scalar.andi v395 v392
  let v397 : BitVec 32 := Scalar.addi v391 v390
  let v398 : BitVec 32 := Scalar.select v396 v397 v391
  let c0_i32_290 : BitVec 32 := 0#32
  let v399 : BitVec 1 := Scalar.cmpi .eq v398 c0_i32_290
  let c4_i32 : BitVec 32 := 4#32
  let c0_i32_17 : BitVec 32 := 0#32
  let v47 : BitVec 1 := Scalar.cmpi .eq c4_i32 c0_i32_17
  let c1_i32_18 : BitVec 32 := 1#32
  let v48 : BitVec 32 := Scalar.select v47 c1_i32_18 c4_i32
  let v49 : BitVec 32 := Scalar.remsi v29 v48
  let c0_i32_20 : BitVec 32 := 0#32
  let v51 : BitVec 1 := Scalar.cmpi .slt v49 c0_i32_20
  let c0_i32_21 : BitVec 32 := 0#32
  let v52 : BitVec 1 := Scalar.cmpi .slt v48 c0_i32_21
  let v53 : BitVec 1 := Scalar.xori v51 v52
  let c0_i32_19 : BitVec 32 := 0#32
  let v50 : BitVec 1 := Scalar.cmpi .ne v49 c0_i32_19
  let v54 : BitVec 1 := Scalar.andi v53 v50
  let v55 : BitVec 32 := Scalar.addi v49 v48
  let v56 : BitVec 32 := Scalar.select v54 v55 v49
  let c1_i32_22 : BitVec 32 := 1#32
  let v57 : BitVec 1 := Scalar.cmpi .eq v56 c1_i32_22
  let c2_i32_23 : BitVec 32 := 2#32
  let v58 : BitVec 1 := Scalar.cmpi .eq v56 c2_i32_23
  let v59 : BitVec 1 := Scalar.ori v57 v58
  let c1_i32_24 : BitVec 32 := 1#32
  let c0_i32_25 : BitVec 32 := 0#32
  let v60 : BitVec 32 := Scalar.select v59 c1_i32_24 c0_i32_25
  let c1_i32_291 : BitVec 32 := 1#32
  let v400 : BitVec 32 := Scalar.subi c1_i32_291 v60
  let v401 : BitVec 32 := Scalar.select v399 v60 v400
  let v402 : BitVec 32 := Scalar.addi v388 v401
  let v404 : BitVec 32 := Scalar.addi v403 v402
  let c1_i32_11044 : BitVec 32 := 1#32
  let v11391 : BitVec 32 := Scalar.muli v404 c1_i32_11044
  let v11392 : BitVec 32 := Scalar.addi c0_i32_11045 v11391
  v11392.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AttnReferenceIdeal.lean ====
abbrev S1024x2048 : Shape := ⟨2, ![1024, 2048]⟩
abbrev S2048x2048 : Shape := ⟨2, ![2048, 2048]⟩
abbrev S2048x512 : Shape := ⟨2, ![2048, 512]⟩
abbrev S2048x32 : Shape := ⟨2, ![2048, 32]⟩
abbrev S1024x4096 : Shape := ⟨2, ![1024, 4096]⟩
abbrev S1024x16x128 : Shape := ⟨3, ![1024, 16, 128]⟩
abbrev S1024x512 : Shape := ⟨2, ![1024, 512]⟩
abbrev S1024x16x32 : Shape := ⟨3, ![1024, 16, 32]⟩
abbrev S1024x32 : Shape := ⟨2, ![1024, 32]⟩
abbrev S16x1024x1024 : Shape := ⟨3, ![16, 1024, 1024]⟩
abbrev S1024x1024x16 : Shape := ⟨3, ![1024, 1024, 16]⟩
abbrev S_ : Shape := ⟨0, ![]⟩
abbrev S16x1024 : Shape := ⟨2, ![16, 1024]⟩
abbrev S16x1024x1 : Shape := ⟨3, ![16, 1024, 1]⟩
abbrev S16x128x1024 : Shape := ⟨3, ![16, 128, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x512, .f32⟩
  | .hbm, ⟨3, _⟩ => ⟨S2048x32, .f32⟩
  | .hbm, ⟨4, _⟩ => ⟨S2048x2048, .f32⟩
  | .hbm, ⟨5, _⟩ => ⟨S1024x4096, .bf16⟩
  | .hbm, ⟨6, _⟩ => ⟨S1024x2048, .bf16⟩
  | .hbm, ⟨7, _⟩ => ⟨S1024x2048, .f32⟩
  | .hbm, ⟨8, _⟩ => ⟨S1024x16x128, .f32⟩
  | .hbm, ⟨9, _⟩ => ⟨S1024x2048, .bf16⟩
  | .hbm, ⟨10, _⟩ => ⟨S1024x2048, .f32⟩
  | .hbm, ⟨11, _⟩ => ⟨S1024x16x128, .f32⟩
  | .hbm, ⟨12, _⟩ => ⟨S1024x2048, .f32⟩
  | .hbm, ⟨13, _⟩ => ⟨S1024x16x128, .f32⟩
  | .hbm, ⟨14, _⟩ => ⟨S1024x512, .f32⟩
  | .hbm, ⟨15, _⟩ => ⟨S1024x16x32, .f32⟩
  | .hbm, ⟨16, _⟩ => ⟨S1024x32, .f32⟩
  | .hbm, ⟨17, _⟩ => ⟨S16x1024x1024, .f32⟩
  | .hbm, ⟨18, _⟩ => ⟨S1024x1024x16, .f32⟩
  | .hbm, ⟨19, _⟩ => ⟨S16x1024x1024, .f32⟩
  | .hbm, ⟨20, _⟩ => ⟨S16x1024x1024, .f32⟩
  | .hbm, ⟨21, _⟩ => ⟨S_, .f32⟩
  | .hbm, ⟨22, _⟩ => ⟨S16x1024x1024, .f32⟩
  | .hbm, ⟨23, _⟩ => ⟨S16x1024x1024, .f32⟩
  | .hbm, ⟨24, _⟩ => ⟨S_, .f32⟩
  | .hbm, ⟨25, _⟩ => ⟨S16x1024, .f32⟩
  | .hbm, ⟨26, _⟩ => ⟨S16x1024x1, .f32⟩
  | .hbm, ⟨27, _⟩ => ⟨S16x1024x1024, .f32⟩
  | .hbm, ⟨28, _⟩ => ⟨S16x1024x1024, .f32⟩
  | .hbm, ⟨29, _⟩ => ⟨S16x1024x1024, .f32⟩
  | .hbm, ⟨30, _⟩ => ⟨S_, .f32⟩
  | .hbm, ⟨31, _⟩ => ⟨S16x1024, .f32⟩
  | .hbm, ⟨32, _⟩ => ⟨S16x1024x1, .f32⟩
  | .hbm, ⟨33, _⟩ => ⟨S16x1024x1024, .f32⟩
  | .hbm, ⟨34, _⟩ => ⟨S16x1024x1024, .f32⟩
  | .hbm, ⟨35, _⟩ => ⟨S16x128x1024, .f32⟩
  | .hbm, ⟨36, _⟩ => ⟨S1024x16x128, .f32⟩
  | .hbm, ⟨37, _⟩ => ⟨S1024x2048, .f32⟩
  | .hbm, ⟨38, _⟩ => ⟨S1024x2048, .f32⟩
  | .hbm, ⟨39, _⟩ => ⟨S1024x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.Struct.lean ====
module

public import proofs.«01_k».proof.Proof.Gen.KernelIdeal.Launch
public import proofs.«01_k».proof.Proof.Gen.KernelIdeal.Points
public import Idealize.ShloMosaic.Lib.Pipeline.Regions

@[expose] public section

noncomputable section

/-! # The kernel body, stream by stream

The printed body is one straight line of a thousand operations. Here it is once more, as the loops it came from:
four streams, each sending its 64-row chunk round the ring of sixteen, first adding up (`rs…`), then, after one
exchange with the mirror device (`x…`), handing the finished chunks on (`ag…`). `printed_eq` says the two are one. -/

namespace Cert.KernelIdeal.AR

open Idealize.ShloMosaic Idealize.ShloMosaic.TcCoe
open Idealize.SL Idealize.SL.Sem
open Cert.KernelIdeal Cert.KernelIdeal.Gen

variable {F : FTy → Type} [FloatOps F]

/-- The corner of the 64 × 1024 chunk `k` of stream `st`. -/
def chunkOff (st : Fin 4) (k : Fin 16) : Fin 2 → Nat := ![64 * k.val, 1024 * st.val]

theorem chunk_inb : ∀ (st : Fin 4) (k : Fin 16) (a : Fin 2), chunkOff st k a + S64x1024.size a ≤ S1024x4096.size a := by decide +kernel
theorem chunk_packed : ∀ (st : Fin 4) (k : Fin 16),
    (Rect.unit (s := S1024x4096) (chunkOff st k) S64x1024.size (chunk_inb st k)).PackedRows (EltTy.packing .bf16) := by decide +kernel
theorem chunk_words : ∀ (st : Fin 4) (k : Fin 16),
    (Rect.unit (s := S1024x4096) (chunkOff st k) S64x1024.size (chunk_inb st k)).WholeWords (EltTy.packing .bf16) := by decide +kernel

theorem slot_inb : ∀ (st : Fin 4) (s : Fin 2) (a : Fin 4), (![st.val, s.val, 0, 0] : Fin 4 → Nat) a + S1x1x64x1024.size a ≤ S4x2x64x1024.size a := by decide +kernel
theorem slot_packed : ∀ (st : Fin 4) (s : Fin 2),
    (Rect.unit (s := S4x2x64x1024) ![st.val, s.val, 0, 0] S1x1x64x1024.size (slot_inb st s)).PackedRows (EltTy.packing .bf16) := by decide +kernel
theorem slot_words : ∀ (st : Fin 4) (s : Fin 2),
    (Rect.unit (s := S4x2x64x1024) ![st.val, s.val, 0, 0] S1x1x64x1024.size (slot_inb st s)).WholeWords (EltTy.packing .bf16) := by decide +kernel
theorem xslot_inb : ∀ (st : Fin 4) (a : Fin 3), (![st.val, 0, 0] : Fin 3 → Nat) a + S1x64x1024.size a ≤ S4x64x1024.size a := by decide +kernel
theorem xslot_words : ∀ (st : Fin 4),
    (Rect.unit (s := S4x64x1024) ![st.val, 0, 0] S1x64x1024.size (xslot_inb st)).WholeWords (EltTy.packing .bf16) := by decide +kernel
theorem sem_inb : ∀ (st : Fin 4) (s : Fin 2) (a : Fin 2), (![st.val, s.val] : Fin 2 → Nat) a + S1x1.size a ≤ S4x2.size a := by decide +kernel
theorem xsem_inb : ∀ (st : Fin 4) (a : Fin 1), (![st.val] : Fin 1 → Nat) a + S1.size a ≤ S4.size a := by decide +kernel

/-- Where the chunks of a body lie: each a chunk of its stream. -/
structure Offs where
  /-- what a reduce-scatter step sends -/
  rs : Fin 4 → Nat → Fin 2 → Nat
  /-- the chunk the device ends up owning -/
  own : Fin 4 → Fin 2 → Nat
  /-- what an all-gather step sends -/
  ags : Fin 4 → Nat → Fin 2 → Nat
  /-- what it receives -/
  agr : Fin 4 → Nat → Fin 2 → Nat
  hrs : ∀ st u, ∃ k, rs st u = chunkOff st k
  hown : ∀ st, ∃ k, own st = chunkOff st k
  hags : ∀ st u, ∃ k, ags st u = chunkOff st k
  hagr : ∀ st u, ∃ k, agr st u = chunkOff st k

theorem inb_of {st : Fin 4} {off : Fin 2 → Nat} (h : ∃ k, off = chunkOff st k) (a : Fin 2) : off a + S64x1024.size a ≤ S1024x4096.size a := by
  obtain ⟨k, rfl⟩ := h; exact chunk_inb st k a
theorem packed_of {st : Fin 4} {off : Fin 2 → Nat} (h : ∃ k, off = chunkOff st k) :
    (Rect.unit (s := S1024x4096) off S64x1024.size (inb_of h)).PackedRows (EltTy.packing .bf16) := by
  obtain ⟨k, rfl⟩ := h; exact chunk_packed st k
theorem words_of {st : Fin 4} {off : Fin 2 → Nat} (h : ∃ k, off = chunkOff st k) :
    (Rect.unit (s := S1024x4096) off S64x1024.size (inb_of h)).WholeWords (EltTy.packing .bf16) := by
  obtain ⟨k, rfl⟩ := h; exact chunk_words st k

abbrev chunkR {st : Fin 4} {off : Fin 2 → Nat} (h : ∃ k, off = chunkOff st k) : Rect S1024x4096 :=
  Rect.unit (s := S1024x4096) off S64x1024.size (inb_of h)
abbrev slotR (st : Fin 4) (s : Fin 2) : Rect S4x2x64x1024 :=
  Rect.unit (s := S4x2x64x1024) ![st.val, s.val, 0, 0] S1x1x64x1024.size (slot_inb st s)
abbrev xslotR (st : Fin 4) : Rect S4x64x1024 :=
  Rect.unit (s := S4x64x1024) ![st.val, 0, 0] S1x64x1024.size (xslot_inb st)

abbrev outM : Memref sig .tc .vmem S1024x4096 .bf16 := Memref.whole cc0_stg4_0
abbrev accM : Memref sig .tc .vmem S1024x4096 .f32 := Memref.whole cc0_scratch0
abbrev stageM : Memref sig .tc .vmem S4x2x64x1024 .bf16 := Memref.whole cc0_scratch1
abbrev sendM : Memref sig .tc .vmem S4x2x64x1024 .bf16 := Memref.whole cc0_scratch2
abbrev xstM : Memref sig .tc .vmem S4x64x1024 .bf16 := Memref.whole cc0_scratch3

/-- The slots and chunks a transfer names. -/
abbrev stageS (st : Fin 4) (s : Fin 2) : Memref sig .tc .vmem S64x1024 .bf16 :=
  (stageM.slice (slotR st s) (fun _ => rfl)).squeeze S64x1024 squeezes_S1x1x64x1024_S64x1024
abbrev sendS (st : Fin 4) (s : Fin 2) : Memref sig .tc .vmem S64x1024 .bf16 :=
  (sendM.slice (slotR st s) (fun _ => rfl)).squeeze S64x1024 squeezes_S1x1x64x1024_S64x1024
abbrev xstS (st : Fin 4) : Memref sig .tc .vmem S64x1024 .bf16 :=
  (xstM.slice (xslotR st) (fun _ => rfl)).squeeze S64x1024 squeezes_S1x64x1024_S64x1024
abbrev outC {st : Fin 4} {off : Fin 2 → Nat} (h : ∃ k, off = chunkOff st k) : Memref sig .tc .vmem S64x1024 .bf16 :=
  outM.slice (chunkR h) (fun _ => rfl)

/-- The semaphores. -/
abbrev barSem : Sem sig := (SemArray.scalar (d := ![]) (sig.barrier 0 rfl)).sem
abbrev sendSem (st : Fin 4) (s : Fin 2) : DmaSem sig :=
  ((cc0_scratch4.slice (Rect.unit (s := S4x2) ![st.val, s.val] S1x1.size (sem_inb st s))).squeeze S_ squeezes_S1x1_S_).sem
abbrev recvSem (st : Fin 4) (s : Fin 2) : DmaSem sig :=
  ((cc0_scratch5.slice (Rect.unit (s := S4x2) ![st.val, s.val] S1x1.size (sem_inb st s))).squeeze S_ squeezes_S1x1_S_).sem
abbrev credSem (st : Fin 4) (s : Fin 2) : Sem sig :=
  ((cc0_scratch6.slice (Rect.unit (s := S4x2) ![st.val, s.val] S1x1.size (sem_inb st s))).squeeze S_ squeezes_S1x1_S_).sem
abbrev xsendSem (st : Fin 4) : DmaSem sig :=
  ((cc0_scratch7.slice (Rect.unit (s := S4) ![st.val] S1.size (xsem_inb st))).squeeze S_ squeezes_S1_S_).sem
abbrev xrecvSem (st : Fin 4) : DmaSem sig :=
  ((cc0_scratch8.slice (Rect.unit (s := S4) ![st.val] S1.size (xsem_inb st))).squeeze S_ squeezes_S1_S_).sem

/-- The next, the previous and the mirror device. -/
def nxt (c : Dev nD) : Dev nD := ⟨k0_dev1 c, k0_dev1_lt c⟩
def prv (c : Dev nD) : Dev nD := ⟨k0_dev2 c, k0_dev2_lt c⟩
def mir (c : Dev nD) : Dev nD := ⟨k0_dev3 c, k0_dev3_lt c⟩
/-- Where stream `st` sends to, and where it comes from. -/
def dn (st : Fin 4) (c : Dev nD) : Dev nD := match st with
  | ⟨0, _⟩ => nxt c | ⟨1, _⟩ => nxt c | ⟨2, _⟩ => prv c | ⟨_ + 3, _⟩ => prv c
def up (st : Fin 4) (c : Dev nD) : Dev nD := match st with
  | ⟨0, _⟩ => prv c | ⟨1, _⟩ => prv c | ⟨2, _⟩ => nxt c | ⟨_ + 3, _⟩ => nxt c

/-- The slot of use `v`. -/
def slot (v : Nat) : Fin 2 := ⟨v % 2, Nat.mod_lt _ (by decide)⟩

/-- The roundings and sums the body makes of what it loads. -/
def cvt (v : Vec F S64x1024 .f32) : FVec F S64x1024 .bf16 := truncf .bf16 v bitsLt_bf16_f32
def toSlot (v : Vec F S64x1024 .f32) : FVec F S1x1x64x1024 .bf16 := shapeCast S1x1x64x1024 (cvt v) shapeCasts_S64x1024_S1x1x64x1024
def addIn (a : Vec F S64x1024 .f32) (b : FVec F S64x1024 .bf16) : FVec F S64x1024 .f32 := addf a (extf .f32 b bitsLt_bf16_f32)

/-- Rounds the chunk at `off` into the send slot and starts its copy into `d`'s staging slot. -/
def rsSend (O : Offs) (st : Fin 4) (u : Nat) (c : Dev nD) : Prog (TpuEff nD τ sig (Elt F) Λ₀ .tc) PUnit := do
  let v : Vec F S64x1024 .f32 ← Prog.lift (.load accM (chunkR (O.hrs st u)).toLoadRect (View.loadsAt_vmem h_S64x1024))
  let _w : Vec F S1x1x64x1024 .bf16 ← Prog.lift (.load sendM (slotR st (slot u)).toLoadRect (View.loadsAt_vmem h_S1x1x64x1024))
  Prog.lift (.store sendM (slotR st (slot u)) (toSlot v) Finset.univ
    (View.stores_vmem h_S1x1x64x1024 ((Memref.isWhole_whole _).storeExact_slice rfl _ (slot_packed _ _)) (fun _ => rfl)) (.inl rfl))
  Prog.lift (.enqueueDma (sendS st (slot u)) (.remote (Dev.tc (dn st c)) (stageS st (slot u)) (.dma (sendSem st (slot u)))) (.dma (recvSem st (slot u)))
    (((Memref.isWhole_whole _).wordExact_slice rfl _ (slot_words _ _)).reshape _ _) (((Memref.isWhole_whole _).wordExact_slice rfl _ (slot_words _ _)).reshape _ _)
    ⟨⟨rfl, Or.inl rfl⟩, trivial⟩)

/-- Awaits step `u`'s two ends, adds what came in to the next chunk, and frees the slot. -/
def rsRecv (O : Offs) (st : Fin 4) (u : Nat) (c : Dev nD) : Prog (TpuEff nD τ sig (Elt F) Λ₀ .tc) PUnit := do
  Prog.lift (.waitDma2 (sendSem st (slot u)) (stageS st (slot u)) (sendS st (slot u))
    (((Memref.isWhole_whole _).wordExact_slice rfl _ (slot_words _ _)).reshape _ _) (((Memref.isWhole_whole _).wordExact_slice rfl _ (slot_words _ _)).reshape _ _))
  Prog.lift (.waitDma2 (recvSem st (slot u)) (sendS st (slot u)) (stageS st (slot u))
    (((Memref.isWhole_whole _).wordExact_slice rfl _ (slot_words _ _)).reshape _ _) (((Memref.isWhole_whole _).wordExact_slice rfl _ (slot_words _ _)).reshape _ _))
  let a : Vec F S64x1024 .f32 ← Prog.lift (.load accM (chunkR (O.hrs st (u + 1))).toLoadRect (View.loadsAt_vmem h_S64x1024))
  let b : Vec F S1x1x64x1024 .bf16 ← Prog.lift (.load stageM (slotR st (slot u)).toLoadRect (View.loadsAt_vmem h_S1x1x64x1024))
  let _d : Vec F S64x1024 .f32 ← Prog.lift (.load accM (chunkR (O.hrs st (u + 1))).toLoadRect (View.loadsAt_vmem h_S64x1024))
  Prog.lift (.store accM (chunkR (O.hrs st (u + 1)))
    (shapeCast S64x1024 (addIn a (shapeCast S64x1024 b shapeCasts_S1x1x64x1024_S64x1024)) shapeCasts_S64x1024_S64x1024 : FVec F S64x1024 .f32) Finset.univ
    (View.stores_vmem_bits_univ h_S64x1024 rfl) (.inl rfl))
  semSignalWord (up st c) (credSem st (slot u)) 1#32

/-- Waits for the slot of use `v` to be free again. -/
def credWait (st : Fin 4) (v : Nat) : Prog (TpuEff nD τ sig (Elt F) Λ₀ .tc) PUnit := semWaitWord (credSem st (slot v)) 1#32

/-- One turn of a reduce-scatter stream. -/
def rsIter (O : Offs) (st : Fin 4) (u : Nat) (c : Dev nD) : Prog (TpuEff nD τ sig (Elt F) Λ₀ .tc) PUnit :=
  rsRecv O st u c >>= fun _ => match u with
    | 0 => rsSend O st 1 c
    | u' + 1 => if u < 14 then (credWait st (u + 1) >>= fun _ => rsSend O st (u + 1) c) else pure ⟨⟩

/-- Starts the exchange with the mirror device. -/
def xSend (O : Offs) (st : Fin 4) (c : Dev nD) : Prog (TpuEff nD τ sig (Elt F) Λ₀ .tc) PUnit := do
  let v : Vec F S64x1024 .f32 ← Prog.lift (.load accM (chunkR (O.hown st)).toLoadRect (View.loadsAt_vmem h_S64x1024))
  let _w : Vec F S1x1x64x1024 .bf16 ← Prog.lift (.load sendM (slotR st 0).toLoadRect (View.loadsAt_vmem h_S1x1x64x1024))
  Prog.lift (.store sendM (slotR st 0) (toSlot v) Finset.univ
    (View.stores_vmem h_S1x1x64x1024 ((Memref.isWhole_whole _).storeExact_slice rfl _ (slot_packed _ _)) (fun _ => rfl)) (.inl rfl))
  Prog.lift (.enqueueDma (sendS st 0) (.remote (Dev.tc (mir c)) (xstS st) (.dma (xsendSem st))) (.dma (xrecvSem st))
    (((Memref.isWhole_whole _).wordExact_slice rfl _ (slot_words _ _)).reshape _ _) (((Memref.isWhole_whole _).wordExact_slice rfl _ (xslot_words _)).reshape _ _)
    ⟨⟨rfl, Or.inl rfl⟩, trivial⟩)

/-- Ends it: the finished chunk goes to the result. -/
def xRecv (O : Offs) (st : Fin 4) : Prog (TpuEff nD τ sig (Elt F) Λ₀ .tc) PUnit := do
  Prog.lift (.waitDma2 (xsendSem st) (xstS st) (sendS st 0)
    (((Memref.isWhole_whole _).wordExact_slice rfl _ (xslot_words _)).reshape _ _) (((Memref.isWhole_whole _).wordExact_slice rfl _ (slot_words _ _)).reshape _ _))
  Prog.lift (.waitDma2 (xrecvSem st) (sendS st 0) (xstS st)
    (((Memref.isWhole_whole _).wordExact_slice rfl _ (slot_words _ _)).reshape _ _) (((Memref.isWhole_whole _).wordExact_slice rfl _ (xslot_words _)).reshape _ _))
  let a : Vec F S64x1024 .f32 ← Prog.lift (.load accM (chunkR (O.hown st)).toLoadRect (View.loadsAt_vmem h_S64x1024))
  let b : Vec F S1x64x1024 .bf16 ← Prog.lift (.load xstM (xslotR st).toLoadRect (View.loadsAt_vmem h_S1x64x1024))
  let _d : Vec F S64x1024 .bf16 ← Prog.lift (.load outM (chunkR (O.hown st)).toLoadRect (View.loadsAt_vmem h_S64x1024))
  Prog.lift (.store outM (chunkR (O.hown st)) (cvt (addIn a (shapeCast S64x1024 b shapeCasts_S1x64x1024_S64x1024))) Finset.univ
    (View.stores_vmem h_S64x1024 ((Memref.isWhole_whole _).storeExact_slice rfl _ (packed_of (O.hown st))) (fun _ => rfl)) (.inl rfl))

/-- Starts all-gather step `t`. -/
def agSend (O : Offs) (st : Fin 4) (t : Nat) (c : Dev nD) : Prog (TpuEff nD τ sig (Elt F) Λ₀ .tc) PUnit :=
  credWait st (15 + t) >>= fun _ =>
  Prog.lift (.enqueueDma (outC (O.hags st t)) (.remote (Dev.tc (dn st c)) (outC (O.hags st t)) (.dma (sendSem st (slot (15 + t))))) (.dma (recvSem st (slot (15 + t))))
    ((Memref.isWhole_whole _).wordExact_slice rfl _ (words_of (O.hags st t))) ((Memref.isWhole_whole _).wordExact_slice rfl _ (words_of (O.hags st t))) ⟨⟨rfl, Or.inl rfl⟩, trivial⟩)

/-- Awaits its two ends. -/
def agRecv (O : Offs) (st : Fin 4) (t : Nat) : Prog (TpuEff nD τ sig (Elt F) Λ₀ .tc) PUnit := do
  Prog.lift (.waitDma2 (sendSem st (slot (15 + t))) (outC (O.hags st t)) (outC (O.hags st t))
    ((Memref.isWhole_whole _).wordExact_slice rfl _ (words_of (O.hags st t))) ((Memref.isWhole_whole _).wordExact_slice rfl _ (words_of (O.hags st t))))
  Prog.lift (.waitDma2 (recvSem st (slot (15 + t))) (outC (O.hagr st t)) (outC (O.hagr st t))
    ((Memref.isWhole_whole _).wordExact_slice rfl _ (words_of (O.hagr st t))) ((Memref.isWhole_whole _).wordExact_slice rfl _ (words_of (O.hagr st t))))

/-- One turn of an all-gather stream. -/
def agIter (O : Offs) (st : Fin 4) (t : Nat) (c : Dev nD) : Prog (TpuEff nD τ sig (Elt F) Λ₀ .tc) PUnit :=
  agRecv O st t >>= fun _ =>
    if t < 13 then (semSignalWord (up st c) (credSem st (slot (15 + t))) 1#32 >>= fun _ => agSend O st (t + 1) c)
    else if t < 14 then agSend O st (t + 1) c else pure ⟨⟩

/-- The latent product, and the half of the key or value projection it is multiplied into. -/
def latent (x : Vec F S1024x2048 .f32) (wd : Vec F S2048x128 .f32) : FVec F S1024x128 .f32 :=
  matmul dot_S1024x2048_S2048x128_S1024x128_1_0_0_1_n_n none
    (shapeCast S1024x2048 x shapeCasts_S1024x2048_S1024x2048 : FVec F S1024x2048 .f32)
    (shapeCast S2048x128 wd shapeCasts_S2048x128_S2048x128 : FVec F S2048x128 .f32) (constant S1024x128 .f32 0x00000000#32)
def half (l : FVec F S1024x128 .f32) (w : Vec F S128x2048 .f32) : FVec F S1024x2048 .f32 :=
  shapeCast S1024x2048 (matmul dot_S1024x128_S128x2048_S1024x2048_1_0_0_1_n_n none l
    (shapeCast S128x2048 w shapeCasts_S128x2048_S128x2048 : FVec F S128x2048 .f32) (constant S1024x2048 .f32 0x00000000#32) : FVec F S1024x2048 .f32)
    shapeCasts_S1024x2048_S1024x2048

/-- The same for the four streams in turn. -/
def each (f : Fin 4 → Prog (TpuEff nD τ sig (Elt F) Λ₀ .tc) PUnit) : Prog (TpuEff nD τ sig (Elt F) Λ₀ .tc) PUnit := do
  f 0
  f 1
  f 2
  f 3

/-- The first `n` turns. -/
def turns (f : Nat → Prog (TpuEff nD τ sig (Elt F) Λ₀ .tc) PUnit) : Nat → Prog (TpuEff nD τ sig (Elt F) Λ₀ .tc) PUnit
  | 0 => pure ⟨⟩
  | n + 1 => turns f n >>= fun _ => f n

/-- The barrier's signals and the three products, up to the barrier's wait. -/
def prologue (c : Dev nD) : Prog (TpuEff nD τ sig (Elt F) Λ₀ .tc) PUnit := do
  semSignalWord (nxt c) barSem 1#32
  semSignalWord (prv c) barSem 1#32
  semSignalWord (mir c) barSem 1#32
  let x : Vec F S1024x2048 .f32 ← Prog.lift (.load (Memref.whole cc0_stg0_0 : Memref sig .tc .vmem S1024x2048 .f32) (Rect.unit (s := S1024x2048) ![0, 0] S1024x2048.size inb_S1024x2048_S1024x2048_0_0).toLoadRect (View.loadsAt_vmem h_S1024x2048))
  let wd : Vec F S2048x128 .f32 ← Prog.lift (.load (Memref.whole cc0_stg1_0 : Memref sig .tc .vmem S2048x128 .f32) (Rect.unit (s := S2048x128) ![0, 0] S2048x128.size inb_S2048x128_S2048x128_0_0).toLoadRect (View.loadsAt_vmem h_S2048x128))
  let wk : Vec F S128x2048 .f32 ← Prog.lift (.load (Memref.whole cc0_stg2_0 : Memref sig .tc .vmem S128x2048 .f32) (Rect.unit (s := S128x2048) ![0, 0] S128x2048.size inb_S128x2048_S128x2048_0_0).toLoadRect (View.loadsAt_vmem h_S128x2048))
  let _ : Vec F S1024x2048 .f32 ← Prog.lift (.load accM (Rect.unit (s := S1024x4096) ![0, 0] S1024x2048.size inb_S1024x4096_S1024x2048_0_0).toLoadRect (View.loadsAt_vmem h_S1024x2048))
  Prog.lift (.store accM (Rect.unit (s := S1024x4096) ![0, 0] S1024x2048.size inb_S1024x4096_S1024x2048_0_0) (half (latent x wd) wk) Finset.univ (View.stores_vmem_bits_univ h_S1024x2048 rfl) (.inl rfl))
  let wv : Vec F S128x2048 .f32 ← Prog.lift (.load (Memref.whole cc0_stg3_0 : Memref sig .tc .vmem S128x2048 .f32) (Rect.unit (s := S128x2048) ![0, 0] S128x2048.size inb_S128x2048_S128x2048_0_0).toLoadRect (View.loadsAt_vmem h_S128x2048))
  let _ : Vec F S1024x2048 .f32 ← Prog.lift (.load accM (Rect.unit (s := S1024x4096) ![0, 2048] S1024x2048.size inb_S1024x4096_S1024x2048_0_2048).toLoadRect (View.loadsAt_vmem h_S1024x2048))
  Prog.lift (.store accM (Rect.unit (s := S1024x4096) ![0, 2048] S1024x2048.size inb_S1024x4096_S1024x2048_0_2048) (half (latent x wd) wv) Finset.univ (View.stores_vmem_bits_univ h_S1024x2048 rfl) (.inl rfl))
  semWaitWord barSem 3#32

/-- What follows the barrier. -/
def streams (O : Offs) (c : Dev nD) : Prog (TpuEff nD τ sig (Elt F) Λ₀ .tc) PUnit := do
  each fun st => rsSend O st 0 c
  turns (fun u => each fun st => rsIter O st u c) 15
  each fun st => xSend O st c
  each fun st => xRecv O st
  each fun st => agSend O st 0 c
  turns (fun t => each fun st => agIter O st t c) 15

/-- The whole body on device `c`. -/
def body (O : Offs) (c : Dev nD) : Prog (TpuEff nD τ sig (Elt F) Λ₀ .tc) PUnit := do
  prologue c
  streams O c

/-! ## Where the printed body's chunks lie -/

/-- The printed offsets, the step's number as the word the text carries. -/
def rsP (c : Dev nD) (st : Fin 4) (u : Nat) : Fin 2 → Nat := match st with
  | ⟨0, _⟩ => k0_off1 c (BitVec.ofNat 32 (u % 16)) | ⟨1, _⟩ => k0_off2 c (BitVec.ofNat 32 (u % 16))
  | ⟨2, _⟩ => k0_off3 c (BitVec.ofNat 32 (4294967296 - u % 16)) | ⟨_ + 3, _⟩ => k0_off4 c (BitVec.ofNat 32 (4294967296 - u % 16))
def ownP (c : Dev nD) (st : Fin 4) : Fin 2 → Nat := match st with
  | ⟨0, _⟩ => k0_off5 c | ⟨1, _⟩ => k0_off6 c | ⟨2, _⟩ => k0_off7 c | ⟨_ + 3, _⟩ => k0_off8 c
def agsP (c : Dev nD) (st : Fin 4) (t : Nat) : Fin 2 → Nat := match st with
  | ⟨0, _⟩ => k0_off9 c (BitVec.ofNat 32 (4294967297 - t % 15)) | ⟨1, _⟩ => k0_off10 c (BitVec.ofNat 32 (4294967297 - t % 15))
  | ⟨2, _⟩ => k0_off11 c (BitVec.ofNat 32 (4294967295 + t % 15)) | ⟨_ + 3, _⟩ => k0_off12 c (BitVec.ofNat 32 (4294967295 + t % 15))
def agrP (c : Dev nD) (st : Fin 4) (t : Nat) : Fin 2 → Nat := match st with
  | ⟨0, _⟩ => k0_off13 c (BitVec.ofNat 32 (t % 15)) | ⟨1, _⟩ => k0_off14 c (BitVec.ofNat 32 (t % 15))
  | ⟨2, _⟩ => k0_off15 c (BitVec.ofNat 32 (4294967296 - t % 15)) | ⟨_ + 3, _⟩ => k0_off16 c (BitVec.ofNat 32 (4294967296 - t % 15))

/-- The device's place on its ring of sixteen. -/
def frank (c : Dev nD) : Fin 16 := ⟨k0_off13 c 0#32 0 / 64 % 16, Nat.mod_lt _ (by decide)⟩
/-- Its place along stream `st`'s direction, and the chunk with a given place: `k` forwards, `−k` backwards. -/
def dir (st : Fin 4) (k : Fin 16) : Fin 16 := if st.val < 2 then k else -k
def rk (st : Fin 4) (c : Dev nD) : Fin 16 := dir st (frank c)

theorem rsP_fin : ∀ (c : Dev nD) (st : Fin 4) (u : Fin 16), rsP c st u.val = chunkOff st (dir st (rk st c - u)) := by decide +kernel
theorem ownP_eq : ∀ (c : Dev nD) (st : Fin 4), ownP c st = chunkOff st (dir st (rk st c + 1)) := by decide +kernel
theorem agsP_fin : ∀ (c : Dev nD) (st : Fin 4) (t : Fin 15), agsP c st t.val = chunkOff st (dir st (rk st c + 1 - Fin.ofNat 16 t.val)) := by decide +kernel
theorem agrP_fin : ∀ (c : Dev nD) (st : Fin 4) (t : Fin 15), agrP c st t.val = chunkOff st (dir st (rk st c - Fin.ofNat 16 t.val)) := by decide +kernel

end Cert.KernelIdeal.AR

end
-- ==== Proof.Printed.lean ====
module

public import proofs.«01_k».proof.Proof.Struct

@[expose] public section

noncomputable section

/-! # The printed body is `body` -/

namespace Cert.KernelIdeal.AR

open Idealize.ShloMosaic Idealize.ShloMosaic.TcCoe
open Idealize.SL Idealize.SL.Sem
open Cert.KernelIdeal Cert.KernelIdeal.Gen

variable {F : FTy → Type} [FloatOps F]

theorem rsP_eq (c : Dev nD) (st : Fin 4) (u : Nat) : rsP c st u = chunkOff st (dir st (rk st c - Fin.ofNat 16 u)) := by
  have h : rsP c st u = rsP c st (Fin.ofNat 16 u).val := by
    unfold rsP; simp only [Fin.val_ofNat, Nat.mod_mod]
  rw [h]; exact rsP_fin c st (Fin.ofNat 16 u)
theorem agsP_eq (c : Dev nD) (st : Fin 4) (t : Nat) : agsP c st t = chunkOff st (dir st (rk st c + 1 - Fin.ofNat 16 (t % 15))) := by
  have h : agsP c st t = agsP c st (Fin.ofNat 15 t).val := by
    unfold agsP; simp only [Fin.val_ofNat, Nat.mod_mod]
  rw [h]; exact agsP_fin c st (Fin.ofNat 15 t)
theorem agrP_eq (c : Dev nD) (st : Fin 4) (t : Nat) : agrP c st t = chunkOff st (dir st (rk st c - Fin.ofNat 16 (t % 15))) := by
  have h : agrP c st t = agrP c st (Fin.ofNat 15 t).val := by
    unfold agrP; simp only [Fin.val_ofNat, Nat.mod_mod]
  rw [h]; exact agrP_fin c st (Fin.ofNat 15 t)

/-- The offsets as printed … -/
def offsP (c : Dev nD) : Offs where
  rs := rsP c
  own := ownP c
  ags := agsP c
  agr := agrP c
  hrs st u := ⟨_, rsP_eq c st u⟩
  hown st := ⟨_, ownP_eq c st⟩
  hags st t := ⟨_, agsP_eq c st t⟩
  hagr st t := ⟨_, agrP_eq c st t⟩
/-- … and in closed form. -/
def offs (c : Dev nD) : Offs where
  rs st u := chunkOff st (dir st (rk st c - Fin.ofNat 16 u))
  own st := chunkOff st (dir st (rk st c + 1))
  ags st t := chunkOff st (dir st (rk st c + 1 - Fin.ofNat 16 (t % 15)))
  agr st t := chunkOff st (dir st (rk st c - Fin.ofNat 16 (t % 15)))
  hrs st u := ⟨_, rfl⟩
  hown st := ⟨_, rfl⟩
  hags st t := ⟨_, rfl⟩
  hagr st t := ⟨_, rfl⟩

theorem offsP_eq (c : Dev nD) : offsP c = offs c := by
  have h1 : rsP c = (offs c).rs := funext fun st => funext fun u => rsP_eq c st u
  have h2 : ownP c = (offs c).own := funext fun st => ownP_eq c st
  have h3 : agsP c = (offs c).ags := funext fun st => funext fun u => agsP_eq c st u
  have h4 : agrP c = (offs c).agr := funext fun st => funext fun u => agrP_eq c st u
  unfold offsP
  generalize_proofs p1 p2 p3 p4
  revert p1 p2 p3 p4
  rw [h1, h2, h3, h4]
  intro _ _ _ _; rfl

theorem printed_raw : cc0__allreduce_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7 cc0_scratch8
    = (Prog.lift .deviceId >>= fun d : Dev nD => body (offsP d) d) := by
  chain_rfl

theorem printed_eq : bodyAt0 (F := F) t0_0 = (Prog.lift .deviceId >>= fun d : Dev nD => body (offs d) d) := by
  have h := printed_raw (F := F)
  simp only [offsP_eq] at h
  exact h

end Cert.KernelIdeal.AR

end
-- ==== Proof.Ring.lean ====
module

public import proofs.«01_k».proof.Proof.Printed
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic

@[expose] public section

noncomputable section

/-! # The rings, the semaphores and the schedule

Each stream runs round a ring of sixteen devices, `dn` its direction and `up` against it; the two rings are joined by
`mir`. `rk` counts a device's place along the direction. A stream uses its two slots in turn: use `v` is of slot
`v % 2`, round `v / 2`; uses 0 … 14 are the reduce-scatter's steps, 15 … 29 the all-gather's. -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

/-! ## The rings -/

theorem up_dn : ∀ (st : Fin 4) (c : Dev nD), up st (dn st c) = c := by decide +kernel
theorem dn_up : ∀ (st : Fin 4) (c : Dev nD), dn st (up st c) = c := by decide +kernel
theorem mir_mir : ∀ c : Dev nD, mir (mir c) = c := by decide +kernel
theorem nxt_prv : ∀ c : Dev nD, nxt (prv c) = c := by decide +kernel
theorem prv_nxt : ∀ c : Dev nD, prv (nxt c) = c := by decide +kernel
theorem rk_dn : ∀ (st : Fin 4) (c : Dev nD), rk st (dn st c) = rk st c + 1 := by decide +kernel
theorem rk_mir : ∀ (st : Fin 4) (c : Dev nD), rk st (mir c) = rk st c := by decide +kernel
theorem dir_dir : ∀ (st : Fin 4) (k : Fin 16), dir st (dir st k) = k := by decide +kernel

theorem rk_up (st : Fin 4) (c : Dev nD) : rk st c = rk st (up st c) + 1 := by
  rw [← rk_dn, dn_up]

/-- The chunk a device sends at reduce-scatter step `v`, and the one it sends at all-gather step `w`. -/
def lab (st : Fin 4) (c : Dev nD) (v : ℕ) : Fin 16 := dir st (rk st c - Fin.ofNat 16 v)
def olab (st : Fin 4) (c : Dev nD) (w : ℕ) : Fin 16 := dir st (rk st c + 1 - Fin.ofNat 16 w)

theorem sub_step : ∀ a b : Fin 16, a + 1 - (b + 1) = a - b := by decide
theorem sub_inj : ∀ a b b' : Fin 16, a - b = a - b' → b = b' := by decide
theorem sub_15 : ∀ a : Fin 16, a - Fin.ofNat 16 15 = a + 1 := by decide
theorem ofNat_succ (t : ℕ) : Fin.ofNat 16 (t + 1) = Fin.ofNat 16 t + 1 := by ext; simp [Fin.val_add, Nat.add_mod]
theorem ofNat_inj {a b : ℕ} (ha : a < 16) (hb : b < 16) (h : Fin.ofNat 16 a = Fin.ofNat 16 b) : a = b := by
  have := congrArg Fin.val h
  simpa [Nat.mod_eq_of_lt ha, Nat.mod_eq_of_lt hb] using this

/-- The chunk received at a step is the one sent at the next. -/
theorem olab_dn (st : Fin 4) (c : Dev nD) (t : ℕ) : olab st (dn st c) (t + 1) = olab st c t := by
  unfold olab; rw [rk_dn, ofNat_succ, sub_step]
theorem olab_succ (st : Fin 4) (c : Dev nD) (t : ℕ) : olab st c (t + 1) = dir st (rk st c - Fin.ofNat 16 t) := by
  unfold olab; rw [ofNat_succ, sub_step]
theorem lab_15 (st : Fin 4) (c : Dev nD) : lab st c 15 = dir st (rk st c + 1) := by
  unfold lab; rw [sub_15]
theorem lab_inj (st : Fin 4) (c : Dev nD) : Set.InjOn (lab st c) (Finset.range 16) := by
  intro a ha b hb h
  have h1 := congrArg (dir st) h
  unfold lab at h1; rw [dir_dir, dir_dir] at h1
  exact ofNat_inj (Finset.mem_range.mp (Finset.mem_coe.mp ha)) (Finset.mem_range.mp (Finset.mem_coe.mp hb)) (sub_inj _ _ _ h1)
theorem olab_inj (st : Fin 4) (c : Dev nD) : Set.InjOn (olab st c) (Finset.range 16) := by
  intro a ha b hb h
  have h1 := congrArg (dir st) h
  unfold olab at h1; rw [dir_dir, dir_dir] at h1
  exact ofNat_inj (Finset.mem_range.mp (Finset.mem_coe.mp ha)) (Finset.mem_range.mp (Finset.mem_coe.mp hb)) (sub_inj _ _ _ h1)
theorem image_univ {f : ℕ → Fin 16} (h : Set.InjOn f (Finset.range 16)) : (Finset.range 16).image f = Finset.univ := by
  apply Finset.eq_univ_of_card
  rw [Finset.card_image_of_injOn h]; rfl

/-- A run over the sixteen chunks, in the order a stream meets them. -/
theorem bigSep_lab {M : Type _} [URA M] (st : Fin 4) (c : Dev nD) (Φ : Fin 16 → sProp M) :
    bigSep Finset.univ Φ = bigSep (Finset.range 16) fun v => Φ (lab st c v) := by
  rw [← image_univ (lab_inj st c), bigSep_image_of_injOn (lab_inj st c)]
theorem bigSep_olab {M : Type _} [URA M] (st : Fin 4) (c : Dev nD) (Φ : Fin 16 → sProp M) :
    bigSep Finset.univ Φ = bigSep (Finset.range 16) fun v => Φ (olab st c v) := by
  rw [← image_univ (olab_inj st c), bigSep_image_of_injOn (olab_inj st c)]

/-! ## The chunk a program names, by its number -/

theorem kk (st : Fin 4) (k : Fin 16) : ∃ k', chunkOff st k = chunkOff st k' := ⟨k, rfl⟩
abbrev chR (st : Fin 4) (k : Fin 16) : Rect S1024x4096 := chunkR (kk st k)
abbrev outK (st : Fin 4) (k : Fin 16) : Memref sig .tc .vmem S64x1024 .bf16 := outC (kk st k)
abbrev accK (st : Fin 4) (k : Fin 16) : Memref sig .tc .vmem S64x1024 .f32 := accM.slice (chR st k) (fun _ => rfl)

/-! ## The semaphores -/

/-- A stream's semaphores … -/
inductive J where
  | send (s : Fin 2)
  | recv (s : Fin 2)
  | cred (s : Fin 2)
  | xs
  | xr
deriving DecidableEq

instance : Fintype J := ⟨{.send 0, .send 1, .recv 0, .recv 1, .cred 0, .cred 1, .xs, .xr}, fun j => by
  rcases j with s | s | s | _ | _ <;> (try fin_cases s) <;> decide⟩

/-- … and all of a device's: the barrier's, and four streams'. -/
abbrev Ci : Type := Option (Fin 4 × J)

abbrev csem : Ci → SemLoc sig
  | none => .reg barSem
  | some (st, .send s) => .dma (sendSem st s)
  | some (st, .recv s) => .dma (recvSem st s)
  | some (st, .cred s) => .reg (credSem st s)
  | some (st, .xs) => .dma (xsendSem st)
  | some (st, .xr) => .dma (xrecvSem st)

theorem csem_injective : Function.Injective csem := by
  have h : ∀ i j : Ci, csem i = csem j → i = j := by decide +kernel
  exact fun i j => h i j

open Classical in
/-- Which of them a semaphore is. -/
def dec (sm : SemLoc sig) : Option Ci := if h : ∃ i, csem i = sm then some h.choose else none
theorem dec_csem (i : Ci) : dec (csem i) = some i := by
  have h : ∃ j, csem j = csem i := ⟨i, rfl⟩
  unfold dec; rw [dif_pos h]; exact congrArg some (csem_injective h.choose_spec)

abbrev cell (c : Dev nD) (i : Ci) : GSem nD τ sig := ((c : Thread nD τ), csem i)
theorem cell_injective : Function.Injective (fun ci : Dev nD × Ci => cell ci.1 ci.2) := by
  rintro ⟨c, k⟩ ⟨c', k'⟩ h
  have h1 : c = c' := congrArg (fun g : GSem nD τ sig => g.1.1) h
  have h2 : csem k = csem k' := congrArg Prod.snd h
  rw [h1, csem_injective h2]

/-- The semaphores of use `v`. -/
abbrev sendI (st : Fin 4) (v : ℕ) : Ci := some (st, .send (slot v))
abbrev recvI (st : Fin 4) (v : ℕ) : Ci := some (st, .recv (slot v))
abbrev credI (st : Fin 4) (v : ℕ) : Ci := some (st, .cred (slot v))
abbrev xsI (st : Fin 4) : Ci := some (st, .xs)
abbrev xrI (st : Fin 4) : Ci := some (st, .xr)

theorem slot_add_two (v : ℕ) : slot (v + 2) = slot v := by unfold slot; congr 1; omega
theorem div_add_two (v : ℕ) : (v + 2) / 2 = v / 2 + 1 := by omega
theorem two_div_slot (v : ℕ) : 2 * (v / 2) + (slot v).val = v := by unfold slot; show 2 * (v / 2) + v % 2 = v; omega

/-! ## The resource algebra -/

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- Device `c` holds a memref at contents `X`; at some contents. -/
abbrev ow (c : Dev nD) {sh : Shape} {e : EltTy} (m : Memref sig .tc .vmem sh e) (X : sh.Idx → Elt F e) : sProp 𝕄 :=
  owns (c : Thread nD τ) m fullShare X
abbrev owE (c : Dev nD) {sh : Shape} {e : EltTy} (m : Memref sig .tc .vmem sh e) : sProp 𝕄 := iprop(∃ X, ow c m X)

/-! ## What the streams compute -/

section Contents
variable (A : Dev nD → (S1024x4096.Idx → Elt F .f32))

/-- Device `c`'s chunk `k` of its own product. -/
def chk (c : Dev nD) (st : Fin 4) (k : Fin 16) : Vec F S64x1024 .f32 := (accK st k).view.read (Elt F) (A c)
/-- What a device has added up at reduce-scatter step `u`, in the chunk it sends there: its own product and what came in
    rounded. -/
def part (st : Fin 4) : ℕ → Dev nD → Vec F S64x1024 .f32
  | 0, c => chk A c st (lab st c 0)
  | u + 1, c => addIn (chk A c st (lab st c (u + 1))) (cvt (part st u (up st c)))
/-- The chunk it ends up with, after the exchange with the mirror device. -/
def ownv (st : Fin 4) (c : Dev nD) : Vec F S64x1024 .bf16 := cvt (addIn (part A st 15 c) (cvt (part A st 15 (mir c))))
/-- The chunk handed on to it at all-gather step `w`. -/
def gval (st : Fin 4) : ℕ → Dev nD → Vec F S64x1024 .bf16
  | 0, c => ownv A st c
  | w + 1, c => gval st w (up st c)
end Contents

/-! ## The schedule -/

abbrev N : ℕ := (stageS 0 0).view.dmaCredit
theorem N_pos : 0 < N := View.dmaCredit_pos _ (by decide)

section Sched
variable (A : Dev nD → (S1024x4096.Idx → Elt F .f32))

/-- What the device `c` sends to on stream `st` lends it at the barrier: both landing slots and its result's chunks but its own. -/
def barPay (c : Dev nD) (st : Fin 4) : sProp 𝕄 :=
  iprop((owE (dn st c) (stageS st 0) ∗ owE (dn st c) (stageS st 1)) ∗ bigSep (Finset.Ico 0 15) fun t => owE (dn st c) (outK st (olab st c t)))
def sendPay (c : Dev nD) (st : Fin 4) (v : ℕ) : sProp 𝕄 :=
  if v < 15 then owE c (sendS st (slot v)) else ow c (outK st (olab st c (v - 15))) (gval A st (v - 15) c)
def recvPay (c : Dev nD) (st : Fin 4) (v : ℕ) : sProp 𝕄 :=
  iprop((if v < 15 then ow c (stageS st (slot v)) (cvt (part A st v (up st c)))
      else ow c (outK st (olab st c (v - 15 + 1))) (gval A st (v - 15 + 1) c))
    ∗ reached ER (cell (up st c) (credI st v)) (v / 2))
def credPay (c : Dev nD) (st : Fin 4) (v : ℕ) : sProp 𝕄 :=
  iprop((if v < 13 then owE (dn st c) (stageS st (slot v)) else iprop(emp)) ∗ reached ER (cell (dn st c) (recvI st (v + 2))) ((v + 2) / 2))

def dut : Ci → ℕ → Finset (Fin 3)
  | none, r => if r = 0 then Finset.univ else ∅
  | some (_, .send _), r => if r < 15 then {0} else ∅
  | some (_, .recv _), r => if r < 15 then {0} else ∅
  | some (_, .cred _), r => if r < 14 then {0} else ∅
  | some (_, .xs), r => if r < 1 then {0} else ∅
  | some (_, .xr), r => if r < 1 then {0} else ∅
def amt : Ci → ℕ
  | none => 1
  | some (_, .cred _) => 1
  | _ => N
def pay (c : Dev nD) : Ci → ℕ → Fin 3 → sProp 𝕄
  | none, _, d => if d = 0 then iprop(barPay c 2 ∗ barPay c 3) else if d = 1 then iprop(barPay c 0 ∗ barPay c 1)
      else bigSep Finset.univ fun st => owE (mir c) (xstS st)
  | some (st, .send s), r, _ => sendPay A c st (2 * r + s.val)
  | some (st, .recv s), r, _ => recvPay A c st (2 * r + s.val)
  | some (st, .cred s), r, _ => credPay c st (2 * r + s.val)
  | some (st, .xs), _, _ => owE c (sendS st 0)
  | some (st, .xr), _, _ => ow c (xstS st) (cvt (part A st 15 (mir c)))

instance barPay_storable (c : Dev nD) (st : Fin 4) : BI.Storable (upEmb : UEmb _ 𝕄) (barPay (F := F) c st) := by unfold barPay; infer_instance
instance pay_storable (c : Dev nD) (i : Ci) (r : ℕ) (d : Fin 3) : BI.Storable (upEmb : UEmb _ 𝕄) (pay A c i r d) := by
  rcases i with _ | ⟨st, s | s | s | _ | _⟩ <;> simp only [pay, sendPay, recvPay, credPay] <;> (repeat' split) <;> infer_instance

def ringRd : Rounds.Schedule (GSem nD τ sig) (Fin 3) 𝕄 where
  duties g r := if g.1.2 = .tc then (match dec g.2 with | none => ∅ | some i => dut i r) else ∅
  unitless _ := False
  amount g _ _ := match dec g.2 with | none => 1 | some i => amt i
  payload g r d := match dec g.2 with | none => iprop(emp) | some i => pay A g.1.1 i r d
  amount_pos g _ _ _ := by
    rcases dec g.2 with _ | _ | ⟨st, s | s | s | _ | _⟩ <;> first | exact Nat.one_pos | exact N_pos

instance ringRd_payload_storable (g : GSem nD τ sig) (r : ℕ) (d : Fin 3) :
    BI.Storable (upEmb : UEmb _ 𝕄) ((ringRd A).payload g r d) := by
  dsimp only [ringRd]; split <;> infer_instance

theorem duties_cell (c : Dev nD) (i : Ci) (r : ℕ) : (ringRd A).duties (cell c i) r = dut i r := by
  dsimp only [ringRd]; rw [if_pos rfl]; rw [dec_csem]
theorem amount_cell (c : Dev nD) (i : Ci) (r : ℕ) (d : Fin 3) : (ringRd A).amount (cell c i) r d = amt i := by
  dsimp only [ringRd]; rw [dec_csem]
theorem payload_cell (c : Dev nD) (i : Ci) (r : ℕ) (d : Fin 3) : (ringRd A).payload (cell c i) r d = pay A c i r d := by
  dsimp only [ringRd]; rw [dec_csem]
theorem expect_cell (c : Dev nD) (i : Ci) (r : ℕ) : (ringRd A).expect (cell c i) r = (dut i r).card * amt i := by
  unfold Schedule.expect Schedule.amountOf
  rw [Finset.sum_congr rfl fun d _ => amount_cell A c i r d, Finset.sum_const, duties_cell, smul_eq_mul]

theorem pay_send (c : Dev nD) (st : Fin 4) (v : ℕ) (d : Fin 3) : pay A c (sendI st v) (v / 2) d = sendPay A c st v := by
  show sendPay A c st (2 * (v / 2) + (slot v).val) = _; rw [two_div_slot]
theorem pay_recv (c : Dev nD) (st : Fin 4) (v : ℕ) (d : Fin 3) : pay A c (recvI st v) (v / 2) d = recvPay A c st v := by
  show recvPay A c st (2 * (v / 2) + (slot v).val) = _; rw [two_div_slot]
theorem pay_cred (c : Dev nD) (st : Fin 4) (v : ℕ) (d : Fin 3) : pay A c (credI st v) (v / 2) d = credPay c st v := by
  show credPay c st (2 * (v / 2) + (slot v).val) = _; rw [two_div_slot]
end Sched

/-! ## What each device owes, and the levels -/

/-- How far a stream is: its sends, its credits, its mirror exchange. -/
structure Pr where
  s : ℕ
  c : ℕ
  x : ℕ

abbrev recvT (c : Dev nD) (st : Fin 4) (v : ℕ) : CellTallies nD τ sig ℕ := tallyAt (cell (dn st c) (recvI st v)) v N
abbrev credT (c : Dev nD) (st : Fin 4) (v : ℕ) : CellTallies nD τ sig ℕ := tallyAt (cell (up st c) (credI st v)) v 1
abbrev xT (c : Dev nD) (st : Fin 4) : CellTallies nD τ sig ℕ := tallyAt (cell (mir c) (xrI st)) 0 N
def owed1 (c : Dev nD) (st : Fin 4) (p : Pr) : CellTallies nD τ sig ℕ :=
  (∑ v ∈ Finset.Ico p.s 30, recvT c st v) + (∑ v ∈ Finset.Ico p.c 28, credT c st v) + ∑ _v ∈ Finset.Ico p.x 1, xT c st
def owedS (c : Dev nD) (P : Fin 4 → Pr) : CellTallies nD τ sig ℕ := ∑ st, owed1 c st (P st)
abbrev barT (c : Dev nD) : CellTallies nD τ sig ℕ := tallyAt (cell c none) 0 1
def owed0 (c : Dev nD) : CellTallies nD τ sig ℕ := owedS c (fun _ => ⟨0, 0, 0⟩) + barT (mir c) + barT (prv c) + barT (nxt c)

def Lx (g : GSem nD τ sig) : Finset ℕ := if g.1.2 = .tc then Finset.range 30 else ∅
def lv (g : GSem nD τ sig) (v : ℕ) : ℕ := match dec g.2 with
  | none => 0
  | some none => 1
  | some (some (_, .send _)) => 0
  | some (some (_, .recv _)) => 2 * v + 2
  | some (some (_, .cred _)) => 2 * v + 3
  | some (some (_, .xs)) => 0
  | some (some (_, .xr)) => 31

end Cert.KernelIdeal.AR

end
-- ==== Proof.Triple.lean ====
module

public import proofs.«01_k».proof.Proof.Ring
public import Idealize.SL.BI.BigOpNat

@[expose] public section

noncomputable section

/-! # Triples, payments and waits -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable (A : Dev nD → (S1024x4096.Idx → Elt F .f32)) (K : Dev nD × Ci → ℕ)

abbrev 𝒱₀ : Variants := Variants.none

/-- What every device knows: the cells' invariants, that each has reached its first round, and the levels. -/
def recs : sProp 𝕄 :=
  iprop((bigSep Finset.univ fun ci : Dev nD × Ci => cellInv ER (ringRd A) (K ci) (cell ci.1 ci.2))
    ∗ (bigSep Finset.univ fun ci : Dev nD × Ci => reached ER (cell ci.1 ci.2) 0) ∗ levAts Lx lv)

instance recs_persistent : BI.Persistent (recs A K) := by unfold recs; infer_instance

theorem recs_inv (c : Dev nD) (i : Ci) : recs A K ⊢ cellInv ER (ringRd A) (K (c, i)) (cell c i) := by
  unfold recs; iintro ⟨H, -, -⟩
  iapply (show (bigSep Finset.univ fun ci : Dev nD × Ci => cellInv ER (ringRd A) (K ci) (cell ci.1 ci.2)) ⊢ cellInv ER (ringRd A) (K (c, i)) (cell c i) from bigSep_elim (Finset.mem_univ (c, i))); iexact H
theorem recs_reached (c : Dev nD) (i : Ci) : recs A K ⊢ reached ER (cell c i) 0 := by
  unfold recs; iintro ⟨-, H, -⟩
  iapply (show (bigSep Finset.univ fun ci : Dev nD × Ci => (reached ER (cell ci.1 ci.2) 0 : sProp 𝕄)) ⊢ reached ER (cell c i) 0 from bigSep_elim (Finset.mem_univ (c, i))); iexact H
theorem recs_lev : recs A K ⊢ levAts Lx lv := by
  unfold recs; iintro ⟨-, -, H⟩; iexact H

abbrev WP (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

/-- On device `c`, the program leads from `P` to `Q`. -/
def Tr (c : Dev nD) (P : sProp 𝕄) (p : Prog (TpuEff nD τ sig (Elt F) Λ₀ .tc) PUnit) (Q : sProp 𝕄) : Prop :=
  ∀ Kt : PUnit → sProp 𝕄, iprop(recs A K ∗ P ∗ (Q -∗ Kt ⟨⟩)) ⊢ WP c p Kt

variable {A K}
variable {c : Dev nD}
variable {P P1 Q Q1 R : sProp (MT nD τ sig ℕ (Elt F) ℕ UU ℕ)}

theorem Tr.pure (h : P ⊢ Q) : Tr A K c P (Prog.ret ⟨⟩) Q := fun Kt => by
  show _ ⊢ wp _ _ _ _ _
  iintro ⟨-, HP, Hk⟩
  rw [wp_ret]; imodintro
  iapply Hk; iapply h; iexact HP

theorem Tr.bind {p : Prog (TpuEff nD τ sig (Elt F) Λ₀ .tc) PUnit} {k : PUnit → Prog (TpuEff nD τ sig (Elt F) Λ₀ .tc) PUnit}
    (h : Tr A K c P p R) (h' : Tr A K c R (k ⟨⟩) Q) : Tr A K c P (p >>= k) Q := fun Kt => by
  show _ ⊢ wp _ _ _ _ _
  rw [wp_bind]
  iintro ⟨#Hr, HP, Hk⟩
  iapply (h _)
  isplitr; · iexact Hr
  isplitl [HP]; · iexact HP
  iintro HR
  iapply (h' Kt)
  isplitr; · iexact Hr
  isplitl [HR] <;> iassumption

theorem Tr.conseq {p : Prog (TpuEff nD τ sig (Elt F) Λ₀ .tc) PUnit} (h : Tr A K c P1 p Q1) (hP : iprop(recs A K ∗ P) ⊢ P1) (hQ : Q1 ⊢ Q) :
    Tr A K c P p Q := fun Kt => by
  iintro ⟨#Hr, HP, Hk⟩
  iapply (h _)
  isplitr; · iexact Hr
  isplitl [HP]
  · iapply hP
    isplitr <;> iassumption
  iintro HQ
  iapply Hk; iapply hQ; iexact HQ

theorem Tr.frame {p : Prog (TpuEff nD τ sig (Elt F) Λ₀ .tc) PUnit} (h : Tr A K c P p Q) : Tr A K c iprop(P ∗ R) p iprop(Q ∗ R) := fun Kt => by
  iintro ⟨#Hr, ⟨HP, HR⟩, Hk⟩
  iapply (h _)
  isplitr; · iexact Hr
  isplitl [HP]; · iexact HP
  iintro HQ
  iapply Hk
  isplitl [HQ] <;> iassumption

/-! ## The obligations -/

/-- Device `c` owes `O`. -/
def Ow (c : Dev nD) (O : CellTallies nD τ sig ℕ) : sProp 𝕄 := iprop(∃ W, owes (c : Thread nD τ) O W)

theorem owedS_update (c : Dev nD) (B : Fin 4 → Pr) (st : Fin 4) (p : Pr) :
    owedS c (Function.update B st p) = (∑ s ∈ Finset.univ.erase st, owed1 c s (B s)) + owed1 c st p := by
  unfold owedS
  rw [add_comm, ← Finset.add_sum_erase _ _ (Finset.mem_univ st), Function.update_self]
  congr 1
  exact Finset.sum_congr rfl fun s hs => by rw [Function.update_of_ne (Finset.ne_of_mem_erase hs)]

theorem sum_pop {a b : ℕ} (h : a < b) (f : ℕ → CellTallies nD τ sig ℕ) : ∑ v ∈ Finset.Ico a b, f v = f a + ∑ v ∈ Finset.Ico (a + 1) b, f v := by
  rw [show Finset.Ico a b = insert a (Finset.Ico (a + 1) b) by ext x; simp only [Finset.mem_Ico, Finset.mem_insert]; omega,
    Finset.sum_insert (by rw [Finset.mem_Ico]; omega)]

theorem owed_send (c : Dev nD) (B : Fin 4 → Pr) (st : Fin 4) (s k x : ℕ) (h : s < 30) :
    owedS c (Function.update B st ⟨s, k, x⟩) = owedS c (Function.update B st ⟨s + 1, k, x⟩) + recvT c st s := by
  rw [owedS_update, owedS_update, add_assoc]; congr 1
  unfold owed1; dsimp only
  rw [sum_pop h]; ac_rfl
theorem owed_cred (c : Dev nD) (B : Fin 4 → Pr) (st : Fin 4) (s k x : ℕ) (h : k < 28) :
    owedS c (Function.update B st ⟨s, k, x⟩) = owedS c (Function.update B st ⟨s, k + 1, x⟩) + credT c st k := by
  rw [owedS_update, owedS_update, add_assoc]; congr 1
  unfold owed1; dsimp only
  rw [sum_pop h]; ac_rfl
theorem owed_x (c : Dev nD) (B : Fin 4 → Pr) (st : Fin 4) (s k : ℕ) :
    owedS c (Function.update B st ⟨s, k, 0⟩) = owedS c (Function.update B st ⟨s, k, 1⟩) + xT c st := by
  rw [owedS_update, owedS_update, add_assoc]; congr 1
  unfold owed1; dsimp only
  rw [sum_pop Nat.one_pos]; ac_rfl

/-- What remains owed is above level `n`. -/
def Above (n : ℕ) (p : Pr) : Prop := (30 ≤ p.s ∨ n < 2 * p.s + 2) ∧ (28 ≤ p.c ∨ n < 2 * p.c + 3) ∧ (1 ≤ p.x ∨ n < 31)

theorem lv_cell (c : Dev nD) (i : Ci) (v : ℕ) : lv (cell c i) v = match i with
    | none => 1 | some (_, .send _) => 0 | some (_, .recv _) => 2 * v + 2 | some (_, .cred _) => 2 * v + 3 | some (_, .xs) => 0 | some (_, .xr) => 31 := by
  unfold lv; rw [dec_csem]
  rcases i with _ | ⟨st, s | s | s | _ | _⟩ <;> rfl

theorem tally_pos {g g' : GSem nD τ sig} {u u' n : ℕ} (h : 0 < (tallyAt g u n : CellTallies nD τ sig ℕ) g' u') : g' = g ∧ u' = u := by
  rw [tallyAt_apply] at h
  by_contra hn; rw [if_neg hn] at h; exact absurd h (Nat.lt_irrefl 0)

theorem sum_pos {α : Type} [DecidableEq α] {s : Finset α} {f : α → CellTallies nD τ sig ℕ} {g : GSem nD τ sig} {u : ℕ}
    (h : 0 < (∑ a ∈ s, f a) g u) : ∃ a ∈ s, 0 < f a g u := by
  by_contra hn
  push Not at hn
  rw [Finset.sum_apply, Finsupp.finsetSum_apply, Finset.sum_eq_zero fun a ha => Nat.le_zero.mp (hn a ha)] at h
  exact absurd h (Nat.lt_irrefl 0)

theorem owed_pos {c : Dev nD} {B : Fin 4 → Pr} {n : ℕ} (hB : ∀ s, Above n (B s)) {g : GSem nD τ sig} {u : ℕ} (h : 0 < owedS c B g u) :
    u ∈ Lx g ∧ n < lv g u := by
  obtain ⟨st, -, h⟩ := sum_pos h
  unfold owed1 at h
  rw [Pi.add_apply, Finsupp.add_apply, Pi.add_apply, Finsupp.add_apply] at h
  obtain ⟨h1, h2, h3⟩ := hB st
  have key : 0 < (∑ v ∈ Finset.Ico (B st).s 30, recvT c st v) g u ∨ 0 < (∑ v ∈ Finset.Ico (B st).c 28, credT c st v) g u
      ∨ 0 < (∑ _v ∈ Finset.Ico (B st).x 1, xT c st) g u := by omega
  rcases key with h | h | h <;> obtain ⟨v, hv, h⟩ := sum_pos h <;> obtain ⟨rfl, rfl⟩ := tally_pos h <;> rw [Finset.mem_Ico] at hv <;>
    rw [lv_cell] <;> refine ⟨by unfold Lx; rw [if_pos rfl, Finset.mem_range]; omega, ?_⟩ <;> dsimp only <;> omega

theorem mayWait (c : Dev nD) (i : Ci) (v n : ℕ) (B : Fin 4 → Pr) (hv : v < 30) (hn : lv (cell c i) v ≤ n) (hB : ∀ s, Above n (B s)) :
    (levAts Lx lv : sProp 𝕄) ⊢ MayWait (c : Thread nD τ) (csem i) v (owedS c B) :=
  MayOwe.of_cut (L := Lx) (lev := lv) n
    (fun p hp => by rw [Finset.mem_singleton.mp hp]; unfold Lx; rw [if_pos rfl, Finset.mem_range]; exact hv)
    (fun g u hg => (owed_pos hB hg).1)
    (fun p hp => by rw [Finset.mem_singleton.mp hp]; exact hn)
    (fun g u hg => (owed_pos hB hg).2)

/-! ## Waits and signals -/

/-- A device's standing at one of its cells. -/
def pos (c : Dev nD) (i : Ci) (r : ℕ) : sProp 𝕄 := iprop(atPos ER (cell c i) r ∅ 0 ∗ reached ER (cell c i) r)
/-- … at the cells of the next two uses. -/
def pos2 (c : Dev nD) (I : ℕ → Ci) (n : ℕ) : sProp 𝕄 := iprop(pos c (I n) (n / 2) ∗ pos c (I (n + 1)) ((n + 1) / 2))

/-- A wait for the whole of the open round of a cell that has one duty in it. -/
theorem tr_wait (c : Dev nD) (i : Ci) (r v n : ℕ) (B : Fin 4 → Pr) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem i) k' Kt)
    (hd : dut i r = {0}) (hk : k' = amt i) (hv : v < 30) (hn : lv (cell c i) v ≤ n) (hB : ∀ s, Above n (B s)) :
    Tr A K c iprop(Ow c (owedS c B) ∗ cred (tallyAt (cell c i) v (amt i)) ∗ pos c i r) (Prog.lift w)
      iprop(Ow c (owedS c B) ∗ pos c i (r + 1) ∗ pay A c i r 0) := fun Kt => by
  subst hk
  have he : 0 + amt i = (ringRd A).expect (cell c i) r :=
    ((Nat.zero_add _).trans (Nat.one_mul _).symm).trans (by rw [expect_cell A c i r, hd, Finset.card_singleton])
  have hmw : recs A K ⊢ MayWait (c : Thread nD τ) (csem i) v (owedS c B) := by
    have h := mayWait (F := F) c i v n B hv hn hB
    exact Idealize.SL.BI.Entails.trans (@recs_lev F _ A K) h
  show _ ⊢ wp _ _ _ (.op w .ret) _
  unfold Ow pos
  iintro ⟨#Hr, ⟨⟨%W, HO⟩, Hc, Hat, -⟩, Hk⟩
  iapply (Rounds.wp_wait_rest_token 𝒱₀ ER (ringRd A) (c : Thread nD τ) none (κ := K (c, i)) hw (Set.mem_univ _) v
      (O := owedS c B) (W := W) (R := r) (m := 0) (T := ∅) he) $$ [HO Hc Hat]
  · isplitr; · iapply (recs_inv A K c i); iexact Hr
    isplitl [Hc]; · iexact Hc
    isplitl [HO]; · iexact HO
    isplitr; · iapply hmw; iexact Hr
    iexact Hat
  iintro ⟨HO, Hat, #Hre, Hpay⟩
  rw [wp_ret]; imodintro
  iapply Hk
  isplitl [HO]; · iexists _; iexact HO
  isplitl [Hat]
  · isplitl [Hat]; · iexact Hat
    iexact Hre
  iapply (Entails.of_eq (show bigSep ((ringRd A).duties (cell c i) r \ ∅) (fun d => (ringRd A).payload (cell c i) r d) = pay A c i r 0 by
    rw [Finset.sdiff_empty, duties_cell, hd, bigSep_singleton, payload_cell]))
  iexact Hpay

/-- The same at the cell of use `v`. -/
theorem tr_wait2 (c : Dev nD) (I : ℕ → Ci) (v n : ℕ) (hI : I (v + 2) = I v) (B : Fin 4 → Pr) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem (I v)) k' Kt)
    (hd : dut (I v) (v / 2) = {0}) (hk : k' = amt (I v)) (hv : v < 30) (hn : lv (cell c (I v)) v ≤ n) (hB : ∀ s, Above n (B s)) :
    Tr A K c iprop(Ow c (owedS c B) ∗ cred (tallyAt (cell c (I v)) v (amt (I v))) ∗ pos2 c I v) (Prog.lift w)
      iprop(Ow c (owedS c B) ∗ pos2 c I (v + 1) ∗ pay A c (I v) (v / 2) 0) := by
  have h := (tr_wait (A := A) (K := K) c (I v) (v / 2) v n B hw hd hk hv hn hB).frame (R := pos c (I (v + 1)) ((v + 1) / 2))
  refine h.conseq ?_ ?_
  · unfold pos2
    iintro ⟨-, HO, Hc, H1, H2⟩
    isplitr [H2]
    · isplitl [HO]; · iexact HO
      isplitl [Hc] <;> iassumption
    · iexact H2
  · unfold pos2
    rw [show v + 1 + 1 = v + 2 from rfl, hI, div_add_two]
    iintro ⟨⟨HO, H1, HP⟩, H2⟩
    isplitl [HO]; · iexact HO
    isplitr [HP]
    · isplitl [H2] <;> iassumption
    · iexact HP

/-- A signal paying a duty of another device's cell. -/
theorem tr_signal (c d : Dev nD) (i : Ci) (sm : Sem sig) (hs : csem i = .reg sm) (r : ℕ) (du : Fin 3) (v : ℕ)
    (O O' : CellTallies nD τ sig ℕ) (hdu : du ∈ dut i r) (ha : amt i = 1) (hO : O = O' + tallyAt (cell d i) v 1) :
    Tr A K c iprop(Ow c O ∗ dutyTok ER (cell d i) r du ∗ reached ER (cell d i) r ∗ pay A d i r du) (semSignalWord d sm 1#32)
      (Ow c O') := fun Kt => by
  show _ ⊢ WP c (.op (.semSignal (d : Thread nD τ) sm (1#32 : BitVec 32).toInt.toNat) .ret) Kt
  unfold Ow
  iintro ⟨#Hr, ⟨⟨%W, HO⟩, Ht, #Hre, Hp⟩, Hk⟩
  have hcell : ((d : Thread nD τ), SemLoc.reg sm) = cell d i := by rw [← hs]
  iapply (Rounds.wp_signal 𝒱₀ ER (ringRd A) (c : Thread nD τ) none (dst := (d : Thread nD τ)) (sem := sm) (r := r) (κ := K (d, i))
      (d := du) (by rw [hcell, duties_cell]; exact hdu) (by rw [hcell, amount_cell, ha]; rfl) v (O₀ := O) O' (by rw [hcell]; exact hO) (W := W))
    $$ [HO Ht Hp]
  · rw [hcell]
    isplitr; · iapply (recs_inv A K d i); iexact Hr
    isplitl [HO]; · iexact HO
    isplitl [Ht]; · iexact Ht
    isplitl [Hp]; · rw [payload_cell]; iexact Hp
    iexact Hre
  iintro HO
  rw [wp_ret]; imodintro
  iapply Hk
  iexists W; iexact HO

end Cert.KernelIdeal.AR

end
-- ==== Proof.Access.lean ====
module

public import proofs.«01_k».proof.Proof.Triple
public import Idealize.ShloMosaic.Lib.Pipeline.Value

@[expose] public section

noncomputable section

/-! # Loads, stores and transfers of one slot or chunk -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

section Mem
variable {s t : Shape} {e : EltTy} (c : Dev nD) (m : Memref sig .tc .vmem s e) (r : Rect s) (hr : ∀ a, r.stride a = 1)

/-- A load of a chunk reads what is held there. -/
theorem ld (X : r.shape.Idx → Elt F e) {hl : m.view.LoadsAt r.toLoadRect}
    {k : (r.shape.Idx → Elt F e) → Prog (TpuEff nD τ sig (Elt F) Λ₀ .tc) PUnit} {Kt : PUnit → sProp 𝕄} :
    ow c (m.slice r hr) X ⊢ iprop((ow c (m.slice r hr) X -∗ WP c (k X) Kt) -∗ WP c (.op (.load m r.toLoadRect hl) k) Kt) := by
  unfold WP ow owns
  iintro ⟨%f, %hf, H⟩ Hk
  iapply (wp_load_rect 𝒱₀ (c : Thread nD τ) none Set.univ (m := m) (r := r) (S := (m.slice r hr).view.set) (subset_rfl)) $$ H
  iintro H
  rw [show (m.access r).read (Elt F) f = X from hf]
  iapply Hk
  iexists f; isplitr; · ipureintro; exact hf
  iexact H

/-- The same of a slot of which the memref held drops the leading ones. -/
theorem ld_sq (hq : r.shape.Squeezes t) (X : t.Idx → Elt F e) {hl : m.view.LoadsAt r.toLoadRect}
    {k : (r.shape.Idx → Elt F e) → Prog (TpuEff nD τ sig (Elt F) Λ₀ .tc) PUnit} {Kt : PUnit → sProp 𝕄} :
    ow c ((m.slice r hr).squeeze t hq) X
      ⊢ iprop((∀ b : r.shape.Idx → Elt F e, ⌜X = fun j => b (Shape.reshapeEquiv hq.numel_eq j)⌝ -∗ ow c ((m.slice r hr).squeeze t hq) X -∗ WP c (k b) Kt)
        -∗ WP c (.op (.load m r.toLoadRect hl) k) Kt) := by
  unfold WP ow owns
  iintro ⟨%f, %hf, H⟩ Hk
  iapply (wp_load_rect 𝒱₀ (c : Thread nD τ) none Set.univ (m := m) (r := r) (S := ((m.slice r hr).squeeze t hq).view.set)
    (View.set_reshape (v := m.access r) (s' := t) hq.numel_eq).ge) $$ H
  iintro H
  iapply Hk
  · ipureintro; rw [← hf]; rfl
  iexists f; isplitr; · ipureintro; exact hf
  iexact H

/-- A store of a whole chunk. -/
theorem sto (w : r.shape.Idx → Elt F e) {hx : (m.access r).Stores Finset.univ} {hm : Finset.univ = Finset.univ ∨ ∀ a, r.stride a = 1}
    {k : PUnit → Prog (TpuEff nD τ sig (Elt F) Λ₀ .tc) PUnit} {Kt : PUnit → sProp 𝕄} :
    owE c (m.slice r hr) ⊢ iprop((ow c (m.slice r hr) w -∗ WP c (k ⟨⟩) Kt) -∗ WP c (.op (.store m r w Finset.univ hx hm) k) Kt) := by
  unfold WP owE ow owns
  iintro ⟨%X, %f, %hf, H⟩ Hk
  iapply (wp_store 𝒱₀ (c : Thread nD τ) none Set.univ (m := m) (r := r) (w := w) (Mk := Finset.univ) (S := (m.slice r hr).view.set) (subset_rfl)) $$ H
  iintro H
  iapply Hk
  iexists _; isplitr
  · ipureintro; exact View.read_write_univ f w
  iexact H

/-- The same of a slot. -/
theorem sto_sq (hq : r.shape.Squeezes t) (w : r.shape.Idx → Elt F e) (X : t.Idx → Elt F e) (hX : X = fun j => w (Shape.reshapeEquiv hq.numel_eq j))
    {hx : (m.access r).Stores Finset.univ} {hm : Finset.univ = Finset.univ ∨ ∀ a, r.stride a = 1}
    {k : PUnit → Prog (TpuEff nD τ sig (Elt F) Λ₀ .tc) PUnit} {Kt : PUnit → sProp 𝕄} :
    owE c ((m.slice r hr).squeeze t hq)
      ⊢ iprop((ow c ((m.slice r hr).squeeze t hq) X -∗ WP c (k ⟨⟩) Kt) -∗ WP c (.op (.store m r w Finset.univ hx hm) k) Kt) := by
  unfold WP owE ow owns
  iintro ⟨%Y, %f, %hf, H⟩ Hk
  iapply (wp_store 𝒱₀ (c : Thread nD τ) none Set.univ (m := m) (r := r) (w := w) (Mk := Finset.univ) (S := ((m.slice r hr).squeeze t hq).view.set)
    (View.set_reshape (v := m.access r) (s' := t) hq.numel_eq).ge) $$ H
  iintro H
  iapply Hk
  iexists _; isplitr
  · ipureintro
    rw [hX, ← View.read_write_univ (v := m.access r) f w]; rfl
  iexact H

end Mem

/-- A transfer to another device. -/
theorem tr_send (c c' : Dev nD) (i j : Ci) (r₁ r₂ : ℕ) {sS sem : DmaSem sig} (hi : csem i = .dma sS) (hj : csem j = .dma sem)
    (src dst : Memref sig .tc .vmem S64x1024 .bf16) (X : Vec F S64x1024 .bf16) (Fr : sProp 𝕄) (O O' : CellTallies nD τ sig ℕ) (ι ι' : ℕ)
    (hO : O = O' + tallyAt (cell c' j) ι N) (hd₁ : (0 : Fin 3) ∈ dut i r₁) (hd₂ : (0 : Fin 3) ∈ dut j r₂) (ha₁ : amt i = N) (ha₂ : amt j = N)
    (hN : dst.view.dmaCredit = N)
    (hp₁ : ow c src X ⊢ pay A c i r₁ 0) (hp₂ : iprop(ow c' dst X ∗ Fr) ⊢ pay A c' j r₂ 0)
    {hsrc : src.view.WordExact} {hdst : dst.view.WordExact} {hsem : DmaTarget.Typed .vmem (.dma sem) (.remote (Dev.tc c' : Thread nD τ) dst (.dma sS) rfl)} :
    Tr A K c iprop(Ow c O ∗ ow c src X ∗ owE c' dst ∗ Fr ∗ dutyTok ER (cell c i) r₁ 0 ∗ reached ER (cell c i) r₁
        ∗ dutyTok ER (cell c' j) r₂ 0 ∗ reached ER (cell c' j) r₂)
      (Prog.lift (.enqueueDma src (.remote (Dev.tc c') dst (.dma sS)) (.dma sem) hsrc hdst hsem))
      iprop(Ow c O' ∗ cred (tallyAt (cell c i) ι' N)) := fun Kt => by
  show _ ⊢ wp _ _ _ (.op _ .ret) _
  unfold Ow owE ow owns
  have e₁ : ((c : Thread nD τ), SemLoc.dma sS) = cell c i := by rw [← hi]
  have e₂ : ((c' : Thread nD τ), SemLoc.dma sem) = cell c' j := by rw [← hj]
  iintro ⟨#Hr, ⟨⟨%W, HO⟩, ⟨%fs, %hfs, Hs⟩, ⟨%Y, %fd, %hfd, Hd⟩, HF, Ht1, #Hr1, Ht2, #Hr2⟩, Hk⟩
  iapply (Rounds.wp_send_pointsTo_with 𝒱₀ ER (ringRd A) (c : Thread nD τ) none (κ₁ := K (c, i)) (κ₂ := K (c', j)) (c' := (c' : Thread nD τ))
      (src := src) (dst := dst) (sS := .dma sS) (sem := .dma sem)
      (r₁ := r₁) (r₂ := r₂) (d₁ := 0) (d₂ := 0) (fs := fs) (fd := fd) (F := Fr) (O₀ := O)
      (by rw [e₁, duties_cell]; exact hd₁) (by rw [e₂, duties_cell]; exact hd₂)
      ι ι' N hN (by rw [e₁, amount_cell, ha₁]) (by rw [e₂, amount_cell, ha₂]) O' (by rw [e₂]; exact hO) (W := W)
      (by rw [e₁, payload_cell]; refine Idealize.SL.BI.Entails.trans ?_ hp₁; rw [← hfs]; exact owns_intro (c : Thread nD τ) src fullShare fs)
      (by
        rw [e₂, payload_cell]; refine Idealize.SL.BI.Entails.trans (sep_mono_left (PROP := sProp 𝕄) ?_) hp₂
        have h := owns_intro (Ix := ℕ) (Name := ℕ) (U := UU) (Lvl := ℕ) (c' : Thread nD τ) dst fullShare (dst.view.write (Elt F) fd (src.view.read (Elt F) fs) Finset.univ)
        rw [View.read_write_univ, hfs] at h
        rw [hfs]; exact h))
    $$ [HO Hs Hd HF Ht1 Ht2]
  · rw [e₁, e₂]
    isplitr; · iapply (recs_inv A K c i); iexact Hr
    isplitr; · iapply (recs_inv A K c' j); iexact Hr
    isplitl [Hs]; · iexact Hs
    isplitl [Hd HF]; · isplitl [Hd] <;> iassumption
    isplitl [HO]; · iexact HO
    isplitl [Ht1]; · iexact Ht1
    isplitr; · iexact Hr1
    isplitl [Ht2]; · iexact Ht2
    iexact Hr2
  rw [e₁]
  iintro ⟨Hc, HO⟩
  rw [wp_ret]; imodintro
  iapply Hk
  isplitl [HO]; · iexists W; iexact HO
  iexact Hc

end Cert.KernelIdeal.AR

end
-- ==== Proof.Steps.lean ====
module

public import proofs.«01_k».proof.Proof.Access

@[expose] public section

noncomputable section

/-! # The steps of a stream

What a stream holds is a ledger (tokens still to spend, credits still to come, its place at its semaphores) and the
chunks and slots it owns at the moment. -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

/-! ## The ledger -/

/-- The tokens of the sends from `n` on. -/
def Tk (c : Dev nD) (st : Fin 4) (n : ℕ) : sProp 𝕄 := bigSep (Finset.Ico n 30) fun v =>
  iprop(dutyTok ER (cell (dn st c) (recvI st v)) (v / 2) 0 ∗ dutyTok ER (cell c (sendI st v)) (v / 2) 0)
/-- What the receives from `n` on are to bring. -/
def CrR (c : Dev nD) (st : Fin 4) (n : ℕ) : sProp 𝕄 := bigSep (Finset.Ico n 30) fun v => cred (tallyAt (cell c (recvI st v)) v N)
/-- The tokens of the credits to be given from `n` on. -/
def TkC (c : Dev nD) (st : Fin 4) (n : ℕ) : sProp 𝕄 := bigSep (Finset.Ico n 28) fun v => dutyTok ER (cell (up st c) (credI st v)) (v / 2) 0
/-- The credits to come from `n` on. -/
def CrK (c : Dev nD) (st : Fin 4) (n : ℕ) : sProp 𝕄 := bigSep (Finset.Ico n 28) fun v => cred (tallyAt (cell c (credI st v)) v 1)

/-- The ledger after `s` sends, `r` receives, `k` credits given and `w` taken. -/
def Led (c : Dev nD) (st : Fin 4) (s r k w : ℕ) : sProp 𝕄 :=
  iprop(Tk c st s ∗ CrR c st r ∗ TkC c st k ∗ CrK c st w ∗ pos2 c (sendI st) r ∗ pos2 c (recvI st) r ∗ pos2 c (credI st) w)

theorem Tk_pop (c : Dev nD) (st : Fin 4) {n : ℕ} (h : n < 30) :
    (Tk c st n : sProp 𝕄) = iprop((dutyTok ER (cell (dn st c) (recvI st n)) (n / 2) 0 ∗ dutyTok ER (cell c (sendI st n)) (n / 2) 0) ∗ Tk c st (n + 1)) :=
  bigSep_Ico_succ_bot h _
theorem CrR_pop (c : Dev nD) (st : Fin 4) {n : ℕ} (h : n < 30) :
    (CrR c st n : sProp 𝕄) = iprop(cred (tallyAt (cell c (recvI st n)) n N) ∗ CrR c st (n + 1)) := bigSep_Ico_succ_bot h _
theorem TkC_pop (c : Dev nD) (st : Fin 4) {n : ℕ} (h : n < 28) :
    (TkC c st n : sProp 𝕄) = iprop(dutyTok ER (cell (up st c) (credI st n)) (n / 2) 0 ∗ TkC c st (n + 1)) := bigSep_Ico_succ_bot h _
theorem CrK_pop (c : Dev nD) (st : Fin 4) {n : ℕ} (h : n < 28) :
    (CrK c st n : sProp 𝕄) = iprop(cred (tallyAt (cell c (credI st n)) n 1) ∗ CrK c st (n + 1)) := bigSep_Ico_succ_bot h _

theorem above_update {B : Fin 4 → Pr} {st : Fin 4} {n : ℕ} {p : Pr} (h : ∀ s, s ≠ st → Above n (B s)) (hp : Above n p) :
    ∀ s, Above n (Function.update B st p s) := by
  intro s
  by_cases hs : s = st
  · subst hs; rw [Function.update_self]; exact hp
  · rw [Function.update_of_ne hs]; exact h s hs

/-- That `c` has reached the round of use `v` of its credit semaphore. -/
theorem pos2_reached (c : Dev nD) (I : ℕ → Ci) (v : ℕ) : pos2 (F := F) c I (v - 1) ⊢ reached ER (cell c (I v)) (v / 2) := by
  unfold pos2 pos
  iintro ⟨⟨-, #H⟩, -, #H'⟩
  cases v with
  | zero => iexact H
  | succ v => iexact H'

/-- Send `v`. -/
theorem step_send (c : Dev nD) (st : Fin 4) (v k x : ℕ) (B : Fin 4 → Pr) (hv : v < 30)
    (src dst : Memref sig .tc .vmem S64x1024 .bf16) (X : Vec F S64x1024 .bf16) (hN : dst.view.dmaCredit = N)
    (hp₁ : ow c src X ⊢ sendPay A c st v)
    (hp₂ : iprop(ow (dn st c) dst X ∗ reached ER (cell c (credI st v)) (v / 2)) ⊢ recvPay A (dn st c) st v)
    {hsrc : src.view.WordExact} {hdst : dst.view.WordExact}
    {hsem : DmaTarget.Typed .vmem (.dma (recvSem st (slot v))) (.remote (Dev.tc (dn st c) : Thread nD τ) dst (.dma (sendSem st (slot v))) rfl)} :
    Tr A K c iprop(Ow c (owedS c (Function.update B st ⟨v, k, x⟩)) ∗ Led c st v v k (v - 1) ∗ ow c src X ∗ owE (dn st c) dst
        ∗ reached ER (cell (dn st c) (recvI st v)) (v / 2))
      (Prog.lift (.enqueueDma src (.remote (Dev.tc (dn st c)) dst (.dma (sendSem st (slot v)))) (.dma (recvSem st (slot v))) hsrc hdst hsem))
      iprop(Ow c (owedS c (Function.update B st ⟨v + 1, k, x⟩)) ∗ Led c st (v + 1) v k (v - 1) ∗ cred (tallyAt (cell c (sendI st v)) v N)) := by
  have hdut : ∀ r, r < 15 → (0 : Fin 3) ∈ (if r < 15 then ({0} : Finset (Fin 3)) else ∅) := fun r h => by rw [if_pos h]; exact Finset.mem_singleton_self _
  have h := (tr_send (A := A) (K := K) c (dn st c) (sendI st v) (recvI st v) (v / 2) (v / 2) rfl rfl src dst X
    (reached ER (cell c (credI st v)) (v / 2)) _ _ v v (owed_send c B st v k x hv) (hdut _ (by omega)) (hdut _ (by omega)) rfl rfl hN
    (by rw [pay_send]; exact hp₁) (by rw [pay_recv]; exact hp₂) (hsrc := hsrc) (hdst := hdst) (hsem := hsem)).frame
      (R := iprop(Tk c st (v + 1) ∗ CrR c st v ∗ TkC c st k ∗ CrK c st (v - 1) ∗ pos2 c (sendI st) v ∗ pos2 c (recvI st) v ∗ pos2 c (credI st) (v - 1)))
  refine h.conseq ?_ ?_
  · unfold Led
    rw [Tk_pop c st hv]
    iintro ⟨-, HO, ⟨⟨⟨Ht1, Ht2⟩, HT⟩, HR, HC, HK, HPs, HPr, HPc⟩, Hs, Hd, #Hre⟩
    ihave #Hcr := (pos2_reached c (credI st) v) $$ HPc
    ihave #Hse := (show pos2 (F := F) c (sendI st) v ⊢ reached ER (cell c (sendI st v)) (v / 2) by
      unfold pos2 pos; iintro ⟨⟨-, #H⟩, -⟩; iexact H) $$ HPs
    isplitl [HO Hs Hd Ht1 Ht2]
    · isplitl [HO]; · iexact HO
      isplitl [Hs]; · iexact Hs
      isplitl [Hd]; · iexact Hd
      isplitr; · iexact Hcr
      isplitl [Ht2]; · iexact Ht2
      isplitr; · iexact Hse
      isplitl [Ht1]; · iexact Ht1
      iexact Hre
    · isplitl [HT]; · iexact HT
      isplitl [HR]; · iexact HR
      isplitl [HC]; · iexact HC
      isplitl [HK]; · iexact HK
      isplitl [HPs]; · iexact HPs
      isplitl [HPr] <;> iassumption
  · unfold Led
    iintro ⟨⟨HO, Hc⟩, HT⟩
    isplitl [HO]; · iexact HO
    isplitl [HT]; · iexact HT
    iexact Hc

/-- The waits for both ends of send `v`. -/
theorem step_recv (c : Dev nD) (st : Fin 4) (v k x : ℕ) (B : Fin 4 → Pr) (hv : v < 30) (hk : k = v ∨ 28 ≤ k) (hx : v < 15 ∨ 1 ≤ x)
    (hB : ∀ s, s ≠ st → Above (2 * v + 2) (B s))
    (m₁ m₂ m₃ m₄ : Memref sig .tc .vmem S64x1024 .bf16) (h₂ : m₂.view.dmaCredit = N) (h₄ : m₄.view.dmaCredit = N)
    {p₁ : m₁.view.WordExact} {p₂ : m₂.view.WordExact} {p₃ : m₃.view.WordExact} {p₄ : m₄.view.WordExact} :
    Tr A K c iprop(Ow c (owedS c (Function.update B st ⟨v + 1, k, x⟩)) ∗ Led c st (v + 1) v k (v - 1) ∗ cred (tallyAt (cell c (sendI st v)) v N))
      (Prog.lift (.waitDma2 (sendSem st (slot v)) m₁ m₂ p₁ p₂) >>= fun _ => Prog.lift (.waitDma2 (recvSem st (slot v)) m₃ m₄ p₃ p₄))
      iprop((Ow c (owedS c (Function.update B st ⟨v + 1, k, x⟩)) ∗ Led c st (v + 1) (v + 1) k (v - 1)) ∗ sendPay A c st v ∗ recvPay A c st v) := by
  have hdut : (if v / 2 < 15 then ({0} : Finset (Fin 3)) else ∅) = {0} := if_pos (by omega)
  have hab : ∀ s, Above (2 * v + 2) (Function.update B st ⟨v + 1, k, x⟩ s) := above_update hB ⟨by dsimp only; omega, by dsimp only; omega, by dsimp only; omega⟩
  have h1 := (tr_wait2 (A := A) (K := K) c (sendI st) v (2 * v + 2) (by unfold sendI; rw [slot_add_two]) _ (w := .waitDma2 (sendSem st (slot v)) m₁ m₂ p₁ p₂)
    (wpE_waitDma2_eq 𝒱₀ (c : Thread nD τ) none Set.univ) hdut h₂ hv (by rw [lv_cell]; exact Nat.zero_le _) hab).frame
      (R := iprop(Tk c st (v + 1) ∗ CrR c st v ∗ TkC c st k ∗ CrK c st (v - 1) ∗ pos2 c (recvI st) v ∗ pos2 c (credI st) (v - 1)))
  have h2 := (tr_wait2 (A := A) (K := K) c (recvI st) v (2 * v + 2) (by unfold recvI; rw [slot_add_two]) _ (w := .waitDma2 (recvSem st (slot v)) m₃ m₄ p₃ p₄)
    (wpE_waitDma2_eq 𝒱₀ (c : Thread nD τ) none Set.univ) hdut h₄ hv (by rw [lv_cell]) hab).frame
      (R := iprop((Tk c st (v + 1) ∗ CrR c st (v + 1) ∗ TkC c st k ∗ CrK c st (v - 1) ∗ pos2 c (sendI st) (v + 1) ∗ pos2 c (credI st) (v - 1)) ∗ sendPay A c st v))
  refine Tr.bind (h1.conseq ?_ (BI.Entails.refl _)) (h2.conseq ?_ ?_)
  · unfold Led
    iintro ⟨-, HO, ⟨HT, HR, HC, HK, HPs, HPr, HPc⟩, Hs⟩
    isplitl [HO Hs HPs]
    · isplitl [HO]; · iexact HO
      isplitl [Hs]; · iexact Hs
      iexact HPs
    · isplitl [HT]; · iexact HT
      isplitl [HR]; · iexact HR
      isplitl [HC]; · iexact HC
      isplitl [HK]; · iexact HK
      isplitl [HPr] <;> iassumption
  · rw [CrR_pop c st hv, pay_send]
    iintro ⟨-, ⟨HO, HPs, Hp⟩, HT, ⟨HR1, HR⟩, HC, HK, HPr, HPc⟩
    isplitl [HO HR1 HPr]
    · isplitl [HO]; · iexact HO
      isplitl [HR1]; · iexact HR1
      iexact HPr
    · isplitr [Hp]
      · isplitl [HT]; · iexact HT
        isplitl [HR]; · iexact HR
        isplitl [HC]; · iexact HC
        isplitl [HK]; · iexact HK
        isplitl [HPs] <;> iassumption
      · iexact Hp
  · unfold Led
    rw [pay_recv]
    iintro ⟨⟨HO, HPr, Hp⟩, ⟨HT, HR, HC, HK, HPs, HPc⟩, Hq⟩
    isplitr [Hp Hq]
    · isplitl [HO]; · iexact HO
      isplitl [HT]; · iexact HT
      isplitl [HR]; · iexact HR
      isplitl [HC]; · iexact HC
      isplitl [HK]; · iexact HK
      isplitl [HPs]; · iexact HPs
      isplitl [HPr] <;> iassumption
    · isplitl [Hq] <;> iassumption

/-- Credit `v` given. -/
theorem step_sig (c : Dev nD) (st : Fin 4) (v w x : ℕ) (B : Fin 4 → Pr) (hv : v < 28) :
    Tr A K c iprop((Ow c (owedS c (Function.update B st ⟨v + 1, v, x⟩)) ∗ Led c st (v + 1) (v + 1) v w) ∗ reached ER (cell (up st c) (credI st v)) (v / 2)
        ∗ (if v < 13 then owE c (stageS st (slot v)) else iprop(emp)))
      (semSignalWord (up st c) (credSem st (slot v)) 1#32)
      iprop(Ow c (owedS c (Function.update B st ⟨v + 1, v + 1, x⟩)) ∗ Led c st (v + 1) (v + 1) (v + 1) w) := by
  have hdut : (0 : Fin 3) ∈ (if v / 2 < 14 then ({0} : Finset (Fin 3)) else ∅) := by rw [if_pos (by omega)]; exact Finset.mem_singleton_self _
  have h := (tr_signal (A := A) (K := K) c (up st c) (credI st v) (credSem st (slot v)) rfl (v / 2) 0 v _ _ hdut rfl
    (owed_cred c B st (v + 1) v x hv)).frame
      (R := iprop(Tk c st (v + 1) ∗ CrR c st (v + 1) ∗ TkC c st (v + 1) ∗ CrK c st w ∗ pos2 c (sendI st) (v + 1) ∗ pos2 c (recvI st) (v + 1) ∗ pos2 c (credI st) w))
  refine h.conseq ?_ ?_
  · unfold Led
    rw [TkC_pop c st hv, pay_cred]
    unfold credPay
    rw [dn_up]
    iintro ⟨-, ⟨HO, HT, HR, ⟨HC1, HC⟩, HK, HPs, HPr, HPc⟩, #Hre, Hd⟩
    ihave #Hse := (show pos2 (F := F) c (recvI st) (v + 1) ⊢ reached ER (cell c (recvI st (v + 2))) ((v + 2) / 2) by
      unfold pos2 pos; iintro ⟨-, -, #H⟩; iexact H) $$ HPr
    isplitl [HO HC1 Hd]
    · isplitl [HO]; · iexact HO
      isplitl [HC1]; · iexact HC1
      isplitr; · iexact Hre
      isplitl [Hd]; · iexact Hd
      iexact Hse
    · isplitl [HT]; · iexact HT
      isplitl [HR]; · iexact HR
      isplitl [HC]; · iexact HC
      isplitl [HK]; · iexact HK
      isplitl [HPs]; · iexact HPs
      isplitl [HPr] <;> iassumption
  · unfold Led
    iintro ⟨HO, HT⟩
    isplitl [HO] <;> iassumption

/-- The wait for credit `v`. -/
theorem step_cred (c : Dev nD) (st : Fin 4) (v s r k x : ℕ) (B : Fin 4 → Pr) (hv : v < 28) (hs : v + 1 < s) (hk : v < k ∨ 28 ≤ k) (hx : v < 14 ∨ 1 ≤ x)
    (hB : ∀ s, s ≠ st → Above (2 * v + 3) (B s)) :
    Tr A K c iprop(Ow c (owedS c (Function.update B st ⟨s, k, x⟩)) ∗ Led c st s r k v)
      (credWait st (v + 2))
      iprop((Ow c (owedS c (Function.update B st ⟨s, k, x⟩)) ∗ Led c st s r k (v + 1))
        ∗ (if v < 13 then owE (dn st c) (stageS st (slot v)) else iprop(emp)) ∗ reached ER (cell (dn st c) (recvI st (v + 2))) ((v + 2) / 2)) := by
  have hdut : (if v / 2 < 14 then ({0} : Finset (Fin 3)) else ∅) = {0} := if_pos (by omega)
  have hab : ∀ s', Above (2 * v + 3) (Function.update B st ⟨s, k, x⟩ s') := above_update hB ⟨by dsimp only; omega, by dsimp only; omega, by dsimp only; omega⟩
  have h1 := (tr_wait2 (A := A) (K := K) c (credI st) v (2 * v + 3) (by unfold credI; rw [slot_add_two]) _ (w := .semWait (credSem st (slot v)) (1#32 : BitVec 32).toInt.toNat)
    (wpE_semWait_eq 𝒱₀ (c : Thread nD τ) none Set.univ) hdut rfl (by omega) (by rw [lv_cell]) hab).frame
      (R := iprop(Tk c st s ∗ CrR c st r ∗ TkC c st k ∗ CrK c st (v + 1) ∗ pos2 c (sendI st) r ∗ pos2 c (recvI st) r))
  unfold credWait
  rw [slot_add_two]
  refine h1.conseq ?_ ?_
  · unfold Led
    rw [CrK_pop c st hv]
    iintro ⟨-, HO, ⟨HT, HR, HC, ⟨HK1, HK⟩, HPs, HPr, HPc⟩⟩
    isplitl [HO HK1 HPc]
    · isplitl [HO]; · iexact HO
      isplitl [HK1]; · iexact HK1
      iexact HPc
    · isplitl [HT]; · iexact HT
      isplitl [HR]; · iexact HR
      isplitl [HC]; · iexact HC
      isplitl [HK]; · iexact HK
      isplitl [HPs] <;> iassumption
  · unfold Led
    rw [pay_cred]; unfold credPay
    iintro ⟨⟨HO, HPc, Hp⟩, HT, HR, HC, HK, HPs, HPr⟩
    isplitr [Hp]
    · isplitl [HO]; · iexact HO
      isplitl [HT]; · iexact HT
      isplitl [HR]; · iexact HR
      isplitl [HC]; · iexact HC
      isplitl [HK]; · iexact HK
      isplitl [HPs]; · iexact HPs
      isplitl [HPr] <;> iassumption
    · iexact Hp

end Cert.KernelIdeal.AR

end
-- ==== Proof.Reduce.lean ====
module

public import proofs.«01_k».proof.Proof.Steps

@[expose] public section

noncomputable section

/-! # A reduce-scatter stream -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

/-- A family with one of its members changed. -/
theorem bigSep_upd {I : Type} [DecidableEq I] {s : Finset I} {i : I} (hi : i ∈ s) {Φ Ψ : I → sProp 𝕄} (h : ∀ j ∈ s.erase i, Φ j = Ψ j) :
    bigSep s Φ ⊢ iprop(Φ i ∗ (Ψ i -∗ bigSep s Ψ)) := by
  have e1 : bigSep s Φ = iprop(Φ i ∗ bigSep (s.erase i) Φ) := bigSep_erase hi
  have e2 : bigSep s Ψ = iprop(Ψ i ∗ bigSep (s.erase i) Ψ) := bigSep_erase hi
  rw [e1, e2, bigSep_congr h]
  iintro ⟨H, HR⟩
  isplitl [H]; · iexact H
  iintro H
  isplitl [H]; · iexact H
  iexact HR

/-- The accumulator's chunks of a stream after `r` additions. -/
def acc (A : Dev nD → (S1024x4096.Idx → Elt F .f32)) (c : Dev nD) (st : Fin 4) (r : ℕ) : sProp 𝕄 := bigSep (Finset.range 16) fun i =>
  ow c (accK st (lab st c i)) (if i ≤ r then part A st i c else chk A c st (lab st c i))

theorem acc_read (c : Dev nD) (st : Fin 4) {r i : ℕ} (hi : i ≤ r) (h : i < 16) :
    acc A c st r ⊢ iprop(ow c (accK st (lab st c i)) (part A st i c) ∗ (ow c (accK st (lab st c i)) (part A st i c) -∗ acc A c st r)) := by
  have h1 := bigSep_upd (Finset.mem_range.mpr h) (Φ := fun i => ow c (accK st (lab st c i)) (if i ≤ r then part A st i c else chk A c st (lab st c i)))
    (Ψ := fun i => ow c (accK st (lab st c i)) (if i ≤ r then part A st i c else chk A c st (lab st c i))) (fun _ _ => rfl)
  simp only [if_pos hi] at h1
  exact h1
theorem acc_step (c : Dev nD) (st : Fin 4) {r : ℕ} (h : r < 15) :
    acc A c st r ⊢ iprop(ow c (accK st (lab st c (r + 1))) (chk A c st (lab st c (r + 1)))
      ∗ (ow c (accK st (lab st c (r + 1))) (part A st (r + 1) c) -∗ acc A c st (r + 1))) := by
  have h1 := bigSep_upd (i := r + 1) (Finset.mem_range.mpr (show r + 1 < 16 by omega)) (Φ := fun i => ow c (accK st (lab st c i)) (if i ≤ r then part A st i c else chk A c st (lab st c i)))
    (Ψ := fun i => ow c (accK st (lab st c i)) (if i ≤ r + 1 then part A st i c else chk A c st (lab st c i))) (fun j hj => by
      have := Finset.ne_of_mem_erase hj
      by_cases hjr : j ≤ r
      · rw [if_pos hjr, if_pos (show j ≤ r + 1 by omega)]
      · rw [if_neg hjr, if_neg (show ¬ j ≤ r + 1 by omega)])
  simp only [if_neg (show ¬ r + 1 ≤ r by omega), if_pos (le_refl (r + 1))] at h1
  exact h1

theorem stage_credit (st : Fin 4) (s : Fin 2) : (stageS st s).view.dmaCredit = N := rfl
theorem send_credit (st : Fin 4) (s : Fin 2) : (sendS st s).view.dmaCredit = N := rfl
theorem xst_credit (st : Fin 4) : (xstS st).view.dmaCredit = N := rfl
theorem out_credit (st : Fin 4) (k : Fin 16) : (outK st k).view.dmaCredit = N := rfl

theorem toSlot_back (v : Vec F S64x1024 .f32) (h : S1x1x64x1024.ShapeCasts S64x1024) : cvt v = fun j => toSlot v (Shape.reshapeEquiv h j) :=
  (shapeCast_shapeCast (cvt v) shapeCasts_S64x1024_S1x1x64x1024 h).symm

/-- Send `v` of the reduce-scatter. -/
theorem tr_rsSend (c : Dev nD) (st : Fin 4) (v k x : ℕ) (B : Fin 4 → Pr) (hv : v < 15) :
    Tr A K c iprop((Ow c (owedS c (Function.update B st ⟨v, k, x⟩)) ∗ Led c st v v k (v - 1)) ∗ acc A c st v ∗ owE c (sendS st (slot v))
        ∗ owE (dn st c) (stageS st (slot v)) ∗ reached ER (cell (dn st c) (recvI st v)) (v / 2))
      (rsSend (offs c) st v c)
      iprop((Ow c (owedS c (Function.update B st ⟨v + 1, k, x⟩)) ∗ Led c st (v + 1) v k (v - 1) ∗ cred (tallyAt (cell c (sendI st v)) v N)) ∗ acc A c st v) := fun Kt => by
  unfold rsSend
  simp only [Prog.lift, Prog.bind_op, Prog.bind_ret]
  iintro ⟨#Hr, ⟨⟨HO, HL⟩, Hacc, Hs, Hd, #Hre⟩, Hk⟩
  ihave Ha := (acc_read (A := A) c st (le_refl v) (by omega)) $$ Hacc
  icases Ha with ⟨Ha, Hacc⟩
  iapply (ld c accM (chR st (lab st c v)) (fun _ => rfl) (part A st v c)) $$ Ha
  iintro Ha
  icases Hs with ⟨%Y, Hs⟩
  iapply (ld_sq c sendM (slotR st (slot v)) (fun _ => rfl) squeezes_S1x1x64x1024_S64x1024 Y) $$ Hs
  iintro %b %hb Hs
  iapply (sto_sq c sendM (slotR st (slot v)) (fun _ => rfl) squeezes_S1x1x64x1024_S64x1024 (toSlot (part A st v c)) (cvt (part A st v c))
    (toSlot_back _ _)) $$ [Hs]
  · iexists Y; iexact Hs
  iintro Hs
  iapply (step_send (A := A) (K := K) c st v k x B (by omega) (sendS st (slot v)) (stageS st (slot v)) (cvt (part A st v c)) rfl
    (by unfold sendPay; rw [if_pos hv]; iintro H; iexists _; iexact H)
    (by unfold recvPay; rw [if_pos hv, up_dn]) Kt)
  isplitr; · iexact Hr
  isplitl [HO HL Hs Hd]
  · isplitl [HO]; · iexact HO
    isplitl [HL]; · iexact HL
    isplitl [Hs]; · iexact Hs
    isplitl [Hd]; · iexact Hd
    iexact Hre
  iintro H
  iapply Hk
  isplitl [H]; · iexact H
  iapply Hacc; iexact Ha

/-- What comes after the waits of receive `u`. -/
def rsAdd (O : Offs) (st : Fin 4) (u : Nat) (c : Dev nD) : Prog (TpuEff nD τ sig (Elt F) Λ₀ .tc) PUnit := do
  let a : Vec F S64x1024 .f32 ← Prog.lift (.load accM (chunkR (O.hrs st (u + 1))).toLoadRect (View.loadsAt_vmem h_S64x1024))
  let b : Vec F S1x1x64x1024 .bf16 ← Prog.lift (.load stageM (slotR st (slot u)).toLoadRect (View.loadsAt_vmem h_S1x1x64x1024))
  let _d : Vec F S64x1024 .f32 ← Prog.lift (.load accM (chunkR (O.hrs st (u + 1))).toLoadRect (View.loadsAt_vmem h_S64x1024))
  Prog.lift (.store accM (chunkR (O.hrs st (u + 1)))
    (shapeCast S64x1024 (addIn a (shapeCast S64x1024 b shapeCasts_S1x1x64x1024_S64x1024)) shapeCasts_S64x1024_S64x1024 : FVec F S64x1024 .f32) Finset.univ
    (View.stores_vmem_bits_univ h_S64x1024 rfl) (.inl rfl))
  semSignalWord (up st c) (credSem st (slot u)) 1#32

theorem rsRecv_eq (O : Offs) (st : Fin 4) (u : Nat) (c : Dev nD) : rsRecv (F := F) O st u c
    = ((Prog.lift (.waitDma2 (sendSem st (slot u)) (stageS st (slot u)) (sendS st (slot u))
    (((Memref.isWhole_whole _).wordExact_slice rfl _ (slot_words _ _)).reshape _ _) (((Memref.isWhole_whole _).wordExact_slice rfl _ (slot_words _ _)).reshape _ _)) >>= fun _ =>
      Prog.lift (.waitDma2 (recvSem st (slot u)) (sendS st (slot u)) (stageS st (slot u))
    (((Memref.isWhole_whole _).wordExact_slice rfl _ (slot_words _ _)).reshape _ _) (((Memref.isWhole_whole _).wordExact_slice rfl _ (slot_words _ _)).reshape _ _)))
      >>= fun _ => rsAdd O st u c) := rfl

/-- The slot a receive hands back to the other end, or keeps at the last two. -/
def keptX (c : Dev nD) (st : Fin 4) (u : ℕ) : sProp 𝕄 := if u < 13 then iprop(emp) else owE c (stageS st (slot u))

theorem keptX_if (c : Dev nD) (st : Fin 4) {u : ℕ} (h : u + 1 < 14) :
    (keptX c st (u + 1) : sProp 𝕄) = if u + 1 + 1 = 14 then owE c (stageS st 1) else iprop(emp) := by
  unfold keptX
  by_cases h13 : u + 1 < 13
  · rw [if_pos h13, if_neg (show ¬ u + 1 + 1 = 14 by omega)]
  · obtain rfl : u = 12 := by omega
    rw [if_neg h13, if_pos (show 12 + 1 + 1 = 14 from rfl)]; rfl

theorem tr_rsAdd (c : Dev nD) (st : Fin 4) (u w x : ℕ) (B : Fin 4 → Pr) (hu : u < 15) :
    Tr A K c iprop(((Ow c (owedS c (Function.update B st ⟨u + 1, u, x⟩)) ∗ Led c st (u + 1) (u + 1) u w) ∗ sendPay A c st u ∗ recvPay A c st u) ∗ acc A c st u)
      (rsAdd (offs c) st u c)
      iprop((Ow c (owedS c (Function.update B st ⟨u + 1, u + 1, x⟩)) ∗ Led c st (u + 1) (u + 1) (u + 1) w) ∗ acc A c st (u + 1) ∗ owE c (sendS st (slot u)) ∗ keptX c st u) := fun Kt => by
  unfold rsAdd sendPay recvPay
  rw [if_pos hu, if_pos hu]
  simp only [Prog.lift, Prog.bind_op, Prog.bind_ret]
  iintro ⟨#Hr, ⟨⟨HO, Hs, Hd, #Hre⟩, Hacc⟩, Hk⟩
  ihave Ha := (acc_step (A := A) c st hu) $$ Hacc
  icases Ha with ⟨Ha, Hacc⟩
  iapply (ld c accM (chR st (lab st c (u + 1))) (fun _ => rfl) (chk A c st (lab st c (u + 1)))) $$ Ha
  iintro Ha
  iapply (ld_sq c stageM (slotR st (slot u)) (fun _ => rfl) squeezes_S1x1x64x1024_S64x1024 (cvt (part A st u (up st c)))) $$ Hd
  iintro %b %hb Hd
  iapply (ld c accM (chR st (lab st c (u + 1))) (fun _ => rfl) (chk A c st (lab st c (u + 1)))) $$ Ha
  iintro Ha
  have hw : (shapeCast S64x1024 (addIn (chk A c st (lab st c (u + 1))) (shapeCast S64x1024 b shapeCasts_S1x1x64x1024_S64x1024)) shapeCasts_S64x1024_S64x1024 : FVec F S64x1024 .f32)
      = part A st (u + 1) c := by
    rw [shapeCast_self]; unfold part; rw [hb]; rfl
  rw [hw]
  iapply (sto c accM (chR st (lab st c (u + 1))) (fun _ => rfl) (part A st (u + 1) c)) $$ [Ha]
  · iexists _; iexact Ha
  iintro Ha
  iapply (step_sig (A := A) (K := K) c st u w x B (by omega) Kt)
  isplitr; · iexact Hr
  unfold keptX
  by_cases h13 : u < 13
  · rw [if_pos h13, if_pos h13]
    isplitl [HO Hd]
    · isplitl [HO]; · iexact HO
      isplitr; · iexact Hre
      iexists _; iexact Hd
    iintro H
    iapply Hk
    isplitl [H]; · iexact H
    isplitl [Ha Hacc]; · iapply Hacc; iexact Ha
    isplitl [Hs]; · iexact Hs
    iempintro
  · rw [if_neg h13, if_neg h13]
    isplitl [HO]
    · isplitl [HO]; · iexact HO
      isplitr; · iexact Hre
      iempintro
    iintro H
    iapply Hk
    isplitl [H]; · iexact H
    isplitl [Ha Hacc]; · iapply Hacc; iexact Ha
    isplitl [Hs]; · iexact Hs
    iexists _; iexact Hd

/-- Receive `u` of the reduce-scatter. -/
theorem tr_rsRecv (c : Dev nD) (st : Fin 4) (u x : ℕ) (B : Fin 4 → Pr) (hu : u < 15) (hB : ∀ s, s ≠ st → Above (2 * u + 2) (B s)) :
    Tr A K c iprop((Ow c (owedS c (Function.update B st ⟨u + 1, u, x⟩)) ∗ Led c st (u + 1) u u (u - 1) ∗ cred (tallyAt (cell c (sendI st u)) u N)) ∗ acc A c st u)
      (rsRecv (offs c) st u c)
      iprop((Ow c (owedS c (Function.update B st ⟨u + 1, u + 1, x⟩)) ∗ Led c st (u + 1) (u + 1) (u + 1) (u - 1)) ∗ acc A c st (u + 1) ∗ owE c (sendS st (slot u)) ∗ keptX c st u) := by
  rw [rsRecv_eq]
  exact Tr.bind (Tr.frame (step_recv c st u u x B (by omega) (.inl rfl) (.inl hu) hB (stageS st (slot u)) (sendS st (slot u)) (sendS st (slot u)) (stageS st (slot u)) (send_credit _ _) (stage_credit _ _))) (tr_rsAdd c st u (u - 1) x B hu)

/-- A stream between send `u` and receive `u`. -/
def SR (A : Dev nD → (S1024x4096.Idx → Elt F .f32)) (c : Dev nD) (st : Fin 4) (u : ℕ) : sProp 𝕄 :=
  iprop((Led c st (u + 1) u u (u - 1) ∗ cred (tallyAt (cell c (sendI st u)) u N)) ∗ acc A c st u ∗ owE c (sendS st (slot (u + 1)))
    ∗ (if u = 0 then owE (dn st c) (stageS st 1) else iprop(emp)) ∗ (if u = 14 then owE c (stageS st 1) else iprop(emp)))
/-- A stream after its last receive. -/
def SE (A : Dev nD → (S1024x4096.Idx → Elt F .f32)) (c : Dev nD) (st : Fin 4) : sProp 𝕄 :=
  iprop(Led c st 15 15 15 13 ∗ acc A c st 15 ∗ (owE c (sendS st 0) ∗ owE c (sendS st 1)) ∗ owE c (stageS st 0) ∗ owE c (stageS st 1))
def SRx (A : Dev nD → (S1024x4096.Idx → Elt F .f32)) (c : Dev nD) (st : Fin 4) (u : ℕ) : sProp 𝕄 := if u < 15 then SR A c st u else SE A c st
/-- How far it is then. -/
def prR (u : ℕ) : Pr := ⟨min (u + 1) 15, u, 0⟩

theorem prR_above {u : ℕ} (h : u < 15) : Above (2 * u + 2) (prR u) ∧ Above (2 * u + 2) (prR (u + 1)) := by
  unfold prR Above; dsimp only; omega

/-- One turn of a reduce-scatter stream. -/
theorem tr_rsIter (c : Dev nD) (st : Fin 4) (u : ℕ) (B : Fin 4 → Pr) (hu : u < 15) (hB : ∀ s, s ≠ st → Above (2 * u + 2) (B s)) :
    Tr A K c iprop(Ow c (owedS c (Function.update B st (prR u))) ∗ SRx A c st u)
      (rsIter (offs c) st u c)
      iprop(Ow c (owedS c (Function.update B st (prR (u + 1)))) ∗ SRx A c st (u + 1)) := by
  have h1 := (tr_rsRecv (A := A) (K := K) c st u 0 B hu hB).frame (R := iprop(owE c (sendS st (slot (u + 1)))
    ∗ (if u = 0 then owE (dn st c) (stageS st 1) else iprop(emp)) ∗ (if u = 14 then owE c (stageS st 1) else iprop(emp))))
  unfold rsIter
  refine Tr.bind (h1.conseq ?_ (BI.Entails.refl _)) ?_
  · unfold SRx SR prR; rw [if_pos hu, Nat.min_eq_left (by omega)]
    iintro ⟨-, HO, ⟨HL, HC⟩, Hacc, H⟩
    isplitr [H]
    · isplitl [HO HL HC]
      · isplitl [HO]; · iexact HO
        isplitl [HL] <;> iassumption
      · iexact Hacc
    · iexact H
  rcases u with _ | u
  · -- the second send needs no credit
    have h2 := (tr_rsSend (A := A) (K := K) c st 1 1 0 B (by omega)).frame (R := owE c (sendS st 0))
    refine h2.conseq ?_ ?_
    · rw [if_pos rfl, if_neg (by omega)]
      unfold keptX; rw [if_pos (by omega)]
      iintro ⟨#Hr, ⟨HL, Hacc, Hs, -⟩, Hs', Hd, -⟩
      isplitr [Hs]
      · isplitl [HL]; · iexact HL
        isplitl [Hacc]; · iexact Hacc
        isplitl [Hs']; · iexact Hs'
        isplitl [Hd]; · iexact Hd
        iapply (recs_reached A K (dn st c) (recvI st 1)); iexact Hr
      · iexact Hs
    · unfold SRx SR prR; rw [if_pos (by omega), if_neg (by omega), if_neg (by omega)]
      iintro ⟨⟨⟨HO, HL, HC⟩, Hacc⟩, Hs⟩
      isplitl [HO]; · iexact HO
      isplitl [HL HC]; · isplitl [HL] <;> iassumption
      isplitl [Hacc]; · iexact Hacc
      isplitl [Hs]; · iexact Hs
      isplitl <;> iempintro
  · by_cases h14 : u + 1 < 14
    · dsimp only
      rw [if_pos h14]
      have h2 := (step_cred (A := A) (K := K) c st u (u + 2) (u + 2) (u + 2) 0 B (by omega) (by omega) (.inl (by omega)) (.inl (by omega))
        (fun s hs => ⟨by have := (hB s hs).1; omega, by have := (hB s hs).2.1; omega, by have := (hB s hs).2.2; omega⟩)).frame
        (R := iprop(acc A c st (u + 2) ∗ (owE c (sendS st (slot (u + 1))) ∗ owE c (sendS st (slot (u + 2)))) ∗ keptX c st (u + 1)))
      have h3 := (tr_rsSend (A := A) (K := K) c st (u + 2) (u + 2) 0 B (by omega)).frame
        (R := iprop(owE c (sendS st (slot (u + 1))) ∗ keptX c st (u + 1)))
      refine Tr.bind (h2.conseq ?_ (BI.Entails.refl _)) (h3.conseq ?_ ?_)
      · iintro ⟨-, ⟨HL, Hacc, Hs, Hkx⟩, Hs', -, -⟩
        isplitl [HL]; · iexact HL
        isplitl [Hacc]; · iexact Hacc
        isplitl [Hs Hs']; · isplitl [Hs] <;> iassumption
        iexact Hkx
      · rw [if_pos (by omega), slot_add_two]
        iintro ⟨-, ⟨HL, Hd, #Hre⟩, Hacc, ⟨Hs, Hs'⟩, Hkx⟩
        isplitl [HL Hacc Hs' Hd]
        · isplitl [HL]; · iexact HL
          isplitl [Hacc]; · iexact Hacc
          isplitl [Hs']; · iexact Hs'
          isplitl [Hd]; · iexact Hd
          iexact Hre
        · isplitl [Hs] <;> iassumption
      · unfold SRx SR prR; rw [if_pos (by omega), if_neg (by omega), Nat.min_eq_left (by omega), show u + 1 + 1 + 1 = (u + 1) + 2 from rfl, slot_add_two, keptX_if c st h14]
        iintro ⟨⟨⟨HO, HL, HC⟩, Hacc⟩, Hs, Hkx⟩
        isplitl [HO]; · iexact HO
        isplitl [HL HC]; · isplitl [HL] <;> iassumption
        isplitl [Hacc]; · iexact Hacc
        isplitl [Hs]; · iexact Hs
        isplitr; · iempintro
        iexact Hkx
    · obtain rfl : u = 13 := by omega
      dsimp only
      rw [if_neg h14]
      refine Tr.pure ?_
      unfold SRx SE prR keptX
      rw [if_neg (show ¬ 13 + 1 < 13 by omega), if_neg (show ¬ 13 + 1 = 0 by omega), if_pos (show 13 + 1 = 14 from rfl), if_neg (show ¬ 13 + 1 + 1 < 15 by omega),
        show slot (13 + 1) = 0 from rfl, show slot (13 + 1 + 1) = 1 from rfl]
      iintro ⟨⟨⟨HO, HL⟩, Hacc, Hs, Hkx⟩, Hs', -, Hk'⟩
      isplitl [HO]; · iexact HO
      isplitl [HL]; · iexact HL
      isplitl [Hacc]; · iexact Hacc
      isplitl [Hs Hs']; · isplitl [Hs] <;> iassumption
      isplitl [Hkx] <;> iassumption

end Cert.KernelIdeal.AR

end
-- ==== Proof.Gather.lean ====
module

public import proofs.«01_k».proof.Proof.Reduce

@[expose] public section

noncomputable section

/-! # The exchange with the mirror device, and an all-gather stream -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

/-! ## The exchange -/

/-- What a stream needs for it: to send … -/
def XS (c : Dev nD) (st : Fin 4) : sProp 𝕄 :=
  iprop(dutyTok ER (cell (mir c) (xrI st)) 0 0 ∗ dutyTok ER (cell c (xsI st)) 0 0 ∗ owE (mir c) (xstS st))
/-- … and to receive. -/
def XR (c : Dev nD) (st : Fin 4) (r : ℕ) : sProp 𝕄 := iprop(pos c (xsI st) r ∗ pos c (xrI st) r)

theorem sub_zero16 : ∀ a : Fin 16, a - Fin.ofNat 16 0 = a := by decide
theorem olab_0 (st : Fin 4) (c : Dev nD) : olab st c 0 = dir st (rk st c + 1) := by unfold olab; rw [sub_zero16]

theorem tr_xSend (c : Dev nD) (st : Fin 4) (s k : ℕ) (B : Fin 4 → Pr) :
    Tr A K c iprop(Ow c (owedS c (Function.update B st ⟨s, k, 0⟩)) ∗ acc A c st 15 ∗ owE c (sendS st 0) ∗ XS c st)
      (xSend (offs c) st c)
      iprop((Ow c (owedS c (Function.update B st ⟨s, k, 1⟩)) ∗ cred (tallyAt (cell c (xsI st)) 0 N)) ∗ acc A c st 15) := fun Kt => by
  have hdut : (0 : Fin 3) ∈ (if 0 < 1 then ({0} : Finset (Fin 3)) else ∅) := by decide
  have hacc := acc_read (A := A) c st (le_refl 15) (by omega)
  rw [lab_15] at hacc
  unfold xSend XS
  simp only [Prog.lift, Prog.bind_op, Prog.bind_ret]
  iintro ⟨#Hr, ⟨HO, Hacc, Hs, Ht, Ht', Hd⟩, Hk⟩
  ihave Ha := hacc $$ Hacc
  icases Ha with ⟨Ha, Hacc⟩
  iapply (ld c accM (chR st (dir st (rk st c + 1))) (fun _ => rfl) (part A st 15 c)) $$ Ha
  iintro Ha
  icases Hs with ⟨%Y, Hs⟩
  iapply (ld_sq c sendM (slotR st 0) (fun _ => rfl) squeezes_S1x1x64x1024_S64x1024 Y) $$ Hs
  iintro %b %hb Hs
  iapply (sto_sq c sendM (slotR st 0) (fun _ => rfl) squeezes_S1x1x64x1024_S64x1024 (toSlot (part A st 15 c)) (cvt (part A st 15 c))
    (toSlot_back _ _)) $$ [Hs]
  · iexists Y; iexact Hs
  iintro Hs
  iapply (tr_send (A := A) (K := K) c (mir c) (xsI st) (xrI st) 0 0 rfl rfl (sendS st 0) (xstS st) (cvt (part A st 15 c))
    iprop(emp) _ _ 0 0 (owed_x c B st s k) hdut hdut rfl rfl rfl
    (by unfold pay; iintro H; iexists _; iexact H)
    (by unfold pay; rw [mir_mir]; iintro ⟨H, -⟩; iexact H) Kt)
  isplitr; · iexact Hr
  isplitl [HO Hs Hd Ht Ht']
  · isplitl [HO]; · iexact HO
    isplitl [Hs]; · iexact Hs
    isplitl [Hd]; · iexact Hd
    isplitr; · iempintro
    isplitl [Ht']; · iexact Ht'
    isplitr; · iapply (recs_reached A K c (xsI st)); iexact Hr
    isplitl [Ht]; · iexact Ht
    iapply (recs_reached A K (mir c) (xrI st)); iexact Hr
  iintro H
  iapply Hk
  isplitl [H]; · iexact H
  iapply Hacc; iexact Ha

/-- What comes after the waits of the exchange. -/
def xAdd (O : Offs) (st : Fin 4) : Prog (TpuEff nD τ sig (Elt F) Λ₀ .tc) PUnit := do
  let a : Vec F S64x1024 .f32 ← Prog.lift (.load accM (chunkR (O.hown st)).toLoadRect (View.loadsAt_vmem h_S64x1024))
  let b : Vec F S1x64x1024 .bf16 ← Prog.lift (.load xstM (xslotR st).toLoadRect (View.loadsAt_vmem h_S1x64x1024))
  let _d : Vec F S64x1024 .bf16 ← Prog.lift (.load outM (chunkR (O.hown st)).toLoadRect (View.loadsAt_vmem h_S64x1024))
  Prog.lift (.store outM (chunkR (O.hown st)) (cvt (addIn a (shapeCast S64x1024 b shapeCasts_S1x64x1024_S64x1024))) Finset.univ
    (View.stores_vmem h_S64x1024 ((Memref.isWhole_whole _).storeExact_slice rfl _ (packed_of (O.hown st))) (fun _ => rfl)) (.inl rfl))

theorem xRecv_eq (O : Offs) (st : Fin 4) : xRecv (F := F) O st
    = (Prog.lift (.waitDma2 (xsendSem st) (xstS st) (sendS st 0)
    (((Memref.isWhole_whole _).wordExact_slice rfl _ (xslot_words _)).reshape _ _) (((Memref.isWhole_whole _).wordExact_slice rfl _ (slot_words _ _)).reshape _ _)) >>= fun _ =>
      Prog.lift (.waitDma2 (xrecvSem st) (sendS st 0) (xstS st)
    (((Memref.isWhole_whole _).wordExact_slice rfl _ (slot_words _ _)).reshape _ _) (((Memref.isWhole_whole _).wordExact_slice rfl _ (xslot_words _)).reshape _ _)) >>= fun _ => xAdd O st) := rfl

theorem tr_xAdd (c : Dev nD) (st : Fin 4) :
    Tr A K c iprop((ow c (xstS st) (cvt (part A st 15 (mir c))) ∗ acc A c st 15) ∗ owE c (outK st (olab st c 0)))
      (xAdd (offs c) st)
      iprop((owE c (xstS st) ∗ acc A c st 15) ∗ ow c (outK st (olab st c 0)) (gval A st 0 c)) := fun Kt => by
  have hacc := acc_read (A := A) c st (le_refl 15) (by omega)
  rw [lab_15] at hacc
  rw [olab_0]
  unfold xAdd
  simp only [Prog.lift, Prog.bind_op, Prog.bind_ret]
  iintro ⟨#Hr, ⟨⟨Hs, Hacc⟩, Ho⟩, Hk⟩
  ihave Ha := hacc $$ Hacc
  icases Ha with ⟨Ha, Hacc⟩
  iapply (ld c accM (chR st (dir st (rk st c + 1))) (fun _ => rfl) (part A st 15 c)) $$ Ha
  iintro Ha
  iapply (ld_sq c xstM (xslotR st) (fun _ => rfl) squeezes_S1x64x1024_S64x1024 (cvt (part A st 15 (mir c)))) $$ Hs
  iintro %b %hb Hs
  icases Ho with ⟨%Y, Ho⟩
  iapply (ld c outM (chR st (dir st (rk st c + 1))) (fun _ => rfl) Y) $$ Ho
  iintro Ho
  have hw : (cvt (addIn (part A st 15 c) (shapeCast S64x1024 b shapeCasts_S1x64x1024_S64x1024)) : FVec F S64x1024 .bf16) = gval A st 0 c := by
    unfold gval ownv; rw [hb]; rfl
  rw [hw]
  iapply (sto c outM (chR st (dir st (rk st c + 1))) (fun _ => rfl) (gval A st 0 c)) $$ [Ho]
  · iexists _; iexact Ho
  iintro Ho
  unfold WP; rw [wp_ret]; imodintro
  iapply Hk
  isplitr [Ho]
  · isplitl [Hs]; · iexists _; iexact Hs
    iapply Hacc; iexact Ha
  · iexact Ho

/-- A stream's waits at the exchange, and the store of its finished chunk. -/
theorem tr_xRecv (c : Dev nD) (st : Fin 4) (B : Fin 4 → Pr) (hB : ∀ s, Above 31 (B s)) :
    Tr A K c iprop(Ow c (owedS c B) ∗ (cred (tallyAt (cell c (xsI st)) 0 N) ∗ cred (tallyAt (cell c (xrI st)) 0 N)) ∗ XR c st 0 ∗ acc A c st 15 ∗ owE c (outK st (olab st c 0)))
      (xRecv (offs c) st)
      iprop(Ow c (owedS c B) ∗ XR c st 1 ∗ acc A c st 15 ∗ owE c (sendS st 0) ∗ owE c (xstS st) ∗ ow c (outK st (olab st c 0)) (gval A st 0 c)) := by
  have h1 := (tr_wait (A := A) (K := K) c (xsI st) 0 0 31 B (w := .waitDma2 (xsendSem st) (xstS st) (sendS st 0)
    (((Memref.isWhole_whole _).wordExact_slice rfl _ (xslot_words _)).reshape _ _) (((Memref.isWhole_whole _).wordExact_slice rfl _ (slot_words _ _)).reshape _ _))
    (wpE_waitDma2_eq 𝒱₀ (c : Thread nD τ) none Set.univ) rfl (send_credit _ _) (by omega) (by rw [lv_cell]; exact Nat.zero_le _) hB).frame
      (R := iprop(cred (tallyAt (cell c (xrI st)) 0 N) ∗ pos c (xrI st) 0 ∗ acc A c st 15 ∗ owE c (outK st (olab st c 0))))
  have h2 := (tr_wait (A := A) (K := K) c (xrI st) 0 0 31 B (w := .waitDma2 (xrecvSem st) (sendS st 0) (xstS st)
    (((Memref.isWhole_whole _).wordExact_slice rfl _ (slot_words _ _)).reshape _ _) (((Memref.isWhole_whole _).wordExact_slice rfl _ (xslot_words _)).reshape _ _))
    (wpE_waitDma2_eq 𝒱₀ (c : Thread nD τ) none Set.univ) rfl (xst_credit _) (by omega) (by rw [lv_cell]) hB).frame
      (R := iprop(pos c (xsI st) 1 ∗ owE c (sendS st 0) ∗ acc A c st 15 ∗ owE c (outK st (olab st c 0))))
  have h3 := (tr_xAdd (A := A) (K := K) c st).frame (R := iprop(Ow c (owedS c B) ∗ (pos c (xsI st) 1 ∗ pos c (xrI st) 1) ∗ owE c (sendS st 0)))
  rw [show pay A c (xsI st) 0 0 = owE c (sendS st 0) from rfl] at h1
  rw [show pay A c (xrI st) 0 0 = ow c (xstS st) (cvt (part A st 15 (mir c))) from rfl] at h2
  rw [xRecv_eq]
  refine Tr.bind (h1.conseq ?_ (BI.Entails.refl _)) (Tr.bind (h2.conseq ?_ (BI.Entails.refl _)) (h3.conseq ?_ ?_))
  · unfold XR
    iintro ⟨-, HO, ⟨Hc, Hc'⟩, ⟨Hp, Hp'⟩, Hacc, Ho⟩
    isplitl [HO Hc Hp]
    · isplitl [HO]; · iexact HO
      isplitl [Hc]; · iexact Hc
      iexact Hp
    · isplitl [Hc']; · iexact Hc'
      isplitl [Hp']; · iexact Hp'
      isplitl [Hacc] <;> iassumption
  · iintro ⟨-, ⟨HO, Hp, Hs⟩, Hc', Hp', Hacc, Ho⟩
    isplitl [HO Hc' Hp']
    · isplitl [HO]; · iexact HO
      isplitl [Hc']; · iexact Hc'
      iexact Hp'
    · isplitl [Hp]; · iexact Hp
      isplitl [Hs]; · iexact Hs
      isplitl [Hacc] <;> iassumption
  · iintro ⟨-, ⟨HO, Hp', Hx⟩, Hp, Hs, Hacc, Ho⟩
    isplitl [Hx Hacc Ho]
    · isplitl [Hx Hacc]; · isplitl [Hx]; · iexact Hx
                           iexact Hacc
      iexact Ho
    · isplitl [HO]; · iexact HO
      isplitl [Hp Hp']; · isplitl [Hp] <;> iassumption
      iexact Hs
  · unfold XR
    iintro ⟨⟨⟨Hx, Hacc⟩, Ho⟩, HO, HP, Hs⟩
    isplitl [HO]; · iexact HO
    isplitl [HP]; · iexact HP
    isplitl [Hacc]; · iexact Hacc
    isplitl [Hs]; · iexact Hs
    isplitl [Hx] <;> iassumption

/-! ## The all-gather -/

/-- The chunks a device has of the result, in the order they come. -/
def outs (A : Dev nD → (S1024x4096.Idx → Elt F .f32)) (c : Dev nD) (st : Fin 4) (n : ℕ) : sProp 𝕄 :=
  bigSep (Finset.range n) fun w => ow c (outK st (olab st c w)) (gval A st w c)
/-- The chunks it may still write of the result on the device it sends to. -/
def dnO (c : Dev nD) (st : Fin 4) (n : ℕ) : sProp 𝕄 := bigSep (Finset.Ico n 15) fun t => owE (dn st c) (outK st (olab st c t))

theorem dnO_pop (c : Dev nD) (st : Fin 4) {n : ℕ} (h : n < 15) :
    (dnO c st n : sProp 𝕄) = iprop(owE (dn st c) (outK st (olab st c n)) ∗ dnO c st (n + 1)) := bigSep_Ico_succ_bot h _

theorem gval_succ (st : Fin 4) (w : ℕ) (c : Dev nD) : gval A st (w + 1) c = gval A st w (up st c) := by rw [gval]
theorem outC_eq {st : Fin 4} {off : Fin 2 → Nat} (h : ∃ k, off = chunkOff st k) (k : Fin 16) (e : off = chunkOff st k) : outC h = outK st k := by
  subst e; rfl
theorem ags_eq (c : Dev nD) (st : Fin 4) {t : ℕ} (ht : t < 15) : outC ((offs c).hags st t) = outK st (olab st c t) :=
  outC_eq _ _ (by unfold offs olab; dsimp only; rw [Nat.mod_eq_of_lt ht])

/-- Send `t` of the all-gather. -/
theorem tr_agSend (c : Dev nD) (st : Fin 4) (t : ℕ) (B : Fin 4 → Pr) (ht : t < 15) (hB : ∀ s, s ≠ st → Above (2 * (13 + t) + 3) (B s)) :
    Tr A K c iprop((Ow c (owedS c (Function.update B st ⟨15 + t, min (15 + t) 28, 1⟩)) ∗ Led c st (15 + t) (15 + t) (min (15 + t) 28) (13 + t))
        ∗ outs A c st (t + 1) ∗ dnO c st t)
      (agSend (offs c) st t c)
      iprop((Ow c (owedS c (Function.update B st ⟨15 + t + 1, min (15 + t) 28, 1⟩)) ∗ Led c st (15 + t + 1) (15 + t) (min (15 + t) 28) (15 + t - 1)
        ∗ cred (tallyAt (cell c (sendI st (15 + t))) (15 + t) N)) ∗ outs A c st t ∗ dnO c st (t + 1)) := by
  have h1 := (step_cred (A := A) (K := K) c st (13 + t) (15 + t) (15 + t) (min (15 + t) 28) 1 B (by omega) (by omega) (by omega) (by omega) hB).frame
    (R := iprop(outs A c st (t + 1) ∗ dnO c st t))
  have h2 := (step_send (A := A) (K := K) c st (15 + t) (min (15 + t) 28) 1 B (by omega) (outC ((offs c).hags st t)) (outC ((offs c).hags st t)) (gval A st t c)
    ((congrArg (fun m : Memref sig .tc .vmem S64x1024 .bf16 => m.view.dmaCredit) (ags_eq c st ht)).trans (out_credit st _)) (by rw [ags_eq c st ht]; unfold sendPay; rw [if_neg (by omega), show 15 + t - 15 = t by omega])
    (by rw [ags_eq c st ht]; unfold recvPay; rw [if_neg (by omega), show 15 + t - 15 = t by omega, olab_dn]
        rw [gval_succ, up_dn])
    (hsrc := (Memref.isWhole_whole _).wordExact_slice rfl _ (words_of ((offs c).hags st t))) (hdst := (Memref.isWhole_whole _).wordExact_slice rfl _ (words_of ((offs c).hags st t)))
    (hsem := ⟨⟨rfl, Or.inl rfl⟩, trivial⟩)).frame
    (R := iprop(outs A c st t ∗ dnO c st (t + 1)))
  unfold agSend
  rw [show 13 + t + 2 = 15 + t by omega, show 13 + t + 1 = 15 + t - 1 by omega, if_neg (by omega)] at h1
  refine Tr.bind h1 (h2.conseq ?_ ?_)
  · rw [ags_eq c st ht, dnO_pop c st ht]
    unfold outs
    rw [bigSep_range_succ]
    iintro ⟨-, ⟨⟨HO, HL⟩, -, #Hre⟩, ⟨Ho, HU⟩, Hd, HD⟩
    isplitr [HU HD]
    · isplitl [HO]; · iexact HO
      isplitl [HL]; · iexact HL
      isplitl [Ho]; · iexact Ho
      isplitl [Hd]; · iexact Hd
      iexact Hre
    · isplitl [HU] <;> iassumption
  · iintro ⟨⟨HO, HL, HC⟩, HU, HD⟩
    isplitl [HO HL HC]
    · isplitl [HO]; · iexact HO
      isplitl [HL] <;> iassumption
    · isplitl [HU] <;> iassumption

/-- Receive `t` of the all-gather. -/
theorem tr_agRecv (c : Dev nD) (st : Fin 4) (t : ℕ) (B : Fin 4 → Pr) (ht : t < 15) (hB : ∀ s, s ≠ st → Above (2 * (15 + t) + 2) (B s)) :
    Tr A K c iprop((Ow c (owedS c (Function.update B st ⟨15 + t + 1, min (15 + t) 28, 1⟩)) ∗ Led c st (15 + t + 1) (15 + t) (min (15 + t) 28) (15 + t - 1)
        ∗ cred (tallyAt (cell c (sendI st (15 + t))) (15 + t) N)) ∗ outs A c st t)
      (agRecv (offs c) st t)
      iprop((Ow c (owedS c (Function.update B st ⟨15 + t + 1, min (15 + t) 28, 1⟩)) ∗ Led c st (15 + t + 1) (15 + t + 1) (min (15 + t) 28) (15 + t - 1))
        ∗ reached ER (cell (up st c) (credI st (15 + t))) ((15 + t) / 2) ∗ outs A c st (t + 2)) := by
  have h1 := (step_recv (A := A) (K := K) c st (15 + t) (min (15 + t) 28) 1 B (by omega) (by omega) (by omega) hB
    (outC ((offs c).hags st t)) (outC ((offs c).hags st t)) (outC ((offs c).hagr st t)) (outC ((offs c).hagr st t)) rfl rfl
    (p₁ := (Memref.isWhole_whole _).wordExact_slice rfl _ (words_of ((offs c).hags st t))) (p₂ := (Memref.isWhole_whole _).wordExact_slice rfl _ (words_of ((offs c).hags st t)))
    (p₃ := (Memref.isWhole_whole _).wordExact_slice rfl _ (words_of ((offs c).hagr st t))) (p₄ := (Memref.isWhole_whole _).wordExact_slice rfl _ (words_of ((offs c).hagr st t)))).frame
    (R := outs A c st t)
  refine h1.conseq ?_ ?_
  · iintro ⟨-, H⟩; iexact H
  · unfold outs sendPay recvPay
    rw [if_neg (by omega), if_neg (by omega), show 15 + t - 15 = t by omega, bigSep_range_succ, bigSep_range_succ]
    iintro ⟨⟨HO, Hs, Hd, #Hre⟩, HU⟩
    isplitl [HO]; · iexact HO
    isplitr; · iexact Hre
    isplitl [Hd]; · iexact Hd
    isplitl [Hs] <;> iassumption

/-- A stream between send `t` and receive `t` of the all-gather. -/
def SG (A : Dev nD → (S1024x4096.Idx → Elt F .f32)) (c : Dev nD) (st : Fin 4) (t : ℕ) : sProp 𝕄 :=
  iprop((Led c st (15 + t + 1) (15 + t) (min (15 + t) 28) (15 + t - 1) ∗ cred (tallyAt (cell c (sendI st (15 + t))) (15 + t) N)) ∗ outs A c st t ∗ dnO c st (t + 1))
/-- A stream at its end. -/
def SZ (A : Dev nD → (S1024x4096.Idx → Elt F .f32)) (c : Dev nD) (st : Fin 4) : sProp 𝕄 := iprop(Led c st 30 30 28 28 ∗ outs A c st 16)
def SGx (A : Dev nD → (S1024x4096.Idx → Elt F .f32)) (c : Dev nD) (st : Fin 4) (t : ℕ) : sProp 𝕄 := if t < 15 then SG A c st t else SZ A c st
/-- How far it is then. -/
def prG (t : ℕ) : Pr := ⟨min (16 + t) 30, min (15 + t) 28, 1⟩

theorem prG_above {t : ℕ} (h : t < 15) : Above (2 * (15 + t) + 2) (prG t) ∧ Above (2 * (15 + t) + 2) (prG (t + 1)) := by
  unfold prG Above; dsimp only; omega

/-- One turn of an all-gather stream. -/
theorem tr_agIter (c : Dev nD) (st : Fin 4) (t : ℕ) (B : Fin 4 → Pr) (ht : t < 15) (hB : ∀ s, s ≠ st → Above (2 * (15 + t) + 2) (B s)) :
    Tr A K c iprop(Ow c (owedS c (Function.update B st (prG t))) ∗ SGx A c st t)
      (agIter (offs c) st t c)
      iprop(Ow c (owedS c (Function.update B st (prG (t + 1)))) ∗ SGx A c st (t + 1)) := by
  have h1 := (tr_agRecv (A := A) (K := K) c st t B ht hB).frame (R := dnO c st (t + 1))
  unfold agIter
  refine Tr.bind (h1.conseq ?_ (BI.Entails.refl _)) ?_
  · unfold SGx SG prG; rw [if_pos ht, Nat.min_eq_left (show 16 + t ≤ 30 by omega), show 16 + t = 15 + t + 1 by omega]
    iintro ⟨-, HO, ⟨HL, HC⟩, HU, HD⟩
    isplitr [HD]
    · isplitl [HO HL HC]
      · isplitl [HO]; · iexact HO
        isplitl [HL] <;> iassumption
      · iexact HU
    · iexact HD
  by_cases h13 : t < 13
  · rw [if_pos h13]
    have h2 := (step_sig (A := A) (K := K) c st (15 + t) (15 + t - 1) 1 B (by omega)).frame (R := iprop(outs A c st (t + 2) ∗ dnO c st (t + 1)))
    have h3 := tr_agSend (A := A) (K := K) c st (t + 1) B (by omega) (fun s hs => ⟨by have := (hB s hs).1; omega, by have := (hB s hs).2.1; omega, by have := (hB s hs).2.2; omega⟩)
    rw [if_neg (by omega)] at h2
    refine Tr.bind (h2.conseq ?_ (BI.Entails.refl _)) (h3.conseq ?_ ?_)
    · rw [Nat.min_eq_left (show 15 + t ≤ 28 by omega)]
      iintro ⟨-, ⟨HL, #Hre, HU⟩, HD⟩
      isplitl [HL]
      · isplitl [HL]; · iexact HL
        isplitr; · iexact Hre
        iempintro
      · isplitl [HU] <;> iassumption
    · rw [Nat.min_eq_left (show 15 + (t + 1) ≤ 28 by omega), show 15 + t - 1 = 13 + (t + 1) by omega]
      iintro ⟨-, HL, HU⟩
      isplitl [HL] <;> iassumption
    · unfold SGx SG prG; rw [if_pos (by omega), Nat.min_eq_left (show 16 + (t + 1) ≤ 30 by omega), show 16 + (t + 1) = 15 + (t + 1) + 1 by omega]
      iintro ⟨⟨HO, HL, HC⟩, HU, HD⟩
      isplitl [HO]; · iexact HO
      isplitl [HL HC]; · isplitl [HL] <;> iassumption
      isplitl [HU] <;> iassumption
  · rw [if_neg h13]
    by_cases h14 : t < 14
    · rw [if_pos h14]
      obtain rfl : t = 13 := by omega
      have h3 := tr_agSend (A := A) (K := K) c st 14 B (by omega) (fun s hs => ⟨by have := (hB s hs).1; omega, by have := (hB s hs).2.1; omega, by have := (hB s hs).2.2; omega⟩)
      refine h3.conseq ?_ ?_
      · iintro ⟨-, ⟨HL, -, HU⟩, HD⟩
        isplitl [HL]; · iexact HL
        isplitl [HU] <;> iassumption
      · unfold SGx SG prG; rw [if_pos (show 13 + 1 < 15 by omega)]
        iintro ⟨⟨HO, HL, HC⟩, HU, HD⟩
        isplitl [HO]; · iexact HO
        isplitl [HL HC]; · isplitl [HL] <;> iassumption
        isplitl [HU] <;> iassumption
    · rw [if_neg h14]
      obtain rfl : t = 14 := by omega
      refine Tr.pure ?_
      unfold SGx SZ prG; rw [if_neg (show ¬ 14 + 1 < 15 by omega)]
      iintro ⟨⟨⟨HO, HL⟩, -, HU⟩, -⟩
      isplitl [HO]; · iexact HO
      isplitl [HL]; · iexact HL
      iexact HU

end Cert.KernelIdeal.AR

end
-- ==== Proof.Streams.lean ====
module

public import proofs.«01_k».proof.Proof.Gather

@[expose] public section

noncomputable section

/-! # The four streams together -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

theorem bigSep_four (Φ : Fin 4 → sProp 𝕄) : bigSep Finset.univ Φ = iprop(Φ 0 ∗ Φ 1 ∗ Φ 2 ∗ Φ 3) := by
  exact bigSep_univ_eq_bigSepL [0, 1, 2, 3] (by decide) (by decide) Φ

/-- The first `n` streams at `p'`, the others at `p`. -/
def mix (n : ℕ) (p p' : Pr) : Fin 4 → Pr := fun s => if s.val < n then p' else p

theorem mix_or (n : ℕ) (p p' : Pr) (s : Fin 4) : mix n p p' s = p ∨ mix n p p' s = p' := by
  unfold mix; by_cases h : s.val < n
  · right; rw [if_pos h]
  · left; rw [if_neg h]
theorem mix_at (p p' : Pr) (st : Fin 4) : Function.update (mix st.val p p') st p = mix st.val p p' := by
  rw [Function.update_eq_self_iff]; unfold mix; rw [if_neg (Nat.lt_irrefl _)]
theorem mix_next (p p' : Pr) (st : Fin 4) : Function.update (mix st.val p p') st p' = mix (st.val + 1) p p' := by
  funext s
  by_cases h : s = st
  · subst h; rw [Function.update_self]; unfold mix; rw [if_pos (Nat.lt_succ_self _)]
  · rw [Function.update_of_ne h]; unfold mix
    have : s.val ≠ st.val := fun e => h (Fin.ext e)
    by_cases h' : s.val < st.val
    · rw [if_pos h', if_pos (by omega)]
    · rw [if_neg h', if_neg (by omega)]

/-- The same step for each stream in turn. -/
theorem tr_each (c : Dev nD) {f : Fin 4 → Prog (TpuEff nD τ sig (Elt F) Λ₀ .tc) PUnit} {S S' : Fin 4 → sProp 𝕄} (p p' : Pr)
    (h : ∀ st B, (∀ s, s ≠ st → B s = p ∨ B s = p') →
      Tr A K c iprop(Ow c (owedS c (Function.update B st p)) ∗ S st) (f st) iprop(Ow c (owedS c (Function.update B st p')) ∗ S' st)) :
    Tr A K c iprop(Ow c (owedS c fun _ => p) ∗ bigSep Finset.univ S) (each f) iprop(Ow c (owedS c fun _ => p') ∗ bigSep Finset.univ S') := by
  have hh : ∀ st : Fin 4, Tr A K c iprop(Ow c (owedS c (mix st.val p p')) ∗ S st) (f st) iprop(Ow c (owedS c (mix (st.val + 1) p p')) ∗ S' st) := by
    intro st
    have := h st (mix st.val p p') fun s _ => mix_or _ _ _ s
    rw [mix_at, mix_next] at this
    exact this
  have h0 := (hh 0).frame (R := iprop(S 1 ∗ S 2 ∗ S 3))
  have h1 := (hh 1).frame (R := iprop(S' 0 ∗ S 2 ∗ S 3))
  have h2 := (hh 2).frame (R := iprop(S' 0 ∗ S' 1 ∗ S 3))
  have h3 := (hh 3).frame (R := iprop(S' 0 ∗ S' 1 ∗ S' 2))
  have e0 : (fun _ => p) = mix (0 : Fin 4).val p p' := by funext s; unfold mix; exact (if_neg (Nat.not_lt_zero _)).symm
  have e4 : mix ((3 : Fin 4).val + 1) p p' = fun _ => p' := by funext s; unfold mix; exact if_pos s.isLt
  rw [e4] at h3
  rw [bigSep_four, bigSep_four, e0]
  unfold each
  refine Tr.bind (h0.conseq ?_ (BI.Entails.refl _)) (Tr.bind (h1.conseq ?_ (BI.Entails.refl _)) (Tr.bind (h2.conseq ?_ (BI.Entails.refl _)) (h3.conseq ?_ ?_)))
  · iintro ⟨-, HO, H0, HR⟩
    isplitl [HO H0]
    · isplitl [HO] <;> iassumption
    · iexact HR
  · iintro ⟨-, ⟨HO, H0⟩, H1, HR⟩
    isplitl [HO H1]
    · isplitl [HO]; · iexact HO
      iexact H1
    · isplitl [H0] <;> iassumption
  · iintro ⟨-, ⟨HO, H1⟩, H0, H2, H3⟩
    isplitl [HO H2]
    · isplitl [HO]; · iexact HO
      iexact H2
    · isplitl [H0]; · iexact H0
      isplitl [H1] <;> iassumption
  · iintro ⟨-, ⟨HO, H2⟩, H0, H1, H3⟩
    isplitl [HO H3]
    · isplitl [HO]; · iexact HO
      iexact H3
    · isplitl [H0]; · iexact H0
      isplitl [H1] <;> iassumption
  · iintro ⟨⟨HO, H3⟩, H0, H1, H2⟩
    isplitl [HO]; · iexact HO
    isplitl [H0]; · iexact H0
    isplitl [H1]; · iexact H1
    isplitl [H2] <;> iassumption

/-- Turn after turn. -/
theorem tr_turns (c : Dev nD) {f : ℕ → Prog (TpuEff nD τ sig (Elt F) Λ₀ .tc) PUnit} {S : ℕ → sProp 𝕄} (n : ℕ)
    (h : ∀ u, u < n → Tr A K c (S u) (f u) (S (u + 1))) : Tr A K c (S 0) (turns f n) (S n) := by
  induction n with
  | zero => exact Tr.pure (BI.Entails.refl _)
  | succ n ih => exact Tr.bind (ih fun u hu => h u (by omega)) (h n (by omega))

attribute [local irreducible] Tr

/-- What a stream needs beside, for the exchange and the gathering. -/
def Ex (c : Dev nD) (st : Fin 4) : sProp 𝕄 :=
  iprop(XS c st ∗ (cred (tallyAt (cell c (xrI st)) 0 N) ∗ XR c st 0) ∗ owE c (outK st (olab st c 0)) ∗ dnO c st 0)
/-- A stream at its start. -/
def SS (A : Dev nD → (S1024x4096.Idx → Elt F .f32)) (c : Dev nD) (st : Fin 4) : sProp 𝕄 :=
  iprop((Led c st 0 0 0 0 ∗ acc A c st 0 ∗ (owE c (sendS st 0) ∗ owE c (sendS st 1)) ∗ owE (dn st c) (stageS st 0) ∗ owE (dn st c) (stageS st 1)) ∗ Ex c st)
/-- A stream in the exchange. -/
def SX (A : Dev nD → (S1024x4096.Idx → Elt F .f32)) (c : Dev nD) (st : Fin 4) : sProp 𝕄 :=
  iprop((Led c st 15 15 15 13 ∗ acc A c st 15 ∗ owE c (sendS st 1) ∗ owE c (stageS st 0) ∗ owE c (stageS st 1))
    ∗ (cred (tallyAt (cell c (xsI st)) 0 N) ∗ cred (tallyAt (cell c (xrI st)) 0 N)) ∗ XR c st 0 ∗ owE c (outK st (olab st c 0)) ∗ dnO c st 0)
/-- What it keeps to the end. -/
def Zz (A : Dev nD → (S1024x4096.Idx → Elt F .f32)) (c : Dev nD) (st : Fin 4) : sProp 𝕄 :=
  iprop(acc A c st 15 ∗ (owE c (sendS st 0) ∗ owE c (sendS st 1)) ∗ (owE c (stageS st 0) ∗ owE c (stageS st 1)) ∗ owE c (xstS st) ∗ XR c st 1)
/-- A stream after the exchange. -/
def SY (A : Dev nD → (S1024x4096.Idx → Elt F .f32)) (c : Dev nD) (st : Fin 4) : sProp 𝕄 :=
  iprop((Led c st 15 15 15 13 ∗ outs A c st 1 ∗ dnO c st 0) ∗ Zz A c st)

theorem tr_rsSends (c : Dev nD) : Tr A K c iprop(Ow c (owedS c fun _ => ⟨0, 0, 0⟩) ∗ bigSep Finset.univ (SS A c)) (each fun st => rsSend (offs c) st 0 c)
    iprop(Ow c (owedS c fun _ => prR 0) ∗ bigSep Finset.univ fun st => iprop(SRx A c st 0 ∗ Ex c st)) :=
  tr_each c _ _ fun st B _ => by
    have h := (tr_rsSend (A := A) (K := K) c st 0 0 0 B (by omega)).frame (R := iprop((owE c (sendS st 1) ∗ owE (dn st c) (stageS st 1)) ∗ Ex c st))
    refine h.conseq ?_ ?_
    · unfold SS
      iintro ⟨#Hr, HO, ⟨HL, Hacc, ⟨Hs, Hs'⟩, Hd, Hd'⟩, HE⟩
      isplitl [HO HL Hacc Hs Hd]
      · isplitl [HO HL]; · isplitl [HO]; · iexact HO
                           iexact HL
        isplitl [Hacc]; · iexact Hacc
        isplitl [Hs]; · iexact Hs
        isplitl [Hd]; · iexact Hd
        iapply (recs_reached A K (dn st c) (recvI st 0)); iexact Hr
      · isplitl [Hs' Hd']; · isplitl [Hs'] <;> iassumption
        iexact HE
    · unfold SRx SR prR
      rw [if_pos (by omega), if_pos rfl, if_neg (show ¬ 0 = 14 by omega)]
      iintro ⟨⟨⟨HO, HL, HC⟩, Hacc⟩, ⟨Hs', Hd'⟩, HE⟩
      isplitl [HO]; · iexact HO
      isplitr [HE]
      · isplitl [HL HC]; · isplitl [HL] <;> iassumption
        isplitl [Hacc]; · iexact Hacc
        isplitl [Hs']; · iexact Hs'
        isplitl [Hd']; · iexact Hd'
        iempintro
      · iexact HE

theorem tr_rsTurns (c : Dev nD) : Tr A K c iprop(Ow c (owedS c fun _ => prR 0) ∗ bigSep Finset.univ fun st => iprop(SRx A c st 0 ∗ Ex c st))
    (turns (fun u => each fun st => rsIter (offs c) st u c) 15)
    iprop(Ow c (owedS c fun _ => prR 15) ∗ bigSep Finset.univ fun st => iprop(SRx A c st 15 ∗ Ex c st)) :=
  tr_turns c (S := fun u => iprop(Ow c (owedS c fun _ => prR u) ∗ bigSep Finset.univ fun st => iprop(SRx A c st u ∗ Ex c st))) 15 fun u hu =>
    tr_each c _ _ fun st B hB => by
      have h := (tr_rsIter (A := A) (K := K) c st u B hu fun s hs => by
        rcases hB s hs with e | e <;> rw [e]
        · exact (prR_above hu).1
        · exact (prR_above hu).2).frame (R := Ex c st)
      refine h.conseq ?_ ?_
      · iintro ⟨-, HO, HS, HE⟩
        isplitr [HE]
        · isplitl [HO] <;> iassumption
        · iexact HE
      · iintro ⟨⟨HO, HS⟩, HE⟩
        isplitl [HO]; · iexact HO
        isplitl [HS] <;> iassumption

theorem tr_xSends (c : Dev nD) : Tr A K c iprop(Ow c (owedS c fun _ => prR 15) ∗ bigSep Finset.univ fun st => iprop(SRx A c st 15 ∗ Ex c st))
    (each fun st => xSend (offs c) st c)
    iprop(Ow c (owedS c fun _ => ⟨15, 15, 1⟩) ∗ bigSep Finset.univ (SX A c)) :=
  tr_each c _ _ fun st B _ => by
    have h := (tr_xSend (A := A) (K := K) c st 15 15 B).frame (R := iprop((Led c st 15 15 15 13 ∗ owE c (sendS st 1) ∗ owE c (stageS st 0) ∗ owE c (stageS st 1))
      ∗ (cred (tallyAt (cell c (xrI st)) 0 N) ∗ XR c st 0) ∗ owE c (outK st (olab st c 0)) ∗ dnO c st 0))
    refine h.conseq ?_ ?_
    · unfold SRx SE Ex prR
      rw [if_neg (by omega)]
      iintro ⟨-, HO, ⟨HL, Hacc, ⟨Hs, Hs'⟩, Hd⟩, HX, HE⟩
      isplitl [HO Hacc Hs HX]
      · isplitl [HO]; · iexact HO
        isplitl [Hacc]; · iexact Hacc
        isplitl [Hs] <;> iassumption
      · isplitr [HE]
        · isplitl [HL]; · iexact HL
          isplitl [Hs'] <;> iassumption
        · iexact HE
    · unfold SX
      iintro ⟨⟨⟨HO, HC⟩, Hacc⟩, ⟨HL, HD⟩, ⟨HC', HX⟩, HE⟩
      isplitl [HO]; · iexact HO
      isplitl [HL Hacc HD]
      · isplitl [HL]; · iexact HL
        isplitl [Hacc] <;> iassumption
      isplitl [HC HC']; · isplitl [HC] <;> iassumption
      isplitl [HX] <;> iassumption

theorem tr_xRecvs (c : Dev nD) : Tr A K c iprop(Ow c (owedS c fun _ => ⟨15, 15, 1⟩) ∗ bigSep Finset.univ (SX A c))
    (each fun st => xRecv (offs c) st)
    iprop(Ow c (owedS c fun _ => ⟨15, 15, 1⟩) ∗ bigSep Finset.univ (SY A c)) :=
  tr_each c _ _ fun st B hB => by
    have ha : Above 31 ⟨15, 15, 1⟩ := by unfold Above; dsimp only; omega
    have h := (tr_xRecv (A := A) (K := K) c st (Function.update B st ⟨15, 15, 1⟩) (above_update (fun s hs => by
        rcases hB s hs with e | e <;> rw [e] <;> exact ha) ha)).frame (R := iprop((Led c st 15 15 15 13 ∗ owE c (sendS st 1) ∗ owE c (stageS st 0) ∗ owE c (stageS st 1)) ∗ dnO c st 0))
    refine h.conseq ?_ ?_
    · unfold SX
      iintro ⟨-, HO, ⟨HL, Hacc, HS⟩, HC, HX, Ho, HD⟩
      isplitr [HL HS HD]
      · isplitl [HO]; · iexact HO
        isplitl [HC]; · iexact HC
        isplitl [HX]; · iexact HX
        isplitl [Hacc] <;> iassumption
      · isplitr [HD]
        · isplitl [HL] <;> iassumption
        · iexact HD
    · unfold SY Zz outs
      rw [Finset.range_one, bigSep_singleton]
      iintro ⟨⟨HO, HX, Hacc, Hs, Hx, Ho⟩, ⟨HL, Hs', Hd⟩, HD⟩
      isplitl [HO]; · iexact HO
      isplitl [HL Ho HD]
      · isplitl [HL]; · iexact HL
        isplitl [Ho] <;> iassumption
      isplitl [Hacc]; · iexact Hacc
      isplitl [Hs Hs']; · isplitl [Hs] <;> iassumption
      isplitl [Hd]; · iexact Hd
      isplitl [Hx] <;> iassumption

theorem tr_agSends (c : Dev nD) : Tr A K c iprop(Ow c (owedS c fun _ => ⟨15, 15, 1⟩) ∗ bigSep Finset.univ (SY A c))
    (each fun st => agSend (offs c) st 0 c)
    iprop(Ow c (owedS c fun _ => prG 0) ∗ bigSep Finset.univ fun st => iprop(SGx A c st 0 ∗ Zz A c st)) :=
  tr_each c _ _ fun st B hB => by
    have h := (tr_agSend (A := A) (K := K) c st 0 B (by omega) (fun s hs => by
        rcases hB s hs with e | e <;> rw [e] <;> unfold Above <;> (try unfold prG) <;> dsimp only <;> omega)).frame (R := Zz A c st)
    refine h.conseq ?_ ?_
    · unfold SY
      iintro ⟨-, HO, ⟨HL, HU⟩, HZ⟩
      isplitr [HZ]
      · isplitl [HO HL]
        · isplitl [HO]; · iexact HO
          iexact HL
        · iexact HU
      · iexact HZ
    · unfold SGx SG prG
      rw [if_pos (by omega)]
      iintro ⟨⟨⟨HO, HL, HC⟩, HU⟩, HZ⟩
      isplitl [HO]; · iexact HO
      isplitr [HZ]
      · isplitl [HL HC]; · isplitl [HL] <;> iassumption
        iexact HU
      · iexact HZ

theorem tr_agTurns (c : Dev nD) : Tr A K c iprop(Ow c (owedS c fun _ => prG 0) ∗ bigSep Finset.univ fun st => iprop(SGx A c st 0 ∗ Zz A c st))
    (turns (fun t => each fun st => agIter (offs c) st t c) 15)
    iprop(Ow c (owedS c fun _ => prG 15) ∗ bigSep Finset.univ fun st => iprop(SGx A c st 15 ∗ Zz A c st)) :=
  tr_turns c (S := fun u => iprop(Ow c (owedS c fun _ => prG u) ∗ bigSep Finset.univ fun st => iprop(SGx A c st u ∗ Zz A c st))) 15 fun u hu =>
    tr_each c _ _ fun st B hB => by
      have h := (tr_agIter (A := A) (K := K) c st u B hu fun s hs => by
        rcases hB s hs with e | e <;> rw [e]
        · exact (prG_above hu).1
        · exact (prG_above hu).2).frame (R := Zz A c st)
      refine h.conseq ?_ ?_
      · iintro ⟨-, HO, HS, HE⟩
        isplitr [HE]
        · isplitl [HO] <;> iassumption
        · iexact HE
      · iintro ⟨⟨HO, HS⟩, HE⟩
        isplitl [HO]; · iexact HO
        isplitl [HS] <;> iassumption

theorem tr_streams (c : Dev nD) :
    Tr A K c iprop(Ow c (owedS c fun _ => ⟨0, 0, 0⟩) ∗ bigSep Finset.univ (SS A c))
      (streams (offs c) c)
      iprop(Ow c (owedS c fun _ => ⟨30, 28, 1⟩) ∗ bigSep Finset.univ fun st => iprop(SZ A c st ∗ Zz A c st)) := by
  unfold streams
  exact Tr.bind (tr_rsSends c) (Tr.bind (tr_rsTurns c) (Tr.bind (tr_xSends c) (Tr.bind (tr_xRecvs c) (Tr.bind (tr_agSends c) (tr_agTurns c)))))

/-- Nothing is owed at the end. -/
theorem owed_end (c : Dev nD) : owedS c (fun _ => ⟨30, 28, 1⟩) = 0 := by
  unfold owedS owed1
  simp only [Finset.Ico_self, Finset.sum_empty, add_zero, Finset.sum_const_zero]

end Cert.KernelIdeal.AR

end
-- ==== Proof.Pieces.lean ====
module

public import proofs.«01_k».proof.Proof.Streams

@[expose] public section

noncomputable section

/-! # The buffers and their pieces -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

theorem etr {P Q R : sProp 𝕄} (h : P ⊢ Q) (h' : Q ⊢ R) : P ⊢ R := Idealize.SL.BI.Entails.trans h h'
theorem bmono {I : Type} {s : Finset I} {Φ Ψ : I → sProp 𝕄} (h : ∀ i ∈ s, Φ i ⊢ Ψ i) : bigSep s Φ ⊢ bigSep s Ψ := bigSep_mono h
theorem esep {P Q P' Q' : sProp 𝕄} (h : P ⊢ P') (h' : Q ⊢ Q') : iprop(P ∗ Q) ⊢ iprop(P' ∗ Q') := by
  iintro ⟨H, H'⟩
  isplitl [H]
  · iapply h; iexact H
  · iapply h'; iexact H'

section Fam
variable {sh : Shape} {e : EltTy} {T : Type} [Fintype T] [DecidableEq T] (r : T → Rect sh) (hr : ∀ t a, (r t).stride a = 1)
  (key : sh.Idx → T) (hk : ∀ t x, Iff (x ∈ (r t).set) (key x = t))
include hk

theorem fam_disj (t t' : T) (h : t ≠ t') : Disjoint (r t).set (r t').set :=
  Finset.disjoint_left.mpr fun x hx hx' => h (((hk t x).mp hx).symm.trans ((hk t' x).mp hx'))
theorem fam_cov : (Finset.univ : Finset T).biUnion (fun t => (r t).set) = Finset.univ :=
  Finset.eq_univ_of_forall fun x => Finset.mem_biUnion.mpr ⟨key x, Finset.mem_univ _, (hk _ x).mpr rfl⟩

/-- Contents given piece by piece. -/
theorem fam_glue {α : Type} [Inhabited α] (G : (t : T) → (r t).shape.Idx → α) : ∃ X : sh.Idx → α, ∀ t j, X ((r t).emb j) = G t j := by
  classical
  have hm : ∀ t (j : (r t).shape.Idx), (r t).emb j ∈ (r t).set := fun t j => by
    rw [← Rect.map_emb_univ]; exact Finset.mem_map_of_mem _ (Finset.mem_univ j)
  have hinj : Function.Injective fun p : (Σ t, (r t).shape.Idx) => (r p.1).emb p.2 := by
    rintro ⟨t, j⟩ ⟨t', j'⟩ h
    have h' : (r t).emb j = (r t').emb j' := h
    have ht : t = t' := by
      have h1 := (hk t _).mp (hm t j); rw [h'] at h1
      exact h1.symm.trans ((hk t' _).mp (hm t' j'))
    subst ht
    rw [(r t).emb.injective h']
  refine ⟨Function.extend (fun p : (Σ t, (r t).shape.Idx) => (r p.1).emb p.2) (fun p => G p.1 p.2) fun _ => default, fun t j => ?_⟩
  exact hinj.extend_apply (fun p => G p.1 p.2) _ ⟨t, j⟩

variable (c : Dev nD) (m : Memref sig .tc .vmem sh e)

theorem fam_splitX (X : sh.Idx → Elt F e) :
    (ow c m X : sProp 𝕄) ⊢ bigSep Finset.univ fun t => ow c (m.slice (r t) (hr t)) (fun j => X ((r t).emb j)) :=
  owns_rects (c : Thread nD τ) m fullShare r hr (fam_disj r key hk) (fam_cov r key hk) X
theorem fam_joinX (X : sh.Idx → Elt F e) :
    (bigSep Finset.univ fun t => ow c (m.slice (r t) (hr t)) (fun j => X ((r t).emb j))) ⊢ (ow c m X : sProp 𝕄) :=
  owns_of_rects (c : Thread nD τ) m fullShare r hr (fam_disj r key hk) (fam_cov r key hk) X
theorem fam_split : (owE c m : sProp 𝕄) ⊢ bigSep Finset.univ fun t => owE c (m.slice (r t) (hr t)) := by
  unfold owE
  iintro ⟨%X, H⟩
  iapply (etr (fam_splitX r hr key hk c m X) (bmono fun t _ => show _ ⊢ iprop(∃ Y, ow c (m.slice (r t) (hr t)) Y) by
    iintro H; iexists _; iexact H))
  iexact H
theorem fam_join : (bigSep Finset.univ fun t => owE c (m.slice (r t) (hr t))) ⊢ (owE c m : sProp 𝕄) := by
  have h := BI.bigSep_exists_pi (M := 𝕄) Finset.univ (fun (t : T) (Y : (r t).shape.Idx → Elt F e) => ow c (m.slice (r t) (hr t)) Y)
  refine etr h ?_
  iintro ⟨%G, H⟩
  haveI : Inhabited (Elt F e) := ⟨Classical.arbitrary _⟩
  obtain ⟨X, hX⟩ := fam_glue r key hk G
  unfold owE
  iexists X
  iapply (fam_joinX r hr key hk c m X)
  simp only [hX]
  iexact H
end Fam

/-- A slot by itself or with its leading ones dropped. -/
theorem owE_sq {s t : Shape} {e : EltTy} (c : Dev nD) (m : Memref sig .tc .vmem s e) (hq : s.Squeezes t) :
    (owE c (m.squeeze t hq) : sProp 𝕄) = owE c m := by
  have hs : (m.squeeze t hq).view.set = m.view.set := View.set_reshape (v := m.view) (s' := t) hq.numel_eq
  have h1 : (owE c (m.squeeze t hq) : sProp 𝕄) ⊢ owE c m := by
    unfold owE ow owns
    iintro ⟨%X, %f, -, H⟩
    iexists (m.view.read (Elt F) f), f
    isplitr; · ipureintro; rfl
    rw [← hs]; iexact H
  have h2 : (owE c m : sProp 𝕄) ⊢ owE c (m.squeeze t hq) := by
    unfold owE ow owns
    iintro ⟨%X, %f, -, H⟩
    iexists ((m.squeeze t hq).view.read (Elt F) f), f
    isplitr; · ipureintro; rfl
    rw [hs]; iexact H
  exact BI.equiv_iff.mp ⟨h1, h2⟩

/-! ## Which piece an element lies in -/

theorem chR_mem (p : Fin 4 × Fin 16) (x : S1024x4096.Idx) : Iff (x ∈ (chR p.1 p.2).set)
    (((⟨(x (1 : Fin 2)).val / 1024, by have h : (x (1 : Fin 2)).val < 4096 := (x (1 : Fin 2)).isLt; omega⟩ : Fin 4),
      (⟨(x (0 : Fin 2)).val / 64, by have h : (x (0 : Fin 2)).val < 1024 := (x (0 : Fin 2)).isLt; omega⟩ : Fin 16)) = p) := by
  rcases p with ⟨st, k⟩
  rw [Rect.mem_set_unit, Fin.forall_fin_two, Prod.mk.injEq, Fin.ext_iff, Fin.ext_iff]
  show (64 * k.val ≤ (x (0 : Fin 2)).val ∧ (x (0 : Fin 2)).val < 64 * k.val + 64) ∧ (1024 * st.val ≤ (x (1 : Fin 2)).val ∧ (x (1 : Fin 2)).val < 1024 * st.val + 1024) ↔ _
  dsimp only
  omega

theorem slotR_mem (p : Fin 4 × Fin 2) (x : S4x2x64x1024.Idx) : Iff (x ∈ (slotR p.1 p.2).set) (((⟨(x (0 : Fin 4)).val, (x (0 : Fin 4)).isLt⟩ : Fin 4), (⟨(x (1 : Fin 4)).val, (x (1 : Fin 4)).isLt⟩ : Fin 2)) = p) := by
  rcases p with ⟨st, s⟩
  rw [Rect.mem_set_unit, Prod.mk.injEq, Fin.ext_iff, Fin.ext_iff]
  constructor
  · intro h
    have h0 : st.val ≤ (x (0 : Fin 4)).val ∧ (x (0 : Fin 4)).val < st.val + 1 := h 0
    have h1 : s.val ≤ (x (1 : Fin 4)).val ∧ (x (1 : Fin 4)).val < s.val + 1 := h 1
    exact ⟨show (x (0 : Fin 4)).val = st.val by omega, show (x (1 : Fin 4)).val = s.val by omega⟩
  · rintro ⟨h0, h1⟩ a
    replace h0 : (x (0 : Fin 4)).val = st.val := h0
    replace h1 : (x (1 : Fin 4)).val = s.val := h1
    fin_cases a
    · show st.val ≤ (x (0 : Fin 4)).val ∧ (x (0 : Fin 4)).val < st.val + 1; omega
    · show s.val ≤ (x (1 : Fin 4)).val ∧ (x (1 : Fin 4)).val < s.val + 1; omega
    · exact ⟨Nat.zero_le _, by have h : (x (2 : Fin 4)).val < 64 := (x (2 : Fin 4)).isLt; show (x (2 : Fin 4)).val < 0 + 64; omega⟩
    · exact ⟨Nat.zero_le _, by have h : (x (3 : Fin 4)).val < 1024 := (x (3 : Fin 4)).isLt; show (x (3 : Fin 4)).val < 0 + 1024; omega⟩

theorem xslotR_mem (st : Fin 4) (x : S4x64x1024.Idx) : Iff (x ∈ (xslotR st).set) ((⟨(x (0 : Fin 3)).val, (x (0 : Fin 3)).isLt⟩ : Fin 4) = st) := by
  rw [Rect.mem_set_unit, Fin.ext_iff]
  constructor
  · intro h
    have h0 : st.val ≤ (x (0 : Fin 3)).val ∧ (x (0 : Fin 3)).val < st.val + 1 := h 0
    show (x (0 : Fin 3)).val = st.val
    omega
  · intro h0 a
    replace h0 : (x (0 : Fin 3)).val = st.val := h0
    fin_cases a
    · show st.val ≤ (x (0 : Fin 3)).val ∧ (x (0 : Fin 3)).val < st.val + 1; omega
    · exact ⟨Nat.zero_le _, by have h : (x (1 : Fin 3)).val < 64 := (x (1 : Fin 3)).isLt; show (x (1 : Fin 3)).val < 0 + 64; omega⟩
    · exact ⟨Nat.zero_le _, by have h : (x (2 : Fin 3)).val < 1024 := (x (2 : Fin 3)).isLt; show (x (2 : Fin 3)).val < 0 + 1024; omega⟩

/-! ## The five buffers -/

abbrev chFam (p : Fin 4 × Fin 16) : Rect S1024x4096 := chR p.1 p.2
abbrev slFam (p : Fin 4 × Fin 2) : Rect S4x2x64x1024 := slotR p.1 p.2

theorem bigSep_two (Φ : Fin 2 → sProp 𝕄) : bigSep Finset.univ Φ = iprop(Φ 0 ∗ Φ 1) := bigSep_fin_two Φ

/-- A buffer of two slots for each stream. -/
theorem slots_eq (c : Dev nD) (m : Memref sig .tc .vmem S4x2x64x1024 .bf16) :
    (owE c m : sProp 𝕄) = bigSep Finset.univ fun st : Fin 4 =>
      iprop(owE c ((m.slice (slotR st 0) (fun _ => rfl)).squeeze S64x1024 squeezes_S1x1x64x1024_S64x1024)
        ∗ owE c ((m.slice (slotR st 1) (fun _ => rfl)).squeeze S64x1024 squeezes_S1x1x64x1024_S64x1024)) := by
  have e : (bigSep Finset.univ fun p : Fin 4 × Fin 2 => (owE c (m.slice (slFam p) (fun _ => rfl)) : sProp 𝕄)) = bigSep Finset.univ fun st : Fin 4 =>
      iprop(owE c ((m.slice (slotR st 0) (fun _ => rfl)).squeeze S64x1024 squeezes_S1x1x64x1024_S64x1024)
        ∗ owE c ((m.slice (slotR st 1) (fun _ => rfl)).squeeze S64x1024 squeezes_S1x1x64x1024_S64x1024)) := by
    rw [bigSep_univ_prod]
    refine bigSep_congr fun st _ => ?_
    rw [bigSep_two, owE_sq, owE_sq]
  rw [← e]
  exact BI.equiv_iff.mp ⟨fam_split slFam (fun _ _ => rfl) _ slotR_mem c m, fam_join slFam (fun _ _ => rfl) _ slotR_mem c m⟩

theorem xslots_eq (c : Dev nD) : (owE c xstM : sProp 𝕄) = bigSep Finset.univ fun st => owE c (xstS st) := by
  have e : (bigSep Finset.univ fun st : Fin 4 => (owE c (xstM.slice (xslotR st) (fun _ => rfl)) : sProp 𝕄)) = bigSep Finset.univ fun st => owE c (xstS st) :=
    bigSep_congr fun st _ => by rw [owE_sq]
  rw [← e]
  exact BI.equiv_iff.mp ⟨fam_split xslotR (fun _ _ => rfl) _ xslotR_mem c xstM, fam_join xslotR (fun _ _ => rfl) _ xslotR_mem c xstM⟩

/-- The accumulator, in the order its streams meet its chunks. -/
theorem acc_split (c : Dev nD) : (ow c accM (A c) : sProp 𝕄) ⊢ bigSep Finset.univ fun st => acc A c st 0 := by
  refine etr (fam_splitX chFam (fun _ _ => rfl) _ chR_mem c accM (A c)) ?_
  rw [bigSep_univ_prod]
  refine bmono fun st _ => ?_
  rw [bigSep_lab st c]
  unfold acc
  refine bmono fun i _ => Entails.of_eq ?_
  by_cases h : i ≤ 0
  · obtain rfl : i = 0 := by omega
    rw [if_pos h, part]; rfl
  · rw [if_neg h]; rfl
theorem acc_join (c : Dev nD) (r : ℕ) : (bigSep Finset.univ fun st => acc A c st r) ⊢ (owE c accM : sProp 𝕄) := by
  refine etr ?_ (fam_join chFam (fun _ _ => rfl) _ chR_mem c accM)
  rw [bigSep_univ_prod]
  refine bmono fun st _ => ?_
  rw [bigSep_lab st c]
  unfold acc
  exact bmono fun i _ => by iintro H; iexists _; iexact H

/-- The result buffer, in the order its streams fill it. -/
theorem out_split (c : Dev nD) : (owE c outM : sProp 𝕄) ⊢ bigSep Finset.univ fun st =>
    iprop((bigSep (Finset.Ico 0 15) fun t => owE c (outK st (olab st c (t + 1)))) ∗ owE c (outK st (olab st c 0))) := by
  refine etr (fam_split chFam (fun _ _ => rfl) _ chR_mem c outM) ?_
  rw [bigSep_univ_prod]
  refine bmono fun st _ => ?_
  rw [bigSep_olab st c, Finset.range_eq_Ico, bigSep_Ico_succ_bot (by omega), show Finset.Ico (0 + 1) 16 = (Finset.Ico 0 15).map ⟨fun t => t + 1, fun a b h => Nat.succ.inj h⟩ from by
    ext x; simp only [Finset.mem_Ico, Finset.mem_map, Function.Embedding.coeFn_mk]
    exact ⟨fun h => ⟨x - 1, by omega, Nat.sub_add_cancel (by omega)⟩, fun ⟨y, h, e⟩ => by
      have e' : y + 1 = x := e
      omega⟩, bigSep_map]
  show iprop(_ ∗ _) ⊢ _
  iintro ⟨H0, H⟩
  isplitl [H]; · iexact H
  iexact H0

theorem out_ex (A : Dev nD → (S1024x4096.Idx → Elt F .f32)) (c : Dev nD) : ∃ X : S1024x4096.Idx → Elt F .bf16,
    ∀ (st : Fin 4) (w : ℕ), w < 16 → (fun j => X ((chR st (olab st c w)).emb j)) = gval A st w c := by
  haveI : Inhabited (Elt F .bf16) := ⟨@Classical.arbitrary _ (Elt.nonempty F _)⟩
  have hs : ∀ (st : Fin 4) (k : Fin 16), ∃ w ∈ Finset.range 16, olab st c w = k := fun st k => by
    have h : k ∈ (Finset.range 16).image (olab st c) := by rw [image_univ (olab_inj st c)]; exact Finset.mem_univ k
    exact Finset.mem_image.mp h
  choose inv hinv using hs
  obtain ⟨X, hX⟩ := fam_glue chFam _ chR_mem (fun p j => gval A p.1 (inv p.1 p.2) c j)
  refine ⟨X, fun st w hw => funext fun j => ?_⟩
  have h := hX (st, olab st c w) j
  dsimp only at h
  rw [olab_inj st c (Finset.mem_coe.mpr (hinv st (olab st c w)).1) (Finset.mem_coe.mpr (Finset.mem_range.mpr hw)) (hinv st (olab st c w)).2] at h
  exact h
/-- What a device's result buffer ends up holding. -/
def outAt (A : Dev nD → (S1024x4096.Idx → Elt F .f32)) (c : Dev nD) : S1024x4096.Idx → Elt F .bf16 := (out_ex A c).choose
theorem outAt_spec (c : Dev nD) (st : Fin 4) {w : ℕ} (hw : w < 16) : (fun j => outAt A c ((chR st (olab st c w)).emb j)) = gval A st w c :=
  (out_ex A c).choose_spec st w hw

theorem out_join (c : Dev nD) : (bigSep Finset.univ fun st => outs A c st 16) ⊢ (ow c outM (outAt A c) : sProp 𝕄) := by
  refine etr ?_ (fam_joinX chFam (fun _ _ => rfl) _ chR_mem c outM (outAt A c))
  rw [bigSep_univ_prod]
  refine bmono fun st _ => ?_
  rw [bigSep_olab st c]
  unfold outs
  exact bmono fun w hw => Entails.of_eq (by
    rw [← outAt_spec c st (Finset.mem_range.mp hw)])

/-- What a device lends at the barrier on a stream. -/
theorem lend (c : Dev nD) (st : Fin 4) :
    iprop((owE c (stageS st 0) ∗ owE c (stageS st 1)) ∗ bigSep (Finset.Ico 0 15) fun t => owE c (outK st (olab st c (t + 1)))) ⊢ (barPay (up st c) st : sProp 𝕄) := by
  unfold barPay
  rw [dn_up]
  refine esep (BI.Entails.refl _) (bmono fun t _ => Entails.of_eq ?_)
  rw [← olab_dn st (up st c) t, dn_up]

end Cert.KernelIdeal.AR

end
-- ==== Proof.Prologue.lean ====
module

public import proofs.«01_k».proof.Proof.Pieces
public import Idealize.ShloMosaic.Lib.Pipeline.Value

@[expose] public section

noncomputable section

/-! # The barrier and the products before it -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

/-! ## The accumulator's two halves -/

theorem half_inb : ∀ (h : Fin 2) (a : Fin 2), (![0, 2048 * h.val] : Fin 2 → Nat) a + S1024x2048.size a ≤ S1024x4096.size a := by decide +kernel
abbrev hfR (h : Fin 2) : Rect S1024x4096 := Rect.unit (s := S1024x4096) ![0, 2048 * h.val] S1024x2048.size (half_inb h)

theorem hfR_mem (h : Fin 2) (x : S1024x4096.Idx) : Iff (x ∈ (hfR h).set)
    ((⟨(x (1 : Fin 2)).val / 2048, by have h : (x (1 : Fin 2)).val < 4096 := (x (1 : Fin 2)).isLt; omega⟩ : Fin 2) = h) := by
  rw [Rect.mem_set_unit, Fin.forall_fin_two, Fin.ext_iff]
  have h0 : (x (0 : Fin 2)).val < 1024 := (x (0 : Fin 2)).isLt
  show (0 ≤ (x (0 : Fin 2)).val ∧ (x (0 : Fin 2)).val < 0 + 1024) ∧ (2048 * h.val ≤ (x (1 : Fin 2)).val ∧ (x (1 : Fin 2)).val < 2048 * h.val + 2048) ↔ _
  dsimp only
  omega

theorem prod_ex (x : Vec F S1024x2048 .f32) (wd : Vec F S2048x128 .f32) (wk wv : Vec F S128x2048 .f32) : ∃ X : S1024x4096.Idx → Elt F .f32,
    ∀ (h : Fin 2), (fun j => X ((hfR h).emb j)) = half (latent x wd) (if h = 0 then wk else wv) := by
  haveI : Inhabited (Elt F .f32) := ⟨@Classical.arbitrary _ (Elt.nonempty F _)⟩
  obtain ⟨X, hX⟩ := fam_glue hfR _ hfR_mem (fun h j => half (latent x wd) (if h = 0 then wk else wv) j)
  exact ⟨X, fun h => funext fun j => hX h j⟩
/-- A device's product: the latent one times the two projections side by side. -/
def prod (x : Vec F S1024x2048 .f32) (wd : Vec F S2048x128 .f32) (wk wv : Vec F S128x2048 .f32) : S1024x4096.Idx → Elt F .f32 :=
  (prod_ex x wd wk wv).choose
theorem prod_spec (x : Vec F S1024x2048 .f32) (wd : Vec F S2048x128 .f32) (wk wv : Vec F S128x2048 .f32) (h : Fin 2) :
    (fun j => prod x wd wk wv ((hfR h).emb j)) = half (latent x wd) (if h = 0 then wk else wv) := (prod_ex x wd wk wv).choose_spec h

/-! ## The barrier -/

theorem pay_bar0 (A : Dev nD → (S1024x4096.Idx → Elt F .f32)) (c : Dev nD) : pay A c none 0 0 = iprop(barPay c 2 ∗ barPay c 3) := by unfold pay; exact if_pos rfl
theorem pay_bar1 (A : Dev nD → (S1024x4096.Idx → Elt F .f32)) (c : Dev nD) : pay A c none 0 1 = iprop(barPay c 0 ∗ barPay c 1) := by
  unfold pay; exact (if_neg (show ¬ (1 : Fin 3) = 0 by decide)).trans (if_pos rfl)
theorem pay_bar2 (A : Dev nD → (S1024x4096.Idx → Elt F .f32)) (c : Dev nD) : pay A c none 0 2 = bigSep Finset.univ fun st => owE (mir c) (xstS st) := by
  unfold pay; exact (if_neg (show ¬ (2 : Fin 3) = 0 by decide)).trans (if_neg (show ¬ (2 : Fin 3) = 1 by decide))

theorem tr_bar (c : Dev nD) (B : Fin 4 → Pr) (hB : ∀ s, Above 1 (B s)) :
    Tr A K c iprop(Ow c (owedS c B) ∗ cred (tallyAt (cell c none) 0 3) ∗ pos c none 0) (semWaitWord barSem 3#32)
      iprop(Ow c (owedS c B) ∗ pos c none 1 ∗ (bigSep Finset.univ fun st => barPay c st) ∗ bigSep Finset.univ fun st => owE (mir c) (xstS st)) := fun Kt => by
  have hcard : (dut none 0).card * amt none = 3 := by decide
  have he : 0 + (3#32 : BitVec 32).toInt.toNat = (ringRd A).expect (cell c none) 0 := by
    rw [expect_cell A c none 0, hcard]; decide
  have hmw : recs A K ⊢ MayWait (c : Thread nD τ) (csem none) 0 (owedS c B) := by
    have h := mayWait (F := F) c none 0 1 B (by omega) (by rw [lv_cell]) hB
    exact Idealize.SL.BI.Entails.trans (@recs_lev F _ A K) h
  have hdut : dut none 0 = Finset.univ := by unfold dut; exact if_pos rfl
  have hpay : bigSep ((ringRd A).duties (cell c none) 0 \ ∅) (fun d => (ringRd A).payload (cell c none) 0 d)
      = iprop(pay A c none 0 0 ∗ pay A c none 0 1 ∗ pay A c none 0 2) := by
    rw [Finset.sdiff_empty, duties_cell, hdut, bigSep_univ_eq_bigSepL [(0 : Fin 3), 1, 2] (by decide) (by decide)]
    rw [bigSepL_cons_cons, bigSepL_cons_cons, bigSepL_singleton, payload_cell, payload_cell, payload_cell]
    rfl
  show _ ⊢ wp _ _ _ (.op (TpuEff.semWait barSem (3#32 : BitVec 32).toInt.toNat) .ret) _
  unfold Ow pos
  iintro ⟨#Hr, ⟨⟨%W, HO⟩, Hc, Hat, -⟩, Hk⟩
  iapply (Rounds.wp_wait_rest_token 𝒱₀ ER (ringRd A) (c : Thread nD τ) none (κ := K (c, none)) (wpE_semWait_eq 𝒱₀ (c : Thread nD τ) none Set.univ) (Set.mem_univ _) 0
      (O := owedS c B) (W := W) (R := 0) (m := 0) (T := ∅) he) $$ [HO Hc Hat]
  · isplitr; · iapply (recs_inv A K c none); iexact Hr
    isplitl [Hc]; · iexact Hc
    isplitl [HO]; · iexact HO
    isplitr; · iapply hmw; iexact Hr
    iexact Hat
  iintro ⟨HO, Hat, #Hre, Hpay⟩
  ihave Hp := (Entails.of_eq hpay) $$ Hpay
  icases Hp with ⟨Hp0, Hp1, Hp2⟩
  rw [wp_ret]; imodintro
  iapply Hk
  isplitl [HO]; · iexists _; iexact HO
  isplitl [Hat]
  · isplitl [Hat]; · iexact Hat
    iexact Hre
  isplitl [Hp0 Hp1]
  · rw [bigSep_four]
    ihave Hq0 := (Entails.of_eq (pay_bar0 A c)) $$ Hp0
    ihave Hq1 := (Entails.of_eq (pay_bar1 A c)) $$ Hp1
    icases Hq0 with ⟨H2, H3⟩
    icases Hq1 with ⟨H0, H1⟩
    isplitl [H0]; · iexact H0
    isplitl [H1]; · iexact H1
    isplitl [H2] <;> iassumption
  iapply (Entails.of_eq (pay_bar2 A c))
  iexact Hp2

/-! ## The products -/

/-- A staged operand. -/
abbrev opX (c : Dev nD) (X : Vec F S1024x2048 .f32) : sProp 𝕄 := ow c (Memref.whole cc0_stg0_0 : Memref sig .tc .vmem S1024x2048 .f32) X
abbrev opD (c : Dev nD) (X : Vec F S2048x128 .f32) : sProp 𝕄 := ow c (Memref.whole cc0_stg1_0 : Memref sig .tc .vmem S2048x128 .f32) X
abbrev opK (c : Dev nD) (X : Vec F S128x2048 .f32) : sProp 𝕄 := ow c (Memref.whole cc0_stg2_0 : Memref sig .tc .vmem S128x2048 .f32) X
abbrev opV (c : Dev nD) (X : Vec F S128x2048 .f32) : sProp 𝕄 := ow c (Memref.whole cc0_stg3_0 : Memref sig .tc .vmem S128x2048 .f32) X

/-- A load of a whole buffer reads what it holds. -/
theorem ld_whole (c : Dev nD) {s : Shape} {e : EltTy} (m : Memref sig .tc .vmem s e) (r : Rect s) (hs : m.view.set = Finset.univ) (X : s.Idx → Elt F e)
    (X' : r.shape.Idx → Elt F e) (hX : ∀ f, m.view.read (Elt F) f = X → m.view.readAt (Elt F) r.toLoadRect f = X')
    {hl : m.view.LoadsAt r.toLoadRect}
    {k : (r.shape.Idx → Elt F e) → Prog (TpuEff nD τ sig (Elt F) Λ₀ .tc) PUnit} {Kt : PUnit → sProp 𝕄} :
    ow c m X ⊢ iprop((ow c m X -∗ WP c (k X') Kt) -∗ WP c (.op (.load m r.toLoadRect hl) k) Kt) := by
  unfold WP ow owns
  iintro ⟨%f, %hf, H⟩ Hk
  iapply (wp_load 𝒱₀ (c : Thread nD τ) none Set.univ (m := m) (by rw [hs]; exact Finset.subset_univ _)) $$ H
  iintro H
  rw [hX f hf]
  iapply Hk
  iexists f; isplitr; · ipureintro; exact hf
  iexact H

theorem hz : (![0, 0] : Fin 2 → Nat) = fun _ => 0 := funext fun a => by fin_cases a <;> rfl
theorem hf0 : (![0, 0] : Fin 2 → Nat) = ![0, 2048 * (0 : Fin 2).val] := rfl

/-- The prologue from its loads to before its wait. -/
def products : Prog (TpuEff nD τ sig (Elt F) Λ₀ .tc) PUnit := do
  let x : Vec F S1024x2048 .f32 ← Prog.lift (.load (Memref.whole cc0_stg0_0 : Memref sig .tc .vmem S1024x2048 .f32) (Rect.unit (s := S1024x2048) ![0, 0] S1024x2048.size inb_S1024x2048_S1024x2048_0_0).toLoadRect (View.loadsAt_vmem h_S1024x2048))
  let wd : Vec F S2048x128 .f32 ← Prog.lift (.load (Memref.whole cc0_stg1_0 : Memref sig .tc .vmem S2048x128 .f32) (Rect.unit (s := S2048x128) ![0, 0] S2048x128.size inb_S2048x128_S2048x128_0_0).toLoadRect (View.loadsAt_vmem h_S2048x128))
  let wk : Vec F S128x2048 .f32 ← Prog.lift (.load (Memref.whole cc0_stg2_0 : Memref sig .tc .vmem S128x2048 .f32) (Rect.unit (s := S128x2048) ![0, 0] S128x2048.size inb_S128x2048_S128x2048_0_0).toLoadRect (View.loadsAt_vmem h_S128x2048))
  let _ : Vec F S1024x2048 .f32 ← Prog.lift (.load accM (Rect.unit (s := S1024x4096) ![0, 0] S1024x2048.size inb_S1024x4096_S1024x2048_0_0).toLoadRect (View.loadsAt_vmem h_S1024x2048))
  Prog.lift (.store accM (Rect.unit (s := S1024x4096) ![0, 0] S1024x2048.size inb_S1024x4096_S1024x2048_0_0) (half (latent x wd) wk) Finset.univ (View.stores_vmem_bits_univ h_S1024x2048 rfl) (.inl rfl))
  let wv : Vec F S128x2048 .f32 ← Prog.lift (.load (Memref.whole cc0_stg3_0 : Memref sig .tc .vmem S128x2048 .f32) (Rect.unit (s := S128x2048) ![0, 0] S128x2048.size inb_S128x2048_S128x2048_0_0).toLoadRect (View.loadsAt_vmem h_S128x2048))
  let _ : Vec F S1024x2048 .f32 ← Prog.lift (.load accM (Rect.unit (s := S1024x4096) ![0, 2048] S1024x2048.size inb_S1024x4096_S1024x2048_0_2048).toLoadRect (View.loadsAt_vmem h_S1024x2048))
  Prog.lift (.store accM (Rect.unit (s := S1024x4096) ![0, 2048] S1024x2048.size inb_S1024x4096_S1024x2048_0_2048) (half (latent x wd) wv) Finset.univ (View.stores_vmem_bits_univ h_S1024x2048 rfl) (.inl rfl))

theorem prologue_eq (c : Dev nD) : prologue (F := F) c = (semSignalWord (nxt c) barSem 1#32 >>= fun _ => semSignalWord (prv c) barSem 1#32 >>= fun _ =>
    semSignalWord (mir c) barSem 1#32 >>= fun _ => products >>= fun _ => semWaitWord barSem 3#32) := by
  unfold prologue products
  simp only [bind_assoc]

theorem tr_products (c : Dev nD) (x : Vec F S1024x2048 .f32) (wd : Vec F S2048x128 .f32) (wk wv : Vec F S128x2048 .f32) :
    Tr A K c iprop((opX c x ∗ opD c wd ∗ opK c wk ∗ opV c wv) ∗ owE c accM) products
      iprop((opX c x ∗ opD c wd ∗ opK c wk ∗ opV c wv) ∗ ow c accM (prod x wd wk wv)) := fun Kt => by
  unfold products
  simp only [Prog.lift, Prog.bind_op, Prog.bind_ret]
  have hj : (bigSep Finset.univ fun h => ow c (accM.slice (hfR h) (fun _ => rfl)) (half (latent x wd) (if h = 0 then wk else wv))) ⊢ (ow c accM (prod x wd wk wv) : sProp 𝕄) := by
    refine etr (bmono fun h _ => Entails.of_eq ?_) (fam_joinX hfR (fun _ _ => rfl) _ hfR_mem c accM (prod x wd wk wv))
    rw [← prod_spec]
  rw [bigSep_two] at hj
  iintro ⟨-, ⟨⟨HX, HD, HK, HV⟩, Hacc⟩, Hk⟩
  ihave Ha := (etr (fam_split hfR (fun _ _ => rfl) _ hfR_mem c accM) (Entails.of_eq (bigSep_two _))) $$ Hacc
  icases Ha with ⟨⟨%Y0, H0⟩, ⟨%Y1, H1⟩⟩
  iapply (ld_whole c (Memref.whole cc0_stg0_0) _ (View.set_whole _) x x (fun f hf => by
    rw [← hf]; exact Memref.readAt_unit_zero (Elt F) cc0_stg0_0 hz _ f)) $$ HX
  iintro HX
  iapply (ld_whole c (Memref.whole cc0_stg1_0) _ (View.set_whole _) wd wd (fun f hf => by
    rw [← hf]; exact Memref.readAt_unit_zero (Elt F) cc0_stg1_0 hz _ f)) $$ HD
  iintro HD
  iapply (ld_whole c (Memref.whole cc0_stg2_0) _ (View.set_whole _) wk wk (fun f hf => by
    rw [← hf]; exact Memref.readAt_unit_zero (Elt F) cc0_stg2_0 hz _ f)) $$ HK
  iintro HK
  iapply (ld c accM (hfR 0) (fun _ => rfl) Y0) $$ H0
  iintro H0
  iapply (sto c accM (hfR 0) (fun _ => rfl) (half (latent x wd) wk)) $$ [H0]
  · iexists Y0; iexact H0
  iintro H0
  iapply (ld_whole c (Memref.whole cc0_stg3_0) _ (View.set_whole _) wv wv (fun f hf => by
    rw [← hf]; exact Memref.readAt_unit_zero (Elt F) cc0_stg3_0 hz _ f)) $$ HV
  iintro HV
  iapply (ld c accM (hfR 1) (fun _ => rfl) Y1) $$ H1
  iintro H1
  iapply (sto c accM (hfR 1) (fun _ => rfl) (half (latent x wd) wv)) $$ [H1]
  · iexists Y1; iexact H1
  iintro H1
  unfold WP
  rw [wp_ret]; imodintro
  iapply Hk
  isplitr [H0 H1]
  · isplitl [HX]; · iexact HX
    isplitl [HD]; · iexact HD
    isplitl [HK] <;> iassumption
  · iapply hj
    isplitl [H0]
    · iexact H0
    · iexact H1

/-! ## The whole of it -/

/-- The tokens of the three signals. -/
def barTok (c : Dev nD) : sProp 𝕄 :=
  iprop(dutyTok ER (cell (nxt c) none) 0 0 ∗ dutyTok ER (cell (prv c) none) 0 1 ∗ dutyTok ER (cell (mir c) none) 0 2)

/-- What it lends on one stream. -/
abbrev lent (c : Dev nD) (st : Fin 4) : sProp 𝕄 :=
  iprop((owE c (stageS st 0) ∗ owE c (stageS st 1)) ∗ bigSep (Finset.Ico 0 15) fun t => owE c (outK st (olab st c (t + 1))))

theorem tr_sigN (c : Dev nD) : Tr A K c iprop(Ow c (owed0 c) ∗ dutyTok ER (cell (nxt c) none) 0 0 ∗ lent c 2 ∗ lent c 3) (semSignalWord (nxt c) barSem 1#32)
    (Ow c (owedS c (fun _ => ⟨0, 0, 0⟩) + barT (mir c) + barT (prv c))) := by
  refine (tr_signal (A := A) (K := K) c (nxt c) none barSem rfl 0 0 0 _ _ (by decide) rfl rfl).conseq ?_ (BI.Entails.refl _)
  iintro ⟨#Hr, HO, HT, H2, H3⟩
  isplitl [HO]; · unfold owed0; iexact HO
  isplitl [HT]; · iexact HT
  isplitr; · iapply (recs_reached A K (nxt c) none); iexact Hr
  iapply (show iprop(barPay (nxt c) 2 ∗ barPay (nxt c) 3) ⊢ pay A (nxt c) none 0 0 from Entails.of_eq (pay_bar0 A (nxt c)).symm)
  isplitl [H2]
  · iapply (lend c 2); iexact H2
  · iapply (lend c 3); iexact H3
theorem tr_sigP (c : Dev nD) : Tr A K c iprop(Ow c (owedS c (fun _ => ⟨0, 0, 0⟩) + barT (mir c) + barT (prv c)) ∗ dutyTok ER (cell (prv c) none) 0 1 ∗ lent c 0 ∗ lent c 1) (semSignalWord (prv c) barSem 1#32)
    (Ow c (owedS c (fun _ => ⟨0, 0, 0⟩) + barT (mir c))) := by
  refine (tr_signal (A := A) (K := K) c (prv c) none barSem rfl 0 1 0 _ _ (by decide) rfl rfl).conseq ?_ (BI.Entails.refl _)
  iintro ⟨#Hr, HO, HT, H2, H3⟩
  isplitl [HO]; · iexact HO
  isplitl [HT]; · iexact HT
  isplitr; · iapply (recs_reached A K (prv c) none); iexact Hr
  iapply (show iprop(barPay (prv c) 0 ∗ barPay (prv c) 1) ⊢ pay A (prv c) none 0 1 from Entails.of_eq (pay_bar1 A (prv c)).symm)
  isplitl [H2]
  · iapply (lend c 0); iexact H2
  · iapply (lend c 1); iexact H3
theorem tr_sigM (c : Dev nD) : Tr A K c iprop(Ow c (owedS c (fun _ => ⟨0, 0, 0⟩) + barT (mir c)) ∗ dutyTok ER (cell (mir c) none) 0 2 ∗ owE c xstM) (semSignalWord (mir c) barSem 1#32)
    (Ow c (owedS c (fun _ => ⟨0, 0, 0⟩))) := by
  refine (tr_signal (A := A) (K := K) c (mir c) none barSem rfl 0 2 0 _ _ (by decide) rfl rfl).conseq ?_ (BI.Entails.refl _)
  iintro ⟨#Hr, HO, HT, HX⟩
  isplitl [HO]; · iexact HO
  isplitl [HT]; · iexact HT
  isplitr; · iapply (recs_reached A K (mir c) none); iexact Hr
  iapply (show owE c xstM ⊢ pay A (mir c) none 0 2 from Entails.of_eq (by rw [pay_bar2, mir_mir, xslots_eq]))
  iexact HX

attribute [local irreducible] Tr

theorem tr_prologue (c : Dev nD) (x : Vec F S1024x2048 .f32) (wd : Vec F S2048x128 .f32) (wk wv : Vec F S128x2048 .f32) :
    Tr A K c iprop(Ow c (owed0 c) ∗ barTok c ∗ cred (tallyAt (cell c none) 0 3) ∗ pos c none 0
        ∗ (opX c x ∗ opD c wd ∗ opK c wk ∗ opV c wv) ∗ owE c accM ∗ owE c stageM ∗ owE c outM ∗ owE c xstM)
      (prologue c)
      iprop((Ow c (owedS c fun _ => ⟨0, 0, 0⟩) ∗ pos c none 1 ∗ (bigSep Finset.univ fun st => barPay c st) ∗ bigSep Finset.univ fun st => owE (mir c) (xstS st))
        ∗ ((opX c x ∗ opD c wd ∗ opK c wk ∗ opV c wv) ∗ ow c accM (prod x wd wk wv)) ∗ bigSep Finset.univ fun st => owE c (outK st (olab st c 0))) := by
  rw [prologue_eq]
  have h1 := (tr_sigN (A := A) (K := K) c).frame (R := iprop((dutyTok ER (cell (prv c) none) 0 1 ∗ lent c 0 ∗ lent c 1) ∗ (dutyTok ER (cell (mir c) none) 0 2 ∗ owE c xstM)
    ∗ (cred (tallyAt (cell c none) 0 3) ∗ pos c none 0) ∗ ((opX c x ∗ opD c wd ∗ opK c wk ∗ opV c wv) ∗ owE c accM) ∗ bigSep Finset.univ fun st => owE c (outK st (olab st c 0))))
  have h2 := (tr_sigP (A := A) (K := K) c).frame (R := iprop((dutyTok ER (cell (mir c) none) 0 2 ∗ owE c xstM)
    ∗ (cred (tallyAt (cell c none) 0 3) ∗ pos c none 0) ∗ ((opX c x ∗ opD c wd ∗ opK c wk ∗ opV c wv) ∗ owE c accM) ∗ bigSep Finset.univ fun st => owE c (outK st (olab st c 0))))
  have h3 := (tr_sigM (A := A) (K := K) c).frame (R := iprop((cred (tallyAt (cell c none) 0 3) ∗ pos c none 0) ∗ ((opX c x ∗ opD c wd ∗ opK c wk ∗ opV c wv) ∗ owE c accM) ∗ bigSep Finset.univ fun st => owE c (outK st (olab st c 0))))
  have h4 := (tr_products (A := A) (K := K) c x wd wk wv).frame (R := iprop((Ow c (owedS c fun _ => ⟨0, 0, 0⟩) ∗ cred (tallyAt (cell c none) 0 3) ∗ pos c none 0) ∗ bigSep Finset.univ fun st => owE c (outK st (olab st c 0))))
  have h5 := (tr_bar (A := A) (K := K) c (fun _ => ⟨0, 0, 0⟩) (fun _ => by unfold Above; dsimp only; omega)).frame
    (R := iprop(((opX c x ∗ opD c wd ∗ opK c wk ∗ opV c wv) ∗ ow c accM (prod x wd wk wv)) ∗ bigSep Finset.univ fun st => owE c (outK st (olab st c 0))))
  have hl : iprop(owE c stageM ∗ owE c outM) ⊢ iprop((bigSep Finset.univ fun st => lent c st) ∗ bigSep Finset.univ fun st => (owE c (outK st (olab st c 0)) : sProp 𝕄)) := by
    refine etr (esep (Entails.of_eq (slots_eq c stageM)) (out_split c)) ?_
    rw [bigSep_sep' Finset.univ (fun st : Fin 4 => bigSep (Finset.Ico 0 15) fun t => owE c (outK st (olab st c (t + 1)))) (fun st => owE c (outK st (olab st c 0)))]
    rw [bigSep_sep' Finset.univ (fun st : Fin 4 => iprop(owE c (stageS st 0) ∗ owE c (stageS st 1))) (fun st : Fin 4 => bigSep (Finset.Ico 0 15) fun t => owE c (outK st (olab st c (t + 1))))]
    iintro ⟨H1, H2, H3⟩
    isplitr [H3]
    · isplitl [H1] <;> iassumption
    · iexact H3
  refine Tr.bind (h1.conseq ?_ (BI.Entails.refl _)) (Tr.bind (h2.conseq ?_ (BI.Entails.refl _)) (Tr.bind (h3.conseq ?_ (BI.Entails.refl _))
    (Tr.bind (h4.conseq ?_ (BI.Entails.refl _)) (h5.conseq ?_ (BI.Entails.refl _)))))
  · unfold barTok
    iintro ⟨-, HO, ⟨HT0, HT1, HT2⟩, HC, HP, HS, Hacc, Hst, Hout, Hx⟩
    ihave HL := hl $$ [Hst Hout]
    · isplitl [Hst] <;> iassumption
    rw [bigSep_four]
    icases HL with ⟨⟨H0, H1, H2, H3⟩, Ho⟩
    isplitl [HO HT0 H2 H3]
    · isplitl [HO]; · iexact HO
      isplitl [HT0]; · iexact HT0
      isplitl [H2] <;> iassumption
    isplitl [HT1 H0 H1]
    · isplitl [HT1]; · iexact HT1
      isplitl [H0] <;> iassumption
    isplitl [HT2 Hx]; · isplitl [HT2] <;> iassumption
    isplitl [HC HP]; · isplitl [HC] <;> iassumption
    isplitl [HS Hacc]; · isplitl [HS] <;> iassumption
    iexact Ho
  · iintro ⟨-, HO, ⟨H1, H2⟩, H3⟩
    isplitl [HO H1 H2]
    · isplitl [HO]; · iexact HO
      isplitl [H1] <;> iassumption
    · iexact H3
  · iintro ⟨-, HO, ⟨H1, H2⟩, H3⟩
    isplitl [HO H1 H2]
    · isplitl [HO]; · iexact HO
      isplitl [H1] <;> iassumption
    · iexact H3
  · iintro ⟨-, HO, ⟨H1, H2⟩, H3, H4⟩
    isplitl [H3]; · iexact H3
    isplitr [H4]
    · isplitl [HO]; · iexact HO
      isplitl [H1] <;> iassumption
    · iexact H4
  · iintro ⟨-, H3, ⟨HO, H1⟩, H4⟩
    isplitl [HO H1]
    · isplitl [HO] <;> iassumption
    isplitl [H3] <;> iassumption

end Cert.KernelIdeal.AR

end
-- ==== Proof.Body.lean ====
module

public import proofs.«01_k».proof.Proof.Prologue

@[expose] public section

noncomputable section

/-! # The kernel's body -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

/-! ## Over all of a device's semaphores -/

theorem bigSep_J {M : Type _} [URA M] (Φ : J → sProp M) : bigSep Finset.univ Φ
    = iprop(Φ (.send 0) ∗ Φ (.send 1) ∗ Φ (.recv 0) ∗ Φ (.recv 1) ∗ Φ (.cred 0) ∗ Φ (.cred 1) ∗ Φ .xs ∗ Φ .xr) :=
  bigSep_univ_eq_bigSepL [J.send 0, J.send 1, J.recv 0, J.recv 1, J.cred 0, J.cred 1, J.xs, J.xr] (by decide) (by decide) Φ
theorem bigSep_opt {M : Type _} [URA M] {α : Type} [Fintype α] [DecidableEq α] (Φ : Option α → sProp M) :
    bigSep Finset.univ Φ = iprop(Φ none ∗ bigSep Finset.univ fun a => Φ (some a)) := by
  have h : (Finset.univ : Finset (Option α)).erase none = Finset.univ.map Function.Embedding.some := by
    ext x; rcases x with _ | x <;> simp
  rw [bigSep_erase (Finset.mem_univ none), h, bigSep_map]
  rfl
theorem bigSep_Ci {M : Type _} [URA M] (Φ : Ci → sProp M) : bigSep Finset.univ Φ
    = iprop(Φ none ∗ bigSep Finset.univ fun st : Fin 4 => iprop(Φ (some (st, .send 0)) ∗ Φ (some (st, .send 1)) ∗ Φ (some (st, .recv 0)) ∗ Φ (some (st, .recv 1))
      ∗ Φ (some (st, .cred 0)) ∗ Φ (some (st, .cred 1)) ∗ Φ (some (st, .xs)) ∗ Φ (some (st, .xr)))) := by
  rw [bigSep_opt, bigSep_univ_prod]
  simp only [bigSep_J]

theorem bigSep_wp {M : Type _} [URA M] {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
theorem bigSep_six {M : Type _} [URA M] {I : Type} [DecidableEq I] (S : Finset I) (Φ1 Φ2 Φ3 Φ4 Φ5 Φ6 : I → sProp M) :
    (bigSep S fun i => iprop(Φ1 i ∗ Φ2 i ∗ Φ3 i ∗ Φ4 i ∗ Φ5 i ∗ Φ6 i)) = iprop(bigSep S Φ1 ∗ bigSep S Φ2 ∗ bigSep S Φ3 ∗ bigSep S Φ4 ∗ bigSep S Φ5 ∗ bigSep S Φ6) := by
  simp only [bigSep_sep']

/-! ## The cells close -/

theorem dut_late (i : Ci) (r : ℕ) (h : 15 ≤ r ∨ (i ∈ (Finset.univ : Finset Ci).filter (fun i => dut i 14 = ∅) ∧ 14 ≤ r) ∨ (i ∈ (Finset.univ : Finset Ci).filter (fun i => dut i 1 = ∅) ∧ 1 ≤ r)) : dut i r = ∅ := by
  simp only [Finset.mem_filter, Finset.mem_univ, true_and] at h
  rcases i with _ | ⟨st, s | s | s | _ | _⟩ <;> simp only [dut] at h ⊢ <;> refine if_neg ?_ <;> rcases h with h | ⟨h, h'⟩ | ⟨h, h'⟩ <;>
    first
    | omega
    | exact absurd h (by simp)

theorem close (c : Dev nD) (i : Ci) (r : ℕ) (h : ∀ r', r ≤ r' → dut i r' = ∅) : iprop(recs A K ∗ pos c i r) ⊢ (|={Set.univ}=> semVal (cell c i) 0 : sProp 𝕄) := by
  unfold pos
  iintro ⟨#Hr, Hat, -⟩
  imod (Rounds.cell_close ER (ringRd A) (Set.mem_univ (K (c, i))) (fun h => h) (R := r) (fun r' hr => (duties_cell A c i r').trans (h r' hr))) $$ [Hat] with Hz
  · isplitr; · iapply (recs_inv A K c i); iexact Hr
    iexact Hat
  imodintro
  iexact Hz

/-- A stream's semaphores at zero. -/
def zeros (c : Dev nD) (st : Fin 4) : sProp 𝕄 :=
  iprop(semVal (cell c (some (st, .send 0))) 0 ∗ semVal (cell c (some (st, .send 1))) 0 ∗ semVal (cell c (some (st, .recv 0))) 0 ∗ semVal (cell c (some (st, .recv 1))) 0
    ∗ semVal (cell c (some (st, .cred 0))) 0 ∗ semVal (cell c (some (st, .cred 1))) 0 ∗ semVal (cell c (some (st, .xs))) 0 ∗ semVal (cell c (some (st, .xr))) 0)

theorem close_stream (c : Dev nD) (st : Fin 4) : iprop(recs A K ∗ (Led c st 30 30 28 28 ∗ XR c st 1)) ⊢ (|={Set.univ}=> zeros c st : sProp 𝕄) := by
  unfold Led XR pos2
  iintro ⟨#Hr, ⟨-, -, -, -, ⟨H1, H2⟩, ⟨H3, H4⟩, ⟨H5, H6⟩⟩, H7, H8⟩
  imod (close (A := A) (K := K) c (some (st, .send 0)) 15 (fun r' h => by simp only [dut]; exact if_neg (by omega))) $$ [H1] with H1
  · isplitr; · iexact Hr
    iexact H1
  imod (close (A := A) (K := K) c (some (st, .send 1)) 15 (fun r' h => by simp only [dut]; exact if_neg (by omega))) $$ [H2] with H2
  · isplitr; · iexact Hr
    iexact H2
  imod (close (A := A) (K := K) c (some (st, .recv 0)) 15 (fun r' h => by simp only [dut]; exact if_neg (by omega))) $$ [H3] with H3
  · isplitr; · iexact Hr
    iexact H3
  imod (close (A := A) (K := K) c (some (st, .recv 1)) 15 (fun r' h => by simp only [dut]; exact if_neg (by omega))) $$ [H4] with H4
  · isplitr; · iexact Hr
    iexact H4
  imod (close (A := A) (K := K) c (some (st, .cred 0)) 14 (fun r' h => by simp only [dut]; exact if_neg (by omega))) $$ [H5] with H5
  · isplitr; · iexact Hr
    iexact H5
  imod (close (A := A) (K := K) c (some (st, .cred 1)) 14 (fun r' h => by simp only [dut]; exact if_neg (by omega))) $$ [H6] with H6
  · isplitr; · iexact Hr
    iexact H6
  imod (close (A := A) (K := K) c (some (st, .xs)) 1 (fun r' h => by simp only [dut]; exact if_neg (by omega))) $$ [H7] with H7
  · isplitr; · iexact Hr
    iexact H7
  imod (close (A := A) (K := K) c (some (st, .xr)) 1 (fun r' h => by simp only [dut]; exact if_neg (by omega))) $$ [H8] with H8
  · isplitr; · iexact Hr
    iexact H8
  imodintro
  unfold zeros
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem close_all (c : Dev nD) : iprop(recs A K ∗ pos c none 1 ∗ bigSep Finset.univ fun st => iprop(Led c st 30 30 28 28 ∗ XR c st 1))
    ⊢ (|={Set.univ}=> bigSep Finset.univ fun i : Ci => semVal (cell c i) 0 : sProp 𝕄) := by
  rw [bigSep_Ci]
  iintro ⟨#Hr, H0, HS⟩
  imod (close (A := A) (K := K) c none 1 (fun r' h => by simp only [dut]; exact if_neg (by omega))) $$ [H0] with H0
  · isplitr; · iexact Hr
    iexact H0
  imod (etr (bigSep_wp (R := recs A K) (Φ := fun st => iprop(Led c st 30 30 28 28 ∗ XR c st 1)) fun st (_ : st ∈ Finset.univ) => close_stream c st) (bigSep_fupd _ _)) $$ [HS] with HS
  · isplitr; · iexact Hr
    iexact HS
  imodintro
  isplitl [H0]; · iexact H0
  unfold zeros
  iexact HS

/-! ## The body -/

/-- The tokens and positions of a stream. -/
def Seed (c : Dev nD) (st : Fin 4) : sProp 𝕄 :=
  iprop(Led c st 0 0 0 0 ∗ (dutyTok ER (cell (mir c) (xrI st)) 0 0 ∗ dutyTok ER (cell c (xsI st)) 0 0) ∗ cred (tallyAt (cell c (xrI st)) 0 N) ∗ XR c st 0)

def BPre (c : Dev nD) (x : Vec F S1024x2048 .f32) (wd : Vec F S2048x128 .f32) (wk wv : Vec F S128x2048 .f32) : sProp 𝕄 :=
  iprop((Ow c (owed0 c) ∗ barTok c ∗ cred (tallyAt (cell c none) 0 3) ∗ pos c none 0
      ∗ (opX c x ∗ opD c wd ∗ opK c wk ∗ opV c wv) ∗ owE c accM ∗ owE c stageM ∗ owE c outM ∗ owE c xstM)
    ∗ owE c sendM ∗ bigSep Finset.univ (Seed c))
def BPost (A : Dev nD → (S1024x4096.Idx → Elt F .f32)) (c : Dev nD) (x : Vec F S1024x2048 .f32) (wd : Vec F S2048x128 .f32) (wk wv : Vec F S128x2048 .f32) : sProp 𝕄 :=
  iprop(Ow c 0 ∗ (opX c x ∗ opD c wd ∗ opK c wk ∗ opV c wv) ∗ ow c outM (outAt A c) ∗ (owE c accM ∗ owE c stageM ∗ owE c sendM ∗ owE c xstM)
    ∗ bigSep Finset.univ fun i : Ci => semVal (cell c i) 0)

theorem start_one (c : Dev nD) (st : Fin 4) :
    iprop(barPay c st ∗ owE (mir c) (xstS st) ∗ acc A c st 0 ∗ owE c (outK st (olab st c 0)) ∗ (owE c (sendS st 0) ∗ owE c (sendS st 1)) ∗ Seed c st) ⊢ SS A c st := by
  unfold barPay Seed SS Ex XS dnO
  iintro ⟨⟨H1, H2⟩, H3, H4, H5, H6, H7, ⟨H8, H9⟩, H10, H11⟩
  isplitl [H1 H4 H6 H7]
  · isplitl [H7]; · iexact H7
    isplitl [H4]; · iexact H4
    isplitl [H6] <;> iassumption
  isplitl [H3 H8 H9]
  · isplitl [H8]; · iexact H8
    isplitl [H9] <;> iassumption
  isplitl [H10 H11]; · isplitl [H10] <;> iassumption
  isplitl [H5] <;> iassumption

theorem start_all (c : Dev nD) :
    iprop((bigSep Finset.univ fun st => barPay c st) ∗ (bigSep Finset.univ fun st => owE (mir c) (xstS st)) ∗ ow c accM (A c)
      ∗ (bigSep Finset.univ fun st => owE c (outK st (olab st c 0))) ∗ owE c sendM ∗ bigSep Finset.univ (Seed c)) ⊢ (bigSep Finset.univ (SS A c) : sProp 𝕄) := by
  refine etr ?_ (etr (Entails.of_eq (bigSep_six Finset.univ (fun st => barPay c st) (fun st => owE (mir c) (xstS st)) (fun st => acc A c st 0) (fun st => owE c (outK st (olab st c 0)))
    (fun st => iprop(owE c (sendS st 0) ∗ owE c (sendS st 1))) (Seed c)).symm) (bmono fun st _ => start_one (A := A) c st))
  iintro ⟨H1, H2, H3, H4, H5, H6⟩
  isplitl [H1]; · iexact H1
  isplitl [H2]; · iexact H2
  isplitl [H3]; · iapply (acc_split c); iexact H3
  isplitl [H4]; · iexact H4
  isplitr [H6]
  · ihave H := (Entails.of_eq (slots_eq c sendM)) $$ H5
    iexact H
  · iexact H6

theorem end_one (c : Dev nD) (st : Fin 4) : iprop(SZ A c st ∗ Zz A c st)
    ⊢ iprop((Led c st 30 30 28 28 ∗ XR c st 1) ∗ outs A c st 16 ∗ acc A c st 15 ∗ (owE c (stageS st 0) ∗ owE c (stageS st 1)) ∗ (owE c (sendS st 0) ∗ owE c (sendS st 1)) ∗ owE c (xstS st)) := by
  unfold SZ Zz
  iintro ⟨⟨H1, H2⟩, H3, H4, H5, H6, H7⟩
  isplitl [H1 H7]; · isplitl [H1] <;> iassumption
  isplitl [H2]; · iexact H2
  isplitl [H3]; · iexact H3
  isplitl [H5]; · iexact H5
  isplitl [H4] <;> iassumption

theorem end_all (c : Dev nD) : (bigSep Finset.univ fun st => iprop(SZ A c st ∗ Zz A c st) : sProp 𝕄)
    ⊢ iprop((bigSep Finset.univ fun st => iprop(Led c st 30 30 28 28 ∗ XR c st 1)) ∗ ow c outM (outAt A c) ∗ owE c accM ∗ owE c stageM ∗ owE c sendM ∗ owE c xstM) := by
  refine etr (bmono fun st _ => end_one c st) ?_
  rw [bigSep_six Finset.univ (fun st => iprop(Led c st 30 30 28 28 ∗ XR c st 1)) (fun st => outs A c st 16) (fun st => acc A c st 15)
    (fun st => iprop(owE c (stageS st 0) ∗ owE c (stageS st 1))) (fun st => iprop(owE c (sendS st 0) ∗ owE c (sendS st 1))) (fun st => owE c (xstS st))]
  rw [← slots_eq c stageM, ← slots_eq c sendM, ← xslots_eq c]
  iintro ⟨H1, H2, H3, H4, H5, H6⟩
  isplitl [H1]; · iexact H1
  isplitl [H2]; · iapply (out_join c); iexact H2
  isplitl [H3]; · iapply (acc_join c); iexact H3
  isplitl [H4]; · iexact H4
  isplitl [H5] <;> iassumption

theorem Tr.fin {c : Dev nD} {P Q : sProp 𝕄} (h : iprop(recs A K ∗ P) ⊢ |={Set.univ}=> Q) : Tr A K c P (Prog.ret ⟨⟩) Q := fun Kt => by
  show _ ⊢ wp _ _ _ _ _
  iintro ⟨#Hr, HP, Hk⟩
  rw [wp_ret]
  imod h $$ [HP] with HQ
  · isplitr; · iexact Hr
    iexact HP
  imodintro
  iapply Hk; iexact HQ

theorem Tr.wp {c : Dev nD} {P Q : sProp 𝕄} {p : Prog (TpuEff nD τ sig (Elt F) Λ₀ .tc) PUnit} (h : Tr A K c P p Q) (Kt : PUnit → sProp 𝕄) :
    iprop(recs A K ∗ P ∗ (Q -∗ Kt ⟨⟩)) ⊢ WP c p Kt := h Kt

theorem fin_all (c : Dev nD) (x : Vec F S1024x2048 .f32) (wd : Vec F S2048x128 .f32) (wk wv : Vec F S128x2048 .f32) :
    iprop(recs A K ∗ ((Ow c (owedS c fun _ => ⟨30, 28, 1⟩) ∗ bigSep Finset.univ fun st => iprop(SZ A c st ∗ Zz A c st)) ∗ (opX c x ∗ opD c wd ∗ opK c wk ∗ opV c wv) ∗ pos c none 1))
      ⊢ (|={Set.univ}=> BPost A c x wd wk wv : sProp 𝕄) := by
  rw [owed_end]
  unfold BPost
  iintro ⟨#Hr, ⟨HO, HS⟩, Hop, HP⟩
  ihave H := (end_all (A := A) c) $$ HS
  icases H with ⟨HL, Hout, Ha, Hst, Hsd, Hx⟩
  imod (close_all (A := A) (K := K) c) $$ [HP HL] with Hz
  · isplitr; · iexact Hr
    isplitl [HP] <;> iassumption
  imodintro
  isplitl [HO]; · iexact HO
  isplitl [Hop]; · iexact Hop
  isplitl [Hout]; · iexact Hout
  isplitr [Hz]
  · isplitl [Ha]; · iexact Ha
    isplitl [Hst]; · iexact Hst
    isplitl [Hsd] <;> iassumption
  · iexact Hz

theorem bind_ret' (p q : Prog (TpuEff nD τ sig (Elt F) Λ₀ .tc) PUnit) : (p >>= fun _ => q) = (p >>= fun _ => q >>= fun _ => Prog.ret ⟨⟩) := by
  have h : (q >>= fun _ => Prog.ret ⟨⟩) = q := bind_pure q
  rw [h]
theorem body_eq (O : Offs) (c : Dev nD) : (body O c : Prog (TpuEff nD τ sig (Elt F) Λ₀ .tc) PUnit) = (prologue c >>= fun _ => streams O c >>= fun _ => Prog.ret ⟨⟩) :=
  bind_ret' (prologue c) (streams O c)

attribute [local irreducible] Tr

theorem tr_body (c : Dev nD) (x : Vec F S1024x2048 .f32) (wd : Vec F S2048x128 .f32) (wk wv : Vec F S128x2048 .f32) (hA : A c = prod x wd wk wv) :
    Tr A K c (BPre c x wd wk wv) (body (offs c) c) (BPost A c x wd wk wv) := by
  have h1 := (tr_prologue (A := A) (K := K) c x wd wk wv).frame (R := iprop(owE c sendM ∗ bigSep Finset.univ (Seed c)))
  have h2 := (tr_streams (A := A) (K := K) c).frame (R := iprop((opX c x ∗ opD c wd ∗ opK c wk ∗ opV c wv) ∗ pos c none 1))
  have h3 := Tr.fin (c := c) (fin_all (A := A) (K := K) c x wd wk wv)
  rw [body_eq]
  refine Tr.bind (h1.conseq (by unfold BPre; exact sep_elim_right) (BI.Entails.refl _)) (Tr.bind (h2.conseq ?_ (BI.Entails.refl _)) h3)
  iintro ⟨-, ⟨⟨HO, HP, HB, HX⟩, ⟨Hop, Hacc⟩, Ho⟩, Hs, Hsd⟩
  rw [← hA]
  isplitl [HO HB HX Hacc Ho Hs Hsd]
  · isplitl [HO]; · iexact HO
    iapply (start_all c)
    isplitl [HB]; · iexact HB
    isplitl [HX]; · iexact HX
    isplitl [Hacc]; · iexact Hacc
    isplitl [Ho]; · iexact Ho
    isplitl [Hs] <;> iassumption
  · isplitl [Hop] <;> iassumption

end Cert.KernelIdeal.AR

end
-- ==== Proof.Deal.lean ====
module

public import proofs.«01_k».proof.Proof.Body
public import Idealize.ShloMosaic.Lib.Pipeline.Launch
public import Idealize.ShloMosaic.Lib.Pipeline.Kit

@[expose] public section

noncomputable section

/-! # What the launch mints, dealt to the devices that use it -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.KernelIdeal Cert.KernelIdeal.Gen

variable {F : FTy → Type} [FloatOps F]

local notation "𝕄" => MT nD τ sig ℕ (Elt F) ℕ UU ℕ

variable {A : Dev nD → (S1024x4096.Idx → Elt F .f32)} {K : Dev nD × Ci → ℕ}

theorem bsub {I : Type} [DecidableEq I] {s t : Finset I} {Φ : I → sProp 𝕄} (h : t ⊆ s) : iprop(bigSep s Φ) ⊢ iprop(bigSep t Φ) := bigSep_subset h
theorem belim {I : Type} [DecidableEq I] {s : Finset I} {Φ : I → sProp 𝕄} {i : I} (h : i ∈ s) : iprop(bigSep s Φ) ⊢ iprop(Φ i) := bigSep_elim h

/-! ## The tokens -/

def ringCells : Finset (GSem nD τ sig) := Finset.univ.map ⟨_, cell_injective⟩

/-- The duty named by a device's semaphore, a round and a payer. -/
abbrev tokOf (x : (Dev nD × Ci) × (Fin 15 × Fin 3)) : GSem nD τ sig × ℕ × Fin 3 := (cell x.1.1 x.1.2, x.2.1.val, x.2.2)
theorem tokOf_injective : Function.Injective tokOf := by
  rintro ⟨ci, r, d⟩ ⟨ci', r', d'⟩ h
  have h1 : ci = ci' := cell_injective (congrArg (fun x : GSem nD τ sig × ℕ × Fin 3 => x.1) h)
  have h2 : r = r' := Fin.ext (congrArg (fun x : GSem nD τ sig × ℕ × Fin 3 => x.2.1) h)
  have h3 : d = d' := congrArg (fun x : GSem nD τ sig × ℕ × Fin 3 => x.2.2) h
  rw [h1, h2, h3]
def ringToks : Finset (GSem nD τ sig × ℕ × Fin 3) := Finset.univ.map ⟨tokOf, tokOf_injective⟩

theorem bigSep_fin {M : Type _} [URA M] (n : ℕ) (Φ : ℕ → sProp M) :
    (bigSep (Finset.univ : Finset (Fin n)) fun r => Φ r.val) = bigSep (Finset.range n) Φ := by
  rw [show Finset.range n = (Finset.univ : Finset (Fin n)).map Fin.valEmbedding from by
    ext x; rw [Finset.mem_range, Finset.mem_map]
    exact ⟨fun h => ⟨⟨x, h⟩, Finset.mem_univ _, rfl⟩, fun ⟨y, _, h⟩ => h ▸ y.isLt⟩, bigSep_map]
  rfl

/-- The token of duty `d` of round `r` of a device's semaphore. -/
abbrev tok (c : Dev nD) (i : Ci) (r : ℕ) (d : Fin 3) : sProp 𝕄 := dutyTok ER (cell c i) r d

def toksAt (c : Dev nD) (i : Ci) : sProp 𝕄 := bigSep (Finset.range 15) fun r => bigSep Finset.univ fun d => tok c i r d
/-- The tokens of a device's own semaphores, as minted. -/
def toks (c : Dev nD) : sProp 𝕄 := bigSep Finset.univ fun i => toksAt c i

theorem ringToks_eq : bigSep ringToks (fun x => (dutyTok ER x.1 x.2.1 x.2.2 : sProp 𝕄)) = bigSep Finset.univ fun c : Dev nD => toks c := by
  unfold ringToks
  rw [bigSep_map, bigSep_univ_prod, bigSep_univ_prod]
  refine bigSep_congr fun c _ => ?_
  unfold toks
  refine bigSep_congr fun i _ => ?_
  unfold toksAt
  rw [bigSep_univ_prod, ← bigSep_fin]; rfl

/-- Uses of two slots, round by round, are uses one after the other. -/
theorem bigSep_slots {M : Type _} [URA M] (Φ : Fin 2 → ℕ → sProp M) (n : ℕ) :
    iprop((bigSep (Finset.range n) fun r => Φ 0 r) ∗ bigSep (Finset.range n) fun r => Φ 1 r)
      ⊢ bigSep (Finset.range (2 * n)) fun v => Φ (slot v) (v / 2) := by
  induction n with
  | zero => rw [show 2 * 0 = 0 from rfl, Finset.range_zero, bigSep_empty]; iintro ⟨-, -⟩; iempintro
  | succ n ih =>
    rw [show 2 * (n + 1) = 2 * n + 1 + 1 from by omega]
    simp only [bigSep_range_succ]
    have h0 : slot (2 * n) = 0 := by unfold slot; exact Fin.ext (by show 2 * n % 2 = 0; omega)
    have h1 : slot (2 * n + 1) = 1 := by unfold slot; exact Fin.ext (by show (2 * n + 1) % 2 = 1; omega)
    rw [h0, h1, show 2 * n / 2 = n from by omega, show (2 * n + 1) / 2 = n from by omega]
    iintro ⟨⟨Ha, Hb⟩, Hc, Hd⟩
    isplitl [Hc]; · iexact Hc
    isplitl [Ha]; · iexact Ha
    iapply ih
    isplitl [Hb] <;> iassumption

theorem toksAt_zero (c : Dev nD) (i : Ci) : toksAt (F := F) c i ⊢ bigSep (Finset.range 15) fun r => tok c i r 0 := by
  unfold toksAt
  exact bigSep_mono fun r _ => bigSep_elim (Finset.mem_univ (0 : Fin 3))
theorem toksAt_first (c : Dev nD) (i : Ci) : toksAt (F := F) c i ⊢ tok c i 0 0 :=
  (toksAt_zero c i).trans (bigSep_elim (Finset.mem_range.mpr (by decide)))
theorem toksAt_bar (c : Dev nD) (i : Ci) : toksAt (F := F) c i ⊢ iprop(tok c i 0 0 ∗ tok c i 0 1 ∗ tok c i 0 2) := by
  unfold toksAt
  refine (bigSep_elim (Φ := fun r => bigSep Finset.univ fun d => tok c i r d) (Finset.mem_range.mpr (show 0 < 15 by decide))).trans ?_
  exact Entails.of_eq (bigSep_univ_eq_bigSepL [0, 1, 2] (by decide) (by decide) _)

/-- The tokens of one stream's semaphores of a device. -/
def ownToks (c : Dev nD) (st : Fin 4) : sProp 𝕄 :=
  iprop((bigSep (Finset.range 30) fun v => tok c (sendI st v) (v / 2) 0) ∗ (bigSep (Finset.range 30) fun v => tok c (recvI st v) (v / 2) 0)
    ∗ (bigSep (Finset.range 28) fun v => tok c (credI st v) (v / 2) 0) ∗ tok c (xrI st) 0 0 ∗ tok c (xsI st) 0 0)

theorem toks_stream (c : Dev nD) (st : Fin 4) : (bigSep Finset.univ fun j : J => toksAt (F := F) c (some (st, j))) ⊢ ownToks c st := by
  rw [bigSep_J]
  unfold ownToks
  iintro ⟨S0, S1, R0, R1, C0, C1, XS, XR⟩
  isplitl [S0 S1]
  · iapply (bigSep_slots (fun s r => tok (F := F) c (some (st, .send s)) r 0) 15)
    isplitl [S0]
    · iapply (toksAt_zero c _); iexact S0
    · iapply (toksAt_zero c _); iexact S1
  isplitl [R0 R1]
  · iapply (bigSep_slots (fun s r => tok (F := F) c (some (st, .recv s)) r 0) 15)
    isplitl [R0]
    · iapply (toksAt_zero c _); iexact R0
    · iapply (toksAt_zero c _); iexact R1
  isplitl [C0 C1]
  · iapply (bsub (F := F) (s := Finset.range (2 * 15)) (t := Finset.range 28) (Φ := fun v => tok (F := F) c (credI st v) (v / 2) 0) (Finset.range_subset_range.mpr (by decide)))
    iapply (bigSep_slots (fun s r => tok (F := F) c (some (st, .cred s)) r 0) 15)
    isplitl [C0]
    · iapply (toksAt_zero c _); iexact C0
    · iapply (toksAt_zero c _); iexact C1
  isplitl [XR]
  · iapply (toksAt_first c _); iexact XR
  · iapply (toksAt_first c _); iexact XS

theorem toks_own (c : Dev nD) : toks (F := F) c ⊢ iprop((tok c none 0 0 ∗ tok c none 0 1 ∗ tok c none 0 2) ∗ bigSep Finset.univ fun st => ownToks c st) := by
  unfold toks
  rw [bigSep_opt, bigSep_univ_prod]
  exact BI.sep_mono (toksAt_bar c none) (bigSep_mono fun st _ => toks_stream c st)

/-- The tokens a device pays with on one stream. -/
def payTok1 (c : Dev nD) (st : Fin 4) : sProp 𝕄 :=
  iprop(Tk c st 0 ∗ TkC c st 0 ∗ dutyTok ER (cell (mir c) (xrI st)) 0 0 ∗ dutyTok ER (cell c (xsI st)) 0 0)
def payToks (c : Dev nD) : sProp 𝕄 := iprop(barTok c ∗ bigSep Finset.univ fun st => payTok1 c st)

def dnE (st : Fin 4) : Dev nD ≃ Dev nD := ⟨dn st, up st, up_dn st, dn_up st⟩
def mirE : Dev nD ≃ Dev nD := ⟨mir, mir, mir_mir, mir_mir⟩
def nxtE : Dev nD ≃ Dev nD := ⟨nxt, prv, prv_nxt, nxt_prv⟩

theorem ownToks_around (st : Fin 4) : (bigSep Finset.univ fun c : Dev nD => ownToks (F := F) c st) ⊢ bigSep Finset.univ fun c : Dev nD => payTok1 c st := by
  unfold ownToks payTok1 Tk TkC
  simp only [bigSep_sep', Finset.range_eq_Ico]
  rw [bigSep_univ_equiv (dnE st) (fun c : Dev nD => bigSep (Finset.Ico 0 30) fun v => tok (F := F) c (recvI st v) (v / 2) 0),
    bigSep_univ_equiv (dnE st).symm (fun c : Dev nD => bigSep (Finset.Ico 0 28) fun v => tok (F := F) c (credI st v) (v / 2) 0),
    bigSep_univ_equiv mirE (fun c : Dev nD => tok (F := F) c (xrI st) 0 0)]
  iintro ⟨HS, HR, HC, HX, HY⟩
  isplitl [HS HR]
  · isplitl [HR]
    · iexact HR
    · iexact HS
  isplitl [HC]; · iexact HC
  isplitl [HX]; · iexact HX
  iexact HY

theorem toks_around : (bigSep Finset.univ fun c : Dev nD => toks (F := F) c) ⊢ bigSep Finset.univ fun c : Dev nD => payToks c := by
  refine (bigSep_mono fun c _ => toks_own c).trans ?_
  have hB : (bigSep Finset.univ fun c : Dev nD => iprop(tok (F := F) c none 0 0 ∗ tok c none 0 1 ∗ tok c none 0 2)) ⊢ bigSep Finset.univ fun c : Dev nD => barTok c := by
    unfold barTok
    simp only [bigSep_sep']
    rw [bigSep_univ_equiv nxtE (fun c : Dev nD => tok (F := F) c none 0 0),
      bigSep_univ_equiv nxtE.symm (fun c : Dev nD => tok (F := F) c none 0 1),
      bigSep_univ_equiv mirE (fun c : Dev nD => tok (F := F) c none 0 2)]
    exact BI.Entails.refl _
  have hS : (bigSep Finset.univ fun c : Dev nD => bigSep Finset.univ fun st => ownToks (F := F) c st) ⊢ bigSep Finset.univ fun c : Dev nD => bigSep Finset.univ fun st => payTok1 c st := by
    rw [bigSep_univ_comm (fun (c : Dev nD) st => ownToks (F := F) c st), bigSep_univ_comm (fun (c : Dev nD) st => payTok1 (F := F) c st)]
    exact bmono fun st _ => ownToks_around st
  unfold payToks
  rw [bigSep_sep' Finset.univ (fun c : Dev nD => iprop(tok (F := F) c none 0 0 ∗ tok c none 0 1 ∗ tok c none 0 2)), bigSep_sep' Finset.univ (fun c : Dev nD => barTok (F := F) c)]
  exact esep hB hS

/-! ## The credits -/

/-- The credit a device starts one stream with. -/
def cred1 (c : Dev nD) (st : Fin 4) : sProp 𝕄 := iprop(CrR c st 0 ∗ CrK c st 0 ∗ cred (tallyAt (cell c (xrI st)) 0 N))

theorem cred_stream (c : Dev nD) (st : Fin 4) : (Pipeline.launchCred (fun d => owed1 d st ⟨0, 0, 0⟩) c : sProp 𝕄) ⊢ cred1 c st := by
  have hR (v : ℕ) : (Pipeline.launchCred (fun d => recvT d st v) c : sProp 𝕄) ⊢ cred (tallyAt (cell c (recvI st v)) v N) :=
    Pipeline.launchCred_tallyAt (csem (recvI st v)) (dn st) (up st) (dn_up st) (up_dn st) v N c
  have hC (v : ℕ) : (Pipeline.launchCred (fun d => credT d st v) c : sProp 𝕄) ⊢ cred (tallyAt (cell c (credI st v)) v 1) :=
    Pipeline.launchCred_tallyAt (csem (credI st v)) (up st) (dn st) (up_dn st) (dn_up st) v 1 c
  have hX : (Pipeline.launchCred (fun d => xT d st) c : sProp 𝕄) ⊢ cred (tallyAt (cell c (xrI st)) 0 N) :=
    Pipeline.launchCred_tallyAt (csem (xrI st)) mir mir mir_mir mir_mir 0 N c
  unfold owed1 cred1 CrR CrK
  dsimp only
  rw [Pipeline.launchCred_add (fun d => (∑ v ∈ Finset.Ico 0 30, recvT d st v) + ∑ v ∈ Finset.Ico 0 28, credT d st v) (fun d => ∑ _v ∈ Finset.Ico 0 1, xT d st) c,
    Pipeline.launchCred_add (fun d => ∑ v ∈ Finset.Ico 0 30, recvT d st v) (fun d => ∑ v ∈ Finset.Ico 0 28, credT d st v) c,
    Pipeline.launchCred_sum (Finset.Ico 0 30) (fun v d => recvT d st v) c, Pipeline.launchCred_sum (Finset.Ico 0 28) (fun v d => credT d st v) c,
    Pipeline.launchCred_sum (Finset.Ico 0 1) (fun _ d => xT d st) c]
  refine etr (esep (esep (bmono fun v _ => hR v) (bmono fun v _ => hC v)) (bmono fun _ _ => hX)) ?_
  iintro ⟨⟨H1, H2⟩, H3⟩
  isplitl [H1]; · iexact H1
  isplitl [H2]; · iexact H2
  iapply (belim (F := F) (Φ := fun _ : ℕ => cred (tallyAt (cell c (xrI st)) 0 N)) (s := Finset.Ico 0 1) (i := 0) (by decide)); iexact H3

theorem creds (c : Dev nD) : (Pipeline.launchCred owed0 c : sProp 𝕄) ⊢ iprop(cred (tallyAt (cell c none) 0 3) ∗ bigSep Finset.univ fun st => cred1 c st) := by
  have hB (f g : Dev nD → Dev nD) (h1 : ∀ c, f (g c) = c) (h2 : ∀ c, g (f c) = c) :
      (Pipeline.launchCred (fun d => barT (f d)) c : sProp 𝕄) ⊢ cred (tallyAt (cell c none) 0 1) :=
    Pipeline.launchCred_tallyAt (csem none) f g h1 h2 0 1 c
  have h0 : (fun d => owed0 d) = fun d => ((((∑ st, owed1 d st ⟨0, 0, 0⟩) + barT (mir d)) + barT (prv d)) + barT (nxt d)) := rfl
  show (Pipeline.launchCred (fun d => owed0 d) c : sProp 𝕄) ⊢ _
  rw [h0]
  rw [Pipeline.launchCred_add (fun d => (∑ st, owed1 d st ⟨0, 0, 0⟩) + barT (mir d) + barT (prv d)) (fun d => barT (nxt d)) c,
    Pipeline.launchCred_add (fun d => (∑ st, owed1 d st ⟨0, 0, 0⟩) + barT (mir d)) (fun d => barT (prv d)) c,
    Pipeline.launchCred_add (fun d => ∑ st, owed1 d st ⟨0, 0, 0⟩) (fun d => barT (mir d)) c,
    Pipeline.launchCred_sum Finset.univ (fun st d => owed1 d st ⟨0, 0, 0⟩) c]
  refine etr (esep (esep (esep (bmono fun st _ => cred_stream c st) (hB mir mir mir_mir mir_mir))
    (hB prv nxt prv_nxt nxt_prv)) (hB nxt prv nxt_prv prv_nxt)) ?_
  rw [show (tallyAt (cell c none) 0 3 : CellTallies nD τ sig ℕ) = tallyAt (cell c none) 0 1 + tallyAt (cell c none) 0 1 + tallyAt (cell c none) 0 1 from by
    rw [tallyAt_add, tallyAt_add]]
  iintro ⟨⟨⟨H1, H2⟩, H3⟩, H4⟩
  isplitl [H2 H3 H4]
  · iapply (cred_add _ _).2
    isplitl [H2 H3]
    · iapply (cred_add _ _).2
      isplitl [H2] <;> iassumption
    · iexact H4
  · iexact H1

/-! ## A stream's start -/

theorem seeds_start (c : Dev nD) (st : Fin 4) :
    iprop((bigSep Finset.univ fun j : J => pos (F := F) c (some (st, j)) 0) ∗ payTok1 c st ∗ cred1 c st) ⊢ Seed c st := by
  rw [bigSep_J]
  unfold Seed payTok1 cred1 Led XR pos2
  iintro ⟨⟨S0, S1, R0, R1, C0, C1, HXS, HXR⟩, ⟨T, TC, TX, TY⟩, CR, CK, CX⟩
  isplitl [T TC CR CK S0 S1 R0 R1 C0 C1]
  · isplitl [T]; · iexact T
    isplitl [CR]; · iexact CR
    isplitl [TC]; · iexact TC
    isplitl [CK]; · iexact CK
    isplitl [S0 S1]
    · isplitl [S0]
      · iexact S0
      · iexact S1
    isplitl [R0 R1]
    · isplitl [R0]
      · iexact R0
      · iexact R1
    isplitl [C0]
    · iexact C0
    · iexact C1
  isplitl [TX TY]
  · isplitl [TX] <;> iassumption
  isplitl [CX]; · iexact CX
  isplitl [HXS] <;> iassumption

end Cert.KernelIdeal.AR

end
-- ==== Proof.Launch.lean ====
module

public import proofs.«01_k».proof.Proof.Deal
public import proofs.«01_k».proof.Proof.Gen.KernelIdeal.Launch
public import proofs.«01_k».proof.Proof.Gen.KernelIdeal.Points
public import Idealize.ShloMosaic.Lib.Tactic
public import Idealize.ShloMosaic.Lib.Pipeline.CollectiveSegs

@[expose] public section

noncomputable section

/-! # The launch on all thirty-two devices -/

namespace Cert.KernelIdeal.AR

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

attribute [local irreducible] Tr

variable (m : (ℓ : Loc nD τ sig) → Buf (Elt F) ℓ) (ρ : Dev nD → PrngReg)

def s₀ : MemSt nD τ sig (Elt F) := ⟨m, fun _ => 0, ρ⟩

/-! ## What the launch stages, and what each device's product is -/

def xin (c : Dev nD) : Vec F S1024x2048 .f32 := (win0_0.blk (0 : Fin 1)).view.read (Elt F) ((s₀ m ρ).mem ((c : Thread nD τ).loc main_arg0))
def din (c : Dev nD) : Vec F S2048x128 .f32 := (win0_1.blk (0 : Fin 1)).view.read (Elt F) ((s₀ m ρ).mem ((c : Thread nD τ).loc main_arg1))
def kin (c : Dev nD) : Vec F S128x2048 .f32 := (win0_2.blk (0 : Fin 1)).view.read (Elt F) ((s₀ m ρ).mem ((c : Thread nD τ).loc main_arg2))
def vin (c : Dev nD) : Vec F S128x2048 .f32 := (win0_3.blk (0 : Fin 1)).view.read (Elt F) ((s₀ m ρ).mem ((c : Thread nD τ).loc main_arg3))
def Ain (c : Dev nD) : S1024x4096.Idx → Elt F .f32 := prod (xin m ρ c) (din m ρ c) (kin m ρ c) (vin m ρ c)

/-- What a device starts with beside its scratch buffers. -/
def start (c : Dev nD) : sProp 𝕄 :=
  iprop((∃ K : Dev nD × Ci → ℕ, recs (Ain m ρ) K) ∗ (bigSep Finset.univ fun i : Ci => atPos ER (cell c i) 0 ∅ 0) ∗ payToks c
    ∗ cred (tallyAt (cell c none) 0 3) ∗ bigSep Finset.univ fun st => cred1 c st)
def scr (c : Dev nD) : sProp 𝕄 := iprop(owE c accM ∗ owE c stageM ∗ owE c sendM ∗ owE c xstM)
def Φ₀ (c : Dev nD) : sProp 𝕄 := iprop(start m ρ c ∗ scr c)
def Φ₁ (c : Dev nD) : sProp 𝕄 := iprop(scr c ∗ bigSep Finset.univ fun i : Ci => semVal (cell c i) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xin m ρ c
    | ⟨1, _⟩ => din m ρ c
    | ⟨2, _⟩ => kin m ρ c
    | ⟨3, _⟩ => vin m ρ c
    | ⟨4, _⟩ => outAt (Ain m ρ) c
  Φ t := match t with
    | ⟨0, _⟩ => Φ₀ m ρ c
    | ⟨_ + 1, _⟩ => Φ₁ c
  q _ := fullShare
  owed t := match t with
    | ⟨0, _⟩ => owed0 c
    | ⟨_ + 1, _⟩ => 0

/-! ## The body -/

theorem pos_start {A : Dev nD → (S1024x4096.Idx → Elt F .f32)} {K : Dev nD × Ci → ℕ} (c : Dev nD) :
    iprop(recs A K ∗ bigSep Finset.univ fun i : Ci => atPos ER (cell c i) 0 ∅ 0)
      ⊢ iprop(pos c none 0 ∗ bigSep Finset.univ fun st => bigSep Finset.univ fun j : J => pos (F := F) c (some (st, j)) 0) := by
  refine etr (bigSep_wp (R := recs A K) (Ψ := fun i : Ci => pos c i 0) fun i _ => ?_) (Entails.of_eq (by rw [bigSep_opt, bigSep_univ_prod]))
  unfold pos
  iintro ⟨#Hr, H⟩
  isplitl [H]; · iexact H
  iapply (recs_reached A K c i); iexact Hr

theorem seeds {A : Dev nD → (S1024x4096.Idx → Elt F .f32)} {K : Dev nD × Ci → ℕ} (c : Dev nD) :
    iprop((bigSep Finset.univ fun st => bigSep Finset.univ fun j : J => pos (F := F) c (some (st, j)) 0)
        ∗ (bigSep Finset.univ fun st => payTok1 c st) ∗ bigSep Finset.univ fun st => cred1 c st)
      ⊢ bigSep Finset.univ (Seed (F := F) c) := by
  refine etr ?_ (bmono fun st _ => seeds_start c st)
  rw [bigSep_sep', bigSep_sep']

def bodyPre' (c : Dev nD) : sProp 𝕄 :=
  iprop(Φ₀ m ρ c ∗ (dats m ρ 0 c).owesAt 0 t0_0.castSucc
    ∗ (∃ d, opX c ((dats m ρ 0 c).before (0 : Fin 5) t0_0 d)) ∗ (∃ d, opD c ((dats m ρ 0 c).before (1 : Fin 5) t0_0 d))
    ∗ (∃ d, opK c ((dats m ρ 0 c).before (2 : Fin 5) t0_0 d)) ∗ (∃ d, opV c ((dats m ρ 0 c).before (3 : Fin 5) t0_0 d))
    ∗ (∃ d, ow c outM ((dats m ρ 0 c).before (4 : Fin 5) t0_0 d)))
def bodyPost (c : Dev nD) : sProp 𝕄 :=
  iprop(Φ₁ c ∗ (dats m ρ 0 c).owesAt 0 t0_0.succ ∗ opX c (xin m ρ c) ∗ opD c (din m ρ c) ∗ opK c (kin m ρ c) ∗ opV c (vin m ρ c)
    ∗ ow c outM (outAt (Ain m ρ) c))

theorem before_x (c : Dev nD) (d) : (dats m ρ 0 c).before (0 : Fin 5) t0_0 d = xin m ρ c := by unfold Dat.before; rw [if_pos (fetch0_0 t0_0)]; rfl
theorem before_d (c : Dev nD) (d) : (dats m ρ 0 c).before (1 : Fin 5) t0_0 d = din m ρ c := by unfold Dat.before; rw [if_pos (fetch0_1 t0_0)]; rfl
theorem before_k (c : Dev nD) (d) : (dats m ρ 0 c).before (2 : Fin 5) t0_0 d = kin m ρ c := by unfold Dat.before; rw [if_pos (fetch0_2 t0_0)]; rfl
theorem before_v (c : Dev nD) (d) : (dats m ρ 0 c).before (3 : Fin 5) t0_0 d = vin m ρ c := by unfold Dat.before; rw [if_pos (fetch0_3 t0_0)]; rfl

theorem body_pre (K : Dev nD × Ci → ℕ) (c : Dev nD) :
    iprop(recs (Ain m ρ) K ∗ ((bigSep Finset.univ fun i : Ci => atPos ER (cell c i) 0 ∅ 0) ∗ payToks c
        ∗ cred (tallyAt (cell c none) 0 3) ∗ bigSep Finset.univ fun st => cred1 c st) ∗ scr c ∗ Ow c (owed0 c)
        ∗ (opX c (xin m ρ c) ∗ opD c (din m ρ c) ∗ opK c (kin m ρ c) ∗ opV c (vin m ρ c)) ∗ owE c outM)
      ⊢ BPre c (xin m ρ c) (din m ρ c) (kin m ρ c) (vin m ρ c) := by
  unfold scr payToks BPre
  iintro ⟨#Hr, ⟨Hat, ⟨HB, HT⟩, HC, HCs⟩, ⟨H1, H2, H3, H4⟩, HO, HX, HY⟩
  ihave HP := (pos_start (A := Ain m ρ) (K := K) c) $$ [Hat]
  · isplitr; · iexact Hr
    iexact Hat
  icases HP with ⟨HP, HPs⟩
  isplitr [H3 HPs HT HCs]
  · isplitl [HO]; · iexact HO
    isplitl [HB]; · iexact HB
    isplitl [HC]; · iexact HC
    isplitl [HP]; · iexact HP
    isplitl [HX]; · iexact HX
    isplitl [H1]; · iexact H1
    isplitl [H2]; · iexact H2
    isplitl [HY]; · iexact HY
    iexact H4
  isplitl [H3]; · iexact H3
  iapply (seeds (A := Ain m ρ) (K := K) c)
  isplitl [HPs]; · iexact HPs
  isplitl [HT] <;> iassumption

theorem body_run (c : Dev nD) : bodyPre' m ρ c ⊢ WP c (bodyAt0 t0_0) (fun _ => bodyPost m ρ c) := by
  rw [printed_eq]
  show _ ⊢ wp frame (wpE (defs₀ (F := F)) 𝒱₀ (c : Thread nD τ) none) Set.univ (.op .deviceId fun d : Dev nD => body (offs d) d) (fun _ => bodyPost m ρ c)
  rw [wp_deviceId]
  unfold bodyPre' Φ₀ start
  iintro ⟨⟨⟨⟨%K, #Hr⟩, Hst⟩, Hscr⟩, Ho, ⟨%d0, H0⟩, ⟨%d1, H1⟩, ⟨%d2, H2⟩, ⟨%d3, H3⟩, ⟨%d4, H4⟩⟩
  rw [before_x, before_d, before_k, before_v]
  iapply (Tr.wp (tr_body (A := Ain m ρ) (K := K) c (xin m ρ c) (din m ρ c) (kin m ρ c) (vin m ρ c) rfl) (fun _ => bodyPost m ρ c))
  isplitr; · iexact Hr
  isplitl
  · iapply (body_pre m ρ K c)
    isplitr; · iexact Hr
    isplitl [Hst]; · iexact Hst
    isplitl [Hscr]; · iexact Hscr
    isplitl [Ho]
    · unfold Dat.owesAt Pipeline.owesWithin
      icases Ho with ⟨%W, %hW, HO⟩
      unfold Ow; iexists W; iexact HO
    isplitl [H0 H1 H2 H3]
    · isplitl [H0]; · iexact H0
      isplitl [H1]; · iexact H1
      isplitl [H2] <;> iassumption
    iexists _; iexact H4
  · unfold BPost bodyPost Φ₁ scr Ow
    iintro ⟨⟨%W, HO⟩, ⟨H0, H1, H2, H3⟩, H4, Hs, Hz⟩
    isplitl [Hs Hz]
    · isplitl [Hs]
      · iexact Hs
      · iexact Hz
    isplitl [HO]
    · unfold Dat.owesAt Pipeline.owesWithin
      iexists W
      isplitr; · ipureintro; exact fun _ _ => Or.inl trivial
      iexact HO
    isplitl [H0]; · iexact H0
    isplitl [H1]; · iexact H1
    isplitl [H2]; · iexact H2
    isplitl [H3]; · iexact H3
    iexact H4

theorem bigSep_W (Φ : Fin cfg0.W → sProp 𝕄) : bigSep Finset.univ Φ = iprop(Φ (0 : Fin 5) ∗ Φ (1 : Fin 5) ∗ Φ (2 : Fin 5) ∗ Φ (3 : Fin 5) ∗ Φ (4 : Fin 5)) := bigSep_W0 Φ

set_option maxRecDepth 100000 in
theorem body_obligation (c : Dev nD) : BodyObligation (dats (F := F) m ρ 0 c) (defs₀ (F := F)) 𝒱₀ 0 Set.univ := fun t => by
  rw [fin_N0 t]
  rw [bigSep_W, bigSep_W]
  simp only []
  exact body_run m ρ c

/-! ## The launch -/

/-- The semaphores the kernel declares. -/
abbrev osem (p : Fin 4 × J) : SemLoc sig := csem (some p)

theorem ownSemFacts : Pipeline.OwnSemFacts cfg0.spec osem where
  isScoped := by decide +kernel
  inj := fun a b h => Option.some.inj (csem_injective h)
  disj := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

/-- What the launch deals a device … -/
def G (c : Dev nD) : sProp 𝕄 :=
  iprop((bigSep Finset.univ fun i : Ci => roundState ER (ringRd (Ain m ρ)) (cell c i) 0)
    ∗ (bigSep Finset.univ fun i : Ci => iprop(atPos ER (cell c i) 0 ∅ 0 ∗ reached ER (cell c i) 0)) ∗ toks c)

def records (K : Dev nD × Ci → ℕ) : sProp 𝕄 :=
  iprop((bigSep Finset.univ fun ci : Dev nD × Ci => cellInv ER (ringRd (Ain m ρ)) (K ci) (cell ci.1 ci.2))
    ∗ bigSep Finset.univ fun ci : Dev nD × Ci => reached ER (cell ci.1 ci.2) 0)
instance records_persistent (K : Dev nD × Ci → ℕ) : BI.Persistent (records m ρ K) := by unfold records; infer_instance

/-- … and what the first step makes of it. -/
def G' (c : Dev nD) : sProp 𝕄 :=
  iprop(∃ K : Dev nD × Ci → ℕ, records m ρ K ∗ (bigSep Finset.univ fun i : Ci => atPos ER (cell c i) 0 ∅ 0) ∗ payToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Ci => Φ (cell c i) := by
    unfold ringCells; rw [bigSep_map, bigSep_univ_prod]; rfl
  iintro HX
  imod (Rounds.fund ER (ringRd (Ain m ρ)) ringCells ringToks) $$ HX with ⟨Hst, Hr, Hat, Htok⟩
  imodintro
  ihave Hst' := (Entails.of_eq (hX fun g => roundState ER (ringRd (Ain m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G
  simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c none) 0 := by
  unfold unscopedSems0; rw [bigSep_eq_bigSepL_of_eq [SemLoc.reg barSem] (by decide +kernel) (by decide +kernel)]; rfl

theorem sems0_eq (c : Dev nD) : (bigSep Finset.univ fun i : Ci => semVal (cell c i) 0 : sProp 𝕄)
    = iprop(unscopedSems0 c ∗ Pipeline.ownSems0 (Ix := ℕ) (Name := ℕ) (U := UU) (Lvl := ℕ) (Val := Elt F) (τ := τ) osem c) := by
  rw [bigSep_opt, unscopedSems0_eq]; rfl

theorem cells_alloc (c : Dev nD) :
    iprop((bigSep Finset.univ fun i : Ci => semVal (cell c i) 0) ∗ bigSep Finset.univ fun i : Ci => roundState ER (ringRd (Ain m ρ)) (cell c i) 0)
      ⊢ (|={Set.univ}=> bigSep Finset.univ fun i : Ci => iprop(∃ κ : ℕ, cellInv ER (ringRd (Ain m ρ)) κ (cell c i)) : sProp 𝕄) := by
  rw [← bigSep_sep']
  exact (bigSep_mono fun i _ => (Rounds.body_intro ER (ringRd (Ain m ρ)) (cell c i)).trans inv_alloc).trans (bigSep_fupd _ _)

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun i : Ci => iprop(∃ κ : ℕ, cellInv ER (ringRd (Ain m ρ)) κ (cell c i)))
          ∗ (bigSep Finset.univ fun i : Ci => iprop(atPos ER (cell c i) 0 ∅ 0 ∗ reached ER (cell c i) 0)) ∗ toks c) := by
  unfold G
  iintro ⟨Hos, Hus, Hst, Hat, Htok⟩
  ihave Hv := (Entails.of_eq (sems0_eq (F := F) c).symm) $$ [Hos Hus]
  · isplitl [Hus] <;> iassumption
  imod (cells_alloc m ρ c) $$ [Hv Hst] with Hinv
  · isplitl [Hv] <;> iassumption
  imodintro
  isplitl [Hinv]; · iexact Hinv
  isplitl [Hat]; · iexact Hat
  iexact Htok

theorem ghost_intro (K : Dev nD × Ci → ℕ) (c : Dev nD) :
    iprop(records m ρ K ∗ ((bigSep Finset.univ fun i : Ci => atPos ER (cell c i) 0 ∅ 0) ∗ payToks c)) ⊢ G' m ρ c := by
  unfold G'
  iintro ⟨#HR, Hl⟩
  iexists K
  isplitr; · iexact HR
  iexact Hl

theorem regroup :
    (bigSep Finset.univ fun c : Dev nD => iprop((bigSep Finset.univ fun i : Ci => iprop(∃ κ : ℕ, cellInv ER (ringRd (Ain m ρ)) κ (cell c i)))
          ∗ (bigSep Finset.univ fun i : Ci => iprop(atPos ER (cell c i) 0 ∅ 0 ∗ reached ER (cell c i) 0)) ∗ toks c) : sProp 𝕄)
      ⊢ bigSep Finset.univ (G' m ρ) := by
  rw [bigSep_sep', bigSep_sep', ← bigSep_univ_prod (fun ci : Dev nD × Ci => iprop(∃ κ : ℕ, cellInv ER (ringRd (Ain m ρ)) κ (cell ci.1 ci.2))),
    bigSep_congr (s := Finset.univ) (fun (c : Dev nD) _ => bigSep_sep' Finset.univ (fun i : Ci => (atPos ER (cell c i) 0 ∅ 0 : sProp 𝕄)) (fun i => reached ER (cell c i) 0)),
    bigSep_sep', ← bigSep_univ_prod (fun ci : Dev nD × Ci => (reached ER (cell ci.1 ci.2) 0 : sProp 𝕄))]
  iintro ⟨HI, ⟨Hat, #HR⟩, Htok⟩
  ihave HK := (BI.bigSep_exists_pi Finset.univ (fun (ci : Dev nD × Ci) (κ : ℕ) => (cellInv ER (ringRd (Ain m ρ)) κ (cell ci.1 ci.2) : sProp 𝕄))) $$ HI
  icases HK with ⟨%K, #HI⟩
  ihave Htk := (toks_around (F := F)) $$ Htok
  iapply (bigSep_wp (R := records m ρ K) fun c _ => ghost_intro m ρ K c)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The theorem's side conditions -/

theorem start_intro (c : Dev nD) :
    iprop(Pipeline.unscopedRestP Pipeline.Prefetch.none cfg0.spec c (fun b => m ((c : Thread nD τ).loc b)) ∗ levAts Lx lv
        ∗ Pipeline.launchCred owed0 c ∗ prngReg c (ρ c) ∗ G' m ρ c)
      ⊢ |={Set.univ}=> iprop(start m ρ c ∗ emp) := by
  iintro ⟨-, Hlev, Hcr, -, HG⟩
  ihave Hc := (creds (F := F) c) $$ Hcr
  unfold G' records
  icases HG with ⟨%K, ⟨HI, HR⟩, Hat, Htok⟩
  imodintro
  unfold start recs
  isplitl
  · isplitl [HI HR Hlev]
    · iexists K
      isplitl [HI]; · iexact HI
      isplitl [HR] <;> iassumption
    isplitl [Hat]; · iexact Hat
    isplitl [Htok]; · iexact Htok
    iexact Hc
  · iempintro

theorem owE_whole (c : Dev nD) (b : Ref sig .tc) : (iprop(∃ X, owns (c : Thread nD τ) (Memref.whole b) fullShare X) : sProp 𝕄)
    = iprop(∃ f : Buf (Elt F) (((c : Dev nD) : Thread nD τ).loc b), (((c : Thread nD τ).loc b) ↦{fullShare} f)) := by
  have h1 : iprop(∃ X, owns (c : Thread nD τ) (Memref.whole b) fullShare X) ⊢ (iprop(∃ f : Buf (Elt F) (((c : Dev nD) : Thread nD τ).loc b), (((c : Thread nD τ).loc b) ↦{fullShare} f)) : sProp 𝕄) := by
    unfold owns; simp only [Memref.view_whole, View.read_whole, View.set_whole]
    iintro ⟨%X, %f, %hf, H⟩; iexists f; iexact H
  have h2 : iprop(∃ f : Buf (Elt F) (((c : Dev nD) : Thread nD τ).loc b), (((c : Thread nD τ).loc b) ↦{fullShare} f)) ⊢ (iprop(∃ X, owns (c : Thread nD τ) (Memref.whole b) fullShare X) : sProp 𝕄) := by
    unfold owns; simp only [Memref.view_whole, View.read_whole, View.set_whole]
    iintro ⟨%f, H⟩; iexists f; iexists f
    isplitr; · ipureintro; rfl
    iexact H
  exact BI.Entails.antisymm h1 h2

theorem scr_eq (c : Dev nD) : scr (F := F) c = (Pipeline.scopedRest cfg0.spec c : sProp 𝕄) := by
  unfold scr
  refine Eq.trans ?_ (scopedRest0_eq c).symm
  rw [← owE_whole c cc0_scratch0, ← owE_whole c cc0_scratch1, ← owE_whole c cc0_scratch2, ← owE_whole c cc0_scratch3]
  rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  rw [scr_eq]
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [scr_eq, sems0_eq]
  iintro ⟨Hr, Hu, Ho⟩
  isplitl [Hu]; · iexact Hu
  isplitl [Ho] <;> iassumption

theorem owed0_pos {c : Dev nD} {g : GSem nD τ sig} {u : ℕ} (h : 0 < owed0 c g u) : u ∈ Lx g ∧ 0 < lv g u := by
  unfold owed0 at h
  rw [Pi.add_apply, Finsupp.add_apply, Pi.add_apply, Finsupp.add_apply, Pi.add_apply, Finsupp.add_apply] at h
  have key : 0 < owedS c (fun _ => ⟨0, 0, 0⟩) g u ∨ 0 < barT (mir c) g u ∨ 0 < barT (prv c) g u ∨ 0 < barT (nxt c) g u := by omega
  rcases key with h | h | h | h
  · exact owed_pos (n := 0) (fun _ => ⟨Or.inr (by decide), Or.inr (by decide), Or.inr (by decide)⟩) h
  all_goals
    obtain ⟨rfl, rfl⟩ := tally_pos h
    exact ⟨by unfold Lx; rw [if_pos rfl, Finset.mem_range]; decide, by rw [lv_cell]; decide⟩

theorem lv_other (c : Dev nD) (q : DmaSem sig) (hq : ∀ i : Ci, csem i ≠ .dma q) : lv ((c : Thread nD τ), .dma q) 0 = 0 := by
  unfold lv dec
  rw [dif_neg fun ⟨i, h⟩ => hq i h]

theorem mayWait_stage (c : Dev nD) (q : DmaSem sig) (hq : ∀ i : Ci, csem i ≠ .dma q) (O : CellTallies nD τ sig ℕ) (hO : O = owed0 c ∨ O = 0) :
    (levAts Lx lv : sProp 𝕄) ⊢ MayWait (c : Thread nD τ) (.dma q) 0 O := by
  rcases hO with rfl | rfl
  · exact MayOwe.of_cut (L := Lx) (lev := lv) 0
      (fun p hp => by rw [Finset.mem_singleton.mp hp]; unfold Lx; rw [if_pos rfl, Finset.mem_range]; show 0 < 30; decide)
      (fun g u hg => (owed0_pos hg).1)
      (fun p hp => by rw [Finset.mem_singleton.mp hp]; exact (lv_other c q hq).le)
      (fun g u hg => (owed0_pos hg).2)
  · rw [MayWait_zero]; iintro -; iempintro

theorem stage_ne : ∀ (w : Fin 5) (s : Fin (spec0 w).nbuf) (i : Ci), csem i ≠ .dma ((spec0 w).sem s) := by decide +kernel

theorem waits (c : Dev nD) : (levAts Lx lv : sProp 𝕄) ⊢ Pipeline.cellsWaits cfgs (dats m ρ) 0 0 c :=
  Pipeline.cellsWaits_intro cfgs (dats m ρ) 0 0 c fun w s t =>
    mayWait_stage c _ (stage_ne w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution on the thirty-two devices ends with each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := Lx) (lv := lv) (hL := fun g h => if_neg h) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays at the end -/

theorem finalA_0 (c : Dev nD) : finalA m ρ c (0 : Fin 5) = (s₀ m ρ).mem (win0_0.arr.view.loc (c : Thread nD τ)) := (dats m ρ 0 c).arrAt_in (0 : Fin 5) rfl _
theorem finalA_1 (c : Dev nD) : finalA m ρ c (1 : Fin 5) = (s₀ m ρ).mem (win0_1.arr.view.loc (c : Thread nD τ)) := (dats m ρ 0 c).arrAt_in (1 : Fin 5) rfl _
theorem finalA_2 (c : Dev nD) : finalA m ρ c (2 : Fin 5) = (s₀ m ρ).mem (win0_2.arr.view.loc (c : Thread nD τ)) := (dats m ρ 0 c).arrAt_in (2 : Fin 5) rfl _
theorem finalA_3 (c : Dev nD) : finalA m ρ c (3 : Fin 5) = (s₀ m ρ).mem (win0_3.arr.view.loc (c : Thread nD τ)) := (dats m ρ 0 c).arrAt_in (3 : Fin 5) rfl _

end Cert.KernelIdeal.AR

end
-- ==== Proof.Sum.lean ====
module

public import proofs.«01_k».proof.Proof.Launch
public import Idealize.ShloMosaic.Lib.StackMember
public import Idealize.ShloMosaic.Lib.KernelVsHost

@[expose] public section

noncomputable section

/-! # What the call computes: at ideal values every device ends with the sum over the devices -/

namespace Cert.KernelIdeal.AR

open Idealize.ShloMosaic Idealize.ShloMosaic.TcCoe
open Cert.KernelIdeal Cert.KernelIdeal.Gen
open scoped BigOperators

/-! ## Around the rings -/

theorem up_mir : ∀ (st : Fin 4) (c : Dev nD), up st (mir c) = mir (up st c) := by decide +kernel
theorem rk_pair : ∀ (st : Fin 4) (c d : Dev nD), rk st c = rk st d → d = c ∨ d = mir c := by decide +kernel

theorem rk_upn (st : Fin 4) (v : ℕ) (c : Dev nD) : rk st ((up st)^[v] c) = rk st c - Fin.ofNat 16 v := by
  induction v generalizing c with
  | zero => simp
  | succ v ih =>
    rw [Function.iterate_succ_apply, ih, ofNat_succ, rk_up st c, sub_step]

theorem upn_mir (st : Fin 4) (v : ℕ) (c : Dev nD) : (up st)^[v] (mir c) = mir ((up st)^[v] c) := by
  induction v generalizing c with
  | zero => rfl
  | succ v ih => rw [Function.iterate_succ_apply, Function.iterate_succ_apply, up_mir, ih]

/-- The devices on the ring of `c` and on its mirror are all the devices. -/
def around (st : Fin 4) (c : Dev nD) (p : Fin 16 × Fin 2) : Dev nD := (up st)^[p.1.val] (if p.2 = 0 then c else mir c)

theorem sub_sub16 : ∀ a b : Fin 16, a - Fin.ofNat 16 (a - b).val = b := by decide +kernel

theorem around_bij (st : Fin 4) (c : Dev nD) : Function.Bijective (around st c) := by
  rw [Fintype.bijective_iff_surjective_and_card]
  refine ⟨fun d => ?_, by decide⟩
  have h := rk_pair st ((up st)^[(rk st c - rk st d).val] c) d (by rw [rk_upn, sub_sub16])
  rcases h with h | h
  · exact ⟨(rk st c - rk st d, 0), h.symm⟩
  · refine ⟨(rk st c - rk st d, 1), ?_⟩
    show (up st)^[_] (mir c) = d
    rw [upn_mir]; exact h.symm

theorem sum_around (st : Fin 4) (c : Dev nD) (f : Dev nD → EReal) :
    (∑ v ∈ Finset.range 16, f ((up st)^[v] c)) + (∑ v ∈ Finset.range 16, f ((up st)^[v] (mir c))) = ∑ d, f d := by
  rw [← (around_bij st c).sum_comp f, Fintype.sum_prod_type, Finset.sum_range, Finset.sum_range, ← Finset.sum_add_distrib]
  refine Finset.sum_congr rfl fun v _ => ?_
  rw [Fin.sum_univ_two]; rfl

variable (A : Dev nD → (S1024x4096.Idx → Elt Ideal .f32))

theorem lab_up (st : Fin 4) (u : ℕ) (c : Dev nD) : lab st (up st c) u = lab st c (u + 1) := by
  unfold lab
  rw [ofNat_succ, rk_up st c, sub_step]

theorem part_eq (st : Fin 4) (u : ℕ) (c : Dev nD) (j : S64x1024.Idx) :
    part A st u c j = ∑ v ∈ Finset.range (u + 1), (A ((up st)^[v] c) ((chR st (lab st c u)).emb j) : EReal) := by
  induction u generalizing c with
  | zero => rw [Finset.sum_range_one]; rfl
  | succ u ih =>
    rw [Finset.sum_range_succ']
    simp only [Function.iterate_succ_apply]
    rw [← lab_up, ← ih (up st c)]
    show (A c ((chR st (lab st c (u + 1))).emb j) : EReal) + part A st u (up st c) j = part A st u (up st c) j + A c ((chR st (lab st (up st c) u)).emb j)
    rw [lab_up]
    exact add_comm _ _

theorem own_eq (st : Fin 4) (c : Dev nD) (j : S64x1024.Idx) :
    ownv A st c j = ∑ d, (A d ((chR st (olab st c 0)).emb j) : EReal) := by
  have h0 : lab st c 15 = olab st c 0 := by rw [lab_15]; unfold olab; simp
  have h1 : lab st (mir c) 15 = olab st c 0 := by rw [← h0, lab_15, lab_15, rk_mir]
  show (part A st 15 c j : EReal) + part A st 15 (mir c) j = _
  rw [part_eq, part_eq, h0, h1]
  exact sum_around st c fun d => A d ((chR st (olab st c 0)).emb j)

theorem gval_eq (st : Fin 4) (w : ℕ) (c : Dev nD) (j : S64x1024.Idx) :
    gval A st w c j = ∑ d, (A d ((chR st (olab st c w)).emb j) : EReal) := by
  induction w generalizing c with
  | zero => exact own_eq A st c j
  | succ w ih =>
    have h : olab st (up st c) w = olab st c (w + 1) := by
      rw [← olab_dn st (up st c) w, dn_up]
    rw [gval_succ, ih, h]

theorem out_sum (c : Dev nD) (i : S1024x4096.Idx) : outAt A c i = ∑ d, (A d i : EReal) := by
  obtain ⟨p, j, rfl⟩ : ∃ (p : Fin 4 × Fin 16) (j : S64x1024.Idx), (chR p.1 p.2).emb j = i := by
    have h := (chR_mem _ i).mpr rfl
    rw [← Rect.map_emb_univ] at h
    obtain ⟨j, -, hj⟩ := Finset.mem_map.mp h
    exact ⟨_, j, hj⟩
  obtain ⟨w, hw, e⟩ : ∃ w ∈ Finset.range 16, olab p.1 c w = p.2 := by
    have h : p.2 ∈ (Finset.range 16).image (olab p.1 c) := by rw [image_univ (olab_inj p.1 c)]; exact Finset.mem_univ _
    exact Finset.mem_image.mp h
  rw [← e, ← gval_eq]
  exact congrFun (outAt_spec (A := A) c p.1 (Finset.mem_range.mp hw)) j

/-! ## A window that is a whole array -/

variable {F : FTy → Type} [FloatOps F]
variable (m : (ℓ : Loc nD τ sig) → Buf (Elt F) ℓ) (ρ : Dev nD → PrngReg)

theorem emb_0 (j : S1024x2048.Idx) : (win0_0.blk (0 : Fin 1)).view.emb j = j := by
  funext a; apply Fin.ext
  fin_cases a <;> exact (Nat.zero_add _).trans (Nat.one_mul _)
theorem emb_1 (j : S2048x128.Idx) : (win0_1.blk (0 : Fin 1)).view.emb j = j := by
  funext a; apply Fin.ext
  fin_cases a <;> exact (Nat.zero_add _).trans (Nat.one_mul _)
theorem emb_2 (j : S128x2048.Idx) : (win0_2.blk (0 : Fin 1)).view.emb j = j := by
  funext a; apply Fin.ext
  fin_cases a <;> exact (Nat.zero_add _).trans (Nat.one_mul _)
theorem emb_3 (j : S128x2048.Idx) : (win0_3.blk (0 : Fin 1)).view.emb j = j := by
  funext a; apply Fin.ext
  fin_cases a <;> exact (Nat.zero_add _).trans (Nat.one_mul _)
theorem emb_4 (j : S1024x4096.Idx) : (win0_4.blk (0 : Fin 1)).view.emb j = j := by
  funext a; apply Fin.ext
  fin_cases a <;> exact (Nat.zero_add _).trans (Nat.one_mul _)

theorem xin_eq (c : Dev nD) : xin m ρ c = m ((c : Thread nD τ).loc main_arg0) := funext fun j => congrArg (m ((c : Thread nD τ).loc main_arg0)) (emb_0 j)
theorem din_eq (c : Dev nD) : din m ρ c = m ((c : Thread nD τ).loc main_arg1) := funext fun j => congrArg (m ((c : Thread nD τ).loc main_arg1)) (emb_1 j)
theorem kin_eq (c : Dev nD) : kin m ρ c = m ((c : Thread nD τ).loc main_arg2) := funext fun j => congrArg (m ((c : Thread nD τ).loc main_arg2)) (emb_2 j)
theorem vin_eq (c : Dev nD) : vin m ρ c = m ((c : Thread nD τ).loc main_arg3) := funext fun j => congrArg (m ((c : Thread nD τ).loc main_arg3)) (emb_3 j)

theorem flushed_out (c : Dev nD) (t : Fin cfg0.N) :
    (dats m ρ 0 c).flushed (4 : Fin 5) t = (win0_4.blk t).view.read (Elt F) (outAt (Ain m ρ) c) := by
  have ht : t = (0 : Fin 1) := fin_N0 t
  subst ht
  exact funext fun j => congrArg (outAt (Ain m ρ) c) (emb_4 j).symm

theorem finalA_4 (c : Dev nD) : finalA m ρ c (4 : Fin 5) = outAt (Ain m ρ) c :=
  (dats m ρ 0 c).arrAt_eq_of_cover (4 : Fin 5) (outAt (Ain m ρ) c) (fun t _ => flushed_out m ρ c t) fun i =>
    ⟨(0 : Fin 1), flush0_4 _, Finset.mem_map.mpr ⟨i, Finset.mem_univ _, emb_4 i⟩⟩

end Cert.KernelIdeal.AR

end
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Tactic

@[expose] public section

noncomputable section

/-! # Every program runs, leaves its arguments as they were and every semaphore at zero -/

namespace Cert.Proof

open Idealize.ShloMosaic Idealize.ShloMosaic.TcCoe Idealize.SL.Sem
open Cert.KernelIdeal.AR (finalA_0 finalA_1 finalA_2 finalA_3 run_main)

variable {F : FTy → Type} [FloatOps F]

/-- The kernel at any float values: the arguments kept, every semaphore at zero. -/
theorem kept (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c 0).trans (finalA_0 m g c), (h.1 c 1).trans (finalA_1 m g c),
    (h.1 c 2).trans (finalA_2 m g c), (h.1 c 3).trans (finalA_3 m g c)⟩, h.2⟩) (run_main (F := F) m g)

/-- The kernel is one text at both readings of its floats. -/
theorem defs_eq : Cert.Kernel.defs (F := F) = Cert.KernelIdeal.defs (F := F) := by sl_kernel_rfl
theorem frame_kernel : Cert.quiescent_Kernel := by
  intro m g _
  have h := kept (F := Bits) m g
  rw [← defs_eq] at h
  exact h
theorem frame_kernelIdeal : Cert.quiescent_KernelIdeal := fun m g _ => kept (F := Ideal) m g
theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof

end
-- ==== Proof.Value.lean ====
module

public import proofs.«01_k».proof.Defs
public import proofs.«01_k».proof.Proof.Sum
public import proofs.«01_k».proof.Proof.Frames

@[expose] public section

noncomputable section

/-! # The sum over the devices is the reference's product -/

namespace Cert.Proof

open Idealize.ShloMosaic Idealize.ShloMosaic.TcCoe Idealize.SL.Sem Idealize.ShloMosaic.ValueIdx
open Cert.KernelIdeal.AR Idealize.ShloMosaic.StackMember
open scoped BigOperators

/-! ## One device's product, entry by entry -/

abbrev Xs : Shape := ⟨2, ![1024, 2048]⟩
abbrev Ds : Shape := ⟨2, ![2048, 128]⟩
abbrev Ks : Shape := ⟨2, ![128, 2048]⟩
abbrev DsW : Shape := ⟨2, ![2048, 4096]⟩
abbrev KsW : Shape := ⟨2, ![4096, 2048]⟩
abbrev Os : Shape := ⟨2, ![1024, 4096]⟩

theorem latent_at (x : FVec Ideal Xs .f32) (wd : FVec Ideal Ds .f32) (a : Fin 1024) (k : Fin 128) :
    latent x wd (ix2 a k) = ∑ l : Fin 2048, (x (ix2 a l) * wd (ix2 l k) : EReal) := by
  unfold latent
  rw [shapeCast_self, shapeCast_self, matmul_zero_eq_dotGeneral]
  exact dotGeneral_plain_apply none x wd a k

theorem half_at (l : FVec Ideal ⟨2, ![1024, 128]⟩ .f32) (w : FVec Ideal Ks .f32) (a : Fin 1024) (b : Fin 2048) :
    half l w (ix2 a b) = ∑ k : Fin 128, (l (ix2 a k) * w (ix2 k b) : EReal) := by
  unfold half
  rw [shapeCast_self, shapeCast_self, matmul_zero_eq_dotGeneral]
  exact dotGeneral_plain_apply none l w a b

/-- The column of the result that half `h` has at its column `b`. -/
def hcol (h : Fin 2) (b : Fin 2048) : Fin 4096 := ⟨2048 * h.val + b.val, by omega⟩

theorem hf_emb (h : Fin 2) (a : Fin 1024) (b : Fin 2048) : (hfR h).emb (ix2 a b) = ix2 a (hcol h b) := by
  funext i; apply Fin.ext
  fin_cases i
  · exact (Nat.zero_add _).trans (Nat.one_mul _)
  · exact congrArg (2048 * h.val + ·) (Nat.one_mul _)

theorem prod_at (x : FVec Ideal Xs .f32) (wd : FVec Ideal Ds .f32) (wk wv : FVec Ideal Ks .f32) (h : Fin 2) (a : Fin 1024) (b : Fin 2048) :
    prod (F := Ideal) x wd wk wv (ix2 a (hcol h b))
      = ∑ k : Fin 128, ((∑ l : Fin 2048, (x (ix2 a l) * wd (ix2 l k) : EReal)) * (if h = 0 then wk else wv) (ix2 k b) : EReal) := by
  have h1 := congrFun (prod_spec (F := Ideal) x wd wk wv h) (ix2 a b)
  rw [hf_emb] at h1
  rw [h1]
  rw [half_at]
  refine Finset.sum_congr rfl fun k _ => ?_
  rw [latent_at]

/-! ## The blocks of the latent axis, side by side -/

/-- The latent column that device `d` holds as its column `k`. -/
def lcol (d : Fin 32) (k : Fin 128) : Fin 4096 := ⟨d.val * 128 + k.val, by omega⟩

theorem sum_lcol (f : Fin 4096 → EReal) : ∑ d : Fin 32, ∑ k : Fin 128, f (lcol d k) = ∑ i : Fin 4096, f i := by
  rw [← Fintype.sum_prod_type' (f := fun d k => f (lcol d k)), ← (finProdFinEquiv (m := 32) (n := 128)).sum_comp f]
  refine Finset.sum_congr rfl fun p _ => congrArg f (Fin.ext ?_)
  show p.1.val * 128 + p.2.val = p.2.val + 128 * p.1.val
  omega

theorem block_d (v : DsW.Idx → EReal) (c : Fin 32) (l : Fin 2048) (k : Fin 128) :
    Layout.block ⟨2, ![2048, 128]⟩ ⟨2, ![2048, 4096]⟩ 1 32 c v (by decide) (ix2 l k) = v (ix2 l (lcol c k)) := by
  rw [Layout.block_apply]
  refine congrArg v (funext fun i => Fin.ext ?_)
  fin_cases i <;> rfl
theorem block_k (v : KsW.Idx → EReal) (c : Fin 32) (k : Fin 128) (b : Fin 2048) :
    Layout.block ⟨2, ![128, 2048]⟩ ⟨2, ![4096, 2048]⟩ 0 32 c v (by decide) (ix2 k b) = v (ix2 (lcol c k) b) := by
  rw [Layout.block_apply]
  refine congrArg v (funext fun i => Fin.ext ?_)
  fin_cases i <;> rfl

/-! ## The reference, entry by entry -/

/-- The reference's latent product. -/
abbrev refC (x : FVec Ideal Xs .f32) (wd : FVec Ideal DsW .f32) : FVec Ideal Os .f32 :=
  Host.dotGeneral Cert.ReferenceIdeal.dot_S1024x2048_S2048x4096_S1024x4096_1_0_0_1_n_n none x wd
abbrev refH (x : FVec Ideal Xs .f32) (wd : FVec Ideal DsW .f32) (w : FVec Ideal KsW .f32) : FVec Ideal Xs .f32 :=
  Host.dotGeneral Cert.ReferenceIdeal.dot_S1024x4096_S4096x2048_S1024x2048_1_0_0_1_n_n none (refC x wd) w
/-- The reference's result. -/
def refV (x : FVec Ideal Xs .f32) (wd : FVec Ideal DsW .f32) (wk wv : FVec Ideal KsW .f32) : FVec Ideal Os .bf16 :=
  truncf .bf16 (concatenate Cert.ReferenceIdeal.S1024x4096 1 [⟨Cert.ReferenceIdeal.S1024x2048, refH x wd wk⟩, ⟨Cert.ReferenceIdeal.S1024x2048, refH x wd wv⟩]
    Cert.ReferenceIdeal.Facts₀.concatenates_S1024x2048_S1024x2048_S1024x4096_d1) Cert.ReferenceIdeal.Facts₀.bitsLt_bf16_f32

theorem refH_at (x : FVec Ideal Xs .f32) (wd : FVec Ideal DsW .f32) (w : FVec Ideal KsW .f32) (a : Fin 1024) (b : Fin 2048) :
    refH x wd w (ix2 a b) = ∑ i : Fin 4096, ((∑ l : Fin 2048, (x (ix2 a l) * wd (ix2 l i) : EReal)) * w (ix2 i b) : EReal) := by
  refine (dotGeneral_plain_apply none (refC x wd) w a b).trans (Finset.sum_congr rfl fun i _ => ?_)
  rw [show refC x wd (ix2 a i) = ∑ l : Fin 2048, (x (ix2 a l) * wd (ix2 l i) : EReal) from dotGeneral_plain_apply none x wd a i]

theorem refV_at (x : FVec Ideal Xs .f32) (wd : FVec Ideal DsW .f32) (wk wv : FVec Ideal KsW .f32) (h : Fin 2) (a : Fin 1024) (b : Fin 2048) :
    refV x wd wk wv (ix2 a (hcol h b)) = refH x wd (if h = 0 then wk else wv) (ix2 a b) := by
  unfold refV
  refine (show _ = concatenate Cert.ReferenceIdeal.S1024x4096 1 [⟨Cert.ReferenceIdeal.S1024x2048, refH x wd wk⟩, ⟨Cert.ReferenceIdeal.S1024x2048, refH x wd wv⟩]
    Cert.ReferenceIdeal.Facts₀.concatenates_S1024x2048_S1024x2048_S1024x4096_d1 (ix2 a (hcol h b)) from rfl).trans ?_
  by_cases e : h = 0
  · subst e
    refine concatenate_pair_apply_left (t := Os) (1 : Fin 2) (refH x wd wk) (refH x wd wv) _ (ix2 a (hcol 0 b)) rfl (ix2 a b) fun i => ?_
    fin_cases i
    · rfl
    · exact (Nat.zero_add _).symm
  · obtain rfl : h = 1 := by omega
    refine concatenate_pair_apply_right (t := Os) (1 : Fin 2) (refH x wd wk) (refH x wd wv) _ (ix2 a (hcol 1 b)) rfl rfl (ix2 a b) (fun i hi => ?_) ?_
    · fin_cases i
      · rfl
      · exact absurd rfl hi
    · exact Nat.add_comm _ _

/-! ## The two agree -/

theorem col_cases (j : Fin 4096) : ∃ h b, j = hcol h b :=
  ⟨⟨j.val / 2048, by omega⟩, ⟨j.val % 2048, Nat.mod_lt _ (by decide)⟩, Fin.ext (Nat.div_add_mod _ _).symm⟩

theorem sum_prod (x : FVec Ideal Xs .f32) (wd : FVec Ideal DsW .f32) (wk wv : FVec Ideal KsW .f32)
    (P : Fin 32 → Os.Idx → EReal)
    (hP : ∀ c, P c = prod (F := Ideal) x (Layout.block ⟨2, ![2048, 128]⟩ ⟨2, ![2048, 4096]⟩ 1 32 c wd)
      (Layout.block ⟨2, ![128, 2048]⟩ ⟨2, ![4096, 2048]⟩ 0 32 c wk) (Layout.block ⟨2, ![128, 2048]⟩ ⟨2, ![4096, 2048]⟩ 0 32 c wv)) (i : Os.Idx) :
    ∑ c, P c i = refV x wd wk wv i := by
  obtain ⟨a, j, rfl⟩ : ∃ (a : Fin 1024) (j : Fin 4096), i = ix2 a j := ⟨i 0, i 1, eq_ix2 i⟩
  obtain ⟨h, b, rfl⟩ := col_cases j
  rw [refV_at, refH_at, ← sum_lcol]
  refine Finset.sum_congr rfl fun c _ => ?_
  rw [hP c, prod_at]
  refine Finset.sum_congr rfl fun k _ => ?_
  refine congrArg₂ (· * ·) (Finset.sum_congr rfl fun l _ => ?_) ?_
  · rw [block_d]
  · by_cases e : h = 0
    · rw [if_pos e, if_pos e]; exact block_k wk c k b
    · rw [if_neg e, if_neg e]; exact block_k wv c k b

theorem algebraic : Cert.algebraic_KernelIdeal_ReferenceIdeal := by
  intro m g m' g' _ hm
  refine ⟨refV (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(h.1 c 4).trans ((finalA_4 m g c).trans (funext fun i => ?_)),
      (h.1 c 0).trans (finalA_0 m g c), (h.1 c 1).trans (finalA_1 m g c), (h.1 c 2).trans (finalA_2 m g c), (h.1 c 3).trans (finalA_3 m g c)⟩)
      (run_main (F := Ideal) m g)
    rw [out_sum]
    refine sum_prod _ _ _ _ (Ain m g) (fun d => ?_) i
    obtain ⟨h0, h1, h2, h3⟩ := hm d
    unfold Ain
    rw [xin_eq, din_eq, kin_eq, vin_eq]
    exact congr (congr (congr (congrArg (prod (F := Ideal)) h0) h1) h2) h3
  · exact (θ_run Cert.ReferenceIdeal.defs _ _).mono (fun r h => h 0) (Cert.ReferenceIdeal.Value.run (F := Ideal) m' g')

end Cert.Proof

end
-- ==== Proof.GStruct.lean ====
module

public import proofs.«01_k».proof.Proof.Gen.AttnKernelIdeal.Launch
public import proofs.«01_k».proof.Proof.Gen.AttnKernelIdeal.Points
public import Idealize.ShloMosaic.Lib.Pipeline.Regions

@[expose] public section

noncomputable section

/-! # The kernel's body, head by head and stream by stream

Each device works out the attention of its 32 rows, one head after another, and swaps them with its mirror device; the pair's
64 rows then go round the ring in four streams of 512 columns. -/

namespace Cert.AttnKernelIdeal.AG

open Idealize.ShloMosaic Idealize.ShloMosaic.TcCoe
open Idealize.SL Idealize.SL.Sem
open Cert.AttnKernelIdeal Cert.AttnKernelIdeal.Gen

variable {F : FTy → Type} [FloatOps F]

/-- The 64-row block of the pair at a place of the ring. -/
def pb (k : Fin 16) : Fin 16 := (![0, 1, 2, 3, 7, 6, 5, 9, 10, 11, 15, 14, 13, 12, 8, 4] : Fin 16 → Fin 16) k

/-- The corner of that block in stream `st`'s columns. -/
def chunkOff (st : Fin 4) (k : Fin 16) : Fin 2 → Nat := ![64 * (pb k).val, 512 * st.val]
/-- The corner of a device's rows. -/
def rowOff (d : Dev nD) : Fin 2 → Nat := ![32 * d.val, 0]

theorem chunk_inb : ∀ (st : Fin 4) (k : Fin 16) (a : Fin 2), chunkOff st k a + S64x512.size a ≤ S1024x2048.size a := by decide +kernel
theorem chunk_words : ∀ (st : Fin 4) (k : Fin 16),
    (Rect.unit (s := S1024x2048) (chunkOff st k) S64x512.size (chunk_inb st k)).WholeWords (EltTy.packing .bf16) := by decide +kernel
theorem row_inb : ∀ (d : Dev nD) (a : Fin 2), rowOff d a + S32x2048.size a ≤ S1024x2048.size a := by decide +kernel
theorem row_words : ∀ (d : Dev nD),
    (Rect.unit (s := S1024x2048) (rowOff d) S32x2048.size (row_inb d)).WholeWords (EltTy.packing .bf16) := by decide +kernel
theorem row_packed : ∀ (d : Dev nD),
    (Rect.unit (s := S1024x2048) (rowOff d) S32x2048.size (row_inb d)).PackedRows (EltTy.packing .bf16) := by decide +kernel

/-- Where a body's rows and chunks lie. -/
structure Offs where
  own : Fin 2 → Nat
  own' : Fin 2 → Nat
  mirror : Fin 2 → Nat
  ch : Fin 4 → Nat → Fin 2 → Nat
  hown : ∃ d, own = rowOff d
  hown' : ∃ d, own' = rowOff d
  hmirror : ∃ d, mirror = rowOff d
  hch : ∀ st t, ∃ k, ch st t = chunkOff st k

theorem rinb_of {off : Fin 2 → Nat} (h : ∃ d, off = rowOff d) (a : Fin 2) : off a + S32x2048.size a ≤ S1024x2048.size a := by
  obtain ⟨k, rfl⟩ := h; exact row_inb k a
theorem rwords_of {off : Fin 2 → Nat} (h : ∃ d, off = rowOff d) :
    (Rect.unit (s := S1024x2048) off S32x2048.size (rinb_of h)).WholeWords (EltTy.packing .bf16) := by
  obtain ⟨k, rfl⟩ := h; exact row_words k
theorem rpacked_of {off : Fin 2 → Nat} (h : ∃ d, off = rowOff d) :
    (Rect.unit (s := S1024x2048) off S32x2048.size (rinb_of h)).PackedRows (EltTy.packing .bf16) := by
  obtain ⟨k, rfl⟩ := h; exact row_packed k
theorem inb_of {st : Fin 4} {off : Fin 2 → Nat} (h : ∃ k, off = chunkOff st k) (a : Fin 2) : off a + S64x512.size a ≤ S1024x2048.size a := by
  obtain ⟨k, rfl⟩ := h; exact chunk_inb st k a
theorem words_of {st : Fin 4} {off : Fin 2 → Nat} (h : ∃ k, off = chunkOff st k) :
    (Rect.unit (s := S1024x2048) off S64x512.size (inb_of h)).WholeWords (EltTy.packing .bf16) := by
  obtain ⟨k, rfl⟩ := h; exact chunk_words st k

abbrev rowR {off : Fin 2 → Nat} (h : ∃ d, off = rowOff d) : Rect S1024x2048 :=
  Rect.unit (s := S1024x2048) off S32x2048.size (rinb_of h)
abbrev chunkR {st : Fin 4} {off : Fin 2 → Nat} (h : ∃ k, off = chunkOff st k) : Rect S1024x2048 :=
  Rect.unit (s := S1024x2048) off S64x512.size (inb_of h)

abbrev xM : Memref sig .tc .vmem S1024x2048 .f32 := Memref.whole cc0_stg0_0
abbrev wqM : Memref sig .tc .vmem S2048x2048 .f32 := Memref.whole cc0_stg1_0
abbrev wqrM : Memref sig .tc .vmem S2048x512 .f32 := Memref.whole cc0_stg2_0
abbrev wkrM : Memref sig .tc .vmem S2048x32 .f32 := Memref.whole cc0_stg3_0
abbrev woM : Memref sig .tc .vmem S2048x2048 .f32 := Memref.whole cc0_stg4_0
abbrev kvM : Memref sig .tc .vmem S1024x4096 .bf16 := Memref.whole cc0_stg5_0
abbrev outM : Memref sig .tc .vmem S1024x2048 .bf16 := Memref.whole cc0_stg6_0

abbrev rowM {off : Fin 2 → Nat} (h : ∃ d, off = rowOff d) : Memref sig .tc .vmem S32x2048 .bf16 := outM.slice (rowR h) (fun _ => rfl)
abbrev outC {st : Fin 4} {off : Fin 2 → Nat} (h : ∃ k, off = chunkOff st k) : Memref sig .tc .vmem S64x512 .bf16 :=
  outM.slice (chunkR h) (fun _ => rfl)

theorem sem_inb : ∀ (st : Fin 4) (s : Fin 2) (a : Fin 2), (![st.val, s.val] : Fin 2 → Nat) a + S1x1.size a ≤ S4x2.size a := by decide +kernel

abbrev barSem : Sem sig := (SemArray.scalar (d := ![]) (sig.barrier 1 rfl)).sem
abbrev sendSem (st : Fin 4) (s : Fin 2) : DmaSem sig :=
  ((cc0_scratch0.slice (Rect.unit (s := S4x2) ![st.val, s.val] S1x1.size (sem_inb st s))).squeeze S_ squeezes_S1x1_S_).sem
abbrev recvSem (st : Fin 4) (s : Fin 2) : DmaSem sig :=
  ((cc0_scratch1.slice (Rect.unit (s := S4x2) ![st.val, s.val] S1x1.size (sem_inb st s))).squeeze S_ squeezes_S1x1_S_).sem
abbrev credSem (st : Fin 4) (s : Fin 2) : Sem sig :=
  ((cc0_scratch2.slice (Rect.unit (s := S4x2) ![st.val, s.val] S1x1.size (sem_inb st s))).squeeze S_ squeezes_S1x1_S_).sem
abbrev xsSem : DmaSem sig := cc0_scratch3.sem
abbrev xrSem : DmaSem sig := cc0_scratch4.sem

/-- The next, the previous and the mirror device. -/
def nxt (c : Dev nD) : Dev nD := ⟨k0_dev1 c, k0_dev1_lt c⟩
def prv (c : Dev nD) : Dev nD := ⟨k0_dev2 c, k0_dev2_lt c⟩
def mir (c : Dev nD) : Dev nD := ⟨k0_dev3 c, k0_dev3_lt c⟩
/-- Where stream `st` sends to, and where it comes from. -/
def dn (st : Fin 4) (c : Dev nD) : Dev nD := match st with
  | ⟨0, _⟩ => nxt c | ⟨1, _⟩ => nxt c | ⟨2, _⟩ => prv c | ⟨_ + 3, _⟩ => prv c
def up (st : Fin 4) (c : Dev nD) : Dev nD := match st with
  | ⟨0, _⟩ => prv c | ⟨1, _⟩ => prv c | ⟨2, _⟩ => nxt c | ⟨_ + 3, _⟩ => nxt c

/-- The slot of use `v`. -/
def slot (v : Nat) : Fin 2 := ⟨v % 2, Nat.mod_lt _ (by decide)⟩

/-- The place on its ring of sixteen of the pair a device belongs to. -/
def frank (c : Dev nD) : Fin 16 :=
  (![0, 1, 2, 3, 15, 6, 5, 4, 14, 7, 8, 9, 13, 12, 11, 10] : Fin 16 → Fin 16) (Fin.ofNat 16 (c.val / 2))
/-- Its place along stream `st`'s direction, and the chunk with a given place: `k` forwards, `−k` backwards. -/
def dir (st : Fin 4) (k : Fin 16) : Fin 16 := if st.val < 2 then k else -k
def rk (st : Fin 4) (c : Dev nD) : Fin 16 := dir st (frank c)

/-- The same for the four streams in turn. -/
def each (f : Fin 4 → Prog (TpuEff nD τ sig (Elt F) Λ₀ .tc) PUnit) : Prog (TpuEff nD τ sig (Elt F) Λ₀ .tc) PUnit := do
  f 0
  f 1
  f 2
  f 3

/-- The first `n` turns. -/
def turns (f : Nat → Prog (TpuEff nD τ sig (Elt F) Λ₀ .tc) PUnit) : Nat → Prog (TpuEff nD τ sig (Elt F) Λ₀ .tc) PUnit
  | 0 => pure ⟨⟩
  | n + 1 => turns f n >>= fun _ => f n

/-! ## One device's rows -/

/-- The queries, in two halves, and the keys' second half. -/
def qOf (x : Vec F S32x2048 .f32) (w : Vec F S2048x2048 .f32) : FVec F S32x2048 .f32 :=
  matmul dot_S32x2048_S2048x2048_S32x2048_1_0_0_1_n_n none (shapeCast S32x2048 x shapeCasts_S32x2048_S32x2048 : FVec F S32x2048 .f32)
    (shapeCast S2048x2048 w shapeCasts_S2048x2048_S2048x2048 : FVec F S2048x2048 .f32) (constant S32x2048 .f32 0x00000000#32)
def qrOf (x : Vec F S32x2048 .f32) (w : Vec F S2048x512 .f32) : FVec F S32x512 .f32 :=
  matmul dot_S32x2048_S2048x512_S32x512_1_0_0_1_n_n none (shapeCast S32x2048 x shapeCasts_S32x2048_S32x2048 : FVec F S32x2048 .f32)
    (shapeCast S2048x512 w shapeCasts_S2048x512_S2048x512 : FVec F S2048x512 .f32) (constant S32x512 .f32 0x00000000#32)
def krOf (x : Vec F S1024x2048 .f32) (w : Vec F S2048x32 .f32) : FVec F S1024x32 .f32 :=
  matmul dot_S1024x2048_S2048x32_S1024x32_1_0_0_1_n_n none (shapeCast S1024x2048 x shapeCasts_S1024x2048_S1024x2048 : FVec F S1024x2048 .f32)
    (shapeCast S2048x32 w shapeCasts_S2048x32_S2048x32 : FVec F S2048x32 .f32) (constant S1024x32 .f32 0x00000000#32)

theorem slicesQ : ∀ h : Fin 16, S32x2048.Slices ![0, 128 * h.val] S32x128 := by decide +kernel
theorem slicesR : ∀ h : Fin 16, S32x512.Slices ![0, 32 * h.val] S32x32 := by decide +kernel
theorem inbK : ∀ (h : Fin 16) (a : Fin 2), (![0, 128 * h.val] : Fin 2 → Nat) a + S1024x128.size a ≤ S1024x4096.size a := by decide +kernel
theorem inbV : ∀ (h : Fin 16) (a : Fin 2), (![0, 2048 + 128 * h.val] : Fin 2 → Nat) a + S1024x128.size a ≤ S1024x4096.size a := by decide +kernel
theorem inbO : ∀ (h : Fin 16) (a : Fin 2), (![128 * h.val, 0] : Fin 2 → Nat) a + S128x2048.size a ≤ S2048x2048.size a := by decide +kernel

/-- A head's scores, scaled; its softmax; what the head adds to the result. -/
def scoresOf (h : Fin 16) (q : FVec F S32x2048 .f32) (qr : FVec F S32x512 .f32) (kr : FVec F S1024x32 .f32) (kh : Vec F S1024x128 .bf16) : FVec F S32x1024 .f32 :=
  mulf (addf
    (matmul dot_S32x128_S1024x128_S32x1024_1_1_0_0_n_n none (truncf .bf16 (extractStridedSlice S32x128 ![0, 128 * h.val] q (slicesQ h) : FVec F S32x128 .f32) bitsLt_bf16_f32 : FVec F S32x128 .bf16)
      (shapeCast S1024x128 kh shapeCasts_S1024x128_S1024x128 : FVec F S1024x128 .bf16) (constant S32x1024 .f32 0x00000000#32) : FVec F S32x1024 .f32)
    (matmul dot_S32x32_S1024x32_S32x1024_1_1_0_0_n_n none (extractStridedSlice S32x32 ![0, 32 * h.val] qr (slicesR h) : FVec F S32x32 .f32) kr (constant S32x1024 .f32 0x00000000#32) : FVec F S32x1024 .f32))
    (broadcast S32x1024 (Scalar.ofBits (F := F) .f32 0x3DA1E89B#32))
def softOf (s : FVec F S32x1024 .f32) : FVec F S32x1024 .bf16 :=
  have m : FVec F S32x1024 .f32 := broadcastTo S32x1024 (shapeCast S32x1 (multiReduction .maximumf [1] S32 s 0xFF800000#32 reduces_S32x1024_S32 (.inl rfl) rfl : FVec F S32 .f32) shapeCasts_S32_S32x1 : FVec F S32x1 .f32) broadcasts_S32x1_S32x1024
  have e : FVec F S32x1024 .f32 := exp (subf s m)
  truncf .bf16 (divf e (broadcastTo S32x1024 (shapeCast S32x1 (multiReduction .add [1] S32 e 0x00000000#32 reduces_S32x1024_S32 (.inl rfl) rfl : FVec F S32 .f32) shapeCasts_S32_S32x1 : FVec F S32x1 .f32) broadcasts_S32x1_S32x1024 : FVec F S32x1024 .f32) : FVec F S32x1024 .f32) bitsLt_bf16_f32
def headOf (s : FVec F S32x1024 .f32) (vh : Vec F S1024x128 .bf16) (wo : Vec F S128x2048 .f32) : FVec F S32x2048 .f32 :=
  matmul dot_S32x128_S128x2048_S32x2048_1_0_0_1_n_n none
    (truncf .bf16 (matmul dot_S32x1024_S1024x128_S32x128_1_0_0_1_n_n none (softOf s) (shapeCast S1024x128 vh shapeCasts_S1024x128_S1024x128 : FVec F S1024x128 .bf16) (constant S32x128 .f32 0x00000000#32) : FVec F S32x128 .f32) bitsLt_bf16_f32 : FVec F S32x128 .bf16)
    (truncf .bf16 (shapeCast S128x2048 wo shapeCasts_S128x2048_S128x2048 : FVec F S128x2048 .f32) bitsLt_bf16_f32 : FVec F S128x2048 .bf16) (constant S32x2048 .f32 0x00000000#32)

abbrev kR (h : Fin 16) : Rect S1024x4096 := Rect.unit (s := S1024x4096) ![0, 128 * h.val] S1024x128.size (inbK h)
abbrev vR (h : Fin 16) : Rect S1024x4096 := Rect.unit (s := S1024x4096) ![0, 2048 + 128 * h.val] S1024x128.size (inbV h)
abbrev oR (h : Fin 16) : Rect S2048x2048 := Rect.unit (s := S2048x2048) ![128 * h.val, 0] S128x2048.size (inbO h)

/-- One head. -/
def head (h : Fin 16) (q : FVec F S32x2048 .f32) (qr : FVec F S32x512 .f32) (kr : FVec F S1024x32 .f32) (acc : FVec F S32x2048 .f32) :
    Prog (TpuEff nD τ sig (Elt F) Λ₀ .tc) (FVec F S32x2048 .f32) := do
  let kh : Vec F S1024x128 .bf16 ← Prog.lift (.load kvM (kR h).toLoadRect (View.loadsAt_vmem h_S1024x128))
  let vh : Vec F S1024x128 .bf16 ← Prog.lift (.load kvM (vR h).toLoadRect (View.loadsAt_vmem h_S1024x128))
  let wo : Vec F S128x2048 .f32 ← Prog.lift (.load woM (oR h).toLoadRect (View.loadsAt_vmem h_S128x2048))
  pure (addf acc (headOf (scoresOf h q qr kr kh) vh wo))

/-- The first `n` heads. -/
def heads (q : FVec F S32x2048 .f32) (qr : FVec F S32x512 .f32) (kr : FVec F S1024x32 .f32) : Nat → Prog (TpuEff nD τ sig (Elt F) Λ₀ .tc) (FVec F S32x2048 .f32)
  | 0 => pure (broadcast S32x2048 (Scalar.ofBits (F := F) .f32 0x00000000#32))
  | n + 1 => heads q qr kr n >>= fun acc => head (Fin.ofNat 16 n) q qr kr acc

/-- The barrier's signals, and the rows worked out. -/
def rows (O : Offs) (c : Dev nD) : Prog (TpuEff nD τ sig (Elt F) Λ₀ .tc) (FVec F S32x2048 .f32) := do
  let xq : Vec F S32x2048 .f32 ← Prog.lift (.load xM (rowR O.hown).toLoadRect (View.loadsAt_vmem h_S32x2048))
  let x : Vec F S1024x2048 .f32 ← Prog.lift (.load xM (Rect.unit (s := S1024x2048) ![0, 0] S1024x2048.size inb_S1024x2048_S1024x2048_0_0).toLoadRect (View.loadsAt_vmem h_S1024x2048))
  let wkr : Vec F S2048x32 .f32 ← Prog.lift (.load wkrM (Rect.unit (s := S2048x32) ![0, 0] S2048x32.size inb_S2048x32_S2048x32_0_0).toLoadRect (View.loadsAt_vmem h_S2048x32))
  let wq : Vec F S2048x2048 .f32 ← Prog.lift (.load wqM (Rect.unit (s := S2048x2048) ![0, 0] S2048x2048.size inb_S2048x2048_S2048x2048_0_0).toLoadRect (View.loadsAt_vmem h_S2048x2048))
  let wqr : Vec F S2048x512 .f32 ← Prog.lift (.load wqrM (Rect.unit (s := S2048x512) ![0, 0] S2048x512.size inb_S2048x512_S2048x512_0_0).toLoadRect (View.loadsAt_vmem h_S2048x512))
  heads (qOf xq wq) (qrOf xq wqr) (krOf x wkr) 16

/-! ## The exchange and the streams -/

def xchg (O : Offs) (c : Dev nD) (acc : FVec F S32x2048 .f32) : Prog (TpuEff nD τ sig (Elt F) Λ₀ .tc) PUnit := do
  let _d : Vec F S32x2048 .bf16 ← Prog.lift (.load outM (rowR O.hown).toLoadRect (View.loadsAt_vmem h_S32x2048))
  Prog.lift (.store outM (rowR O.hown) (truncf .bf16 acc bitsLt_bf16_f32 : FVec F S32x2048 .bf16) Finset.univ
    (View.stores_vmem h_S32x2048 ((Memref.isWhole_whole _).storeExact_slice rfl _ (rpacked_of O.hown)) (fun _ => rfl)) (.inl rfl))
  Prog.lift (.enqueueDma (rowM O.hown') (.remote (Dev.tc (mir c)) (rowM O.hown') (.dma xsSem)) (.dma xrSem)
    ((Memref.isWhole_whole _).wordExact_slice rfl _ (rwords_of O.hown')) ((Memref.isWhole_whole _).wordExact_slice rfl _ (rwords_of O.hown')) ⟨⟨rfl, Or.inl rfl⟩, trivial⟩)
  Prog.lift (.waitDma2 xsSem (rowM O.hown') (rowM O.hown')
    ((Memref.isWhole_whole _).wordExact_slice rfl _ (rwords_of O.hown')) ((Memref.isWhole_whole _).wordExact_slice rfl _ (rwords_of O.hown')))
  Prog.lift (.waitDma2 xrSem (rowM O.hmirror) (rowM O.hmirror)
    ((Memref.isWhole_whole _).wordExact_slice rfl _ (rwords_of O.hmirror)) ((Memref.isWhole_whole _).wordExact_slice rfl _ (rwords_of O.hmirror)))

/-- Starts step `t`. -/
def gSend (O : Offs) (st : Fin 4) (t : Nat) (c : Dev nD) : Prog (TpuEff nD τ sig (Elt F) Λ₀ .tc) PUnit :=
  Prog.lift (.enqueueDma (outC (O.hch st t)) (.remote (Dev.tc (dn st c)) (outC (O.hch st t)) (.dma (sendSem st (slot t)))) (.dma (recvSem st (slot t)))
    ((Memref.isWhole_whole _).wordExact_slice rfl _ (words_of (O.hch st t))) ((Memref.isWhole_whole _).wordExact_slice rfl _ (words_of (O.hch st t))) ⟨⟨rfl, Or.inl rfl⟩, trivial⟩)

/-- Awaits its two ends. -/
def gRecv (O : Offs) (st : Fin 4) (t : Nat) : Prog (TpuEff nD τ sig (Elt F) Λ₀ .tc) PUnit := do
  Prog.lift (.waitDma2 (sendSem st (slot t)) (outC (O.hch st t)) (outC (O.hch st t))
    ((Memref.isWhole_whole _).wordExact_slice rfl _ (words_of (O.hch st t))) ((Memref.isWhole_whole _).wordExact_slice rfl _ (words_of (O.hch st t))))
  Prog.lift (.waitDma2 (recvSem st (slot t)) (outC (O.hch st (t + 1))) (outC (O.hch st (t + 1)))
    ((Memref.isWhole_whole _).wordExact_slice rfl _ (words_of (O.hch st (t + 1)))) ((Memref.isWhole_whole _).wordExact_slice rfl _ (words_of (O.hch st (t + 1)))))

/-- Frees the slot; waits for the next one. -/
def gSig (st : Fin 4) (t : Nat) (c : Dev nD) : Prog (TpuEff nD τ sig (Elt F) Λ₀ .tc) PUnit := semSignalWord (up st c) (credSem st (slot t)) 1#32
def gCred (st : Fin 4) (v : Nat) : Prog (TpuEff nD τ sig (Elt F) Λ₀ .tc) PUnit := semWaitWord (credSem st (slot v)) 1#32

/-- What follows a turn's waits. -/
def gNext (O : Offs) (st : Fin 4) (t : Nat) (c : Dev nD) : Prog (TpuEff nD τ sig (Elt F) Λ₀ .tc) PUnit :=
  match t with
  | 0 => gSig st 0 c >>= fun _ => gSend O st 1 c
  | t' + 1 => if t' < 12 then (gSig st (t' + 1) c >>= fun _ => gCred st (t' + 2) >>= fun _ => gSend O st (t' + 2) c)
      else if t' < 13 then (gCred st (t' + 2) >>= fun _ => gSend O st (t' + 2) c) else pure ⟨⟩
/-- One turn of a stream. -/
def gIter (O : Offs) (st : Fin 4) (t : Nat) (c : Dev nD) : Prog (TpuEff nD τ sig (Elt F) Λ₀ .tc) PUnit :=
  gRecv O st t >>= fun _ => gNext O st t c

def streams (O : Offs) (c : Dev nD) : Prog (TpuEff nD τ sig (Elt F) Λ₀ .tc) PUnit := do
  each fun st => gSend O st 0 c
  turns (fun t => each fun st => gIter O st t c) 15

/-- The whole body on device `c`. -/
def body (O : Offs) (c : Dev nD) : Prog (TpuEff nD τ sig (Elt F) Λ₀ .tc) PUnit := do
  semSignalWord (nxt c) barSem 1#32
  semSignalWord (prv c) barSem 1#32
  semSignalWord (mir c) barSem 1#32
  let acc ← rows O c
  semWaitWord barSem 3#32
  xchg O c acc
  streams O c

/-! ## Where the printed body's rows and chunks lie -/

def chP (c : Dev nD) (st : Fin 4) (t : Nat) : Fin 2 → Nat := match st with
  | ⟨0, _⟩ => k0_off4 c (BitVec.ofNat 32 (t % 16)) | ⟨1, _⟩ => k0_off5 c (BitVec.ofNat 32 (t % 16))
  | ⟨2, _⟩ => k0_off6 c (BitVec.ofNat 32 (4294967296 - t % 16)) | ⟨_ + 3, _⟩ => k0_off7 c (BitVec.ofNat 32 (4294967296 - t % 16))

theorem chP_fin : ∀ (c : Dev nD) (st : Fin 4) (u : Fin 16), chP c st u.val = chunkOff st (dir st (rk st c - u)) := by decide +kernel
theorem off1_eq : ∀ c : Dev nD, k0_off1 c = rowOff c := by decide +kernel
theorem off2_eq : ∀ c : Dev nD, k0_off2 c = rowOff c := by decide +kernel
theorem off3_eq : ∀ c : Dev nD, k0_off3 c = rowOff (mir c) := by decide +kernel

theorem chP_eq (c : Dev nD) (st : Fin 4) (u : Nat) : chP c st u = chunkOff st (dir st (rk st c - Fin.ofNat 16 u)) := by
  have h : chP c st u = chP c st (Fin.ofNat 16 u).val := by
    unfold chP; simp only [Fin.val_ofNat, Nat.mod_mod]
  rw [h]; exact chP_fin c st (Fin.ofNat 16 u)

/-- The offsets as printed … -/
def offsP (c : Dev nD) : Offs where
  own := k0_off1 c
  own' := k0_off2 c
  mirror := k0_off3 c
  ch := chP c
  hown := ⟨_, off1_eq c⟩
  hown' := ⟨_, off2_eq c⟩
  hmirror := ⟨_, off3_eq c⟩
  hch st t := ⟨_, chP_eq c st t⟩
/-- … and in closed form. -/
def offs (c : Dev nD) : Offs where
  own := rowOff c
  own' := rowOff c
  mirror := rowOff (mir c)
  ch st t := chunkOff st (dir st (rk st c - Fin.ofNat 16 t))
  hown := ⟨_, rfl⟩
  hown' := ⟨_, rfl⟩
  hmirror := ⟨_, rfl⟩
  hch st t := ⟨_, rfl⟩

theorem offsP_eq (c : Dev nD) : offsP c = offs c := by
  have h1 : k0_off1 c = (offs c).own := off1_eq c
  have h2 : k0_off2 c = (offs c).own' := off2_eq c
  have h3 : k0_off3 c = (offs c).mirror := off3_eq c
  have h4 : chP c = (offs c).ch := funext fun st => funext fun u => chP_eq c st u
  unfold offsP
  generalize_proofs p1 p2 p3 p4
  revert p1 p2 p3 p4
  rw [h1, h2, h3, h4]
  intro _ _ _ _; rfl

end Cert.AttnKernelIdeal.AG

end
-- ==== Proof.GPrinted.lean ====
module

public import proofs.«01_k».proof.Proof.GStruct

@[expose] public section

noncomputable section

/-! # The printed body is `body` -/

namespace Cert.AttnKernelIdeal.AG

open Idealize.ShloMosaic Idealize.ShloMosaic.TcCoe
open Idealize.SL Idealize.SL.Sem
open Cert.AttnKernelIdeal Cert.AttnKernelIdeal.Gen

variable {F : FTy → Type} [FloatOps F]

theorem printed_raw : cc0__allgather_body (F := F) xM (Memref.isWhole_whole _) wqM (Memref.isWhole_whole _)
      wqrM (Memref.isWhole_whole _) wkrM (Memref.isWhole_whole _) woM (Memref.isWhole_whole _) kvM (Memref.isWhole_whole _) outM (Memref.isWhole_whole _)
      cc0_scratch0 cc0_scratch1 cc0_scratch2 cc0_scratch3 cc0_scratch4
    = (Prog.lift .deviceId >>= fun d : Dev nD => body (offsP d) d) := by
  chain_rfl

theorem printed_eq : bodyAt0 (F := F) t0_0 = (Prog.lift .deviceId >>= fun d : Dev nD => body (offs d) d) := by
  have h := printed_raw (F := F)
  simp only [offsP_eq] at h
  exact h

end Cert.AttnKernelIdeal.AG

end
-- ==== Proof.GRing.lean ====
module

public import proofs.«01_k».proof.Proof.GPrinted
public import Idealize.ShloMosaic.Lib.Pipeline.Launch
public import Idealize.ShloMosaic.Lib.Pipeline.Kit
public import Idealize.ShloMosaic.Lib.Rounds
public import Idealize.ShloMosaic.Lib.Memref
public import Idealize.ShloMosaic.Lib.Tactic

@[expose] public section

noncomputable section

/-! # The rings, the semaphores and the schedule

Each stream runs round a ring of sixteen devices, `dn` its direction and `up` against it; the two rings are joined by
`mir`. `rk` counts a device's place along the direction. A stream uses its two slots in turn: use `v` is of slot
`v % 2`, round `v / 2`, for its fifteen steps. -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

/-! ## The rings -/

theorem up_dn : ∀ (st : Fin 4) (c : Dev nD), up st (dn st c) = c := by decide +kernel
theorem dn_up : ∀ (st : Fin 4) (c : Dev nD), dn st (up st c) = c := by decide +kernel
theorem mir_mir : ∀ c : Dev nD, mir (mir c) = c := by decide +kernel
theorem nxt_prv : ∀ c : Dev nD, nxt (prv c) = c := by decide +kernel
theorem prv_nxt : ∀ c : Dev nD, prv (nxt c) = c := by decide +kernel
theorem rk_dn : ∀ (st : Fin 4) (c : Dev nD), rk st (dn st c) = rk st c + 1 := by decide +kernel
theorem rk_mir : ∀ (st : Fin 4) (c : Dev nD), rk st (mir c) = rk st c := by decide +kernel
theorem dir_dir : ∀ (st : Fin 4) (k : Fin 16), dir st (dir st k) = k := by decide +kernel

theorem rk_up (st : Fin 4) (c : Dev nD) : rk st c = rk st (up st c) + 1 := by
  rw [← rk_dn, dn_up]

/-- The chunk a device sends at step `v`. -/
def lab (st : Fin 4) (c : Dev nD) (v : ℕ) : Fin 16 := dir st (rk st c - Fin.ofNat 16 v)

theorem sub_step : ∀ a b : Fin 16, a + 1 - (b + 1) = a - b := by decide
theorem sub_inj : ∀ a b b' : Fin 16, a - b = a - b' → b = b' := by decide
theorem ofNat_succ (t : ℕ) : Fin.ofNat 16 (t + 1) = Fin.ofNat 16 t + 1 := by ext; simp [Fin.val_add, Nat.add_mod]
theorem ofNat_inj {a b : ℕ} (ha : a < 16) (hb : b < 16) (h : Fin.ofNat 16 a = Fin.ofNat 16 b) : a = b := by
  have := congrArg Fin.val h
  simpa [Nat.mod_eq_of_lt ha, Nat.mod_eq_of_lt hb] using this

/-- The chunk received at a step is the one sent at the next. -/
theorem lab_dn (st : Fin 4) (c : Dev nD) (t : ℕ) : lab st (dn st c) (t + 1) = lab st c t := by
  unfold lab; rw [rk_dn, ofNat_succ, sub_step]
theorem lab_mir (st : Fin 4) (c : Dev nD) (t : ℕ) : lab st (mir c) t = lab st c t := by
  unfold lab; rw [rk_mir]
theorem lab_inj (st : Fin 4) (c : Dev nD) : Set.InjOn (lab st c) (Finset.range 16) := by
  intro a ha b hb h
  have h1 := congrArg (dir st) h
  unfold lab at h1; rw [dir_dir, dir_dir] at h1
  exact ofNat_inj (Finset.mem_range.mp (Finset.mem_coe.mp ha)) (Finset.mem_range.mp (Finset.mem_coe.mp hb)) (sub_inj _ _ _ h1)
theorem image_univ {f : ℕ → Fin 16} (h : Set.InjOn f (Finset.range 16)) : (Finset.range 16).image f = Finset.univ := by
  apply Finset.eq_univ_of_card
  rw [Finset.card_image_of_injOn h]; rfl

/-- A run over the sixteen chunks, in the order a stream meets them. -/
theorem bigSep_lab {M : Type _} [URA M] (st : Fin 4) (c : Dev nD) (Φ : Fin 16 → sProp M) :
    bigSep Finset.univ Φ = bigSep (Finset.range 16) fun v => Φ (lab st c v) := by
  rw [← image_univ (lab_inj st c), bigSep_image_of_injOn (lab_inj st c)]

/-! ## The chunk a program names, by its number -/

theorem kk (st : Fin 4) (k : Fin 16) : ∃ k', chunkOff st k = chunkOff st k' := ⟨k, rfl⟩
abbrev chR (st : Fin 4) (k : Fin 16) : Rect S1024x2048 := chunkR (kk st k)
abbrev outK (st : Fin 4) (k : Fin 16) : Memref sig .tc .vmem S64x512 .bf16 := outC (kk st k)
theorem rr (d : Dev nD) : ∃ d', rowOff d = rowOff d' := ⟨d, rfl⟩
abbrev rwR (d : Dev nD) : Rect S1024x2048 := rowR (rr d)
abbrev rowK (d : Dev nD) : Memref sig .tc .vmem S32x2048 .bf16 := rowM (rr d)

/-! ## The semaphores -/

/-- A stream's semaphores … -/
inductive J where
  | send (s : Fin 2)
  | recv (s : Fin 2)
  | cred (s : Fin 2)
deriving DecidableEq

instance : Fintype J := ⟨{.send 0, .send 1, .recv 0, .recv 1, .cred 0, .cred 1}, fun j => by
  rcases j with s | s | s <;> fin_cases s <;> decide⟩

/-- … and all of a device's: the barrier's, the exchange's two, and four streams'. -/
abbrev Ci : Type := Option (Option (Option (Fin 4 × J)))

abbrev csem : Ci → SemLoc sig
  | none => .reg barSem
  | some none => .dma xsSem
  | some (some none) => .dma xrSem
  | some (some (some (st, .send s))) => .dma (sendSem st s)
  | some (some (some (st, .recv s))) => .dma (recvSem st s)
  | some (some (some (st, .cred s))) => .reg (credSem st s)

theorem csem_injective : Function.Injective csem := by
  have h : ∀ i j : Ci, csem i = csem j → i = j := by decide +kernel
  exact fun i j => h i j

open Classical in
/-- Which of them a semaphore is. -/
def dec (sm : SemLoc sig) : Option Ci := if h : ∃ i, csem i = sm then some h.choose else none
theorem dec_csem (i : Ci) : dec (csem i) = some i := by
  have h : ∃ j, csem j = csem i := ⟨i, rfl⟩
  unfold dec; rw [dif_pos h]; exact congrArg some (csem_injective h.choose_spec)

abbrev cell (c : Dev nD) (i : Ci) : GSem nD τ sig := ((c : Thread nD τ), csem i)
theorem cell_injective : Function.Injective (fun ci : Dev nD × Ci => cell ci.1 ci.2) := by
  rintro ⟨c, k⟩ ⟨c', k'⟩ h
  have h1 : c = c' := congrArg (fun g : GSem nD τ sig => g.1.1) h
  have h2 : csem k = csem k' := congrArg Prod.snd h
  rw [h1, csem_injective h2]

/-- The semaphores of use `v`, and the exchange's. -/
abbrev sendI (st : Fin 4) (v : ℕ) : Ci := some (some (some (st, .send (slot v))))
abbrev recvI (st : Fin 4) (v : ℕ) : Ci := some (some (some (st, .recv (slot v))))
abbrev credI (st : Fin 4) (v : ℕ) : Ci := some (some (some (st, .cred (slot v))))
abbrev xsI : Ci := some none
abbrev xrI : Ci := some (some none)

theorem slot_add_two (v : ℕ) : slot (v + 2) = slot v := by unfold slot; congr 1; omega
theorem div_add_two (v : ℕ) : (v + 2) / 2 = v / 2 + 1 := by omega
theorem two_div_slot (v : ℕ) : 2 * (v / 2) + (slot v).val = v := by unfold slot; show 2 * (v / 2) + v % 2 = v; omega

/-! ## The resource algebra -/

abbrev UB : Type := URounds (GSem nD τ sig) (Fin 3)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- Device `c` holds a memref at contents `X`; at some contents. -/
abbrev ow (c : Dev nD) {sh : Shape} {e : EltTy} (m : Memref sig .tc .vmem sh e) (X : sh.Idx → Elt F e) : sProp 𝕄 :=
  owns (c : Thread nD τ) m fullShare X
abbrev owE (c : Dev nD) {sh : Shape} {e : EltTy} (m : Memref sig .tc .vmem sh e) : sProp 𝕄 := iprop(∃ X, ow c m X)

/-! ## The schedule -/

abbrev N : ℕ := (outK 0 0).view.dmaCredit
theorem N_pos : 0 < N := View.dmaCredit_pos _ (by decide)
abbrev NR : ℕ := (rowK 0).view.dmaCredit
theorem NR_pos : 0 < NR := View.dmaCredit_pos _ (by decide)

section Sched
variable (A : S1024x2048.Idx → Elt F .bf16)

/-- The result's chunk, and its rows of one device. -/
def gch (st : Fin 4) (k : Fin 16) : Vec F S64x512 .bf16 := fun j => A ((chR st k).emb j)
def grow (d : Dev nD) : Vec F S32x2048 .bf16 := fun j => A ((rwR d).emb j)

/-- What the device `c` sends to on stream `st` lends it at the barrier: its result's chunks but its own. -/
def barPay (c : Dev nD) (st : Fin 4) : sProp 𝕄 := bigSep (Finset.Ico 0 15) fun t => owE (dn st c) (outK st (lab st c t))
def sendPay (c : Dev nD) (st : Fin 4) (v : ℕ) : sProp 𝕄 := ow c (outK st (lab st c v)) (gch A st (lab st c v))
def recvPay (c : Dev nD) (st : Fin 4) (v : ℕ) : sProp 𝕄 :=
  iprop(ow c (outK st (lab st c (v + 1))) (gch A st (lab st c (v + 1))) ∗ reached ER (cell (up st c) (credI st v)) (v / 2))
def credPay (c : Dev nD) (st : Fin 4) (v : ℕ) : sProp 𝕄 := reached ER (cell (dn st c) (recvI st (v + 2))) ((v + 2) / 2)

def dut : Ci → ℕ → Finset (Fin 3)
  | none, r => if r = 0 then Finset.univ else ∅
  | some none, r => if r = 0 then {0} else ∅
  | some (some none), r => if r = 0 then {0} else ∅
  | some (some (some (_, .send s))), r => if 2 * r + s.val < 15 then {0} else ∅
  | some (some (some (_, .recv s))), r => if 2 * r + s.val < 15 then {0} else ∅
  | some (some (some (_, .cred s))), r => if 2 * r + s.val < 13 then {0} else ∅
def amt : Ci → ℕ
  | none => 1
  | some none => NR
  | some (some none) => NR
  | some (some (some (_, .send _))) => N
  | some (some (some (_, .recv _))) => N
  | some (some (some (_, .cred _))) => 1
def pay (c : Dev nD) : Ci → ℕ → Fin 3 → sProp 𝕄
  | none, _, d => if d = 0 then iprop(barPay c 2 ∗ barPay c 3) else if d = 1 then iprop(barPay c 0 ∗ barPay c 1)
      else owE (mir c) (rowK c)
  | some none, _, _ => ow c (rowK c) (grow A c)
  | some (some none), _, _ => ow c (rowK (mir c)) (grow A (mir c))
  | some (some (some (st, .send s))), r, _ => sendPay A c st (2 * r + s.val)
  | some (some (some (st, .recv s))), r, _ => recvPay A c st (2 * r + s.val)
  | some (some (some (st, .cred s))), r, _ => credPay c st (2 * r + s.val)

instance barPay_storable (c : Dev nD) (st : Fin 4) : BI.Storable (upEmb : UEmb _ 𝕄) (barPay (F := F) c st) := by unfold barPay; infer_instance
instance pay_storable (c : Dev nD) (i : Ci) (r : ℕ) (d : Fin 3) : BI.Storable (upEmb : UEmb _ 𝕄) (pay A c i r d) := by
  rcases i with _ | _ | _ | ⟨st, s | s | s⟩ <;> simp only [pay, sendPay, recvPay, credPay] <;> (repeat' split) <;> infer_instance

def ringRd : Rounds.Schedule (GSem nD τ sig) (Fin 3) 𝕄 where
  duties g r := if g.1.2 = .tc then (match dec g.2 with | none => ∅ | some i => dut i r) else ∅
  unitless _ := False
  amount g _ _ := match dec g.2 with | none => 1 | some i => amt i
  payload g r d := match dec g.2 with | none => iprop(emp) | some i => pay A g.1.1 i r d
  amount_pos g _ _ _ := by
    rcases dec g.2 with _ | _ | _ | _ | ⟨st, s | s | s⟩ <;> first | exact Nat.one_pos | exact NR_pos | exact N_pos

instance ringRd_payload_storable (g : GSem nD τ sig) (r : ℕ) (d : Fin 3) :
    BI.Storable (upEmb : UEmb _ 𝕄) ((ringRd A).payload g r d) := by
  dsimp only [ringRd]; split <;> infer_instance

theorem duties_cell (c : Dev nD) (i : Ci) (r : ℕ) : (ringRd A).duties (cell c i) r = dut i r := by
  dsimp only [ringRd]; rw [if_pos rfl]; rw [dec_csem]
theorem amount_cell (c : Dev nD) (i : Ci) (r : ℕ) (d : Fin 3) : (ringRd A).amount (cell c i) r d = amt i := by
  dsimp only [ringRd]; rw [dec_csem]
theorem payload_cell (c : Dev nD) (i : Ci) (r : ℕ) (d : Fin 3) : (ringRd A).payload (cell c i) r d = pay A c i r d := by
  dsimp only [ringRd]; rw [dec_csem]
theorem expect_cell (c : Dev nD) (i : Ci) (r : ℕ) : (ringRd A).expect (cell c i) r = (dut i r).card * amt i := by
  unfold Schedule.expect Schedule.amountOf
  rw [Finset.sum_congr rfl fun d _ => amount_cell A c i r d, Finset.sum_const, duties_cell, smul_eq_mul]

theorem pay_send (c : Dev nD) (st : Fin 4) (v : ℕ) (d : Fin 3) : pay A c (sendI st v) (v / 2) d = sendPay A c st v := by
  show sendPay A c st (2 * (v / 2) + (slot v).val) = _; rw [two_div_slot]
theorem pay_recv (c : Dev nD) (st : Fin 4) (v : ℕ) (d : Fin 3) : pay A c (recvI st v) (v / 2) d = recvPay A c st v := by
  show recvPay A c st (2 * (v / 2) + (slot v).val) = _; rw [two_div_slot]
theorem pay_cred (c : Dev nD) (st : Fin 4) (v : ℕ) (d : Fin 3) : pay A c (credI st v) (v / 2) d = credPay c st v := by
  show credPay c st (2 * (v / 2) + (slot v).val) = _; rw [two_div_slot]
end Sched

/-! ## What each device owes, and the levels -/

/-- How far a stream is: its sends, its credits. -/
structure Pr where
  s : ℕ
  c : ℕ

abbrev recvT (c : Dev nD) (st : Fin 4) (v : ℕ) : CellTallies nD τ sig ℕ := tallyAt (cell (dn st c) (recvI st v)) v N
abbrev credT (c : Dev nD) (st : Fin 4) (v : ℕ) : CellTallies nD τ sig ℕ := tallyAt (cell (up st c) (credI st v)) v 1
abbrev xT (c : Dev nD) : CellTallies nD τ sig ℕ := tallyAt (cell (mir c) xrI) 0 NR
def owed1 (c : Dev nD) (st : Fin 4) (p : Pr) : CellTallies nD τ sig ℕ :=
  (∑ v ∈ Finset.Ico p.s 15, recvT c st v) + ∑ v ∈ Finset.Ico p.c 13, credT c st v
def owedX (c : Dev nD) (x : ℕ) : CellTallies nD τ sig ℕ := ∑ _v ∈ Finset.Ico x 1, xT c
/-- What a device owes whose streams are at `P`, before (`x = 0`) or after (`x = 1`) its part of the exchange. -/
def owedS (c : Dev nD) (x : ℕ) (P : Fin 4 → Pr) : CellTallies nD τ sig ℕ := owedX c x + ∑ st, owed1 c st (P st)
abbrev barT (c : Dev nD) : CellTallies nD τ sig ℕ := tallyAt (cell c none) 0 1
def owed0 (c : Dev nD) : CellTallies nD τ sig ℕ := owedS c 0 (fun _ => ⟨0, 0⟩) + barT (mir c) + barT (prv c) + barT (nxt c)

def Lx (g : GSem nD τ sig) : Finset ℕ := if g.1.2 = .tc then Finset.range 30 else ∅
def lvI : Ci → ℕ → ℕ
  | none, _ => 1
  | some none, _ => 0
  | some (some none), _ => 2
  | some (some (some (_, .send _))), _ => 0
  | some (some (some (_, .recv _))), v => 2 * v + 3
  | some (some (some (_, .cred _))), v => 2 * v + 4
def lv (g : GSem nD τ sig) (v : ℕ) : ℕ := match dec g.2 with
  | none => 0
  | some i => lvI i v

end Cert.AttnKernelIdeal.AG

end
-- ==== Proof.GTriple.lean ====
module

public import proofs.«01_k».proof.Proof.GRing
public import Idealize.SL.BI.BigOpNat

@[expose] public section

noncomputable section

/-! # Triples, payments and waits -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable (A : S1024x2048.Idx → Elt F .bf16) (K : Dev nD × Ci → ℕ)

abbrev 𝒱₀ : Variants := Variants.none

/-- What every device knows: the cells' invariants, that each has reached its first round, and the levels. -/
def recs : sProp 𝕄 :=
  iprop((bigSep Finset.univ fun ci : Dev nD × Ci => cellInv ER (ringRd A) (K ci) (cell ci.1 ci.2))
    ∗ (bigSep Finset.univ fun ci : Dev nD × Ci => reached ER (cell ci.1 ci.2) 0) ∗ levAts Lx lv)

instance recs_persistent : BI.Persistent (recs A K) := by unfold recs; infer_instance

theorem recs_inv (c : Dev nD) (i : Ci) : recs A K ⊢ cellInv ER (ringRd A) (K (c, i)) (cell c i) := by
  unfold recs; iintro ⟨H, -, -⟩
  iapply (show (bigSep Finset.univ fun ci : Dev nD × Ci => cellInv ER (ringRd A) (K ci) (cell ci.1 ci.2)) ⊢ cellInv ER (ringRd A) (K (c, i)) (cell c i) from bigSep_elim (Finset.mem_univ (c, i))); iexact H
theorem recs_reached (c : Dev nD) (i : Ci) : recs A K ⊢ reached ER (cell c i) 0 := by
  unfold recs; iintro ⟨-, H, -⟩
  iapply (show (bigSep Finset.univ fun ci : Dev nD × Ci => (reached ER (cell ci.1 ci.2) 0 : sProp 𝕄)) ⊢ reached ER (cell c i) 0 from bigSep_elim (Finset.mem_univ (c, i))); iexact H
theorem recs_lev : recs A K ⊢ levAts Lx lv := by
  unfold recs; iintro ⟨-, -, H⟩; iexact H

abbrev WP (c : Dev nD) (p : Prog (TpuEff nD τ sig (Elt F) Λ₀ .tc) PUnit) (Kt : PUnit → sProp 𝕄) : sProp 𝕄 :=
  wp frame (wpE (defs₀ (F := F)) 𝒱₀ (c : Thread nD τ) none) Set.univ p Kt

/-- On device `c`, the program leads from `P` to `Q`. -/
def Tr (c : Dev nD) (P : sProp 𝕄) (p : Prog (TpuEff nD τ sig (Elt F) Λ₀ .tc) PUnit) (Q : sProp 𝕄) : Prop :=
  ∀ Kt : PUnit → sProp 𝕄, iprop(recs A K ∗ P ∗ (Q -∗ Kt ⟨⟩)) ⊢ WP c p Kt

variable {A K}
variable {c : Dev nD}
variable {P P1 Q Q1 R : sProp (MT nD τ sig ℕ (Elt F) ℕ UU ℕ)}

theorem Tr.pure (h : P ⊢ Q) : Tr A K c P (Prog.ret ⟨⟩) Q := fun Kt => by
  show _ ⊢ wp _ _ _ _ _
  iintro ⟨-, HP, Hk⟩
  rw [wp_ret]; imodintro
  iapply Hk; iapply h; iexact HP

theorem Tr.bind {p : Prog (TpuEff nD τ sig (Elt F) Λ₀ .tc) PUnit} {k : PUnit → Prog (TpuEff nD τ sig (Elt F) Λ₀ .tc) PUnit}
    (h : Tr A K c P p R) (h' : Tr A K c R (k ⟨⟩) Q) : Tr A K c P (p >>= k) Q := fun Kt => by
  show _ ⊢ wp _ _ _ _ _
  rw [wp_bind]
  iintro ⟨#Hr, HP, Hk⟩
  iapply (h _)
  isplitr; · iexact Hr
  isplitl [HP]; · iexact HP
  iintro HR
  iapply (h' Kt)
  isplitr; · iexact Hr
  isplitl [HR] <;> iassumption

theorem Tr.conseq {p : Prog (TpuEff nD τ sig (Elt F) Λ₀ .tc) PUnit} (h : Tr A K c P1 p Q1) (hP : iprop(recs A K ∗ P) ⊢ P1) (hQ : Q1 ⊢ Q) :
    Tr A K c P p Q := fun Kt => by
  iintro ⟨#Hr, HP, Hk⟩
  iapply (h _)
  isplitr; · iexact Hr
  isplitl [HP]
  · iapply hP
    isplitr <;> iassumption
  iintro HQ
  iapply Hk; iapply hQ; iexact HQ

theorem Tr.frame {p : Prog (TpuEff nD τ sig (Elt F) Λ₀ .tc) PUnit} (h : Tr A K c P p Q) : Tr A K c iprop(P ∗ R) p iprop(Q ∗ R) := fun Kt => by
  iintro ⟨#Hr, ⟨HP, HR⟩, Hk⟩
  iapply (h _)
  isplitr; · iexact Hr
  isplitl [HP]; · iexact HP
  iintro HQ
  iapply Hk
  isplitl [HQ] <;> iassumption

/-! ## The obligations -/

/-- Device `c` owes `O`. -/
def Ow (c : Dev nD) (O : CellTallies nD τ sig ℕ) : sProp 𝕄 := iprop(∃ W, owes (c : Thread nD τ) O W)

theorem owedS_update (c : Dev nD) (x : ℕ) (B : Fin 4 → Pr) (st : Fin 4) (p : Pr) :
    owedS c x (Function.update B st p) = (owedX c x + ∑ s ∈ Finset.univ.erase st, owed1 c s (B s)) + owed1 c st p := by
  unfold owedS
  rw [add_assoc]; congr 1
  rw [add_comm, ← Finset.add_sum_erase _ _ (Finset.mem_univ st), Function.update_self]
  congr 1
  exact Finset.sum_congr rfl fun s hs => by rw [Function.update_of_ne (Finset.ne_of_mem_erase hs)]

theorem sum_pop {a b : ℕ} (h : a < b) (f : ℕ → CellTallies nD τ sig ℕ) : ∑ v ∈ Finset.Ico a b, f v = f a + ∑ v ∈ Finset.Ico (a + 1) b, f v := by
  rw [show Finset.Ico a b = insert a (Finset.Ico (a + 1) b) by ext x; simp only [Finset.mem_Ico, Finset.mem_insert]; omega,
    Finset.sum_insert (by rw [Finset.mem_Ico]; omega)]

theorem owed_send (c : Dev nD) (x : ℕ) (B : Fin 4 → Pr) (st : Fin 4) (s k : ℕ) (h : s < 15) :
    owedS c x (Function.update B st ⟨s, k⟩) = owedS c x (Function.update B st ⟨s + 1, k⟩) + recvT c st s := by
  rw [owedS_update, owedS_update]
  generalize (owedX c x + ∑ s ∈ Finset.univ.erase st, owed1 c s (B s)) = Z
  rw [add_assoc]; congr 1
  unfold owed1; dsimp only
  rw [sum_pop h]; ac_rfl
theorem owed_cred (c : Dev nD) (x : ℕ) (B : Fin 4 → Pr) (st : Fin 4) (s k : ℕ) (h : k < 13) :
    owedS c x (Function.update B st ⟨s, k⟩) = owedS c x (Function.update B st ⟨s, k + 1⟩) + credT c st k := by
  rw [owedS_update, owedS_update]
  generalize (owedX c x + ∑ s ∈ Finset.univ.erase st, owed1 c s (B s)) = Z
  rw [add_assoc]; congr 1
  unfold owed1; dsimp only
  rw [sum_pop h]; ac_rfl
theorem owed_x (c : Dev nD) (B : Fin 4 → Pr) : owedS c 0 B = owedS c 1 B + xT c := by
  unfold owedS owedX
  rw [sum_pop Nat.one_pos]; ac_rfl

/-- What remains owed is above level `n`. -/
def Above (n : ℕ) (p : Pr) : Prop := (15 ≤ p.s ∨ n < 2 * p.s + 3) ∧ (13 ≤ p.c ∨ n < 2 * p.c + 4)

theorem lv_cell (c : Dev nD) (i : Ci) (v : ℕ) : lv (cell c i) v = lvI i v := by
  unfold lv; rw [dec_csem]

theorem tally_pos {g g' : GSem nD τ sig} {u u' n : ℕ} (h : 0 < (tallyAt g u n : CellTallies nD τ sig ℕ) g' u') : g' = g ∧ u' = u := by
  rw [tallyAt_apply] at h
  by_contra hn; rw [if_neg hn] at h; exact absurd h (Nat.lt_irrefl 0)

theorem sum_pos {α : Type} [DecidableEq α] {s : Finset α} {f : α → CellTallies nD τ sig ℕ} {g : GSem nD τ sig} {u : ℕ}
    (h : 0 < (∑ a ∈ s, f a) g u) : ∃ a ∈ s, 0 < f a g u := by
  by_contra hn
  push Not at hn
  rw [Finset.sum_apply, Finsupp.finsetSum_apply, Finset.sum_eq_zero fun a ha => Nat.le_zero.mp (hn a ha)] at h
  exact absurd h (Nat.lt_irrefl 0)

theorem owed_pos {c : Dev nD} {x : ℕ} {B : Fin 4 → Pr} {n : ℕ} (hx : 1 ≤ x ∨ n < 2) (hB : ∀ s, Above n (B s)) {g : GSem nD τ sig} {u : ℕ}
    (h : 0 < owedS c x B g u) : u ∈ Lx g ∧ n < lv g u := by
  unfold owedS at h
  rw [Pi.add_apply, Finsupp.add_apply] at h
  have key : 0 < owedX c x g u ∨ 0 < (∑ st, owed1 c st (B st)) g u := by omega
  rcases key with h | h
  · unfold owedX at h
    obtain ⟨v, hv, h⟩ := sum_pos h
    obtain ⟨rfl, rfl⟩ := tally_pos h
    rw [Finset.mem_Ico] at hv
    rw [lv_cell]; refine ⟨by unfold Lx; rw [if_pos rfl, Finset.mem_range]; omega, ?_⟩
    dsimp only [lvI]; omega
  obtain ⟨st, -, h⟩ := sum_pos h
  unfold owed1 at h
  rw [Pi.add_apply, Finsupp.add_apply] at h
  obtain ⟨h1, h2⟩ := hB st
  have key : 0 < (∑ v ∈ Finset.Ico (B st).s 15, recvT c st v) g u ∨ 0 < (∑ v ∈ Finset.Ico (B st).c 13, credT c st v) g u := by omega
  rcases key with h | h <;> obtain ⟨v, hv, h⟩ := sum_pos h <;> obtain ⟨rfl, rfl⟩ := tally_pos h <;> rw [Finset.mem_Ico] at hv <;>
    rw [lv_cell] <;> refine ⟨by unfold Lx; rw [if_pos rfl, Finset.mem_range]; omega, ?_⟩ <;> dsimp only [lvI] <;> omega

theorem mayWait (c : Dev nD) (i : Ci) (v n x : ℕ) (B : Fin 4 → Pr) (hv : v < 30) (hn : lv (cell c i) v ≤ n) (hx : 1 ≤ x ∨ n < 2) (hB : ∀ s, Above n (B s)) :
    (levAts Lx lv : sProp 𝕄) ⊢ MayWait (c : Thread nD τ) (csem i) v (owedS c x B) :=
  MayOwe.of_cut (L := Lx) (lev := lv) n
    (fun p hp => by rw [Finset.mem_singleton.mp hp]; unfold Lx; rw [if_pos rfl, Finset.mem_range]; exact hv)
    (fun g u hg => (owed_pos hx hB hg).1)
    (fun p hp => by rw [Finset.mem_singleton.mp hp]; exact hn)
    (fun g u hg => (owed_pos hx hB hg).2)

/-! ## Waits and signals -/

/-- A device's standing at one of its cells. -/
def pos (c : Dev nD) (i : Ci) (r : ℕ) : sProp 𝕄 := iprop(atPos ER (cell c i) r ∅ 0 ∗ reached ER (cell c i) r)
/-- … at the cells of the next two uses. -/
def pos2 (c : Dev nD) (I : ℕ → Ci) (n : ℕ) : sProp 𝕄 := iprop(pos c (I n) (n / 2) ∗ pos c (I (n + 1)) ((n + 1) / 2))

/-- A wait for the whole of the open round of a cell that has one duty in it. -/
theorem tr_wait (c : Dev nD) (i : Ci) (r v n x : ℕ) (B : Fin 4 → Pr) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem i) k' Kt)
    (hd : dut i r = {0}) (hk : k' = amt i) (hv : v < 30) (hn : lv (cell c i) v ≤ n) (hx : 1 ≤ x ∨ n < 2) (hB : ∀ s, Above n (B s)) :
    Tr A K c iprop(Ow c (owedS c x B) ∗ cred (tallyAt (cell c i) v (amt i)) ∗ pos c i r) (Prog.lift w)
      iprop(Ow c (owedS c x B) ∗ pos c i (r + 1) ∗ pay A c i r 0) := fun Kt => by
  subst hk
  have he : 0 + amt i = (ringRd A).expect (cell c i) r :=
    ((Nat.zero_add _).trans (Nat.one_mul _).symm).trans (by rw [expect_cell A c i r, hd, Finset.card_singleton])
  have hmw : recs A K ⊢ MayWait (c : Thread nD τ) (csem i) v (owedS c x B) := by
    have h := mayWait (F := F) c i v n x B hv hn hx hB
    exact Idealize.SL.BI.Entails.trans (@recs_lev F _ A K) h
  show _ ⊢ wp _ _ _ (.op w .ret) _
  unfold Ow pos
  iintro ⟨#Hr, ⟨⟨%W, HO⟩, Hc, Hat, -⟩, Hk⟩
  iapply (Rounds.wp_wait_rest_token 𝒱₀ ER (ringRd A) (c : Thread nD τ) none (κ := K (c, i)) hw (Set.mem_univ _) v
      (O := owedS c x B) (W := W) (R := r) (m := 0) (T := ∅) he) $$ [HO Hc Hat]
  · isplitr; · iapply (recs_inv A K c i); iexact Hr
    isplitl [Hc]; · iexact Hc
    isplitl [HO]; · iexact HO
    isplitr; · iapply hmw; iexact Hr
    iexact Hat
  iintro ⟨HO, Hat, #Hre, Hpay⟩
  rw [wp_ret]; imodintro
  iapply Hk
  isplitl [HO]; · iexists _; iexact HO
  isplitl [Hat]
  · isplitl [Hat]; · iexact Hat
    iexact Hre
  iapply (Entails.of_eq (show bigSep ((ringRd A).duties (cell c i) r \ ∅) (fun d => (ringRd A).payload (cell c i) r d) = pay A c i r 0 by
    rw [Finset.sdiff_empty, duties_cell, hd, bigSep_singleton, payload_cell]))
  iexact Hpay

/-- The same at the cell of use `v`. -/
theorem tr_wait2 (c : Dev nD) (I : ℕ → Ci) (v n x : ℕ) (hI : I (v + 2) = I v) (B : Fin 4 → Pr) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem (I v)) k' Kt)
    (hd : dut (I v) (v / 2) = {0}) (hk : k' = amt (I v)) (hv : v < 30) (hn : lv (cell c (I v)) v ≤ n) (hx : 1 ≤ x ∨ n < 2) (hB : ∀ s, Above n (B s)) :
    Tr A K c iprop(Ow c (owedS c x B) ∗ cred (tallyAt (cell c (I v)) v (amt (I v))) ∗ pos2 c I v) (Prog.lift w)
      iprop(Ow c (owedS c x B) ∗ pos2 c I (v + 1) ∗ pay A c (I v) (v / 2) 0) := by
  have h := (tr_wait (A := A) (K := K) c (I v) (v / 2) v n x B hw hd hk hv hn hx hB).frame (R := pos c (I (v + 1)) ((v + 1) / 2))
  refine h.conseq ?_ ?_
  · unfold pos2
    iintro ⟨-, HO, Hc, H1, H2⟩
    isplitr [H2]
    · isplitl [HO]; · iexact HO
      isplitl [Hc] <;> iassumption
    · iexact H2
  · unfold pos2
    rw [show v + 1 + 1 = v + 2 from rfl, hI, div_add_two]
    iintro ⟨⟨HO, H1, HP⟩, H2⟩
    isplitl [HO]; · iexact HO
    isplitr [HP]
    · isplitl [H2] <;> iassumption
    · iexact HP

/-- A signal paying a duty of another device's cell. -/
theorem tr_signal (c d : Dev nD) (i : Ci) (sm : Sem sig) (hs : csem i = .reg sm) (r : ℕ) (du : Fin 3) (v : ℕ)
    (O O' : CellTallies nD τ sig ℕ) (hdu : du ∈ dut i r) (ha : amt i = 1) (hO : O = O' + tallyAt (cell d i) v 1) :
    Tr A K c iprop(Ow c O ∗ dutyTok ER (cell d i) r du ∗ reached ER (cell d i) r ∗ pay A d i r du) (semSignalWord d sm 1#32)
      (Ow c O') := fun Kt => by
  show _ ⊢ WP c (.op (.semSignal (d : Thread nD τ) sm (1#32 : BitVec 32).toInt.toNat) .ret) Kt
  unfold Ow
  iintro ⟨#Hr, ⟨⟨%W, HO⟩, Ht, #Hre, Hp⟩, Hk⟩
  have hcell : ((d : Thread nD τ), SemLoc.reg sm) = cell d i := by rw [← hs]
  iapply (Rounds.wp_signal 𝒱₀ ER (ringRd A) (c : Thread nD τ) none (dst := (d : Thread nD τ)) (sem := sm) (r := r) (κ := K (d, i))
      (d := du) (by rw [hcell, duties_cell]; exact hdu) (by rw [hcell, amount_cell, ha]; rfl) v (O₀ := O) O' (by rw [hcell]; exact hO) (W := W))
    $$ [HO Ht Hp]
  · rw [hcell]
    isplitr; · iapply (recs_inv A K d i); iexact Hr
    isplitl [HO]; · iexact HO
    isplitl [Ht]; · iexact Ht
    isplitl [Hp]; · rw [payload_cell]; iexact Hp
    iexact Hre
  iintro HO
  rw [wp_ret]; imodintro
  iapply Hk
  iexists W; iexact HO

end Cert.AttnKernelIdeal.AG

end
-- ==== Proof.GAccess.lean ====
module

public import proofs.«01_k».proof.Proof.GTriple
public import Idealize.ShloMosaic.Lib.Pipeline.Value

@[expose] public section

noncomputable section

/-! # Loads, stores and transfers of one piece -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

section Mem
variable {s : Shape} {e : EltTy} (c : Dev nD) (m : Memref sig .tc .vmem s e) (r : Rect s) (hr : ∀ a, r.stride a = 1)

/-- A load of a chunk reads what is held there. -/
theorem ld (X : r.shape.Idx → Elt F e) {hl : m.view.LoadsAt r.toLoadRect}
    {k : (r.shape.Idx → Elt F e) → Prog (TpuEff nD τ sig (Elt F) Λ₀ .tc) PUnit} {Kt : PUnit → sProp 𝕄} :
    ow c (m.slice r hr) X ⊢ iprop((ow c (m.slice r hr) X -∗ WP c (k X) Kt) -∗ WP c (.op (.load m r.toLoadRect hl) k) Kt) := by
  unfold WP ow owns
  iintro ⟨%f, %hf, H⟩ Hk
  iapply (wp_load_rect 𝒱₀ (c : Thread nD τ) none Set.univ (m := m) (r := r) (S := (m.slice r hr).view.set) (subset_rfl)) $$ H
  iintro H
  rw [show (m.access r).read (Elt F) f = X from hf]
  iapply Hk
  iexists f; isplitr; · ipureintro; exact hf
  iexact H

/-- A store of a whole chunk. -/
theorem sto (w : r.shape.Idx → Elt F e) {hx : (m.access r).Stores Finset.univ} {hm : Finset.univ = Finset.univ ∨ ∀ a, r.stride a = 1}
    {k : PUnit → Prog (TpuEff nD τ sig (Elt F) Λ₀ .tc) PUnit} {Kt : PUnit → sProp 𝕄} :
    owE c (m.slice r hr) ⊢ iprop((ow c (m.slice r hr) w -∗ WP c (k ⟨⟩) Kt) -∗ WP c (.op (.store m r w Finset.univ hx hm) k) Kt) := by
  unfold WP owE ow owns
  iintro ⟨%X, %f, %hf, H⟩ Hk
  iapply (wp_store 𝒱₀ (c : Thread nD τ) none Set.univ (m := m) (r := r) (w := w) (Mk := Finset.univ) (S := (m.slice r hr).view.set) (subset_rfl)) $$ H
  iintro H
  iapply Hk
  iexists _; isplitr
  · ipureintro; exact View.read_write_univ f w
  iexact H

end Mem

/-- A transfer to another device. -/
theorem tr_send (c c' : Dev nD) (i j : Ci) (r₁ r₂ : ℕ) {sS sem : DmaSem sig} (hi : csem i = .dma sS) (hj : csem j = .dma sem)
    {sh : Shape} (src dst : Memref sig .tc .vmem sh .bf16) (X : sh.Idx → Elt F .bf16) (Fr : sProp 𝕄) (O O' : CellTallies nD τ sig ℕ) (ι ι' n : ℕ)
    (hO : O = O' + tallyAt (cell c' j) ι n) (hd₁ : (0 : Fin 3) ∈ dut i r₁) (hd₂ : (0 : Fin 3) ∈ dut j r₂) (ha₁ : amt i = n) (ha₂ : amt j = n)
    (hN : dst.view.dmaCredit = n)
    (hp₁ : ow c src X ⊢ pay A c i r₁ 0) (hp₂ : iprop(ow c' dst X ∗ Fr) ⊢ pay A c' j r₂ 0)
    {hsrc : src.view.WordExact} {hdst : dst.view.WordExact} {hsem : DmaTarget.Typed .vmem (.dma sem) (.remote (Dev.tc c' : Thread nD τ) dst (.dma sS) rfl)} :
    Tr A K c iprop(Ow c O ∗ ow c src X ∗ owE c' dst ∗ Fr ∗ dutyTok ER (cell c i) r₁ 0 ∗ reached ER (cell c i) r₁
        ∗ dutyTok ER (cell c' j) r₂ 0 ∗ reached ER (cell c' j) r₂)
      (Prog.lift (.enqueueDma src (.remote (Dev.tc c') dst (.dma sS)) (.dma sem) hsrc hdst hsem))
      iprop(Ow c O' ∗ cred (tallyAt (cell c i) ι' n)) := fun Kt => by
  show _ ⊢ wp _ _ _ (.op _ .ret) _
  unfold Ow owE ow owns
  have e₁ : ((c : Thread nD τ), SemLoc.dma sS) = cell c i := by rw [← hi]
  have e₂ : ((c' : Thread nD τ), SemLoc.dma sem) = cell c' j := by rw [← hj]
  iintro ⟨#Hr, ⟨⟨%W, HO⟩, ⟨%fs, %hfs, Hs⟩, ⟨%Y, %fd, %hfd, Hd⟩, HF, Ht1, #Hr1, Ht2, #Hr2⟩, Hk⟩
  iapply (Rounds.wp_send_pointsTo_with 𝒱₀ ER (ringRd A) (c : Thread nD τ) none (κ₁ := K (c, i)) (κ₂ := K (c', j)) (c' := (c' : Thread nD τ))
      (src := src) (dst := dst) (sS := .dma sS) (sem := .dma sem)
      (r₁ := r₁) (r₂ := r₂) (d₁ := 0) (d₂ := 0) (fs := fs) (fd := fd) (F := Fr) (O₀ := O)
      (by rw [e₁, duties_cell]; exact hd₁) (by rw [e₂, duties_cell]; exact hd₂)
      ι ι' n hN (by rw [e₁, amount_cell, ha₁]) (by rw [e₂, amount_cell, ha₂]) O' (by rw [e₂]; exact hO) (W := W)
      (by rw [e₁, payload_cell]; refine Idealize.SL.BI.Entails.trans ?_ hp₁; rw [← hfs]; exact owns_intro (c : Thread nD τ) src fullShare fs)
      (by
        rw [e₂, payload_cell]; refine Idealize.SL.BI.Entails.trans (sep_mono_left (PROP := sProp 𝕄) ?_) hp₂
        have h := owns_intro (Ix := ℕ) (Name := ℕ) (U := UU) (Lvl := ℕ) (c' : Thread nD τ) dst fullShare (dst.view.write (Elt F) fd (src.view.read (Elt F) fs) Finset.univ)
        rw [View.read_write_univ, hfs] at h
        rw [hfs]; exact h))
    $$ [HO Hs Hd HF Ht1 Ht2]
  · rw [e₁, e₂]
    isplitr; · iapply (recs_inv A K c i); iexact Hr
    isplitr; · iapply (recs_inv A K c' j); iexact Hr
    isplitl [Hs]; · iexact Hs
    isplitl [Hd HF]; · isplitl [Hd] <;> iassumption
    isplitl [HO]; · iexact HO
    isplitl [Ht1]; · iexact Ht1
    isplitr; · iexact Hr1
    isplitl [Ht2]; · iexact Ht2
    iexact Hr2
  rw [e₁]
  iintro ⟨Hc, HO⟩
  rw [wp_ret]; imodintro
  iapply Hk
  isplitl [HO]; · iexists W; iexact HO
  iexact Hc

end Cert.AttnKernelIdeal.AG

end
-- ==== Proof.GSteps.lean ====
module

public import proofs.«01_k».proof.Proof.GAccess

@[expose] public section

noncomputable section

/-! # The steps of a stream

What a stream holds is a ledger (tokens still to spend, credits still to come, its place at its semaphores) and the
chunks it owns at the moment. -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

/-! ## The ledger -/

/-- The tokens of the sends from `n` on. -/
def Tk (c : Dev nD) (st : Fin 4) (n : ℕ) : sProp 𝕄 := bigSep (Finset.Ico n 15) fun v =>
  iprop(dutyTok ER (cell (dn st c) (recvI st v)) (v / 2) 0 ∗ dutyTok ER (cell c (sendI st v)) (v / 2) 0)
/-- What the receives from `n` on are to bring. -/
def CrR (c : Dev nD) (st : Fin 4) (n : ℕ) : sProp 𝕄 := bigSep (Finset.Ico n 15) fun v => cred (tallyAt (cell c (recvI st v)) v N)
/-- The tokens of the credits to be given from `n` on. -/
def TkC (c : Dev nD) (st : Fin 4) (n : ℕ) : sProp 𝕄 := bigSep (Finset.Ico n 13) fun v => dutyTok ER (cell (up st c) (credI st v)) (v / 2) 0
/-- The credits to come from `n` on. -/
def CrK (c : Dev nD) (st : Fin 4) (n : ℕ) : sProp 𝕄 := bigSep (Finset.Ico n 13) fun v => cred (tallyAt (cell c (credI st v)) v 1)

/-- The ledger after `s` sends, `r` receives, `k` credits given and `w` taken. -/
def Led (c : Dev nD) (st : Fin 4) (s r k w : ℕ) : sProp 𝕄 :=
  iprop(Tk c st s ∗ CrR c st r ∗ TkC c st k ∗ CrK c st w ∗ pos2 c (sendI st) r ∗ pos2 c (recvI st) r ∗ pos2 c (credI st) w)

theorem Tk_pop (c : Dev nD) (st : Fin 4) {n : ℕ} (h : n < 15) :
    (Tk c st n : sProp 𝕄) = iprop((dutyTok ER (cell (dn st c) (recvI st n)) (n / 2) 0 ∗ dutyTok ER (cell c (sendI st n)) (n / 2) 0) ∗ Tk c st (n + 1)) :=
  bigSep_Ico_succ_bot h _
theorem CrR_pop (c : Dev nD) (st : Fin 4) {n : ℕ} (h : n < 15) :
    (CrR c st n : sProp 𝕄) = iprop(cred (tallyAt (cell c (recvI st n)) n N) ∗ CrR c st (n + 1)) := bigSep_Ico_succ_bot h _
theorem TkC_pop (c : Dev nD) (st : Fin 4) {n : ℕ} (h : n < 13) :
    (TkC c st n : sProp 𝕄) = iprop(dutyTok ER (cell (up st c) (credI st n)) (n / 2) 0 ∗ TkC c st (n + 1)) := bigSep_Ico_succ_bot h _
theorem CrK_pop (c : Dev nD) (st : Fin 4) {n : ℕ} (h : n < 13) :
    (CrK c st n : sProp 𝕄) = iprop(cred (tallyAt (cell c (credI st n)) n 1) ∗ CrK c st (n + 1)) := bigSep_Ico_succ_bot h _

theorem above_update {B : Fin 4 → Pr} {st : Fin 4} {n : ℕ} {p : Pr} (h : ∀ s, s ≠ st → Above n (B s)) (hp : Above n p) :
    ∀ s, Above n (Function.update B st p s) := by
  intro s
  by_cases hs : s = st
  · subst hs; rw [Function.update_self]; exact hp
  · rw [Function.update_of_ne hs]; exact h s hs

/-- That `c` has reached the round of use `v` of its credit semaphore. -/
theorem pos2_reached (c : Dev nD) (I : ℕ → Ci) (v : ℕ) : pos2 (F := F) c I (v - 1) ⊢ reached ER (cell c (I v)) (v / 2) := by
  unfold pos2 pos
  iintro ⟨⟨-, #H⟩, -, #H'⟩
  cases v with
  | zero => iexact H
  | succ v => iexact H'

/-- Send `v`. -/
theorem step_send (c : Dev nD) (st : Fin 4) (v k : ℕ) (B : Fin 4 → Pr) (hv : v < 15)
    (src dst : Memref sig .tc .vmem S64x512 .bf16) (X : Vec F S64x512 .bf16) (hN : dst.view.dmaCredit = N)
    (hp₁ : ow c src X ⊢ sendPay A c st v)
    (hp₂ : iprop(ow (dn st c) dst X ∗ reached ER (cell c (credI st v)) (v / 2)) ⊢ recvPay A (dn st c) st v)
    {hsrc : src.view.WordExact} {hdst : dst.view.WordExact}
    {hsem : DmaTarget.Typed .vmem (.dma (recvSem st (slot v))) (.remote (Dev.tc (dn st c) : Thread nD τ) dst (.dma (sendSem st (slot v))) rfl)} :
    Tr A K c iprop(Ow c (owedS c 1 (Function.update B st ⟨v, k⟩)) ∗ Led c st v v k (v - 1) ∗ ow c src X ∗ owE (dn st c) dst
        ∗ reached ER (cell (dn st c) (recvI st v)) (v / 2))
      (Prog.lift (.enqueueDma src (.remote (Dev.tc (dn st c)) dst (.dma (sendSem st (slot v)))) (.dma (recvSem st (slot v))) hsrc hdst hsem))
      iprop(Ow c (owedS c 1 (Function.update B st ⟨v + 1, k⟩)) ∗ Led c st (v + 1) v k (v - 1) ∗ cred (tallyAt (cell c (sendI st v)) v N)) := by
  have hdut : (0 : Fin 3) ∈ (if 2 * (v / 2) + (slot v).val < 15 then ({0} : Finset (Fin 3)) else ∅) := by
    rw [two_div_slot, if_pos hv]; exact Finset.mem_singleton_self _
  have h := (tr_send (A := A) (K := K) c (dn st c) (sendI st v) (recvI st v) (v / 2) (v / 2) rfl rfl src dst X
    (reached ER (cell c (credI st v)) (v / 2)) _ _ v v N (owed_send c 1 B st v k hv) hdut hdut rfl rfl hN
    (by rw [pay_send]; exact hp₁) (by rw [pay_recv]; exact hp₂) (hsrc := hsrc) (hdst := hdst) (hsem := hsem)).frame
      (R := iprop(Tk c st (v + 1) ∗ CrR c st v ∗ TkC c st k ∗ CrK c st (v - 1) ∗ pos2 c (sendI st) v ∗ pos2 c (recvI st) v ∗ pos2 c (credI st) (v - 1)))
  refine h.conseq ?_ ?_
  · unfold Led
    rw [Tk_pop c st hv]
    iintro ⟨-, HO, ⟨⟨⟨Ht1, Ht2⟩, HT⟩, HR, HC, HK, HPs, HPr, HPc⟩, Hs, Hd, #Hre⟩
    ihave #Hcr := (pos2_reached c (credI st) v) $$ HPc
    ihave #Hse := (show pos2 (F := F) c (sendI st) v ⊢ reached ER (cell c (sendI st v)) (v / 2) by
      unfold pos2 pos; iintro ⟨⟨-, #H⟩, -⟩; iexact H) $$ HPs
    isplitl [HO Hs Hd Ht1 Ht2]
    · isplitl [HO]; · iexact HO
      isplitl [Hs]; · iexact Hs
      isplitl [Hd]; · iexact Hd
      isplitr; · iexact Hcr
      isplitl [Ht2]; · iexact Ht2
      isplitr; · iexact Hse
      isplitl [Ht1]; · iexact Ht1
      iexact Hre
    · isplitl [HT]; · iexact HT
      isplitl [HR]; · iexact HR
      isplitl [HC]; · iexact HC
      isplitl [HK]; · iexact HK
      isplitl [HPs]; · iexact HPs
      isplitl [HPr] <;> iassumption
  · unfold Led
    iintro ⟨⟨HO, Hc⟩, HT⟩
    isplitl [HO]; · iexact HO
    isplitl [HT]; · iexact HT
    iexact Hc

/-- The waits for both ends of send `v`. -/
theorem step_recv (c : Dev nD) (st : Fin 4) (v k : ℕ) (B : Fin 4 → Pr) (hv : v < 15) (hk : k = v ∨ 13 ≤ k)
    (hB : ∀ s, s ≠ st → Above (2 * v + 3) (B s))
    (m₁ m₂ m₃ m₄ : Memref sig .tc .vmem S64x512 .bf16) (h₂ : m₂.view.dmaCredit = N) (h₄ : m₄.view.dmaCredit = N)
    {p₁ : m₁.view.WordExact} {p₂ : m₂.view.WordExact} {p₃ : m₃.view.WordExact} {p₄ : m₄.view.WordExact} :
    Tr A K c iprop(Ow c (owedS c 1 (Function.update B st ⟨v + 1, k⟩)) ∗ Led c st (v + 1) v k (v - 1) ∗ cred (tallyAt (cell c (sendI st v)) v N))
      (Prog.lift (.waitDma2 (sendSem st (slot v)) m₁ m₂ p₁ p₂) >>= fun _ => Prog.lift (.waitDma2 (recvSem st (slot v)) m₃ m₄ p₃ p₄))
      iprop((Ow c (owedS c 1 (Function.update B st ⟨v + 1, k⟩)) ∗ Led c st (v + 1) (v + 1) k (v - 1)) ∗ sendPay A c st v ∗ recvPay A c st v) := by
  have hdut : (if 2 * (v / 2) + (slot v).val < 15 then ({0} : Finset (Fin 3)) else ∅) = {0} := by rw [two_div_slot, if_pos hv]
  have hab : ∀ s, Above (2 * v + 3) (Function.update B st ⟨v + 1, k⟩ s) := above_update hB ⟨by dsimp only; omega, by dsimp only; omega⟩
  have h1 := (tr_wait2 (A := A) (K := K) c (sendI st) v (2 * v + 3) 1 (by unfold sendI; rw [slot_add_two]) _ (w := .waitDma2 (sendSem st (slot v)) m₁ m₂ p₁ p₂)
    (wpE_waitDma2_eq 𝒱₀ (c : Thread nD τ) none Set.univ) hdut h₂ (by omega) (by rw [lv_cell]; exact Nat.zero_le _) (.inl (le_refl 1)) hab).frame
      (R := iprop(Tk c st (v + 1) ∗ CrR c st v ∗ TkC c st k ∗ CrK c st (v - 1) ∗ pos2 c (recvI st) v ∗ pos2 c (credI st) (v - 1)))
  have h2 := (tr_wait2 (A := A) (K := K) c (recvI st) v (2 * v + 3) 1 (by unfold recvI; rw [slot_add_two]) _ (w := .waitDma2 (recvSem st (slot v)) m₃ m₄ p₃ p₄)
    (wpE_waitDma2_eq 𝒱₀ (c : Thread nD τ) none Set.univ) hdut h₄ (by omega) (by rw [lv_cell]; exact le_refl _) (.inl (le_refl 1)) hab).frame
      (R := iprop((Tk c st (v + 1) ∗ CrR c st (v + 1) ∗ TkC c st k ∗ CrK c st (v - 1) ∗ pos2 c (sendI st) (v + 1) ∗ pos2 c (credI st) (v - 1)) ∗ sendPay A c st v))
  refine Tr.bind (h1.conseq ?_ (BI.Entails.refl _)) (h2.conseq ?_ ?_)
  · unfold Led
    iintro ⟨-, HO, ⟨HT, HR, HC, HK, HPs, HPr, HPc⟩, Hs⟩
    isplitl [HO Hs HPs]
    · isplitl [HO]; · iexact HO
      isplitl [Hs]; · iexact Hs
      iexact HPs
    · isplitl [HT]; · iexact HT
      isplitl [HR]; · iexact HR
      isplitl [HC]; · iexact HC
      isplitl [HK]; · iexact HK
      isplitl [HPr] <;> iassumption
  · rw [CrR_pop c st hv, pay_send]
    iintro ⟨-, ⟨HO, HPs, Hp⟩, HT, ⟨HR1, HR⟩, HC, HK, HPr, HPc⟩
    isplitl [HO HR1 HPr]
    · isplitl [HO]; · iexact HO
      isplitl [HR1]; · iexact HR1
      iexact HPr
    · isplitr [Hp]
      · isplitl [HT]; · iexact HT
        isplitl [HR]; · iexact HR
        isplitl [HC]; · iexact HC
        isplitl [HK]; · iexact HK
        isplitl [HPs] <;> iassumption
      · iexact Hp
  · unfold Led
    rw [pay_recv]
    iintro ⟨⟨HO, HPr, Hp⟩, ⟨HT, HR, HC, HK, HPs, HPc⟩, Hq⟩
    isplitr [Hp Hq]
    · isplitl [HO]; · iexact HO
      isplitl [HT]; · iexact HT
      isplitl [HR]; · iexact HR
      isplitl [HC]; · iexact HC
      isplitl [HK]; · iexact HK
      isplitl [HPs]; · iexact HPs
      isplitl [HPr] <;> iassumption
    · isplitl [Hq] <;> iassumption

/-- Credit `v` given. -/
theorem step_sig (c : Dev nD) (st : Fin 4) (v w : ℕ) (B : Fin 4 → Pr) (hv : v < 13) :
    Tr A K c iprop((Ow c (owedS c 1 (Function.update B st ⟨v + 1, v⟩)) ∗ Led c st (v + 1) (v + 1) v w) ∗ reached ER (cell (up st c) (credI st v)) (v / 2))
      (semSignalWord (up st c) (credSem st (slot v)) 1#32)
      iprop(Ow c (owedS c 1 (Function.update B st ⟨v + 1, v + 1⟩)) ∗ Led c st (v + 1) (v + 1) (v + 1) w) := by
  have hdut : (0 : Fin 3) ∈ (if 2 * (v / 2) + (slot v).val < 13 then ({0} : Finset (Fin 3)) else ∅) := by
    rw [two_div_slot, if_pos hv]; exact Finset.mem_singleton_self _
  have h := (tr_signal (A := A) (K := K) c (up st c) (credI st v) (credSem st (slot v)) rfl (v / 2) 0 v _ _ hdut rfl
    (owed_cred c 1 B st (v + 1) v hv)).frame
      (R := iprop(Tk c st (v + 1) ∗ CrR c st (v + 1) ∗ TkC c st (v + 1) ∗ CrK c st w ∗ pos2 c (sendI st) (v + 1) ∗ pos2 c (recvI st) (v + 1) ∗ pos2 c (credI st) w))
  refine h.conseq ?_ ?_
  · unfold Led
    rw [TkC_pop c st hv, pay_cred]
    unfold credPay
    rw [dn_up]
    iintro ⟨-, ⟨HO, HT, HR, ⟨HC1, HC⟩, HK, HPs, HPr, HPc⟩, #Hre⟩
    ihave #Hse := (show pos2 (F := F) c (recvI st) (v + 1) ⊢ reached ER (cell c (recvI st (v + 2))) ((v + 2) / 2) by
      unfold pos2 pos; iintro ⟨-, -, #H⟩; iexact H) $$ HPr
    isplitl [HO HC1]
    · isplitl [HO]; · iexact HO
      isplitl [HC1]; · iexact HC1
      isplitr; · iexact Hre
      iexact Hse
    · isplitl [HT]; · iexact HT
      isplitl [HR]; · iexact HR
      isplitl [HC]; · iexact HC
      isplitl [HK]; · iexact HK
      isplitl [HPs]; · iexact HPs
      isplitl [HPr] <;> iassumption
  · unfold Led
    iintro ⟨HO, HT⟩
    isplitl [HO] <;> iassumption

/-- The wait for credit `v`. -/
theorem step_cred (c : Dev nD) (st : Fin 4) (v s r k : ℕ) (B : Fin 4 → Pr) (hv : v < 13) (hs : v + 1 < s) (hk : v < k ∨ 13 ≤ k)
    (hB : ∀ s, s ≠ st → Above (2 * v + 4) (B s)) :
    Tr A K c iprop(Ow c (owedS c 1 (Function.update B st ⟨s, k⟩)) ∗ Led c st s r k v)
      (gCred st (v + 2))
      iprop((Ow c (owedS c 1 (Function.update B st ⟨s, k⟩)) ∗ Led c st s r k (v + 1))
        ∗ reached ER (cell (dn st c) (recvI st (v + 2))) ((v + 2) / 2)) := by
  have hdut : (if 2 * (v / 2) + (slot v).val < 13 then ({0} : Finset (Fin 3)) else ∅) = {0} := by rw [two_div_slot, if_pos hv]
  have hab : ∀ s', Above (2 * v + 4) (Function.update B st ⟨s, k⟩ s') := above_update hB ⟨by dsimp only; omega, by dsimp only; omega⟩
  have h1 := (tr_wait2 (A := A) (K := K) c (credI st) v (2 * v + 4) 1 (by unfold credI; rw [slot_add_two]) _ (w := .semWait (credSem st (slot v)) (1#32 : BitVec 32).toInt.toNat)
    (wpE_semWait_eq 𝒱₀ (c : Thread nD τ) none Set.univ) hdut rfl (by omega) (by rw [lv_cell]; exact le_refl _) (.inl (le_refl 1)) hab).frame
      (R := iprop(Tk c st s ∗ CrR c st r ∗ TkC c st k ∗ CrK c st (v + 1) ∗ pos2 c (sendI st) r ∗ pos2 c (recvI st) r))
  unfold gCred
  rw [slot_add_two]
  refine h1.conseq ?_ ?_
  · unfold Led
    rw [CrK_pop c st hv]
    iintro ⟨-, HO, ⟨HT, HR, HC, ⟨HK1, HK⟩, HPs, HPr, HPc⟩⟩
    isplitl [HO HK1 HPc]
    · isplitl [HO]; · iexact HO
      isplitl [HK1]; · iexact HK1
      iexact HPc
    · isplitl [HT]; · iexact HT
      isplitl [HR]; · iexact HR
      isplitl [HC]; · iexact HC
      isplitl [HK]; · iexact HK
      isplitl [HPs] <;> iassumption
  · unfold Led
    rw [pay_cred]; unfold credPay
    iintro ⟨⟨HO, HPc, Hp⟩, HT, HR, HC, HK, HPs, HPr⟩
    isplitr [Hp]
    · isplitl [HO]; · iexact HO
      isplitl [HT]; · iexact HT
      isplitl [HR]; · iexact HR
      isplitl [HC]; · iexact HC
      isplitl [HK]; · iexact HK
      isplitl [HPs]; · iexact HPs
      isplitl [HPr] <;> iassumption
    · iexact Hp

/-! ## A stream's turns -/

/-- The chunks held after `n` of them are in. -/
def outs (A : S1024x2048.Idx → Elt F .bf16) (c : Dev nD) (st : Fin 4) (n : ℕ) : sProp 𝕄 :=
  bigSep (Finset.range n) fun w => ow c (outK st (lab st c w)) (gch A st (lab st c w))
/-- The neighbour's chunks still to be filled. -/
def dnO (c : Dev nD) (st : Fin 4) (n : ℕ) : sProp 𝕄 := bigSep (Finset.Ico n 15) fun t => owE (dn st c) (outK st (lab st c t))

theorem dnO_pop (c : Dev nD) (st : Fin 4) {n : ℕ} (h : n < 15) :
    (dnO c st n : sProp 𝕄) = iprop(owE (dn st c) (outK st (lab st c n)) ∗ dnO c st (n + 1)) := bigSep_Ico_succ_bot h _

theorem out_credit (st : Fin 4) (k : Fin 16) : (outK st k).view.dmaCredit = N := rfl

/-- Send `t`. -/
theorem tr_gSend (c : Dev nD) (st : Fin 4) (t k : ℕ) (B : Fin 4 → Pr) (ht : t < 15) :
    Tr A K c iprop((Ow c (owedS c 1 (Function.update B st ⟨t, k⟩)) ∗ Led c st t t k (t - 1)) ∗ reached ER (cell (dn st c) (recvI st t)) (t / 2)
        ∗ outs A c st (t + 1) ∗ dnO c st t)
      (gSend (offs c) st t c)
      iprop((Ow c (owedS c 1 (Function.update B st ⟨t + 1, k⟩)) ∗ Led c st (t + 1) t k (t - 1)
        ∗ cred (tallyAt (cell c (sendI st t)) t N)) ∗ outs A c st t ∗ dnO c st (t + 1)) := by
  have h2 := (step_send (A := A) (K := K) c st t k B ht (outC ((offs c).hch st t)) (outC ((offs c).hch st t)) (gch A st (lab st c t))
    (out_credit st _) (BI.Entails.refl _)
    (by unfold recvPay; rw [lab_dn, up_dn]; exact BI.Entails.refl _)
    (hsrc := (Memref.isWhole_whole _).wordExact_slice rfl _ (words_of ((offs c).hch st t))) (hdst := (Memref.isWhole_whole _).wordExact_slice rfl _ (words_of ((offs c).hch st t)))
    (hsem := ⟨⟨rfl, Or.inl rfl⟩, trivial⟩)).frame
    (R := iprop(outs A c st t ∗ dnO c st (t + 1)))
  unfold gSend
  refine h2.conseq ?_ ?_
  · rw [dnO_pop c st ht]
    unfold outs
    rw [bigSep_range_succ]
    iintro ⟨-, ⟨HO, HL⟩, #Hre, ⟨Ho, HU⟩, Hd, HD⟩
    isplitr [HU HD]
    · isplitl [HO]; · iexact HO
      isplitl [HL]; · iexact HL
      isplitl [Ho]; · iexact Ho
      isplitl [Hd]; · iexact Hd
      iexact Hre
    · isplitl [HU] <;> iassumption
  · iintro ⟨⟨HO, HL, HC⟩, HU, HD⟩
    isplitl [HO HL HC]
    · isplitl [HO]; · iexact HO
      isplitl [HL] <;> iassumption
    · isplitl [HU] <;> iassumption

/-- Receive `t`. -/
theorem tr_gRecv (c : Dev nD) (st : Fin 4) (t : ℕ) (B : Fin 4 → Pr) (ht : t < 15) (hB : ∀ s, s ≠ st → Above (2 * t + 3) (B s)) :
    Tr A K c iprop((Ow c (owedS c 1 (Function.update B st ⟨t + 1, min t 13⟩)) ∗ Led c st (t + 1) t (min t 13) (t - 1)
        ∗ cred (tallyAt (cell c (sendI st t)) t N)) ∗ outs A c st t)
      (gRecv (offs c) st t)
      iprop((Ow c (owedS c 1 (Function.update B st ⟨t + 1, min t 13⟩)) ∗ Led c st (t + 1) (t + 1) (min t 13) (t - 1))
        ∗ reached ER (cell (up st c) (credI st t)) (t / 2) ∗ outs A c st (t + 2)) := by
  have h1 := (step_recv (A := A) (K := K) c st t (min t 13) B ht (by omega) hB
    (outC ((offs c).hch st t)) (outC ((offs c).hch st t)) (outC ((offs c).hch st (t + 1))) (outC ((offs c).hch st (t + 1))) rfl rfl
    (p₁ := (Memref.isWhole_whole _).wordExact_slice rfl _ (words_of ((offs c).hch st t))) (p₂ := (Memref.isWhole_whole _).wordExact_slice rfl _ (words_of ((offs c).hch st t)))
    (p₃ := (Memref.isWhole_whole _).wordExact_slice rfl _ (words_of ((offs c).hch st (t + 1)))) (p₄ := (Memref.isWhole_whole _).wordExact_slice rfl _ (words_of ((offs c).hch st (t + 1))))).frame
    (R := outs A c st t)
  refine h1.conseq ?_ ?_
  · iintro ⟨-, H⟩; iexact H
  · unfold outs sendPay recvPay
    rw [bigSep_range_succ, bigSep_range_succ]
    iintro ⟨⟨HO, Hs, Hd, #Hre⟩, HU⟩
    isplitl [HO]; · iexact HO
    isplitr; · iexact Hre
    isplitl [Hd]; · iexact Hd
    isplitl [Hs] <;> iassumption

/-- A stream between send `t` and receive `t`. -/
def SG (A : S1024x2048.Idx → Elt F .bf16) (c : Dev nD) (st : Fin 4) (t : ℕ) : sProp 𝕄 :=
  iprop((Led c st (t + 1) t (min t 13) (t - 1) ∗ cred (tallyAt (cell c (sendI st t)) t N)) ∗ outs A c st t ∗ dnO c st (t + 1))
/-- A stream at its end. -/
def SZ (A : S1024x2048.Idx → Elt F .bf16) (c : Dev nD) (st : Fin 4) : sProp 𝕄 := iprop(Led c st 15 15 13 13 ∗ outs A c st 16)
def SGx (A : S1024x2048.Idx → Elt F .bf16) (c : Dev nD) (st : Fin 4) (t : ℕ) : sProp 𝕄 := if t < 15 then SG A c st t else SZ A c st
/-- How far it is then. -/
def prG (t : ℕ) : Pr := ⟨min (t + 1) 15, min t 13⟩

theorem prG_above {t : ℕ} (h : t < 15) : Above (2 * t + 3) (prG t) ∧ Above (2 * t + 3) (prG (t + 1)) := by
  unfold prG Above; dsimp only; omega

/-- One turn of a stream. -/
theorem tr_gIter (c : Dev nD) (st : Fin 4) (t : ℕ) (B : Fin 4 → Pr) (ht : t < 15) (hB : ∀ s, s ≠ st → Above (2 * t + 3) (B s)) :
    Tr A K c iprop(Ow c (owedS c 1 (Function.update B st (prG t))) ∗ SGx A c st t)
      (gIter (offs c) st t c)
      iprop(Ow c (owedS c 1 (Function.update B st (prG (t + 1)))) ∗ SGx A c st (t + 1)) := by
  have h1 := (tr_gRecv (A := A) (K := K) c st t B ht hB).frame (R := dnO c st (t + 1))
  unfold gIter
  refine Tr.bind (h1.conseq ?_ (BI.Entails.refl _)) ?_
  · unfold SGx SG prG; rw [if_pos ht, Nat.min_eq_left (show t + 1 ≤ 15 by omega)]
    iintro ⟨-, HO, ⟨HL, HC⟩, HU, HD⟩
    isplitr [HD]
    · isplitl [HO HL HC]
      · isplitl [HO]; · iexact HO
        isplitl [HL] <;> iassumption
      · iexact HU
    · iexact HD
  have hsig : ∀ v, t = v → v < 13 → Tr A K c iprop(((Ow c (owedS c 1 (Function.update B st ⟨t + 1, min t 13⟩)) ∗ Led c st (t + 1) (t + 1) (min t 13) (t - 1))
        ∗ reached ER (cell (up st c) (credI st t)) (t / 2) ∗ outs A c st (t + 2)) ∗ dnO c st (t + 1)) (gSig st v c)
      iprop((Ow c (owedS c 1 (Function.update B st ⟨t + 1, t + 1⟩)) ∗ Led c st (t + 1) (t + 1) (t + 1) (t - 1)) ∗ outs A c st (t + 2) ∗ dnO c st (t + 1)) := by
    rintro v rfl h
    have h2 := (step_sig (A := A) (K := K) c st t (t - 1) B h).frame (R := iprop(outs A c st (t + 2) ∗ dnO c st (t + 1)))
    refine h2.conseq ?_ (BI.Entails.refl _)
    rw [Nat.min_eq_left (show t ≤ 13 by omega)]
    iintro ⟨-, ⟨HL, #Hre, HU⟩, HD⟩
    isplitl [HL]
    · isplitl [HL]; · iexact HL
      iexact Hre
    · isplitl [HU] <;> iassumption
  have hpost : ∀ k, t + 1 < 15 → k = min (t + 1) 13 → iprop((Ow c (owedS c 1 (Function.update B st ⟨t + 1 + 1, k⟩)) ∗ Led c st (t + 1 + 1) (t + 1) k (t + 1 - 1)
        ∗ cred (tallyAt (cell c (sendI st (t + 1))) (t + 1) N)) ∗ outs A c st (t + 1) ∗ dnO c st (t + 1 + 1))
      ⊢ (iprop(Ow c (owedS c 1 (Function.update B st (prG (t + 1)))) ∗ SGx A c st (t + 1)) : sProp 𝕄) := by
    rintro k h rfl
    unfold SGx SG prG; rw [if_pos h, Nat.min_eq_left (show t + 1 + 1 ≤ 15 by omega)]
    iintro ⟨⟨HO, HL, HC⟩, HU, HD⟩
    isplitl [HO]; · iexact HO
    isplitl [HL HC]; · isplitl [HL] <;> iassumption
    isplitl [HU] <;> iassumption
  have hcred : ∀ v k, t = v + 1 → v < 13 → (v < k ∨ 13 ≤ k) → Tr A K c iprop((Ow c (owedS c 1 (Function.update B st ⟨t + 1, k⟩)) ∗ Led c st (t + 1) (t + 1) k (t - 1))
        ∗ outs A c st (t + 2) ∗ dnO c st (t + 1)) (gCred st (v + 2))
      iprop((Ow c (owedS c 1 (Function.update B st ⟨t + 1, k⟩)) ∗ Led c st (t + 1) (t + 1) k (t + 1 - 1)) ∗ reached ER (cell (dn st c) (recvI st (t + 1))) ((t + 1) / 2)
        ∗ outs A c st (t + 1 + 1) ∗ dnO c st (t + 1)) := by
    rintro v k rfl h hk
    have h3 := (step_cred (A := A) (K := K) c st v (v + 1 + 1) (v + 1 + 1) k B h (by omega) hk (fun s hs => ⟨by have := (hB s hs).1; omega, by have := (hB s hs).2; omega⟩)).frame
      (R := iprop(outs A c st (v + 1 + 2) ∗ dnO c st (v + 1 + 1)))
    refine h3.conseq ?_ ?_
    · iintro ⟨-, H⟩; iexact H
    · iintro ⟨⟨HL, #Hre⟩, HU⟩
      isplitl [HL]; · iexact HL
      isplitr; · iexact Hre
      iexact HU
  cases t with
  | zero =>
    have h4 := tr_gSend (A := A) (K := K) c st 1 1 B (by omega)
    refine Tr.bind (hsig 0 rfl (by omega)) (h4.conseq ?_ (hpost 1 (by omega) (by omega)))
    iintro ⟨#Hr, HL, HU⟩
    isplitl [HL]; · iexact HL
    isplitr; · iapply (recs_reached A K (dn st c) (recvI st 1)); iexact Hr
    iexact HU
  | succ v =>
    show Tr A K c _ (if v < 12 then _ else _) _
    by_cases h12 : v < 12
    · rw [if_pos h12]
      have h4 := tr_gSend (A := A) (K := K) c st (v + 1 + 1) (v + 1 + 1) B (by omega)
      refine Tr.bind (hsig (v + 1) rfl (by omega)) (Tr.bind (hcred v (v + 1 + 1) rfl (by omega) (by omega)) (h4.conseq ?_ (hpost (v + 1 + 1) (by omega) (by omega))))
      iintro ⟨-, H⟩; iexact H
    · rw [if_neg h12]
      by_cases h13 : v < 13
      · rw [if_pos h13]
        have h4 := tr_gSend (A := A) (K := K) c st (v + 1 + 1) (min (v + 1) 13) B (by omega)
        refine Tr.bind ((hcred v (min (v + 1) 13) rfl (by omega) (by omega)).conseq ?_ (BI.Entails.refl _)) (h4.conseq ?_ (hpost (min (v + 1) 13) (by omega) (by omega)))
        · iintro ⟨-, ⟨HL, -, HU⟩, HD⟩
          isplitl [HL]; · iexact HL
          isplitl [HU] <;> iassumption
        · iintro ⟨-, H⟩; iexact H
      · rw [if_neg h13]
        obtain rfl : v = 13 := by omega
        refine Tr.pure ?_
        unfold SGx SZ prG; rw [if_neg (show ¬ 13 + 1 + 1 < 15 by omega)]
        iintro ⟨⟨⟨HO, HL⟩, -, HU⟩, -⟩
        isplitl [HO]; · iexact HO
        isplitl [HL]; · iexact HL
        iexact HU

end Cert.AttnKernelIdeal.AG

end
-- ==== Proof.GStreams.lean ====
module

public import proofs.«01_k».proof.Proof.GSteps

@[expose] public section

noncomputable section

/-! # The four streams together -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

theorem bigSep_four (Φ : Fin 4 → sProp 𝕄) : bigSep Finset.univ Φ = iprop(Φ 0 ∗ Φ 1 ∗ Φ 2 ∗ Φ 3) := by
  exact bigSep_univ_eq_bigSepL [0, 1, 2, 3] (by decide) (by decide) Φ

/-- The first `n` streams at `p'`, the others at `p`. -/
def mix (n : ℕ) (p p' : Pr) : Fin 4 → Pr := fun s => if s.val < n then p' else p

theorem mix_or (n : ℕ) (p p' : Pr) (s : Fin 4) : mix n p p' s = p ∨ mix n p p' s = p' := by
  unfold mix; by_cases h : s.val < n
  · right; rw [if_pos h]
  · left; rw [if_neg h]
theorem mix_at (p p' : Pr) (st : Fin 4) : Function.update (mix st.val p p') st p = mix st.val p p' := by
  rw [Function.update_eq_self_iff]; unfold mix; rw [if_neg (Nat.lt_irrefl _)]
theorem mix_next (p p' : Pr) (st : Fin 4) : Function.update (mix st.val p p') st p' = mix (st.val + 1) p p' := by
  funext s
  by_cases h : s = st
  · subst h; rw [Function.update_self]; unfold mix; rw [if_pos (Nat.lt_succ_self _)]
  · rw [Function.update_of_ne h]; unfold mix
    have : s.val ≠ st.val := fun e => h (Fin.ext e)
    by_cases h' : s.val < st.val
    · rw [if_pos h', if_pos (by omega)]
    · rw [if_neg h', if_neg (by omega)]

/-- The same step for each stream in turn. -/
theorem tr_each (c : Dev nD) {f : Fin 4 → Prog (TpuEff nD τ sig (Elt F) Λ₀ .tc) PUnit} {S S' : Fin 4 → sProp 𝕄} (p p' : Pr)
    (h : ∀ st B, (∀ s, s ≠ st → B s = p ∨ B s = p') →
      Tr A K c iprop(Ow c (owedS c 1 (Function.update B st p)) ∗ S st) (f st) iprop(Ow c (owedS c 1 (Function.update B st p')) ∗ S' st)) :
    Tr A K c iprop(Ow c (owedS c 1 fun _ => p) ∗ bigSep Finset.univ S) (each f) iprop(Ow c (owedS c 1 fun _ => p') ∗ bigSep Finset.univ S') := by
  have hh : ∀ st : Fin 4, Tr A K c iprop(Ow c (owedS c 1 (mix st.val p p')) ∗ S st) (f st) iprop(Ow c (owedS c 1 (mix (st.val + 1) p p')) ∗ S' st) := by
    intro st
    have := h st (mix st.val p p') fun s _ => mix_or _ _ _ s
    rw [mix_at, mix_next] at this
    exact this
  have h0 := (hh 0).frame (R := iprop(S 1 ∗ S 2 ∗ S 3))
  have h1 := (hh 1).frame (R := iprop(S' 0 ∗ S 2 ∗ S 3))
  have h2 := (hh 2).frame (R := iprop(S' 0 ∗ S' 1 ∗ S 3))
  have h3 := (hh 3).frame (R := iprop(S' 0 ∗ S' 1 ∗ S' 2))
  have e0 : (fun _ => p) = mix (0 : Fin 4).val p p' := by funext s; unfold mix; exact (if_neg (Nat.not_lt_zero _)).symm
  have e4 : mix ((3 : Fin 4).val + 1) p p' = fun _ => p' := by funext s; unfold mix; exact if_pos s.isLt
  rw [e4] at h3
  rw [bigSep_four, bigSep_four, e0]
  unfold each
  refine Tr.bind (h0.conseq ?_ (BI.Entails.refl _)) (Tr.bind (h1.conseq ?_ (BI.Entails.refl _)) (Tr.bind (h2.conseq ?_ (BI.Entails.refl _)) (h3.conseq ?_ ?_)))
  · iintro ⟨-, HO, H0, HR⟩
    isplitl [HO H0]
    · isplitl [HO] <;> iassumption
    · iexact HR
  · iintro ⟨-, ⟨HO, H0⟩, H1, HR⟩
    isplitl [HO H1]
    · isplitl [HO]; · iexact HO
      iexact H1
    · isplitl [H0] <;> iassumption
  · iintro ⟨-, ⟨HO, H1⟩, H0, H2, H3⟩
    isplitl [HO H2]
    · isplitl [HO]; · iexact HO
      iexact H2
    · isplitl [H0]; · iexact H0
      isplitl [H1] <;> iassumption
  · iintro ⟨-, ⟨HO, H2⟩, H0, H1, H3⟩
    isplitl [HO H3]
    · isplitl [HO]; · iexact HO
      iexact H3
    · isplitl [H0]; · iexact H0
      isplitl [H1] <;> iassumption
  · iintro ⟨⟨HO, H3⟩, H0, H1, H2⟩
    isplitl [HO]; · iexact HO
    isplitl [H0]; · iexact H0
    isplitl [H1]; · iexact H1
    isplitl [H2] <;> iassumption

/-- Turn after turn. -/
theorem tr_turns (c : Dev nD) {f : ℕ → Prog (TpuEff nD τ sig (Elt F) Λ₀ .tc) PUnit} {S : ℕ → sProp 𝕄} (n : ℕ)
    (h : ∀ u, u < n → Tr A K c (S u) (f u) (S (u + 1))) : Tr A K c (S 0) (turns f n) (S n) := by
  induction n with
  | zero => exact Tr.pure (BI.Entails.refl _)
  | succ n ih => exact Tr.bind (ih fun u hu => h u (by omega)) (h n (by omega))

attribute [local irreducible] Tr

/-- A stream at its start. -/
def SS (A : S1024x2048.Idx → Elt F .bf16) (c : Dev nD) (st : Fin 4) : sProp 𝕄 := iprop(Led c st 0 0 0 0 ∗ outs A c st 1 ∗ dnO c st 0)

theorem tr_gSends (c : Dev nD) : Tr A K c iprop(Ow c (owedS c 1 fun _ => ⟨0, 0⟩) ∗ bigSep Finset.univ (SS A c))
    (each fun st => gSend (offs c) st 0 c)
    iprop(Ow c (owedS c 1 fun _ => prG 0) ∗ bigSep Finset.univ fun st => SGx A c st 0) :=
  tr_each c _ _ fun st B hB => by
    have h := tr_gSend (A := A) (K := K) c st 0 0 B (by omega)
    refine h.conseq ?_ ?_
    · unfold SS
      iintro ⟨#Hr, HO, HL, HU⟩
      isplitl [HO HL]
      · isplitl [HO]; · iexact HO
        iexact HL
      isplitr; · iapply (recs_reached A K (dn st c) (recvI st 0)); iexact Hr
      iexact HU
    · unfold SGx SG prG
      rw [if_pos (by omega)]
      iintro ⟨⟨HO, HL, HC⟩, HU⟩
      isplitl [HO]; · iexact HO
      isplitl [HL HC]
      · isplitl [HL]; · iexact HL
        iexact HC
      iexact HU

theorem tr_gTurns (c : Dev nD) : Tr A K c iprop(Ow c (owedS c 1 fun _ => prG 0) ∗ bigSep Finset.univ fun st => SGx A c st 0)
    (turns (fun t => each fun st => gIter (offs c) st t c) 15)
    iprop(Ow c (owedS c 1 fun _ => prG 15) ∗ bigSep Finset.univ fun st => SGx A c st 15) :=
  tr_turns c (S := fun u => iprop(Ow c (owedS c 1 fun _ => prG u) ∗ bigSep Finset.univ fun st => SGx A c st u)) 15 fun u hu =>
    tr_each c _ _ fun st B hB =>
      tr_gIter (A := A) (K := K) c st u B hu fun s hs => by
        rcases hB s hs with e | e <;> rw [e]
        · exact (prG_above hu).1
        · exact (prG_above hu).2

theorem tr_streams (c : Dev nD) :
    Tr A K c iprop(Ow c (owedS c 1 fun _ => ⟨0, 0⟩) ∗ bigSep Finset.univ (SS A c))
      (streams (offs c) c)
      iprop(Ow c (owedS c 1 fun _ => ⟨15, 13⟩) ∗ bigSep Finset.univ fun st => SZ A c st) := by
  unfold streams
  exact Tr.bind (tr_gSends c) (tr_gTurns c)

/-- Nothing is owed at the end. -/
theorem owed_end (c : Dev nD) : owedS c 1 (fun _ => ⟨15, 13⟩) = 0 := by
  unfold owedS owed1 owedX
  simp only [Finset.Ico_self, Finset.sum_empty, add_zero, Finset.sum_const_zero]

end Cert.AttnKernelIdeal.AG

end
-- ==== Proof.GPieces.lean ====
module

public import proofs.«01_k».proof.Proof.GStreams

@[expose] public section

noncomputable section

/-! # The buffers and their pieces -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

theorem etr {P Q R : sProp 𝕄} (h : P ⊢ Q) (h' : Q ⊢ R) : P ⊢ R := Idealize.SL.BI.Entails.trans h h'
theorem bmono {I : Type} {s : Finset I} {Φ Ψ : I → sProp 𝕄} (h : ∀ i ∈ s, Φ i ⊢ Ψ i) : bigSep s Φ ⊢ bigSep s Ψ := bigSep_mono h
theorem esep {P Q P' Q' : sProp 𝕄} (h : P ⊢ P') (h' : Q ⊢ Q') : iprop(P ∗ Q) ⊢ iprop(P' ∗ Q') := by
  iintro ⟨H, H'⟩
  isplitl [H]
  · iapply h; iexact H
  · iapply h'; iexact H'

section Fam
variable {sh : Shape} {e : EltTy} {T : Type} [Fintype T] [DecidableEq T] (r : T → Rect sh) (hr : ∀ t a, (r t).stride a = 1)
  (key : sh.Idx → T) (hk : ∀ t x, Iff (x ∈ (r t).set) (key x = t))
include hk

theorem fam_disj (t t' : T) (h : t ≠ t') : Disjoint (r t).set (r t').set :=
  Finset.disjoint_left.mpr fun x hx hx' => h (((hk t x).mp hx).symm.trans ((hk t' x).mp hx'))
theorem fam_cov : (Finset.univ : Finset T).biUnion (fun t => (r t).set) = Finset.univ :=
  Finset.eq_univ_of_forall fun x => Finset.mem_biUnion.mpr ⟨key x, Finset.mem_univ _, (hk _ x).mpr rfl⟩

/-- Contents given piece by piece. -/
theorem fam_glue {α : Type} [Inhabited α] (G : (t : T) → (r t).shape.Idx → α) : ∃ X : sh.Idx → α, ∀ t j, X ((r t).emb j) = G t j := by
  classical
  have hm : ∀ t (j : (r t).shape.Idx), (r t).emb j ∈ (r t).set := fun t j => by
    rw [← Rect.map_emb_univ]; exact Finset.mem_map_of_mem _ (Finset.mem_univ j)
  have hinj : Function.Injective fun p : (Σ t, (r t).shape.Idx) => (r p.1).emb p.2 := by
    rintro ⟨t, j⟩ ⟨t', j'⟩ h
    have h' : (r t).emb j = (r t').emb j' := h
    have ht : t = t' := by
      have h1 := (hk t _).mp (hm t j); rw [h'] at h1
      exact h1.symm.trans ((hk t' _).mp (hm t' j'))
    subst ht
    rw [(r t).emb.injective h']
  refine ⟨Function.extend (fun p : (Σ t, (r t).shape.Idx) => (r p.1).emb p.2) (fun p => G p.1 p.2) fun _ => default, fun t j => ?_⟩
  exact hinj.extend_apply (fun p => G p.1 p.2) _ ⟨t, j⟩

variable (c : Dev nD) (m : Memref sig .tc .vmem sh e)

theorem fam_splitX (X : sh.Idx → Elt F e) :
    (ow c m X : sProp 𝕄) ⊢ bigSep Finset.univ fun t => ow c (m.slice (r t) (hr t)) (fun j => X ((r t).emb j)) :=
  owns_rects (c : Thread nD τ) m fullShare r hr (fam_disj r key hk) (fam_cov r key hk) X
theorem fam_joinX (X : sh.Idx → Elt F e) :
    (bigSep Finset.univ fun t => ow c (m.slice (r t) (hr t)) (fun j => X ((r t).emb j))) ⊢ (ow c m X : sProp 𝕄) :=
  owns_of_rects (c : Thread nD τ) m fullShare r hr (fam_disj r key hk) (fam_cov r key hk) X
theorem fam_split : (owE c m : sProp 𝕄) ⊢ bigSep Finset.univ fun t => owE c (m.slice (r t) (hr t)) := by
  unfold owE
  iintro ⟨%X, H⟩
  iapply (etr (fam_splitX r hr key hk c m X) (bmono fun t _ => show _ ⊢ iprop(∃ Y, ow c (m.slice (r t) (hr t)) Y) by
    iintro H; iexists _; iexact H))
  iexact H
theorem fam_join : (bigSep Finset.univ fun t => owE c (m.slice (r t) (hr t))) ⊢ (owE c m : sProp 𝕄) := by
  have h := BI.bigSep_exists_pi (M := 𝕄) Finset.univ (fun (t : T) (Y : (r t).shape.Idx → Elt F e) => ow c (m.slice (r t) (hr t)) Y)
  refine etr h ?_
  iintro ⟨%G, H⟩
  haveI : Inhabited (Elt F e) := ⟨Classical.arbitrary _⟩
  obtain ⟨X, hX⟩ := fam_glue r key hk G
  unfold owE
  iexists X
  iapply (fam_joinX r hr key hk c m X)
  simp only [hX]
  iexact H
end Fam

/-- Pieces at their parts of `X`, regrouped into others over the same elements. -/
theorem regroup {sh : Shape} {e : EltTy} {T T' : Type} [Fintype T] [DecidableEq T] [Fintype T'] [DecidableEq T'] (r : T → Rect sh) (r' : T' → Rect sh)
    (hr : ∀ t a, (r t).stride a = 1) (hr' : ∀ t a, (r' t).stride a = 1)
    (hd : ∀ t t', t ≠ t' → Disjoint (r t).set (r t').set) (hd' : ∀ t t', t ≠ t' → Disjoint (r' t).set (r' t').set)
    (hU : ∀ x, (∃ t, x ∈ (r t).set) ↔ ∃ t, x ∈ (r' t).set) (c : Dev nD) (m : Memref sig .tc .vmem sh e) (X : sh.Idx → Elt F e) :
    (bigSep Finset.univ fun t => ow c (m.slice (r t) (hr t)) (fun j => X ((r t).emb j)))
      ⊢ (bigSep Finset.univ fun t => ow c (m.slice (r' t) (hr' t)) (fun j => X ((r' t).emb j)) : sProp 𝕄) := by
  have hs : (Finset.univ : Finset T).biUnion (β := Idx (m.view.loc (c : Thread nD τ))) (fun t => (m.view.slice (r t)).set)
      = (Finset.univ : Finset T').biUnion (β := Idx (m.view.loc (c : Thread nD τ))) fun t => (m.view.slice (r' t)).set := by
    ext i
    simp only [Finset.mem_biUnion, Finset.mem_univ, true_and, View.set_slice, Finset.mem_map]
    constructor
    · rintro ⟨t, x, hx, rfl⟩
      obtain ⟨t', h⟩ := (hU x).mp ⟨t, hx⟩
      exact ⟨t', x, h, rfl⟩
    · rintro ⟨t, x, hx, rfl⟩
      obtain ⟨t', h⟩ := (hU x).mpr ⟨t, hx⟩
      exact ⟨t', x, h, rfl⟩
  refine etr (owns_rects_join (c : Thread nD τ) m fullShare r hr hd X Finset.univ) ?_
  iintro ⟨%g, %hg, H⟩
  have e : ∀ t', (fun j => X ((r' t').emb j)) = fun j => m.view.read (Elt F) g ((r' t').emb j) := fun t' => funext fun j => by
    have hm : (r' t').emb j ∈ (r' t').set := by rw [← Rect.map_emb_univ]; exact Finset.mem_map_of_mem _ (Finset.mem_univ j)
    obtain ⟨t, ht⟩ := (hU _).mpr ⟨t', hm⟩
    rw [← Rect.map_emb_univ, Finset.mem_map] at ht
    obtain ⟨i, -, hi⟩ := ht
    rw [← hi]; exact (hg t (Finset.mem_univ t) i).symm
  have h2 : ((m.view.loc (c : Thread nD τ)) ↦[(Finset.univ : Finset T').biUnion fun t => (m.view.slice (r' t)).set]{fullShare} g : sProp 𝕄)
      = bigSep Finset.univ fun t => (m.view.loc (c : Thread nD τ)) ↦[(m.view.slice (r' t)).set]{fullShare} g :=
    pointsTo_biUnion _ _ (fun t _ t' _ h => by
      rw [View.set_slice, View.set_slice]; exact (Finset.disjoint_map _).mpr (hd' t t' h))
  have h3 : iprop(bigSep Finset.univ fun t => (m.view.loc (c : Thread nD τ)) ↦[(m.view.slice (r' t)).set]{fullShare} g)
      ⊢ (iprop(bigSep Finset.univ fun t => ow c (m.slice (r' t) (hr' t)) (fun j => X ((r' t).emb j))) : sProp 𝕄) :=
    bmono fun t _ => Entails.of_eq (by rw [e t]; exact (owns_slice_read (c : Thread nD τ) m fullShare (r' t) (hr' t) g).symm)
  ihave H2 := (Entails.of_eq (by rw [hs, h2]) : iprop((m.view.loc (c : Thread nD τ)) ↦[(Finset.univ : Finset T).biUnion (β := Idx (m.view.loc (c : Thread nD τ))) (fun t => (m.view.slice (r t)).set)]{fullShare} g)
      ⊢ (iprop(bigSep Finset.univ fun t => (m.view.loc (c : Thread nD τ)) ↦[(m.view.slice (r' t)).set]{fullShare} g) : sProp 𝕄)) $$ H
  iapply h3; iexact H2

/-! ## Which piece an element lies in -/

/-- The place of a block. -/
def pbi (b : Fin 16) : Fin 16 := (![0, 1, 2, 3, 15, 6, 5, 4, 14, 7, 8, 9, 13, 12, 11, 10] : Fin 16 → Fin 16) b
theorem pbi_iff : ∀ b k : Fin 16, pbi b = k ↔ b = pb k := by decide +kernel

theorem row_mem (d : Dev nD) (x : S1024x2048.Idx) : Iff (x ∈ (rwR d).set)
    ((⟨(x (0 : Fin 2)).val / 32, by have h : (x (0 : Fin 2)).val < 1024 := (x (0 : Fin 2)).isLt; show _ < 32; omega⟩ : Dev nD) = d) := by
  rw [Rect.mem_set_unit, Fin.forall_fin_two, Fin.ext_iff]
  have h1 : (x (1 : Fin 2)).val < 2048 := (x (1 : Fin 2)).isLt
  show (32 * d.val ≤ (x (0 : Fin 2)).val ∧ (x (0 : Fin 2)).val < 32 * d.val + 32) ∧ (0 ≤ (x (1 : Fin 2)).val ∧ (x (1 : Fin 2)).val < 0 + 2048) ↔ _
  dsimp only
  omega

theorem chR_val (st : Fin 4) (k : Fin 16) (x : S1024x2048.Idx) : Iff (x ∈ (chR st k).set)
    ((x (1 : Fin 2)).val / 512 = st.val ∧ (x (0 : Fin 2)).val / 64 = (pb k).val) := by
  rw [Rect.mem_set_unit, Fin.forall_fin_two]
  show (64 * (pb k).val ≤ (x (0 : Fin 2)).val ∧ (x (0 : Fin 2)).val < 64 * (pb k).val + 64) ∧ (512 * st.val ≤ (x (1 : Fin 2)).val ∧ (x (1 : Fin 2)).val < 512 * st.val + 512) ↔ _
  omega
theorem chR_mem (p : Fin 4 × Fin 16) (x : S1024x2048.Idx) : Iff (x ∈ (chR p.1 p.2).set)
    (((⟨(x (1 : Fin 2)).val / 512, by have h : (x (1 : Fin 2)).val < 2048 := (x (1 : Fin 2)).isLt; omega⟩ : Fin 4),
      pbi (⟨(x (0 : Fin 2)).val / 64, by have h : (x (0 : Fin 2)).val < 1024 := (x (0 : Fin 2)).isLt; omega⟩ : Fin 16)) = p) := by
  rcases p with ⟨st, k⟩
  rw [chR_val, Prod.mk.injEq, pbi_iff, Fin.ext_iff, Fin.ext_iff]

abbrev chFam (p : Fin 4 × Fin 16) : Rect S1024x2048 := chR p.1 p.2

/-! ## A pair's rows are four chunks -/

theorem own_block : ∀ (st : Fin 4) (c : Dev nD), (pb (lab st c 0)).val = c.val / 2 := by decide +kernel
theorem mir_pair : ∀ (c x : Dev nD), (x = c ∨ x = mir c) ↔ x.val / 2 = c.val / 2 := by decide +kernel
theorem mir_ne : ∀ c : Dev nD, c ≠ mir c := by decide +kernel

abbrev pairD (c : Dev nD) (i : Fin 2) : Dev nD := if i = 0 then c else mir c
abbrev pairFam (c : Dev nD) (i : Fin 2) : Rect S1024x2048 := rwR (pairD c i)
abbrev blkFam (c : Dev nD) (st : Fin 4) : Rect S1024x2048 := chR st (lab st c 0)

theorem pairD_inj (c : Dev nD) (i j : Fin 2) (h : i ≠ j) : pairD c i ≠ pairD c j := by
  have := mir_ne c
  revert h; revert i j
  rw [Fin.forall_fin_two]
  constructor <;> rw [Fin.forall_fin_two] <;> constructor <;> intro h
  · exact absurd rfl h
  · exact this
  · exact this.symm
  · exact absurd rfl h
theorem pair_disj (c : Dev nD) (i j : Fin 2) (h : i ≠ j) : Disjoint (pairFam c i).set (pairFam c j).set :=
  fam_disj rwR _ row_mem _ _ (pairD_inj c i j h)
theorem blk_disj (c : Dev nD) (i j : Fin 4) (h : i ≠ j) : Disjoint (blkFam c i).set (blkFam c j).set :=
  fam_disj chFam _ chR_mem (i, lab i c 0) (j, lab j c 0) fun e => h (congrArg Prod.fst e)
theorem pair_blk (c : Dev nD) (x : S1024x2048.Idx) : (∃ i, x ∈ (pairFam c i).set) ↔ ∃ st, x ∈ (blkFam c st).set := by
  have h0 : (x (0 : Fin 2)).val < 1024 := (x (0 : Fin 2)).isLt
  have h1 : (x (1 : Fin 2)).val < 2048 := (x (1 : Fin 2)).isLt
  have hL : (∃ i, x ∈ (pairFam c i).set) ↔ (x (0 : Fin 2)).val / 64 = c.val / 2 := by
    rw [Fin.exists_fin_two]
    have e := mir_pair c ⟨(x (0 : Fin 2)).val / 32, by show _ < 32; omega⟩
    have e0 := row_mem (pairD c 0) x
    have e1 := row_mem (pairD c 1) x
    rw [e0, e1]
    refine Iff.trans e ?_
    dsimp only
    omega
  rw [hL]
  constructor
  · intro h
    exact ⟨⟨(x (1 : Fin 2)).val / 512, by omega⟩, (chR_val _ _ x).mpr ⟨rfl, by rw [own_block]; exact h⟩⟩
  · rintro ⟨st, h⟩
    have := ((chR_val _ _ x).mp h).2
    rw [own_block] at this; exact this

/-! ## The result buffer -/

theorem bigSep_two (Φ : Fin 2 → sProp 𝕄) : bigSep Finset.univ Φ = iprop(Φ 0 ∗ Φ 1) := bigSep_fin_two Φ

theorem blk_join (A : S1024x2048.Idx → Elt F .bf16) (c : Dev nD) : iprop(ow c (rowK c) (grow A c) ∗ ow c (rowK (mir c)) (grow A (mir c)))
    ⊢ (bigSep Finset.univ fun st => ow c (outK st (lab st c 0)) (gch A st (lab st c 0)) : sProp 𝕄) := by
  have h := regroup (pairFam c) (blkFam c) (fun _ _ => rfl) (fun _ _ => rfl) (pair_disj c) (blk_disj c) (pair_blk c) c outM A
  rw [bigSep_two] at h
  exact h

theorem out_split (c : Dev nD) : (owE c outM : sProp 𝕄) ⊢ iprop((owE c (rowK c) ∗ owE c (rowK (mir c)))
    ∗ bigSep Finset.univ fun st => bigSep (Finset.Ico 0 15) fun t => owE c (outK st (lab st c (t + 1)))) := by
  iintro ⟨%X, H⟩
  have h := regroup (blkFam c) (pairFam c) (fun _ _ => rfl) (fun _ _ => rfl) (blk_disj c) (pair_disj c) (fun x => (pair_blk c x).symm) c outM X
  rw [bigSep_two] at h
  have h2 : (ow c outM X : sProp 𝕄) ⊢ iprop((bigSep Finset.univ fun st => ow c (outM.slice (blkFam c st) (fun _ => rfl)) (fun j => X ((blkFam c st).emb j)))
      ∗ bigSep Finset.univ fun st => bigSep (Finset.Ico 0 15) fun t => owE c (outK st (lab st c (t + 1)))) := by
    refine etr (fam_splitX chFam (fun _ _ => rfl) _ chR_mem c outM X) ?_
    rw [bigSep_univ_prod, ← bigSep_sep']
    refine bmono fun st _ => ?_
    rw [bigSep_lab st c, Finset.range_eq_Ico, bigSep_Ico_succ_bot (by omega), show Finset.Ico (0 + 1) 16 = (Finset.Ico 0 15).map ⟨fun t => t + 1, fun a b h => Nat.succ.inj h⟩ from by
      ext x; simp only [Finset.mem_Ico, Finset.mem_map, Function.Embedding.coeFn_mk]
      exact ⟨fun h => ⟨x - 1, by omega, Nat.sub_add_cancel (by omega)⟩, fun ⟨y, h, e⟩ => by
        have e' : y + 1 = x := e
        omega⟩, bigSep_map]
    refine esep (BI.Entails.refl _) (bmono fun t _ => ?_)
    show _ ⊢ iprop(∃ Y, ow c (outK st (lab st c (t + 1))) Y)
    iintro H; iexists _; iexact H
  ihave H2 := h2 $$ H
  icases H2 with ⟨HB, HR⟩
  isplitl [HB]
  · ihave HP := h $$ HB
    icases HP with ⟨H1, H2⟩
    isplitl [H1]
    · iexists _; iexact H1
    · iexists _; iexact H2
  · iexact HR

theorem out_join (c : Dev nD) : (bigSep Finset.univ fun st => outs A c st 16) ⊢ (ow c outM A : sProp 𝕄) := by
  refine etr ?_ (fam_joinX chFam (fun _ _ => rfl) _ chR_mem c outM A)
  rw [bigSep_univ_prod]
  refine bmono fun st _ => ?_
  rw [bigSep_lab st c]
  unfold outs
  exact BI.Entails.refl _

/-- What a device lends at the barrier on a stream. -/
theorem lend (c : Dev nD) (st : Fin 4) :
    (bigSep (Finset.Ico 0 15) fun t => owE c (outK st (lab st c (t + 1)))) ⊢ (barPay (up st c) st : sProp 𝕄) := by
  unfold barPay
  rw [dn_up]
  refine bmono fun t _ => Entails.of_eq ?_
  rw [← lab_dn st (up st c) t, dn_up]

/-- A result with given rows of every device. -/
theorem rows_ex (R : Dev nD → Vec F S32x2048 .bf16) : ∃ X : S1024x2048.Idx → Elt F .bf16, ∀ d, grow X d = R d := by
  haveI : Inhabited (Elt F .bf16) := ⟨@Classical.arbitrary _ (Elt.nonempty F _)⟩
  obtain ⟨X, hX⟩ := fam_glue rwR _ row_mem (fun d j => R d j)
  exact ⟨X, fun d => funext fun j => hX d j⟩
def rowsOf (R : Dev nD → Vec F S32x2048 .bf16) : S1024x2048.Idx → Elt F .bf16 := (rows_ex R).choose
theorem rowsOf_spec (R : Dev nD → Vec F S32x2048 .bf16) (d : Dev nD) : grow (rowsOf R) d = R d := (rows_ex R).choose_spec d

end Cert.AttnKernelIdeal.AG

end
-- ==== Proof.GRows.lean ====
module

public import proofs.«01_k».proof.Proof.GPieces
public import Idealize.ShloMosaic.Lib.Pipeline.Value

@[expose] public section

noncomputable section

/-! # A device's rows -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

/-- A load of a whole buffer reads what it holds. -/
theorem ld_whole (c : Dev nD) {s : Shape} {e : EltTy} (m : Memref sig .tc .vmem s e) (r : Rect s) (hs : m.view.set = Finset.univ) (X : s.Idx → Elt F e)
    (X' : r.shape.Idx → Elt F e) (hX : ∀ f, m.view.read (Elt F) f = X → m.view.readAt (Elt F) r.toLoadRect f = X')
    {hl : m.view.LoadsAt r.toLoadRect}
    {k : (r.shape.Idx → Elt F e) → Prog (TpuEff nD τ sig (Elt F) Λ₀ .tc) PUnit} {Kt : PUnit → sProp 𝕄} :
    ow c m X ⊢ iprop((ow c m X -∗ WP c (k X') Kt) -∗ WP c (.op (.load m r.toLoadRect hl) k) Kt) := by
  unfold WP ow owns
  iintro ⟨%f, %hf, H⟩ Hk
  iapply (wp_load 𝒱₀ (c : Thread nD τ) none Set.univ (m := m) (by rw [hs]; exact Finset.subset_univ _)) $$ H
  iintro H
  rw [hX f hf]
  iapply Hk
  iexists f; isplitr; · ipureintro; exact hf
  iexact H

theorem hz : (![0, 0] : Fin 2 → Nat) = fun _ => 0 := funext fun a => by fin_cases a <;> rfl

/-- A load of a piece of a buffer held whole. -/
theorem ld_at (c : Dev nD) {s : Shape} {e : EltTy} (m : Memref sig .tc .vmem s e) (r : Rect s) (X : s.Idx → Elt F e) {hl : m.view.LoadsAt r.toLoadRect}
    {k : (r.shape.Idx → Elt F e) → Prog (TpuEff nD τ sig (Elt F) Λ₀ .tc) PUnit} {Kt : PUnit → sProp 𝕄} :
    ow c m X ⊢ iprop((ow c m X -∗ WP c (k (fun j => X (r.emb j))) Kt) -∗ WP c (.op (.load m r.toLoadRect hl) k) Kt) := by
  unfold WP ow owns
  iintro ⟨%f, %hf, H⟩ Hk
  iapply (wp_load_rect 𝒱₀ (c : Thread nD τ) none Set.univ (m := m) (r := r) (S := m.view.set) (View.set_slice_subset m.view r)) $$ H
  iintro H
  rw [show (m.access r).read (Elt F) f = (fun j => X (r.emb j)) from by rw [← hf]; rfl]
  iapply Hk
  iexists f; isplitr; · ipureintro; exact hf
  iexact H

/-- The staged operands. -/
def ops (c : Dev nD) (x : Vec F S1024x2048 .f32) (wq : Vec F S2048x2048 .f32) (wqr : Vec F S2048x512 .f32) (wkr : Vec F S2048x32 .f32)
    (wo : Vec F S2048x2048 .f32) (kv : Vec F S1024x4096 .bf16) : sProp 𝕄 :=
  iprop(ow c xM x ∗ ow c wqM wq ∗ ow c wqrM wqr ∗ ow c wkrM wkr ∗ ow c woM wo ∗ ow c kvM kv)

/-- The first `n` heads' sum. -/
def accOf (q : FVec F S32x2048 .f32) (qr : FVec F S32x512 .f32) (kr : FVec F S1024x32 .f32) (wo : Vec F S2048x2048 .f32) (kv : Vec F S1024x4096 .bf16) : ℕ → FVec F S32x2048 .f32
  | 0 => broadcast S32x2048 (Scalar.ofBits (F := F) .f32 0x00000000#32)
  | n + 1 => addf (accOf q qr kr wo kv n) (headOf (scoresOf (Fin.ofNat 16 n) q qr kr (fun j => kv ((kR (Fin.ofNat 16 n)).emb j)))
      (fun j => kv ((vR (Fin.ofNat 16 n)).emb j)) (fun j => wo ((oR (Fin.ofNat 16 n)).emb j)))

/-- A device's rows. -/
def rowVal (c : Dev nD) (x : Vec F S1024x2048 .f32) (wq : Vec F S2048x2048 .f32) (wqr : Vec F S2048x512 .f32) (wkr : Vec F S2048x32 .f32)
    (wo : Vec F S2048x2048 .f32) (kv : Vec F S1024x4096 .bf16) : FVec F S32x2048 .f32 :=
  accOf (qOf (fun j => x ((rwR c).emb j)) wq) (qrOf (fun j => x ((rwR c).emb j)) wqr) (krOf x wkr) wo kv 16

section Rows
variable (c : Dev nD) (x : Vec F S1024x2048 .f32) (wq : Vec F S2048x2048 .f32) (wqr : Vec F S2048x512 .f32) (wkr : Vec F S2048x32 .f32)
  (wo : Vec F S2048x2048 .f32) (kv : Vec F S1024x4096 .bf16)

theorem wp_head (h : Fin 16) (q : FVec F S32x2048 .f32) (qr : FVec F S32x512 .f32) (kr : FVec F S1024x32 .f32) (acc : FVec F S32x2048 .f32)
    (k : FVec F S32x2048 .f32 → Prog (TpuEff nD τ sig (Elt F) Λ₀ .tc) PUnit) (Kt : PUnit → sProp 𝕄) :
    ops c x wq wqr wkr wo kv ⊢ iprop((ops c x wq wqr wkr wo kv -∗ WP c (k (addf acc (headOf (scoresOf h q qr kr (fun j => kv ((kR h).emb j)))
      (fun j => kv ((vR h).emb j)) (fun j => wo ((oR h).emb j))))) Kt) -∗ WP c (head h q qr kr acc >>= k) Kt) := by
  have e : (head h q qr kr acc >>= k) = (.op (.load kvM (kR h).toLoadRect (View.loadsAt_vmem h_S1024x128)) fun kh =>
      .op (.load kvM (vR h).toLoadRect (View.loadsAt_vmem h_S1024x128)) fun vh =>
      .op (.load woM (oR h).toLoadRect (View.loadsAt_vmem h_S128x2048)) fun wo => k (addf acc (headOf (scoresOf h q qr kr kh) vh wo))) := rfl
  rw [e]
  unfold ops
  iintro ⟨H0, H1, H2, H3, H4, H5⟩ Hk
  iapply (ld_at c kvM (kR h) kv) $$ H5
  iintro H5
  iapply (ld_at c kvM (vR h) kv) $$ H5
  iintro H5
  iapply (ld_at c woM (oR h) wo) $$ H4
  iintro H4
  iapply Hk
  isplitl [H0]; · iexact H0
  isplitl [H1]; · iexact H1
  isplitl [H2]; · iexact H2
  isplitl [H3]; · iexact H3
  isplitl [H4] <;> iassumption

theorem wp_heads (q : FVec F S32x2048 .f32) (qr : FVec F S32x512 .f32) (kr : FVec F S1024x32 .f32) (n : ℕ) :
    ∀ (k : FVec F S32x2048 .f32 → Prog (TpuEff nD τ sig (Elt F) Λ₀ .tc) PUnit) (Kt : PUnit → sProp 𝕄),
    ops c x wq wqr wkr wo kv ⊢ iprop((ops c x wq wqr wkr wo kv -∗ WP c (k (accOf q qr kr wo kv n)) Kt) -∗ WP c (heads q qr kr n >>= k) Kt) := by
  induction n with
  | zero =>
    intro k Kt
    show _ ⊢ iprop(_ -∗ WP c (k _) Kt)
    iintro H Hk
    iapply Hk; iexact H
  | succ n ih =>
    intro k Kt
    have e : (heads q qr kr (n + 1) >>= k) = (heads q qr kr n >>= fun acc => head (Fin.ofNat 16 n) q qr kr acc >>= k) := by
      show ((heads q qr kr n >>= fun acc => head (Fin.ofNat 16 n) q qr kr acc) >>= k) = _
      rw [bind_assoc]
    rw [e]
    iintro H Hk
    iapply (ih (fun acc => head (Fin.ofNat 16 n) q qr kr acc >>= k) Kt) $$ H
    iintro H
    iapply (wp_head c x wq wqr wkr wo kv (Fin.ofNat 16 n) q qr kr (accOf q qr kr wo kv n) k Kt) $$ H
    iintro H
    iapply Hk; iexact H

attribute [local irreducible] accOf heads in
theorem wp_rows (k : FVec F S32x2048 .f32 → Prog (TpuEff nD τ sig (Elt F) Λ₀ .tc) PUnit) (Kt : PUnit → sProp 𝕄) :
    ops c x wq wqr wkr wo kv ⊢ iprop((ops c x wq wqr wkr wo kv -∗ WP c (k (rowVal c x wq wqr wkr wo kv)) Kt) -∗ WP c (rows (offs c) c >>= k) Kt) := by
  have e : (rows (offs c) c >>= k) = (.op (.load xM (rwR c).toLoadRect (View.loadsAt_vmem h_S32x2048)) fun xq =>
      .op (.load xM (Rect.unit (s := S1024x2048) ![0, 0] S1024x2048.size inb_S1024x2048_S1024x2048_0_0).toLoadRect (View.loadsAt_vmem h_S1024x2048)) fun x =>
      .op (.load wkrM (Rect.unit (s := S2048x32) ![0, 0] S2048x32.size inb_S2048x32_S2048x32_0_0).toLoadRect (View.loadsAt_vmem h_S2048x32)) fun wkr =>
      .op (.load wqM (Rect.unit (s := S2048x2048) ![0, 0] S2048x2048.size inb_S2048x2048_S2048x2048_0_0).toLoadRect (View.loadsAt_vmem h_S2048x2048)) fun wq =>
      .op (.load wqrM (Rect.unit (s := S2048x512) ![0, 0] S2048x512.size inb_S2048x512_S2048x512_0_0).toLoadRect (View.loadsAt_vmem h_S2048x512)) fun wqr =>
      heads (qOf xq wq) (qrOf xq wqr) (krOf x wkr) 16 >>= k) := by
    unfold rows
    simp only [Prog.lift, Prog.bind_op, Prog.bind_ret]
    rfl
  rw [e]
  unfold rowVal
  have hh := fun q qr kr => wp_heads c x wq wqr wkr wo kv q qr kr 16 k Kt
  unfold ops at hh ⊢
  iintro ⟨H0, H1, H2, H3, H4, H5⟩ Hk
  iapply (ld_at c xM (rwR c) x) $$ H0
  iintro H0
  iapply (ld_whole c (Memref.whole cc0_stg0_0) _ (View.set_whole _) x x (fun f hf => by
    rw [← hf]; exact Memref.readAt_unit_zero (Elt F) cc0_stg0_0 hz _ f)) $$ H0
  iintro H0
  iapply (ld_whole c (Memref.whole cc0_stg3_0) _ (View.set_whole _) wkr wkr (fun f hf => by
    rw [← hf]; exact Memref.readAt_unit_zero (Elt F) cc0_stg3_0 hz _ f)) $$ H3
  iintro H3
  iapply (ld_whole c (Memref.whole cc0_stg1_0) _ (View.set_whole _) wq wq (fun f hf => by
    rw [← hf]; exact Memref.readAt_unit_zero (Elt F) cc0_stg1_0 hz _ f)) $$ H1
  iintro H1
  iapply (ld_whole c (Memref.whole cc0_stg2_0) _ (View.set_whole _) wqr wqr (fun f hf => by
    rw [← hf]; exact Memref.readAt_unit_zero (Elt F) cc0_stg2_0 hz _ f)) $$ H2
  iintro H2
  iapply (hh _ _ _) $$ [H0 H1 H2 H3 H4 H5]
  · isplitl [H0]; · iexact H0
    isplitl [H1]; · iexact H1
    isplitl [H2]; · iexact H2
    isplitl [H3]; · iexact H3
    isplitl [H4] <;> iassumption
  iintro H
  iapply Hk; iexact H
end Rows

end Cert.AttnKernelIdeal.AG

end
-- ==== Proof.GBody.lean ====
module

public import proofs.«01_k».proof.Proof.GRows

@[expose] public section

noncomputable section

/-! # The kernel's body -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

/-! ## Over all of a device's semaphores -/

theorem bigSep_J {M : Type _} [URA M] (Φ : J → sProp M) : bigSep Finset.univ Φ
    = iprop(Φ (.send 0) ∗ Φ (.send 1) ∗ Φ (.recv 0) ∗ Φ (.recv 1) ∗ Φ (.cred 0) ∗ Φ (.cred 1)) :=
  bigSep_univ_eq_bigSepL [J.send 0, J.send 1, J.recv 0, J.recv 1, J.cred 0, J.cred 1] (by decide) (by decide) Φ
theorem bigSep_opt {M : Type _} [URA M] {α : Type} [Fintype α] [DecidableEq α] (Φ : Option α → sProp M) :
    bigSep Finset.univ Φ = iprop(Φ none ∗ bigSep Finset.univ fun a => Φ (some a)) := by
  have h : (Finset.univ : Finset (Option α)).erase none = Finset.univ.map Function.Embedding.some := by
    ext x; rcases x with _ | x <;> simp
  rw [bigSep_erase (Finset.mem_univ none), h, bigSep_map]
  rfl
theorem bigSep_Cx {M : Type _} [URA M] (Φ : Ci → sProp M) : bigSep Finset.univ Φ
    = iprop(Φ none ∗ Φ xsI ∗ Φ xrI ∗ bigSep Finset.univ fun st : Fin 4 => bigSep Finset.univ fun j : J => Φ (some (some (some (st, j))))) := by
  rw [bigSep_opt, bigSep_opt, bigSep_opt, bigSep_univ_prod]

theorem bigSep_wp {M : Type _} [URA M] {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The cells close -/

theorem close (c : Dev nD) (i : Ci) (r : ℕ) (h : ∀ r', r ≤ r' → dut i r' = ∅) : iprop(recs A K ∗ pos c i r) ⊢ (|={Set.univ}=> semVal (cell c i) 0 : sProp 𝕄) := by
  unfold pos
  iintro ⟨#Hr, Hat, -⟩
  imod (Rounds.cell_close ER (ringRd A) (Set.mem_univ (K (c, i))) (fun h => h) (R := r) (fun r' hr => (duties_cell A c i r').trans (h r' hr))) $$ [Hat] with Hz
  · isplitr; · iapply (recs_inv A K c i); iexact Hr
    iexact Hat
  imodintro
  iexact Hz

/-- A stream's semaphores at zero. -/
def zeros (c : Dev nD) (st : Fin 4) : sProp 𝕄 :=
  iprop(semVal (cell c (some (some (some (st, .send 0))))) 0 ∗ semVal (cell c (some (some (some (st, .send 1))))) 0 ∗ semVal (cell c (some (some (some (st, .recv 0))))) 0
    ∗ semVal (cell c (some (some (some (st, .recv 1))))) 0 ∗ semVal (cell c (some (some (some (st, .cred 0))))) 0 ∗ semVal (cell c (some (some (some (st, .cred 1))))) 0)

theorem close_stream (c : Dev nD) (st : Fin 4) : iprop(recs A K ∗ Led c st 15 15 13 13) ⊢ (|={Set.univ}=> zeros c st : sProp 𝕄) := by
  unfold Led pos2
  iintro ⟨#Hr, -, -, -, -, ⟨H1, H2⟩, ⟨H3, H4⟩, ⟨H5, H6⟩⟩
  imod (close (A := A) (K := K) c (some (some (some (st, .send 1)))) 7 (fun r' h => by simp only [dut]; exact if_neg (by simp; omega))) $$ [H1] with H1
  · isplitr; · iexact Hr
    iexact H1
  imod (close (A := A) (K := K) c (some (some (some (st, .send 0)))) 8 (fun r' h => by simp only [dut]; exact if_neg (by simp; omega))) $$ [H2] with H2
  · isplitr; · iexact Hr
    iexact H2
  imod (close (A := A) (K := K) c (some (some (some (st, .recv 1)))) 7 (fun r' h => by simp only [dut]; exact if_neg (by simp; omega))) $$ [H3] with H3
  · isplitr; · iexact Hr
    iexact H3
  imod (close (A := A) (K := K) c (some (some (some (st, .recv 0)))) 8 (fun r' h => by simp only [dut]; exact if_neg (by simp; omega))) $$ [H4] with H4
  · isplitr; · iexact Hr
    iexact H4
  imod (close (A := A) (K := K) c (some (some (some (st, .cred 1)))) 6 (fun r' h => by simp only [dut]; exact if_neg (by simp; omega))) $$ [H5] with H5
  · isplitr; · iexact Hr
    iexact H5
  imod (close (A := A) (K := K) c (some (some (some (st, .cred 0)))) 7 (fun r' h => by simp only [dut]; exact if_neg (by simp; omega))) $$ [H6] with H6
  · isplitr; · iexact Hr
    iexact H6
  imodintro
  unfold zeros
  isplitl [H2]; · iexact H2
  isplitl [H1]; · iexact H1
  isplitl [H4]; · iexact H4
  isplitl [H3]; · iexact H3
  isplitl [H6]; · iexact H6
  iexact H5

theorem close_all (c : Dev nD) : iprop(recs A K ∗ pos c none 1 ∗ pos c xsI 1 ∗ pos c xrI 1 ∗ bigSep Finset.univ fun st => Led c st 15 15 13 13)
    ⊢ (|={Set.univ}=> bigSep Finset.univ fun i : Ci => semVal (cell c i) 0 : sProp 𝕄) := by
  rw [bigSep_Cx]
  simp only [bigSep_J]
  iintro ⟨#Hr, H0, H1, H2, HS⟩
  imod (close (A := A) (K := K) c none 1 (fun r' h => by simp only [dut]; exact if_neg (by omega))) $$ [H0] with H0
  · isplitr; · iexact Hr
    iexact H0
  imod (close (A := A) (K := K) c xsI 1 (fun r' h => by simp only [dut]; exact if_neg (by omega))) $$ [H1] with H1
  · isplitr; · iexact Hr
    iexact H1
  imod (close (A := A) (K := K) c xrI 1 (fun r' h => by simp only [dut]; exact if_neg (by omega))) $$ [H2] with H2
  · isplitr; · iexact Hr
    iexact H2
  imod (etr (bigSep_wp (R := recs A K) (Φ := fun st => Led c st 15 15 13 13) fun st (_ : st ∈ Finset.univ) => close_stream c st) (bigSep_fupd _ _)) $$ [HS] with HS
  · isplitr; · iexact Hr
    iexact HS
  imodintro
  isplitl [H0]; · iexact H0
  isplitl [H1]; · iexact H1
  isplitl [H2]; · iexact H2
  unfold zeros
  iexact HS

/-! ## The barrier -/

theorem pay_bar0 (A : S1024x2048.Idx → Elt F .bf16) (c : Dev nD) : pay A c none 0 0 = iprop(barPay c 2 ∗ barPay c 3) := by unfold pay; exact if_pos rfl
theorem pay_bar1 (A : S1024x2048.Idx → Elt F .bf16) (c : Dev nD) : pay A c none 0 1 = iprop(barPay c 0 ∗ barPay c 1) := by
  unfold pay; exact (if_neg (show ¬ (1 : Fin 3) = 0 by decide)).trans (if_pos rfl)
theorem pay_bar2 (A : S1024x2048.Idx → Elt F .bf16) (c : Dev nD) : pay A c none 0 2 = owE (mir c) (rowK c) := by
  unfold pay; exact (if_neg (show ¬ (2 : Fin 3) = 0 by decide)).trans (if_neg (show ¬ (2 : Fin 3) = 1 by decide))

theorem tr_bar (c : Dev nD) (B : Fin 4 → Pr) (hB : ∀ s, Above 1 (B s)) :
    Tr A K c iprop(Ow c (owedS c 0 B) ∗ cred (tallyAt (cell c none) 0 3) ∗ pos c none 0) (semWaitWord barSem 3#32)
      iprop(Ow c (owedS c 0 B) ∗ pos c none 1 ∗ (bigSep Finset.univ fun st => barPay c st) ∗ owE (mir c) (rowK c)) := fun Kt => by
  have hcard : (dut none 0).card * amt none = 3 := by decide
  have he : 0 + (3#32 : BitVec 32).toInt.toNat = (ringRd A).expect (cell c none) 0 := by
    rw [expect_cell A c none 0, hcard]; decide
  have hmw : recs A K ⊢ MayWait (c : Thread nD τ) (csem none) 0 (owedS c 0 B) := by
    have h := mayWait (F := F) c none 0 1 0 B (by omega) (by rw [lv_cell]; exact le_refl _) (.inr (by omega)) hB
    exact Idealize.SL.BI.Entails.trans (@recs_lev F _ A K) h
  have hdut : dut none 0 = Finset.univ := by unfold dut; exact if_pos rfl
  have hpay : bigSep ((ringRd A).duties (cell c none) 0 \ ∅) (fun d => (ringRd A).payload (cell c none) 0 d)
      = iprop(pay A c none 0 0 ∗ pay A c none 0 1 ∗ pay A c none 0 2) := by
    rw [Finset.sdiff_empty, duties_cell, hdut, bigSep_univ_eq_bigSepL [(0 : Fin 3), 1, 2] (by decide) (by decide)]
    rw [bigSepL_cons_cons, bigSepL_cons_cons, bigSepL_singleton, payload_cell, payload_cell, payload_cell]
    rfl
  show _ ⊢ wp _ _ _ (.op (TpuEff.semWait barSem (3#32 : BitVec 32).toInt.toNat) .ret) _
  unfold Ow pos
  iintro ⟨#Hr, ⟨⟨%W, HO⟩, Hc, Hat, -⟩, Hk⟩
  iapply (Rounds.wp_wait_rest_token 𝒱₀ ER (ringRd A) (c : Thread nD τ) none (κ := K (c, none)) (wpE_semWait_eq 𝒱₀ (c : Thread nD τ) none Set.univ) (Set.mem_univ _) 0
      (O := owedS c 0 B) (W := W) (R := 0) (m := 0) (T := ∅) he) $$ [HO Hc Hat]
  · isplitr; · iapply (recs_inv A K c none); iexact Hr
    isplitl [Hc]; · iexact Hc
    isplitl [HO]; · iexact HO
    isplitr; · iapply hmw; iexact Hr
    iexact Hat
  iintro ⟨HO, Hat, #Hre, Hpay⟩
  ihave Hp := (Entails.of_eq hpay) $$ Hpay
  icases Hp with ⟨Hp0, Hp1, Hp2⟩
  rw [wp_ret]; imodintro
  iapply Hk
  isplitl [HO]; · iexists _; iexact HO
  isplitl [Hat]
  · isplitl [Hat]; · iexact Hat
    iexact Hre
  isplitl [Hp0 Hp1]
  · rw [bigSep_four]
    ihave Hq0 := (Entails.of_eq (pay_bar0 A c)) $$ Hp0
    ihave Hq1 := (Entails.of_eq (pay_bar1 A c)) $$ Hp1
    icases Hq0 with ⟨H2, H3⟩
    icases Hq1 with ⟨H0, H1⟩
    isplitl [H0]; · iexact H0
    isplitl [H1]; · iexact H1
    isplitl [H2] <;> iassumption
  iapply (Entails.of_eq (pay_bar2 A c))
  iexact Hp2

theorem Tr.fin {c : Dev nD} {P Q : sProp 𝕄} (h : iprop(recs A K ∗ P) ⊢ |={Set.univ}=> Q) : Tr A K c P (Prog.ret ⟨⟩) Q := fun Kt => by
  show _ ⊢ wp _ _ _ _ _
  iintro ⟨#Hr, HP, Hk⟩
  rw [wp_ret]
  imod h $$ [HP] with HQ
  · isplitr; · iexact Hr
    iexact HP
  imodintro
  iapply Hk; iexact HQ

theorem Tr.wp {c : Dev nD} {P Q : sProp 𝕄} {p : Prog (TpuEff nD τ sig (Elt F) Λ₀ .tc) PUnit} (h : Tr A K c P p Q) (Kt : PUnit → sProp 𝕄) :
    iprop(recs A K ∗ P ∗ (Q -∗ Kt ⟨⟩)) ⊢ WP c p Kt := h Kt

/-- The tokens of the three signals. -/
def barTok (c : Dev nD) : sProp 𝕄 :=
  iprop(dutyTok ER (cell (nxt c) none) 0 0 ∗ dutyTok ER (cell (prv c) none) 0 1 ∗ dutyTok ER (cell (mir c) none) 0 2)

/-- What it lends on one stream. -/
abbrev lent (c : Dev nD) (st : Fin 4) : sProp 𝕄 := bigSep (Finset.Ico 0 15) fun t => owE c (outK st (lab st c (t + 1)))

theorem tr_sigN (c : Dev nD) : Tr A K c iprop(Ow c (owed0 c) ∗ dutyTok ER (cell (nxt c) none) 0 0 ∗ lent c 2 ∗ lent c 3) (semSignalWord (nxt c) barSem 1#32)
    (Ow c (owedS c 0 (fun _ => ⟨0, 0⟩) + barT (mir c) + barT (prv c))) := by
  refine (tr_signal (A := A) (K := K) c (nxt c) none barSem rfl 0 0 0 _ _ (by decide) rfl rfl).conseq ?_ (BI.Entails.refl _)
  iintro ⟨#Hr, HO, HT, H2, H3⟩
  isplitl [HO]; · unfold owed0; iexact HO
  isplitl [HT]; · iexact HT
  isplitr; · iapply (recs_reached A K (nxt c) none); iexact Hr
  iapply (show iprop(barPay (nxt c) 2 ∗ barPay (nxt c) 3) ⊢ pay A (nxt c) none 0 0 from Entails.of_eq (pay_bar0 A (nxt c)).symm)
  isplitl [H2]
  · iapply (lend c 2); iexact H2
  · iapply (lend c 3); iexact H3
theorem tr_sigP (c : Dev nD) : Tr A K c iprop(Ow c (owedS c 0 (fun _ => ⟨0, 0⟩) + barT (mir c) + barT (prv c)) ∗ dutyTok ER (cell (prv c) none) 0 1 ∗ lent c 0 ∗ lent c 1) (semSignalWord (prv c) barSem 1#32)
    (Ow c (owedS c 0 (fun _ => ⟨0, 0⟩) + barT (mir c))) := by
  refine (tr_signal (A := A) (K := K) c (prv c) none barSem rfl 0 1 0 _ _ (by decide) rfl rfl).conseq ?_ (BI.Entails.refl _)
  iintro ⟨#Hr, HO, HT, H2, H3⟩
  isplitl [HO]; · iexact HO
  isplitl [HT]; · iexact HT
  isplitr; · iapply (recs_reached A K (prv c) none); iexact Hr
  iapply (show iprop(barPay (prv c) 0 ∗ barPay (prv c) 1) ⊢ pay A (prv c) none 0 1 from Entails.of_eq (pay_bar1 A (prv c)).symm)
  isplitl [H2]
  · iapply (lend c 0); iexact H2
  · iapply (lend c 1); iexact H3
theorem tr_sigM (c : Dev nD) : Tr A K c iprop(Ow c (owedS c 0 (fun _ => ⟨0, 0⟩) + barT (mir c)) ∗ dutyTok ER (cell (mir c) none) 0 2 ∗ owE c (rowK (mir c))) (semSignalWord (mir c) barSem 1#32)
    (Ow c (owedS c 0 (fun _ => ⟨0, 0⟩))) := by
  refine (tr_signal (A := A) (K := K) c (mir c) none barSem rfl 0 2 0 _ _ (by decide) rfl rfl).conseq ?_ (BI.Entails.refl _)
  iintro ⟨#Hr, HO, HT, HX⟩
  isplitl [HO]; · iexact HO
  isplitl [HT]; · iexact HT
  isplitr; · iapply (recs_reached A K (mir c) none); iexact Hr
  iapply (show owE c (rowK (mir c)) ⊢ pay A (mir c) none 0 2 from Entails.of_eq (by rw [pay_bar2, mir_mir]))
  iexact HX

/-! ## The exchange -/

/-- The exchange's tokens, credit and positions. -/
def XS (c : Dev nD) : sProp 𝕄 :=
  iprop((dutyTok ER (cell (mir c) xrI) 0 0 ∗ dutyTok ER (cell c xsI) 0 0) ∗ cred (tallyAt (cell c xrI) 0 NR) ∗ pos c xsI 0 ∗ pos c xrI 0)

/-- The exchange after its store. -/
def xchg' (O : Offs) (c : Dev nD) : Prog (TpuEff nD τ sig (Elt F) Λ₀ .tc) PUnit := do
  Prog.lift (.enqueueDma (rowM O.hown') (.remote (Dev.tc (mir c)) (rowM O.hown') (.dma xsSem)) (.dma xrSem)
    ((Memref.isWhole_whole _).wordExact_slice rfl _ (rwords_of O.hown')) ((Memref.isWhole_whole _).wordExact_slice rfl _ (rwords_of O.hown')) ⟨⟨rfl, Or.inl rfl⟩, trivial⟩)
  Prog.lift (.waitDma2 xsSem (rowM O.hown') (rowM O.hown')
    ((Memref.isWhole_whole _).wordExact_slice rfl _ (rwords_of O.hown')) ((Memref.isWhole_whole _).wordExact_slice rfl _ (rwords_of O.hown')))
  Prog.lift (.waitDma2 xrSem (rowM O.hmirror) (rowM O.hmirror)
    ((Memref.isWhole_whole _).wordExact_slice rfl _ (rwords_of O.hmirror)) ((Memref.isWhole_whole _).wordExact_slice rfl _ (rwords_of O.hmirror)))

theorem row_credit (d : Dev nD) : (rowK d).view.dmaCredit = NR := rfl

theorem pay_xs (c : Dev nD) : pay A c xsI 0 0 = ow c (rowK c) (grow A c) := rfl
theorem pay_xr (c : Dev nD) : pay A c xrI 0 0 = ow c (rowK (mir c)) (grow A (mir c)) := rfl

theorem tr_xchg' (c : Dev nD) : Tr A K c iprop(Ow c (owedS c 0 fun _ => ⟨0, 0⟩) ∗ ow c (rowK c) (grow A c) ∗ owE (mir c) (rowK c) ∗ XS c)
    (xchg' (offs c) c)
    iprop(Ow c (owedS c 1 fun _ => ⟨0, 0⟩) ∗ (bigSep Finset.univ fun st => ow c (outK st (lab st c 0)) (gch A st (lab st c 0))) ∗ pos c xsI 1 ∗ pos c xrI 1) := by
  have hab : ∀ s : Fin 4, Above 2 ((fun _ => ⟨0, 0⟩ : Fin 4 → Pr) s) := fun _ => by unfold Above; dsimp only; omega
  have hs := (tr_send (A := A) (K := K) c (mir c) xsI xrI 0 0 rfl rfl (rowM (offs c).hown') (rowM (offs c).hown') (grow A c) iprop(emp) _ _ 0 0 NR
    (owed_x c (fun _ => ⟨0, 0⟩)) (by decide) (by decide) rfl rfl (row_credit c) (BI.Entails.refl _)
    (show iprop(ow (mir c) (rowK c) (grow A c) ∗ emp) ⊢ ow (mir c) (rowK (mir (mir c))) (grow A (mir (mir c))) by
      rw [mir_mir]; iintro ⟨H, -⟩; iexact H)
    (hsrc := (Memref.isWhole_whole _).wordExact_slice rfl _ (rwords_of (offs c).hown')) (hdst := (Memref.isWhole_whole _).wordExact_slice rfl _ (rwords_of (offs c).hown'))
    (hsem := ⟨⟨rfl, Or.inl rfl⟩, trivial⟩)).frame (R := iprop(cred (tallyAt (cell c xrI) 0 NR) ∗ pos c xsI 0 ∗ pos c xrI 0))
  have h1 := (tr_wait (A := A) (K := K) c xsI 0 0 2 1 (fun _ => ⟨0, 0⟩) (w := .waitDma2 xsSem (rowM (offs c).hown') (rowM (offs c).hown')
      ((Memref.isWhole_whole _).wordExact_slice rfl _ (rwords_of (offs c).hown')) ((Memref.isWhole_whole _).wordExact_slice rfl _ (rwords_of (offs c).hown')))
    (wpE_waitDma2_eq 𝒱₀ (c : Thread nD τ) none Set.univ) (by decide) (row_credit c) (by omega) (by rw [lv_cell]; exact Nat.zero_le _) (.inl (le_refl 1)) hab).frame
      (R := iprop(cred (tallyAt (cell c xrI) 0 NR) ∗ pos c xrI 0))
  have h2 := (tr_wait (A := A) (K := K) c xrI 0 0 2 1 (fun _ => ⟨0, 0⟩) (w := .waitDma2 xrSem (rowM (offs c).hmirror) (rowM (offs c).hmirror)
      ((Memref.isWhole_whole _).wordExact_slice rfl _ (rwords_of (offs c).hmirror)) ((Memref.isWhole_whole _).wordExact_slice rfl _ (rwords_of (offs c).hmirror)))
    (wpE_waitDma2_eq 𝒱₀ (c : Thread nD τ) none Set.univ) (by decide) (row_credit (mir c)) (by omega) (by rw [lv_cell]; exact le_refl _) (.inl (le_refl 1)) hab).frame
      (R := iprop(pos c xsI 1 ∗ pay A c xsI 0 0))
  unfold xchg'
  refine Tr.bind (hs.conseq ?_ (BI.Entails.refl _)) (Tr.bind (h1.conseq ?_ (BI.Entails.refl _)) (h2.conseq ?_ ?_))
  · unfold XS
    iintro ⟨#Hr, HO, Ho, Hd, ⟨T1, T2⟩, HC, HP⟩
    isplitr [HC HP]
    · isplitl [HO]; · iexact HO
      isplitl [Ho]; · iexact Ho
      isplitl [Hd]; · iexact Hd
      isplitr; · iempintro
      isplitl [T2]; · iexact T2
      isplitr; · iapply (recs_reached A K c xsI); iexact Hr
      isplitl [T1]; · iexact T1
      iapply (recs_reached A K (mir c) xrI); iexact Hr
    · isplitl [HC]; · iexact HC
      iexact HP
  · iintro ⟨-, ⟨HO, Hc⟩, HC, HP, HQ⟩
    isplitl [HO Hc HP]
    · isplitl [HO]; · iexact HO
      isplitl [Hc]; · iexact Hc
      iexact HP
    · isplitl [HC] <;> iassumption
  · iintro ⟨-, ⟨HO, HP, Hy⟩, HC, HQ⟩
    isplitl [HO HC HQ]
    · isplitl [HO]; · iexact HO
      isplitl [HC]; · iexact HC
      iexact HQ
    · isplitl [HP]; · iexact HP
      iexact Hy
  · iintro ⟨⟨HO, HQ, Hz⟩, HP, Hy⟩
    isplitl [HO]; · iexact HO
    isplitr [HP HQ]
    · iapply (blk_join A c)
      isplitl [Hy]
      · iapply (Entails.of_eq (pay_xs (A := A) c)); iexact Hy
      · iapply (Entails.of_eq (pay_xr (A := A) c)); iexact Hz
    · isplitl [HP] <;> iassumption

theorem tr_xchg (c : Dev nD) (acc : FVec F S32x2048 .f32) (hA : grow A c = (truncf .bf16 acc bitsLt_bf16_f32 : FVec F S32x2048 .bf16)) :
    Tr A K c iprop(Ow c (owedS c 0 fun _ => ⟨0, 0⟩) ∗ owE c (rowK c) ∗ owE (mir c) (rowK c) ∗ XS c)
    (xchg (offs c) c acc)
    iprop(Ow c (owedS c 1 fun _ => ⟨0, 0⟩) ∗ (bigSep Finset.univ fun st => ow c (outK st (lab st c 0)) (gch A st (lab st c 0))) ∗ pos c xsI 1 ∗ pos c xrI 1) := fun Kt => by
  have h := tr_xchg' (A := A) (K := K) c Kt
  have e : xchg (offs c) c acc = (.op (.load outM (rwR c).toLoadRect (View.loadsAt_vmem h_S32x2048)) fun _ =>
      .op (.store outM (rwR c) (truncf .bf16 acc bitsLt_bf16_f32 : FVec F S32x2048 .bf16) Finset.univ
        (View.stores_vmem h_S32x2048 ((Memref.isWhole_whole _).storeExact_slice rfl _ (rpacked_of (rr c))) (fun _ => rfl)) (.inl rfl)) fun _ => xchg' (offs c) c) := rfl
  rw [e]
  iintro ⟨#Hr, ⟨HO, ⟨%Y, Ho⟩, Hd, HX⟩, Hk⟩
  iapply (ld c outM (rwR c) (fun _ => rfl) Y) $$ Ho
  iintro Ho
  iapply (sto c outM (rwR c) (fun _ => rfl) (truncf .bf16 acc bitsLt_bf16_f32 : FVec F S32x2048 .bf16)) $$ [Ho]
  · iexists Y; iexact Ho
  iintro Ho
  iapply h
  isplitr; · iexact Hr
  isplitr [Hk]
  · isplitl [HO]; · iexact HO
    rw [hA]
    isplitl [Ho]; · iexact Ho
    isplitl [Hd] <;> iassumption
  · iexact Hk

/-! ## The body -/

section Whole
variable (c : Dev nD) (x : Vec F S1024x2048 .f32) (wq : Vec F S2048x2048 .f32) (wqr : Vec F S2048x512 .f32) (wkr : Vec F S2048x32 .f32)
  (wo : Vec F S2048x2048 .f32) (kv : Vec F S1024x4096 .bf16)

def BPre : sProp 𝕄 :=
  iprop((Ow c (owed0 c) ∗ barTok c ∗ owE c outM) ∗ (cred (tallyAt (cell c none) 0 3) ∗ pos c none 0) ∗ XS c
    ∗ (bigSep Finset.univ fun st => Led c st 0 0 0 0) ∗ ops c x wq wqr wkr wo kv)
def BPost (A : S1024x2048.Idx → Elt F .bf16) : sProp 𝕄 :=
  iprop(Ow c 0 ∗ ops c x wq wqr wkr wo kv ∗ ow c outM A ∗ bigSep Finset.univ fun i : Ci => semVal (cell c i) 0)

/-- The body after its signals. -/
def tail : Prog (TpuEff nD τ sig (Elt F) Λ₀ .tc) PUnit :=
  rows (offs c) c >>= fun acc => semWaitWord barSem 3#32 >>= fun _ => xchg (offs c) c acc >>= fun _ => streams (offs c) c

theorem Tr.rows {P Q : sProp 𝕄} {k : FVec F S32x2048 .f32 → Prog (TpuEff nD τ sig (Elt F) Λ₀ .tc) PUnit}
    (h : Tr A K c iprop(P ∗ ops c x wq wqr wkr wo kv) (k (rowVal c x wq wqr wkr wo kv)) Q) :
    Tr A K c iprop(P ∗ ops c x wq wqr wkr wo kv) (rows (offs c) c >>= k) Q := fun Kt => by
  iintro ⟨#Hr, ⟨HP, HO⟩, Hk⟩
  iapply (wp_rows c x wq wqr wkr wo kv k Kt) $$ HO
  iintro HO
  iapply (Tr.wp h Kt)
  isplitr; · iexact Hr
  isplitl [HP HO]
  · isplitl [HP] <;> iassumption
  · iexact Hk

attribute [local irreducible] Tr

theorem fin_all : iprop(recs A K ∗ ((Ow c (owedS c 1 fun _ => ⟨15, 13⟩) ∗ bigSep Finset.univ fun st => SZ A c st) ∗ (pos c none 1 ∗ pos c xsI 1 ∗ pos c xrI 1) ∗ ops c x wq wqr wkr wo kv))
      ⊢ (|={Set.univ}=> BPost c x wq wqr wkr wo kv A : sProp 𝕄) := by
  rw [owed_end]
  unfold BPost SZ
  rw [bigSep_sep' Finset.univ (fun st => Led (F := F) c st 15 15 13 13) (fun st => outs A c st 16)]
  iintro ⟨#Hr, ⟨HO, HL, HS⟩, ⟨P0, P1, P2⟩, Hop⟩
  imod (close_all (A := A) (K := K) c) $$ [P0 P1 P2 HL] with Hz
  · isplitr; · iexact Hr
    isplitl [P0]; · iexact P0
    isplitl [P1]; · iexact P1
    isplitl [P2] <;> iassumption
  imodintro
  isplitl [HO]; · iexact HO
  isplitl [Hop]; · iexact Hop
  isplitl [HS]
  · iapply (out_join c); iexact HS
  · iexact Hz

theorem body_eq (O : Offs) : (body O c : Prog (TpuEff nD τ sig (Elt F) Λ₀ .tc) PUnit) = (semSignalWord (nxt c) barSem 1#32 >>= fun _ => semSignalWord (prv c) barSem 1#32 >>= fun _ =>
    semSignalWord (mir c) barSem 1#32 >>= fun _ => rows O c >>= fun acc => semWaitWord barSem 3#32 >>= fun _ => xchg O c acc >>= fun _ => streams O c >>= fun _ => Prog.ret ⟨⟩) := by
  have h : (streams O c >>= fun _ => Prog.ret ⟨⟩) = streams (F := F) O c := bind_pure (streams O c)
  rw [h]; rfl

theorem tr_body (hA : grow A c = (truncf .bf16 (rowVal c x wq wqr wkr wo kv) bitsLt_bf16_f32 : FVec F S32x2048 .bf16)) :
    Tr A K c (BPre c x wq wqr wkr wo kv) (body (offs c) c) (BPost c x wq wqr wkr wo kv A) := by
  let R0 : sProp 𝕄 := iprop((cred (tallyAt (cell c none) 0 3) ∗ pos c none 0) ∗ XS c ∗ bigSep Finset.univ fun st => Led c st 0 0 0 0)
  have h1 := (tr_sigN (A := A) (K := K) c).frame (R := iprop((dutyTok ER (cell (prv c) none) 0 1 ∗ lent c 0 ∗ lent c 1) ∗ (dutyTok ER (cell (mir c) none) 0 2 ∗ owE c (rowK (mir c)))
    ∗ owE c (rowK c) ∗ ((cred (tallyAt (cell c none) 0 3) ∗ pos c none 0) ∗ XS c ∗ bigSep Finset.univ fun st => Led c st 0 0 0 0) ∗ ops c x wq wqr wkr wo kv))
  have h2 := (tr_sigP (A := A) (K := K) c).frame (R := iprop((dutyTok ER (cell (mir c) none) 0 2 ∗ owE c (rowK (mir c)))
    ∗ owE c (rowK c) ∗ ((cred (tallyAt (cell c none) 0 3) ∗ pos c none 0) ∗ XS c ∗ bigSep Finset.univ fun st => Led c st 0 0 0 0) ∗ ops c x wq wqr wkr wo kv))
  have h3 := (tr_sigM (A := A) (K := K) c).frame (R := iprop(owE c (rowK c)
    ∗ ((cred (tallyAt (cell c none) 0 3) ∗ pos c none 0) ∗ XS c ∗ bigSep Finset.univ fun st => Led c st 0 0 0 0) ∗ ops c x wq wqr wkr wo kv))
  have h4 := (tr_bar (A := A) (K := K) c (fun _ => ⟨0, 0⟩) (fun _ => by unfold Above; dsimp only; omega)).frame
    (R := iprop((owE c (rowK c) ∗ XS c ∗ bigSep Finset.univ fun st => Led c st 0 0 0 0) ∗ ops c x wq wqr wkr wo kv))
  have h5 := (tr_xchg (A := A) (K := K) c _ hA).frame
    (R := iprop((pos c none 1 ∗ (bigSep Finset.univ fun st => barPay c st) ∗ bigSep Finset.univ fun st => Led c st 0 0 0 0) ∗ ops c x wq wqr wkr wo kv))
  have h6 := (tr_streams (A := A) (K := K) c).frame (R := iprop((pos c none 1 ∗ pos c xsI 1 ∗ pos c xrI 1) ∗ ops c x wq wqr wkr wo kv))
  have h7 := Tr.fin (c := c) (fin_all (A := A) (K := K) c x wq wqr wkr wo kv)
  rw [body_eq]
  refine Tr.bind (h1.conseq ?_ (BI.Entails.refl _)) (Tr.bind (h2.conseq ?_ (BI.Entails.refl _)) (Tr.bind (h3.conseq ?_ ?_) (Tr.rows c x wq wqr wkr wo kv
    (P := iprop(Ow c (owedS c 0 fun _ => ⟨0, 0⟩) ∗ owE c (rowK c) ∗ ((cred (tallyAt (cell c none) 0 3) ∗ pos c none 0) ∗ XS c ∗ bigSep Finset.univ fun st => Led c st 0 0 0 0)))
    (Tr.bind (h4.conseq ?_ (BI.Entails.refl _)) (Tr.bind (h5.conseq ?_ (BI.Entails.refl _)) (Tr.bind (h6.conseq ?_ (BI.Entails.refl _)) h7))))))
  · unfold BPre barTok
    iintro ⟨-, ⟨HO, ⟨HT0, HT1, HT2⟩, Hout⟩, HC, HX, HL, Hop⟩
    ihave H := (out_split c) $$ Hout
    icases H with ⟨⟨Hown, Hmir⟩, HB⟩
    ihave HB := (Entails.of_eq (bigSep_four (fun st => lent (F := F) c st))) $$ HB
    icases HB with ⟨H0, H1, H2, H3⟩
    isplitl [HO HT0 H2 H3]
    · isplitl [HO]; · iexact HO
      isplitl [HT0]; · iexact HT0
      isplitl [H2] <;> iassumption
    isplitl [HT1 H0 H1]
    · isplitl [HT1]; · iexact HT1
      isplitl [H0] <;> iassumption
    isplitl [HT2 Hmir]; · isplitl [HT2] <;> iassumption
    isplitl [Hown]; · iexact Hown
    isplitl [HC HX HL]
    · isplitl [HC]; · iexact HC
      isplitl [HX] <;> iassumption
    iexact Hop
  · iintro ⟨-, HO, ⟨H1, H2⟩, H3⟩
    isplitl [HO H1 H2]
    · isplitl [HO]; · iexact HO
      isplitl [H1] <;> iassumption
    · iexact H3
  · iintro ⟨-, HO, ⟨H1, H2⟩, H3⟩
    isplitl [HO H1 H2]
    · isplitl [HO]; · iexact HO
      isplitl [H1] <;> iassumption
    · iexact H3
  · iintro ⟨HO, H1, H2, H3⟩
    isplitr [H3]
    · isplitl [HO]; · iexact HO
      isplitl [H1] <;> iassumption
    · iexact H3
  · iintro ⟨-, ⟨HO, H1, HC, HX⟩, H3⟩
    isplitl [HO HC]
    · isplitl [HO] <;> iassumption
    isplitl [H1 HX]
    · isplitl [H1] <;> iassumption
    · iexact H3
  · iintro ⟨-, ⟨HO, HP, HB, HM⟩, ⟨H1, HX, HL⟩, H3⟩
    isplitl [HO H1 HM HX]
    · isplitl [HO]; · iexact HO
      isplitl [H1]; · iexact H1
      isplitl [HM] <;> iassumption
    isplitl [HP HB HL]
    · isplitl [HP]; · iexact HP
      isplitl [HB] <;> iassumption
    · iexact H3
  · iintro ⟨-, ⟨HO, HG, P1, P2⟩, ⟨P0, HB, HL⟩, H3⟩
    isplitl [HO HG HB HL]
    · isplitl [HO]; · iexact HO
      unfold SS
      rw [bigSep_sep' Finset.univ (fun st => Led (F := F) c st 0 0 0 0) (fun st => iprop(outs A c st 1 ∗ dnO c st 0)),
        bigSep_sep' Finset.univ (fun st => outs A c st 1) (fun st => dnO (F := F) c st 0)]
      isplitl [HL]; · iexact HL
      isplitl [HG]
      · iapply (bmono (Φ := fun st => ow c (outK st (lab st c 0)) (gch A st (lab st c 0))) (Ψ := fun st => outs A c st 1) fun st _ => Entails.of_eq (by
          unfold outs; rw [Finset.range_one, bigSep_singleton]))
        iexact HG
      · unfold dnO
        unfold barPay
        iexact HB
    isplitl [P0 P1 P2]
    · isplitl [P0]; · iexact P0
      isplitl [P1] <;> iassumption
    · iexact H3
end Whole

end Cert.AttnKernelIdeal.AG

end
-- ==== Proof.GDeal.lean ====
module

public import proofs.«01_k».proof.Proof.GBody
public import Idealize.ShloMosaic.Lib.Pipeline.Launch
public import Idealize.ShloMosaic.Lib.Pipeline.Kit

@[expose] public section

noncomputable section

/-! # What the launch mints, dealt to the devices that use it -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Cert.AttnKernelIdeal Cert.AttnKernelIdeal.Gen

variable {F : FTy → Type} [FloatOps F]

local notation "𝕄" => MT nD τ sig ℕ (Elt F) ℕ UU ℕ

variable {A : S1024x2048.Idx → Elt F .bf16} {K : Dev nD × Ci → ℕ}

theorem bsub {I : Type} [DecidableEq I] {s t : Finset I} {Φ : I → sProp 𝕄} (h : t ⊆ s) : iprop(bigSep s Φ) ⊢ iprop(bigSep t Φ) := bigSep_subset h
theorem belim {I : Type} [DecidableEq I] {s : Finset I} {Φ : I → sProp 𝕄} {i : I} (h : i ∈ s) : iprop(bigSep s Φ) ⊢ iprop(Φ i) := bigSep_elim h

/-! ## The tokens -/

def ringCells : Finset (GSem nD τ sig) := Finset.univ.map ⟨_, cell_injective⟩

/-- The duty named by a device's semaphore, a round and a payer. -/
abbrev tokOf (x : (Dev nD × Ci) × (Fin 15 × Fin 3)) : GSem nD τ sig × ℕ × Fin 3 := (cell x.1.1 x.1.2, x.2.1.val, x.2.2)
theorem tokOf_injective : Function.Injective tokOf := by
  rintro ⟨ci, r, d⟩ ⟨ci', r', d'⟩ h
  have h1 : ci = ci' := cell_injective (congrArg (fun x : GSem nD τ sig × ℕ × Fin 3 => x.1) h)
  have h2 : r = r' := Fin.ext (congrArg (fun x : GSem nD τ sig × ℕ × Fin 3 => x.2.1) h)
  have h3 : d = d' := congrArg (fun x : GSem nD τ sig × ℕ × Fin 3 => x.2.2) h
  rw [h1, h2, h3]
def ringToks : Finset (GSem nD τ sig × ℕ × Fin 3) := Finset.univ.map ⟨tokOf, tokOf_injective⟩

theorem bigSep_fin {M : Type _} [URA M] (n : ℕ) (Φ : ℕ → sProp M) :
    (bigSep (Finset.univ : Finset (Fin n)) fun r => Φ r.val) = bigSep (Finset.range n) Φ := by
  rw [show Finset.range n = (Finset.univ : Finset (Fin n)).map Fin.valEmbedding from by
    ext x; rw [Finset.mem_range, Finset.mem_map]
    exact ⟨fun h => ⟨⟨x, h⟩, Finset.mem_univ _, rfl⟩, fun ⟨y, _, h⟩ => h ▸ y.isLt⟩, bigSep_map]
  rfl

/-- The token of duty `d` of round `r` of a device's semaphore. -/
abbrev tok (c : Dev nD) (i : Ci) (r : ℕ) (d : Fin 3) : sProp 𝕄 := dutyTok ER (cell c i) r d

def toksAt (c : Dev nD) (i : Ci) : sProp 𝕄 := bigSep (Finset.range 15) fun r => bigSep Finset.univ fun d => tok c i r d
/-- The tokens of a device's own semaphores, as minted. -/
def toks (c : Dev nD) : sProp 𝕄 := bigSep Finset.univ fun i => toksAt c i

theorem ringToks_eq : bigSep ringToks (fun x => (dutyTok ER x.1 x.2.1 x.2.2 : sProp 𝕄)) = bigSep Finset.univ fun c : Dev nD => toks c := by
  unfold ringToks
  rw [bigSep_map, bigSep_univ_prod, bigSep_univ_prod]
  refine bigSep_congr fun c _ => ?_
  unfold toks
  refine bigSep_congr fun i _ => ?_
  unfold toksAt
  rw [bigSep_univ_prod, ← bigSep_fin]; rfl

/-- Uses of two slots, round by round, are uses one after the other. -/
theorem bigSep_slots {M : Type _} [URA M] (Φ : Fin 2 → ℕ → sProp M) (n : ℕ) :
    iprop((bigSep (Finset.range n) fun r => Φ 0 r) ∗ bigSep (Finset.range n) fun r => Φ 1 r)
      ⊢ bigSep (Finset.range (2 * n)) fun v => Φ (slot v) (v / 2) := by
  induction n with
  | zero => rw [show 2 * 0 = 0 from rfl, Finset.range_zero, bigSep_empty]; iintro ⟨-, -⟩; iempintro
  | succ n ih =>
    rw [show 2 * (n + 1) = 2 * n + 1 + 1 from by omega]
    simp only [bigSep_range_succ]
    have h0 : slot (2 * n) = 0 := by unfold slot; exact Fin.ext (by show 2 * n % 2 = 0; omega)
    have h1 : slot (2 * n + 1) = 1 := by unfold slot; exact Fin.ext (by show (2 * n + 1) % 2 = 1; omega)
    rw [h0, h1, show 2 * n / 2 = n from by omega, show (2 * n + 1) / 2 = n from by omega]
    iintro ⟨⟨Ha, Hb⟩, Hc, Hd⟩
    isplitl [Hc]; · iexact Hc
    isplitl [Ha]; · iexact Ha
    iapply ih
    isplitl [Hb] <;> iassumption

theorem toksAt_zero (c : Dev nD) (i : Ci) : toksAt (F := F) c i ⊢ bigSep (Finset.range 15) fun r => tok c i r 0 := by
  unfold toksAt
  exact bigSep_mono fun r _ => bigSep_elim (Finset.mem_univ (0 : Fin 3))
theorem toksAt_first (c : Dev nD) (i : Ci) : toksAt (F := F) c i ⊢ tok c i 0 0 :=
  (toksAt_zero c i).trans (bigSep_elim (Finset.mem_range.mpr (by decide)))
theorem toksAt_bar (c : Dev nD) (i : Ci) : toksAt (F := F) c i ⊢ iprop(tok c i 0 0 ∗ tok c i 0 1 ∗ tok c i 0 2) := by
  unfold toksAt
  refine (bigSep_elim (Φ := fun r => bigSep Finset.univ fun d => tok c i r d) (Finset.mem_range.mpr (show 0 < 15 by decide))).trans ?_
  exact Entails.of_eq (bigSep_univ_eq_bigSepL [0, 1, 2] (by decide) (by decide) _)

/-- The tokens of one stream's semaphores of a device. -/
def ownToks (c : Dev nD) (st : Fin 4) : sProp 𝕄 :=
  iprop((bigSep (Finset.range 15) fun v => tok c (sendI st v) (v / 2) 0) ∗ (bigSep (Finset.range 15) fun v => tok c (recvI st v) (v / 2) 0)
    ∗ bigSep (Finset.range 13) fun v => tok c (credI st v) (v / 2) 0)

theorem toks_stream (c : Dev nD) (st : Fin 4) : (bigSep Finset.univ fun j : J => toksAt (F := F) c (some (some (some (st, j))))) ⊢ ownToks c st := by
  rw [bigSep_J]
  unfold ownToks
  iintro ⟨S0, S1, R0, R1, C0, C1⟩
  isplitl [S0 S1]
  · iapply (bsub (F := F) (s := Finset.range (2 * 15)) (t := Finset.range 15) (Φ := fun v => tok (F := F) c (sendI st v) (v / 2) 0) (Finset.range_subset_range.mpr (by decide)))
    iapply (bigSep_slots (fun s r => tok (F := F) c (some (some (some (st, .send s)))) r 0) 15)
    isplitl [S0]
    · iapply (toksAt_zero c _); iexact S0
    · iapply (toksAt_zero c _); iexact S1
  isplitl [R0 R1]
  · iapply (bsub (F := F) (s := Finset.range (2 * 15)) (t := Finset.range 15) (Φ := fun v => tok (F := F) c (recvI st v) (v / 2) 0) (Finset.range_subset_range.mpr (by decide)))
    iapply (bigSep_slots (fun s r => tok (F := F) c (some (some (some (st, .recv s)))) r 0) 15)
    isplitl [R0]
    · iapply (toksAt_zero c _); iexact R0
    · iapply (toksAt_zero c _); iexact R1
  iapply (bsub (F := F) (s := Finset.range (2 * 15)) (t := Finset.range 13) (Φ := fun v => tok (F := F) c (credI st v) (v / 2) 0) (Finset.range_subset_range.mpr (by decide)))
  iapply (bigSep_slots (fun s r => tok (F := F) c (some (some (some (st, .cred s)))) r 0) 15)
  isplitl [C0]
  · iapply (toksAt_zero c _); iexact C0
  · iapply (toksAt_zero c _); iexact C1

theorem toks_own (c : Dev nD) : toks (F := F) c ⊢ iprop((tok c none 0 0 ∗ tok c none 0 1 ∗ tok c none 0 2) ∗ (tok c xrI 0 0 ∗ tok c xsI 0 0) ∗ bigSep Finset.univ fun st => ownToks c st) := by
  unfold toks
  rw [bigSep_Cx]
  iintro ⟨H0, H1, H2, H3⟩
  isplitl [H0]
  · iapply (toksAt_bar c none); iexact H0
  isplitl [H1 H2]
  · isplitl [H2]
    · iapply (toksAt_first c xrI); iexact H2
    · iapply (toksAt_first c xsI); iexact H1
  have h : iprop(bigSep Finset.univ fun st : Fin 4 => bigSep Finset.univ fun j : J => toksAt (F := F) c (some (some (some (st, j)))))
      ⊢ iprop(bigSep Finset.univ fun st => ownToks (F := F) c st) := bmono fun st _ => toks_stream c st
  iapply h; iexact H3

/-- The tokens a device pays with on one stream, and in the exchange. -/
def payTok1 (c : Dev nD) (st : Fin 4) : sProp 𝕄 := iprop(Tk c st 0 ∗ TkC c st 0)
def xTok (c : Dev nD) : sProp 𝕄 := iprop(dutyTok ER (cell (mir c) xrI) 0 0 ∗ dutyTok ER (cell c xsI) 0 0)
def payToks (c : Dev nD) : sProp 𝕄 := iprop(barTok c ∗ xTok c ∗ bigSep Finset.univ fun st => payTok1 c st)

def dnE (st : Fin 4) : Dev nD ≃ Dev nD := ⟨dn st, up st, up_dn st, dn_up st⟩
def mirE : Dev nD ≃ Dev nD := ⟨mir, mir, mir_mir, mir_mir⟩
def nxtE : Dev nD ≃ Dev nD := ⟨nxt, prv, prv_nxt, nxt_prv⟩

theorem ownToks_around (st : Fin 4) : (bigSep Finset.univ fun c : Dev nD => ownToks (F := F) c st) ⊢ bigSep Finset.univ fun c : Dev nD => payTok1 c st := by
  unfold ownToks payTok1 Tk TkC
  simp only [bigSep_sep', Finset.range_eq_Ico]
  rw [bigSep_univ_equiv (dnE st) (fun c : Dev nD => bigSep (Finset.Ico 0 15) fun v => tok (F := F) c (recvI st v) (v / 2) 0),
    bigSep_univ_equiv (dnE st).symm (fun c : Dev nD => bigSep (Finset.Ico 0 13) fun v => tok (F := F) c (credI st v) (v / 2) 0)]
  iintro ⟨HS, HR, HC⟩
  isplitl [HS HR]
  · isplitl [HR]
    · iexact HR
    · iexact HS
  iexact HC

theorem toks_around : (bigSep Finset.univ fun c : Dev nD => toks (F := F) c) ⊢ bigSep Finset.univ fun c : Dev nD => payToks c := by
  refine (bigSep_mono fun c _ => toks_own c).trans ?_
  have hB : (bigSep Finset.univ fun c : Dev nD => iprop(tok (F := F) c none 0 0 ∗ tok c none 0 1 ∗ tok c none 0 2)) ⊢ bigSep Finset.univ fun c : Dev nD => barTok c := by
    unfold barTok
    simp only [bigSep_sep']
    rw [bigSep_univ_equiv nxtE (fun c : Dev nD => tok (F := F) c none 0 0),
      bigSep_univ_equiv nxtE.symm (fun c : Dev nD => tok (F := F) c none 0 1),
      bigSep_univ_equiv mirE (fun c : Dev nD => tok (F := F) c none 0 2)]
    exact BI.Entails.refl _
  have hS : (bigSep Finset.univ fun c : Dev nD => bigSep Finset.univ fun st => ownToks (F := F) c st) ⊢ bigSep Finset.univ fun c : Dev nD => bigSep Finset.univ fun st => payTok1 c st := by
    rw [bigSep_univ_comm (fun (c : Dev nD) st => ownToks (F := F) c st), bigSep_univ_comm (fun (c : Dev nD) st => payTok1 (F := F) c st)]
    exact bmono fun st _ => ownToks_around st
  have hX : (bigSep Finset.univ fun c : Dev nD => iprop(tok (F := F) c xrI 0 0 ∗ tok c xsI 0 0)) ⊢ bigSep Finset.univ fun c : Dev nD => xTok c := by
    unfold xTok
    simp only [bigSep_sep']
    rw [bigSep_univ_equiv mirE (fun c : Dev nD => tok (F := F) c xrI 0 0)]
    exact BI.Entails.refl _
  unfold payToks
  rw [bigSep_sep' Finset.univ (fun c : Dev nD => iprop(tok (F := F) c none 0 0 ∗ tok c none 0 1 ∗ tok c none 0 2)), bigSep_sep' Finset.univ (fun c : Dev nD => barTok (F := F) c),
    bigSep_sep' Finset.univ (fun c : Dev nD => iprop(tok (F := F) c xrI 0 0 ∗ tok c xsI 0 0)), bigSep_sep' Finset.univ (fun c : Dev nD => xTok (F := F) c)]
  exact esep hB (esep hX hS)

/-! ## The credits -/

/-- The credit a device starts one stream with. -/
def cred1 (c : Dev nD) (st : Fin 4) : sProp 𝕄 := iprop(CrR c st 0 ∗ CrK c st 0)

theorem cred_stream (c : Dev nD) (st : Fin 4) : (Pipeline.launchCred (fun d => owed1 d st ⟨0, 0⟩) c : sProp 𝕄) ⊢ cred1 c st := by
  have hR (v : ℕ) : (Pipeline.launchCred (fun d => recvT d st v) c : sProp 𝕄) ⊢ cred (tallyAt (cell c (recvI st v)) v N) :=
    Pipeline.launchCred_tallyAt (csem (recvI st v)) (dn st) (up st) (dn_up st) (up_dn st) v N c
  have hC (v : ℕ) : (Pipeline.launchCred (fun d => credT d st v) c : sProp 𝕄) ⊢ cred (tallyAt (cell c (credI st v)) v 1) :=
    Pipeline.launchCred_tallyAt (csem (credI st v)) (up st) (dn st) (up_dn st) (dn_up st) v 1 c
  unfold owed1 cred1 CrR CrK
  dsimp only
  rw [Pipeline.launchCred_add (fun d => ∑ v ∈ Finset.Ico 0 15, recvT d st v) (fun d => ∑ v ∈ Finset.Ico 0 13, credT d st v) c,
    Pipeline.launchCred_sum (Finset.Ico 0 15) (fun v d => recvT d st v) c, Pipeline.launchCred_sum (Finset.Ico 0 13) (fun v d => credT d st v) c]
  exact esep (bmono fun v _ => hR v) (bmono fun v _ => hC v)

theorem cred_x (c : Dev nD) : (Pipeline.launchCred (fun d => owedX d 0) c : sProp 𝕄) ⊢ cred (tallyAt (cell c xrI) 0 NR) := by
  have hX : (Pipeline.launchCred (fun d => xT d) c : sProp 𝕄) ⊢ cred (tallyAt (cell c xrI) 0 NR) :=
    Pipeline.launchCred_tallyAt (csem xrI) mir mir mir_mir mir_mir 0 NR c
  unfold owedX
  rw [Pipeline.launchCred_sum (Finset.Ico 0 1) (fun _ d => xT d) c]
  refine etr (bmono fun _ _ => hX) ?_
  iintro H
  iapply (belim (F := F) (Φ := fun _ : ℕ => cred (tallyAt (cell c xrI) 0 NR)) (s := Finset.Ico 0 1) (i := 0) (by decide)); iexact H

theorem cred_S (c : Dev nD) : (Pipeline.launchCred (fun d => owedS d 0 fun _ => ⟨0, 0⟩) c : sProp 𝕄)
    ⊢ iprop(cred (tallyAt (cell c xrI) 0 NR) ∗ bigSep Finset.univ fun st => cred1 c st) := by
  unfold owedS
  rw [Pipeline.launchCred_add (fun d => owedX d 0) (fun d => ∑ st, owed1 d st ⟨0, 0⟩) c,
    Pipeline.launchCred_sum Finset.univ (fun st d => owed1 d st ⟨0, 0⟩) c]
  exact esep (cred_x c) (bmono fun st _ => cred_stream c st)

theorem creds (c : Dev nD) : (Pipeline.launchCred owed0 c : sProp 𝕄) ⊢ iprop(cred (tallyAt (cell c none) 0 3) ∗ cred (tallyAt (cell c xrI) 0 NR) ∗ bigSep Finset.univ fun st => cred1 c st) := by
  have hB (f g : Dev nD → Dev nD) (h1 : ∀ c, f (g c) = c) (h2 : ∀ c, g (f c) = c) :
      (Pipeline.launchCred (fun d => barT (f d)) c : sProp 𝕄) ⊢ cred (tallyAt (cell c none) 0 1) :=
    Pipeline.launchCred_tallyAt (csem none) f g h1 h2 0 1 c
  have h0 : (fun d => owed0 d) = fun d => (((owedS d 0 (fun _ => ⟨0, 0⟩) + barT (mir d)) + barT (prv d)) + barT (nxt d)) := rfl
  show (Pipeline.launchCred (fun d => owed0 d) c : sProp 𝕄) ⊢ _
  rw [h0]
  rw [Pipeline.launchCred_add (fun d => owedS d 0 (fun _ => ⟨0, 0⟩) + barT (mir d) + barT (prv d)) (fun d => barT (nxt d)) c,
    Pipeline.launchCred_add (fun d => owedS d 0 (fun _ => ⟨0, 0⟩) + barT (mir d)) (fun d => barT (prv d)) c,
    Pipeline.launchCred_add (fun d => owedS d 0 fun _ => ⟨0, 0⟩) (fun d => barT (mir d)) c]
  refine etr (esep (esep (esep (cred_S c) (hB mir mir mir_mir mir_mir))
    (hB prv nxt prv_nxt nxt_prv)) (hB nxt prv nxt_prv prv_nxt)) ?_
  rw [show (tallyAt (cell c none) 0 3 : CellTallies nD τ sig ℕ) = tallyAt (cell c none) 0 1 + tallyAt (cell c none) 0 1 + tallyAt (cell c none) 0 1 from by
    rw [tallyAt_add, tallyAt_add]]
  iintro ⟨⟨⟨H1, H2⟩, H3⟩, H4⟩
  isplitl [H2 H3 H4]
  · iapply (cred_add _ _).2
    isplitl [H2 H3]
    · iapply (cred_add _ _).2
      isplitl [H2] <;> iassumption
    · iexact H4
  · iexact H1

/-! ## A stream's start -/

theorem seeds_start (c : Dev nD) (st : Fin 4) :
    iprop((bigSep Finset.univ fun j : J => pos (F := F) c (some (some (some (st, j)))) 0) ∗ payTok1 c st ∗ cred1 c st) ⊢ Led c st 0 0 0 0 := by
  rw [bigSep_J]
  unfold payTok1 cred1 Led pos2
  iintro ⟨⟨S0, S1, R0, R1, C0, C1⟩, ⟨T, TC⟩, CR, CK⟩
  isplitl [T]; · iexact T
  isplitl [CR]; · iexact CR
  isplitl [TC]; · iexact TC
  isplitl [CK]; · iexact CK
  isplitl [S0 S1]
  · isplitl [S0]
    · iexact S0
    · iexact S1
  isplitl [R0 R1]
  · isplitl [R0]
    · iexact R0
    · iexact R1
  isplitl [C0]
  · iexact C0
  · iexact C1

end Cert.AttnKernelIdeal.AG

end
-- ==== Proof.GLaunch.lean ====
module

public import proofs.«01_k».proof.Proof.GDeal
public import proofs.«01_k».proof.Proof.Gen.AttnKernelIdeal.Launch
public import proofs.«01_k».proof.Proof.Gen.AttnKernelIdeal.Points
public import Idealize.ShloMosaic.Lib.Tactic
public import Idealize.ShloMosaic.Lib.Pipeline.CollectiveSegs

@[expose] public section

noncomputable section

/-! # The launch on all thirty-two devices -/

namespace Cert.AttnKernelIdeal.AG

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.AttnKernelIdeal Cert.AttnKernelIdeal.Gen

variable {F : FTy → Type} [FloatOps F]

local notation "𝕄" => MT nD τ sig ℕ (Elt F) ℕ UU ℕ

attribute [local irreducible] Tr

variable (m : (ℓ : Loc nD τ sig) → Buf (Elt F) ℓ) (ρ : Dev nD → PrngReg)

def s₀ : MemSt nD τ sig (Elt F) := ⟨m, fun _ => 0, ρ⟩

/-! ## What the launch stages, and what each device's product is -/

def xin (c : Dev nD) : Vec F S1024x2048 .f32 := (win0_0.blk (0 : Fin 1)).view.read (Elt F) ((s₀ m ρ).mem ((c : Thread nD τ).loc main_arg0))
def wqin (c : Dev nD) : Vec F S2048x2048 .f32 := (win0_1.blk (0 : Fin 1)).view.read (Elt F) ((s₀ m ρ).mem ((c : Thread nD τ).loc main_arg1))
def wqrin (c : Dev nD) : Vec F S2048x512 .f32 := (win0_2.blk (0 : Fin 1)).view.read (Elt F) ((s₀ m ρ).mem ((c : Thread nD τ).loc main_arg2))
def wkrin (c : Dev nD) : Vec F S2048x32 .f32 := (win0_3.blk (0 : Fin 1)).view.read (Elt F) ((s₀ m ρ).mem ((c : Thread nD τ).loc main_arg3))
def woin (c : Dev nD) : Vec F S2048x2048 .f32 := (win0_4.blk (0 : Fin 1)).view.read (Elt F) ((s₀ m ρ).mem ((c : Thread nD τ).loc main_arg4))
def kvin (c : Dev nD) : Vec F S1024x4096 .bf16 := (win0_5.blk (0 : Fin 1)).view.read (Elt F) ((s₀ m ρ).mem ((c : Thread nD τ).loc main_arg5))
/-- A device's rows of the result. -/
def rowIn (c : Dev nD) : Vec F S32x2048 .bf16 := (truncf .bf16 (rowVal c (xin m ρ c) (wqin m ρ c) (wqrin m ρ c) (wkrin m ρ c) (woin m ρ c) (kvin m ρ c)) bitsLt_bf16_f32 : FVec F S32x2048 .bf16)
/-- The result: every device's rows, on every device. -/
def Ain : S1024x2048.Idx → Elt F .bf16 := rowsOf (rowIn m ρ)
theorem Ain_row (c : Dev nD) : grow (Ain m ρ) c = rowIn m ρ c := rowsOf_spec _ c

/-- What a device starts with. -/
def start (c : Dev nD) : sProp 𝕄 :=
  iprop((∃ K : Dev nD × Ci → ℕ, recs (Ain m ρ) K) ∗ (bigSep Finset.univ fun i : Ci => atPos ER (cell c i) 0 ∅ 0) ∗ payToks c
    ∗ cred (tallyAt (cell c none) 0 3) ∗ cred (tallyAt (cell c xrI) 0 NR) ∗ bigSep Finset.univ fun st => cred1 c st)
def Φ₀ (c : Dev nD) : sProp 𝕄 := start m ρ c
def Φ₁ (c : Dev nD) : sProp 𝕄 := bigSep Finset.univ fun i : Ci => semVal (cell c i) 0

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xin m ρ c
    | ⟨1, _⟩ => wqin m ρ c
    | ⟨2, _⟩ => wqrin m ρ c
    | ⟨3, _⟩ => wkrin m ρ c
    | ⟨4, _⟩ => woin m ρ c
    | ⟨5, _⟩ => kvin m ρ c
    | ⟨6, _⟩ => Ain m ρ
  Φ t := match t with
    | ⟨0, _⟩ => Φ₀ m ρ c
    | ⟨_ + 1, _⟩ => Φ₁ c
  q _ := fullShare
  owed t := match t with
    | ⟨0, _⟩ => owed0 c
    | ⟨_ + 1, _⟩ => 0

/-! ## The body -/

theorem pos_start {A : S1024x2048.Idx → Elt F .bf16} {K : Dev nD × Ci → ℕ} (c : Dev nD) :
    iprop(recs A K ∗ bigSep Finset.univ fun i : Ci => atPos ER (cell c i) 0 ∅ 0)
      ⊢ iprop(pos c none 0 ∗ pos c xsI 0 ∗ pos c xrI 0 ∗ bigSep Finset.univ fun st => bigSep Finset.univ fun j : J => pos (F := F) c (some (some (some (st, j)))) 0) := by
  refine etr (bigSep_wp (R := recs A K) (Ψ := fun i : Ci => pos c i 0) fun i _ => ?_) (Entails.of_eq (bigSep_Cx _))
  unfold pos
  iintro ⟨#Hr, H⟩
  isplitl [H]; · iexact H
  iapply (recs_reached A K c i); iexact Hr

theorem seeds (c : Dev nD) :
    iprop((bigSep Finset.univ fun st => bigSep Finset.univ fun j : J => pos (F := F) c (some (some (some (st, j)))) 0)
        ∗ (bigSep Finset.univ fun st => payTok1 c st) ∗ bigSep Finset.univ fun st => cred1 c st)
      ⊢ bigSep Finset.univ (fun st => Led (F := F) c st 0 0 0 0) := by
  refine etr ?_ (bmono fun st _ => seeds_start c st)
  rw [bigSep_sep', bigSep_sep']

def bodyPre' (c : Dev nD) : sProp 𝕄 :=
  iprop(Φ₀ m ρ c ∗ (dats m ρ 0 c).owesAt 0 t0_0.castSucc
    ∗ (∃ d, ow c xM ((dats m ρ 0 c).before (0 : Fin 7) t0_0 d))
    ∗ (∃ d, ow c wqM ((dats m ρ 0 c).before (1 : Fin 7) t0_0 d))
    ∗ (∃ d, ow c wqrM ((dats m ρ 0 c).before (2 : Fin 7) t0_0 d))
    ∗ (∃ d, ow c wkrM ((dats m ρ 0 c).before (3 : Fin 7) t0_0 d))
    ∗ (∃ d, ow c woM ((dats m ρ 0 c).before (4 : Fin 7) t0_0 d))
    ∗ (∃ d, ow c kvM ((dats m ρ 0 c).before (5 : Fin 7) t0_0 d))
    ∗ (∃ d, ow c outM ((dats m ρ 0 c).before (6 : Fin 7) t0_0 d)))
def bodyPost (c : Dev nD) : sProp 𝕄 :=
  iprop(Φ₁ c ∗ (dats m ρ 0 c).owesAt 0 t0_0.succ ∗ ow c xM (xin m ρ c) ∗ ow c wqM (wqin m ρ c) ∗ ow c wqrM (wqrin m ρ c) ∗ ow c wkrM (wkrin m ρ c) ∗ ow c woM (woin m ρ c) ∗ ow c kvM (kvin m ρ c)
    ∗ ow c outM (Ain m ρ))

theorem before_0 (c : Dev nD) (d) : (dats m ρ 0 c).before (0 : Fin 7) t0_0 d = xin m ρ c := by unfold Dat.before; rw [if_pos (fetch0_0 t0_0)]; rfl
theorem before_1 (c : Dev nD) (d) : (dats m ρ 0 c).before (1 : Fin 7) t0_0 d = wqin m ρ c := by unfold Dat.before; rw [if_pos (fetch0_1 t0_0)]; rfl
theorem before_2 (c : Dev nD) (d) : (dats m ρ 0 c).before (2 : Fin 7) t0_0 d = wqrin m ρ c := by unfold Dat.before; rw [if_pos (fetch0_2 t0_0)]; rfl
theorem before_3 (c : Dev nD) (d) : (dats m ρ 0 c).before (3 : Fin 7) t0_0 d = wkrin m ρ c := by unfold Dat.before; rw [if_pos (fetch0_3 t0_0)]; rfl
theorem before_4 (c : Dev nD) (d) : (dats m ρ 0 c).before (4 : Fin 7) t0_0 d = woin m ρ c := by unfold Dat.before; rw [if_pos (fetch0_4 t0_0)]; rfl
theorem before_5 (c : Dev nD) (d) : (dats m ρ 0 c).before (5 : Fin 7) t0_0 d = kvin m ρ c := by unfold Dat.before; rw [if_pos (fetch0_5 t0_0)]; rfl

theorem body_pre (K : Dev nD × Ci → ℕ) (c : Dev nD) :
    iprop(recs (Ain m ρ) K ∗ ((bigSep Finset.univ fun i : Ci => atPos ER (cell c i) 0 ∅ 0) ∗ payToks c
        ∗ cred (tallyAt (cell c none) 0 3) ∗ cred (tallyAt (cell c xrI) 0 NR) ∗ bigSep Finset.univ fun st => cred1 c st) ∗ Ow c (owed0 c)
        ∗ ops c (xin m ρ c) (wqin m ρ c) (wqrin m ρ c) (wkrin m ρ c) (woin m ρ c) (kvin m ρ c) ∗ owE c outM)
      ⊢ BPre c (xin m ρ c) (wqin m ρ c) (wqrin m ρ c) (wkrin m ρ c) (woin m ρ c) (kvin m ρ c) := by
  unfold payToks BPre XS xTok
  iintro ⟨#Hr, ⟨Hat, ⟨HB, HTX, HT⟩, HC, HCX, HCs⟩, HO, HX, HY⟩
  ihave HP := (pos_start (A := Ain m ρ) (K := K) c) $$ [Hat]
  · isplitr; · iexact Hr
    iexact Hat
  icases HP with ⟨HP, HP1, HP2, HPs⟩
  isplitl [HO HB HY]
  · isplitl [HO]; · iexact HO
    isplitl [HB] <;> iassumption
  isplitl [HC HP]; · isplitl [HC] <;> iassumption
  isplitl [HTX HCX HP1 HP2]
  · isplitl [HTX]; · iexact HTX
    isplitl [HCX]; · iexact HCX
    isplitl [HP1] <;> iassumption
  isplitl [HPs HT HCs]
  · iapply (seeds c)
    isplitl [HPs]; · iexact HPs
    isplitl [HT] <;> iassumption
  · iexact HX

theorem body_run (c : Dev nD) : bodyPre' m ρ c ⊢ WP c (bodyAt0 t0_0) (fun _ => bodyPost m ρ c) := by
  rw [printed_eq]
  show _ ⊢ wp frame (wpE (defs₀ (F := F)) 𝒱₀ (c : Thread nD τ) none) Set.univ (.op .deviceId fun d : Dev nD => body (offs d) d) (fun _ => bodyPost m ρ c)
  rw [wp_deviceId]
  unfold bodyPre' Φ₀ start
  iintro ⟨⟨⟨%K, #Hr⟩, Hst⟩, Ho, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4, before_5]
  iapply (Tr.wp (tr_body (A := Ain m ρ) (K := K) c (xin m ρ c) (wqin m ρ c) (wqrin m ρ c) (wkrin m ρ c) (woin m ρ c) (kvin m ρ c) (Ain_row m ρ c)) (fun _ => bodyPost m ρ c))
  isplitr; · iexact Hr
  isplitl
  · iapply (body_pre m ρ K c)
    isplitr; · iexact Hr
    isplitl [Hst]; · iexact Hst
    isplitl [Ho]
    · unfold Dat.owesAt Pipeline.owesWithin
      icases Ho with ⟨%W, %hW, HO⟩
      unfold Ow; iexists W; iexact HO
    isplitr [H6]
    · unfold ops
      isplitl [H0]; · iexact H0
      isplitl [H1]; · iexact H1
      isplitl [H2]; · iexact H2
      isplitl [H3]; · iexact H3
      isplitl [H4]; · iexact H4
      iexact H5
    iexists _; iexact H6
  · unfold BPost bodyPost Φ₁ Ow ops
    iintro ⟨⟨%W, HO⟩, ⟨H0, H1, H2, H3, H4, H5⟩, H6, Hz⟩
    isplitl [Hz]; · iexact Hz
    isplitl [HO]
    · unfold Dat.owesAt Pipeline.owesWithin
      iexists W
      isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    iexact H6

theorem bigSep_W (Φ : Fin cfg0.W → sProp 𝕄) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) := bigSep_W0 Φ

set_option maxRecDepth 100000 in
theorem body_obligation (c : Dev nD) : BodyObligation (dats (F := F) m ρ 0 c) (defs₀ (F := F)) 𝒱₀ 0 Set.univ := fun t => by
  rw [fin_N0 t]
  rw [bigSep_W, bigSep_W]
  simp only []
  exact body_run m ρ c

/-! ## The launch -/

/-- The semaphores the kernel declares. -/
abbrev osem (p : Option (Option (Fin 4 × J))) : SemLoc sig := csem (some p)

theorem ownSemFacts : Pipeline.OwnSemFacts cfg0.spec osem where
  isScoped := by decide +kernel
  inj := fun a b h => Option.some.inj (csem_injective h)
  disj := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf ringCells ringToks)

/-- What the launch deals a device … -/
def G (c : Dev nD) : sProp 𝕄 :=
  iprop((bigSep Finset.univ fun i : Ci => roundState ER (ringRd (Ain m ρ)) (cell c i) 0)
    ∗ (bigSep Finset.univ fun i : Ci => iprop(atPos ER (cell c i) 0 ∅ 0 ∗ reached ER (cell c i) 0)) ∗ toks c)

def records (K : Dev nD × Ci → ℕ) : sProp 𝕄 :=
  iprop((bigSep Finset.univ fun ci : Dev nD × Ci => cellInv ER (ringRd (Ain m ρ)) (K ci) (cell ci.1 ci.2))
    ∗ bigSep Finset.univ fun ci : Dev nD × Ci => reached ER (cell ci.1 ci.2) 0)
instance records_persistent (K : Dev nD × Ci → ℕ) : BI.Persistent (records m ρ K) := by unfold records; infer_instance

/-- … and what the first step makes of it. -/
def G' (c : Dev nD) : sProp 𝕄 :=
  iprop(∃ K : Dev nD × Ci → ℕ, records m ρ K ∗ (bigSep Finset.univ fun i : Ci => atPos ER (cell c i) 0 ∅ 0) ∗ payToks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Ci => Φ (cell c i) := by
    unfold ringCells; rw [bigSep_map, bigSep_univ_prod]; rfl
  iintro HX
  imod (Rounds.fund ER (ringRd (Ain m ρ)) ringCells ringToks) $$ HX with ⟨Hst, Hr, Hat, Htok⟩
  imodintro
  ihave Hst' := (Entails.of_eq (hX fun g => roundState ER (ringRd (Ain m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq (ringToks_eq (F := F))) $$ Htok
  unfold G
  simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (cell c none) 0 := by
  unfold unscopedSems0; rw [bigSep_eq_bigSepL_of_eq [SemLoc.reg barSem] (by decide +kernel) (by decide +kernel)]; rfl

theorem sems0_eq (c : Dev nD) : (bigSep Finset.univ fun i : Ci => semVal (cell c i) 0 : sProp 𝕄)
    = iprop(unscopedSems0 c ∗ Pipeline.ownSems0 (Ix := ℕ) (Name := ℕ) (U := UU) (Lvl := ℕ) (Val := Elt F) (τ := τ) osem c) := by
  rw [bigSep_opt, unscopedSems0_eq]; rfl

theorem cells_alloc (c : Dev nD) :
    iprop((bigSep Finset.univ fun i : Ci => semVal (cell c i) 0) ∗ bigSep Finset.univ fun i : Ci => roundState ER (ringRd (Ain m ρ)) (cell c i) 0)
      ⊢ (|={Set.univ}=> bigSep Finset.univ fun i : Ci => iprop(∃ κ : ℕ, cellInv ER (ringRd (Ain m ρ)) κ (cell c i)) : sProp 𝕄) := by
  rw [← bigSep_sep']
  exact (bigSep_mono fun i _ => (Rounds.body_intro ER (ringRd (Ain m ρ)) (cell c i)).trans inv_alloc).trans (bigSep_fupd _ _)

theorem core_alloc (c : Dev nD) :
    iprop(Pipeline.ownSems0 (Ix := ℕ) (Name := ℕ) (U := UU) (Lvl := ℕ) (Val := Elt F) (τ := τ) osem c ∗ unscopedSems0 c ∗ G m ρ c)
      ⊢ |={Set.univ}=> iprop((bigSep Finset.univ fun i : Ci => iprop(∃ κ : ℕ, cellInv ER (ringRd (Ain m ρ)) κ (cell c i)))
          ∗ (bigSep Finset.univ fun i : Ci => iprop(atPos ER (cell c i) 0 ∅ 0 ∗ reached ER (cell c i) 0)) ∗ toks c) := by
  unfold G
  iintro ⟨Hos, Hus, Hst, Hat, Htok⟩
  ihave Hv := (Entails.of_eq (sems0_eq (F := F) c).symm) $$ [Hos Hus]
  · isplitl [Hus] <;> iassumption
  imod (cells_alloc m ρ c) $$ [Hv Hst] with Hinv
  · isplitl [Hv] <;> iassumption
  imodintro
  isplitl [Hinv]; · iexact Hinv
  isplitl [Hat]; · iexact Hat
  iexact Htok

theorem ghost_intro (K : Dev nD × Ci → ℕ) (c : Dev nD) :
    iprop(records m ρ K ∗ ((bigSep Finset.univ fun i : Ci => atPos ER (cell c i) 0 ∅ 0) ∗ payToks c)) ⊢ G' m ρ c := by
  unfold G'
  iintro ⟨#HR, Hl⟩
  iexists K
  isplitr; · iexact HR
  iexact Hl

theorem regather :
    (bigSep Finset.univ fun c : Dev nD => iprop((bigSep Finset.univ fun i : Ci => iprop(∃ κ : ℕ, cellInv ER (ringRd (Ain m ρ)) κ (cell c i)))
          ∗ (bigSep Finset.univ fun i : Ci => iprop(atPos ER (cell c i) 0 ∅ 0 ∗ reached ER (cell c i) 0)) ∗ toks c) : sProp 𝕄)
      ⊢ bigSep Finset.univ (G' m ρ) := by
  rw [bigSep_sep', bigSep_sep', ← bigSep_univ_prod (fun ci : Dev nD × Ci => iprop(∃ κ : ℕ, cellInv ER (ringRd (Ain m ρ)) κ (cell ci.1 ci.2))),
    bigSep_congr (s := Finset.univ) (fun (c : Dev nD) _ => bigSep_sep' Finset.univ (fun i : Ci => (atPos ER (cell c i) 0 ∅ 0 : sProp 𝕄)) (fun i => reached ER (cell c i) 0)),
    bigSep_sep', ← bigSep_univ_prod (fun ci : Dev nD × Ci => (reached ER (cell ci.1 ci.2) 0 : sProp 𝕄))]
  iintro ⟨HI, ⟨Hat, #HR⟩, Htok⟩
  ihave HK := (BI.bigSep_exists_pi Finset.univ (fun (ci : Dev nD × Ci) (κ : ℕ) => (cellInv ER (ringRd (Ain m ρ)) κ (cell ci.1 ci.2) : sProp 𝕄))) $$ HI
  icases HK with ⟨%K, #HI⟩
  ihave Htk := (toks_around (F := F)) $$ Htok
  iapply (bigSep_wp (R := records m ρ K) fun c _ => ghost_intro m ρ K c)
  isplitr
  · unfold records; isplitl; · iexact HI
    iexact HR
  · rw [bigSep_sep']
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regather m ρ))

/-! ### The theorem's side conditions -/

theorem start_intro (c : Dev nD) :
    iprop(Pipeline.unscopedRestP Pipeline.Prefetch.none cfg0.spec c (fun b => m ((c : Thread nD τ).loc b)) ∗ levAts Lx lv
        ∗ Pipeline.launchCred owed0 c ∗ prngReg c (ρ c) ∗ G' m ρ c)
      ⊢ |={Set.univ}=> iprop(start m ρ c ∗ emp) := by
  iintro ⟨-, Hlev, Hcr, -, HG⟩
  ihave Hc := (creds (F := F) c) $$ Hcr
  unfold G' records
  icases HG with ⟨%K, ⟨HI, HR⟩, Hat, Htok⟩
  imodintro
  unfold start recs
  isplitl
  · isplitl [HI HR Hlev]
    · iexists K
      isplitl [HI]; · iexact HI
      isplitl [HR] <;> iassumption
    isplitl [Hat]; · iexact Hat
    isplitl [Htok]; · iexact Htok
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, -⟩
  iexact Hs

theorem rest_emp (c : Dev nD) : (Pipeline.scopedRest cfg0.spec c : sProp 𝕄) = iprop(emp) := scopedRest0_eq c

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [rest_emp, sems0_eq]
  iintro ⟨Hu, Ho⟩
  isplitl [Hu]; · iexact Hu
  isplitl [Ho]; · iexact Ho
  iempintro

theorem owed0_pos {c : Dev nD} {g : GSem nD τ sig} {u : ℕ} (h : 0 < owed0 c g u) : u ∈ Lx g ∧ 0 < lv g u := by
  unfold owed0 at h
  rw [Pi.add_apply, Finsupp.add_apply, Pi.add_apply, Finsupp.add_apply, Pi.add_apply, Finsupp.add_apply] at h
  have key : 0 < owedS c 0 (fun _ => ⟨0, 0⟩) g u ∨ 0 < barT (mir c) g u ∨ 0 < barT (prv c) g u ∨ 0 < barT (nxt c) g u := by omega
  rcases key with h | h | h | h
  · exact owed_pos (n := 0) (.inr (by omega)) (fun _ => by unfold Above; dsimp only; omega) h
  all_goals
    obtain ⟨rfl, rfl⟩ := tally_pos h
    exact ⟨by unfold Lx; rw [if_pos rfl, Finset.mem_range]; decide, by rw [lv_cell]; decide⟩

theorem lv_other (c : Dev nD) (q : DmaSem sig) (hq : ∀ i : Ci, csem i ≠ .dma q) : lv ((c : Thread nD τ), .dma q) 0 = 0 := by
  unfold lv dec
  rw [dif_neg fun ⟨i, h⟩ => hq i h]

theorem mayWait_stage (c : Dev nD) (q : DmaSem sig) (hq : ∀ i : Ci, csem i ≠ .dma q) (O : CellTallies nD τ sig ℕ) (hO : O = owed0 c ∨ O = 0) :
    (levAts Lx lv : sProp 𝕄) ⊢ MayWait (c : Thread nD τ) (.dma q) 0 O := by
  rcases hO with rfl | rfl
  · exact MayOwe.of_cut (L := Lx) (lev := lv) 0
      (fun p hp => by rw [Finset.mem_singleton.mp hp]; unfold Lx; rw [if_pos rfl, Finset.mem_range]; show 0 < 30; decide)
      (fun g u hg => (owed0_pos hg).1)
      (fun p hp => by rw [Finset.mem_singleton.mp hp]; exact (lv_other c q hq).le)
      (fun g u hg => (owed0_pos hg).2)
  · rw [MayWait_zero]; iintro -; iempintro

theorem stage_ne : ∀ (w : Fin 7) (s : Fin (spec0 w).nbuf) (i : Ci), csem i ≠ .dma ((spec0 w).sem s) := by decide +kernel

theorem waits (c : Dev nD) : (levAts Lx lv : sProp 𝕄) ⊢ Pipeline.cellsWaits cfgs (dats m ρ) 0 0 c :=
  Pipeline.cellsWaits_intro cfgs (dats m ρ) 0 0 c fun w s t =>
    mayWait_stage c _ (stage_ne w s) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- Every weakly fair execution on the thirty-two devices ends with each device's arrays as computed and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed0) (howed₀ := fun _ => rfl) (howedN := fun _ => rfl)
    (L := Lx) (lv := lv) (hL := fun g h => if_neg h) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ### The arrays at the end -/

theorem finalA_0 (c : Dev nD) : finalA m ρ c (0 : Fin 7) = (s₀ m ρ).mem (win0_0.arr.view.loc (c : Thread nD τ)) := (dats m ρ 0 c).arrAt_in (0 : Fin 7) rfl _
theorem finalA_1 (c : Dev nD) : finalA m ρ c (1 : Fin 7) = (s₀ m ρ).mem (win0_1.arr.view.loc (c : Thread nD τ)) := (dats m ρ 0 c).arrAt_in (1 : Fin 7) rfl _
theorem finalA_2 (c : Dev nD) : finalA m ρ c (2 : Fin 7) = (s₀ m ρ).mem (win0_2.arr.view.loc (c : Thread nD τ)) := (dats m ρ 0 c).arrAt_in (2 : Fin 7) rfl _
theorem finalA_3 (c : Dev nD) : finalA m ρ c (3 : Fin 7) = (s₀ m ρ).mem (win0_3.arr.view.loc (c : Thread nD τ)) := (dats m ρ 0 c).arrAt_in (3 : Fin 7) rfl _
theorem finalA_4 (c : Dev nD) : finalA m ρ c (4 : Fin 7) = (s₀ m ρ).mem (win0_4.arr.view.loc (c : Thread nD τ)) := (dats m ρ 0 c).arrAt_in (4 : Fin 7) rfl _
theorem finalA_5 (c : Dev nD) : finalA m ρ c (5 : Fin 7) = (s₀ m ρ).mem (win0_5.arr.view.loc (c : Thread nD τ)) := (dats m ρ 0 c).arrAt_in (5 : Fin 7) rfl _

end Cert.AttnKernelIdeal.AG

end
-- ==== Proof.GFrames.lean ====
module

public import proofs.«01_k».proof.Defs
public import proofs.«01_k».proof.Proof.GLaunch
public import proofs.«01_k».proof.Proof.Gen.AttnKernel
public import proofs.«01_k».proof.Proof.Gen.AttnReferenceIdeal
public import proofs.«01_k».proof.Proof.Gen.AttnReferenceIdeal.Run
public import Idealize.ShloMosaic.Adequacy
public import Idealize.ShloMosaic.Init
public import Idealize.ShloMosaic.Lib.Tactic

@[expose] public section

noncomputable section

/-! # Every program runs, leaves its arguments as they were and every semaphore at zero -/

namespace Cert.Proof

open Idealize.ShloMosaic Idealize.ShloMosaic.TcCoe Idealize.SL.Sem
open Cert.AttnKernelIdeal.AG (finalA_0 finalA_1 finalA_2 finalA_3 finalA_4 finalA_5 run_main)

variable {F : FTy → Type} [FloatOps F]

/-- The kernel at any float values: the arguments attn_kept, every semaphore at zero. -/
theorem attn_kept (m : (ℓ : Loc Cert.AttnKernelIdeal.nD Cert.AttnKernelIdeal.τ Cert.AttnKernelIdeal.sig) → Buf (Elt F) ℓ) (g : Dev Cert.AttnKernelIdeal.nD → PrngReg) :
    θ_run (Cert.AttnKernelIdeal.defs (F := F)) (onTc (τ := Cert.AttnKernelIdeal.τ) (Cert.AttnKernelIdeal.main (F := F))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4)
      ∧ r.2.mem ((c.tc : Thread Cert.AttnKernelIdeal.nD Cert.AttnKernelIdeal.τ).loc Cert.AttnKernelIdeal.main_arg5) = m ((c.tc : Thread Cert.AttnKernelIdeal.nD Cert.AttnKernelIdeal.τ).loc Cert.AttnKernelIdeal.main_arg5))
      ∧ r.2.sem = fun _ => 0) :=
  (θ_run Cert.AttnKernelIdeal.defs _ _).mono (fun _ h => ⟨fun c => ⟨(h.1 c 0).trans (finalA_0 m g c), (h.1 c 1).trans (finalA_1 m g c),
    (h.1 c 2).trans (finalA_2 m g c), (h.1 c 3).trans (finalA_3 m g c), (h.1 c 4).trans (finalA_4 m g c), (h.1 c 5).trans (finalA_5 m g c)⟩, h.2⟩) (run_main (F := F) m g)

/-- The kernel is one text at both readings of its floats. -/
theorem attn_defs_eq : Cert.AttnKernel.defs (F := F) = Cert.AttnKernelIdeal.defs (F := F) := by sl_kernel_rfl
theorem attn_frame_kernel : Cert.quiescent_AttnKernel := by
  intro m g _
  have h := attn_kept (F := Bits) m g
  rw [← attn_defs_eq] at h
  exact h
theorem attn_frame_kernelIdeal : Cert.quiescent_AttnKernelIdeal := fun m g _ => attn_kept (F := Ideal) m g
theorem attn_frame_reference : Cert.quiescent_AttnReferenceIdeal := fun m g _ =>
  (θ_run Cert.AttnReferenceIdeal.defs _ _).mono (fun r h => ⟨fun c => (h c).2, Idealize.ShloMosaic.sem_eq_zero_of_no_sems (by decide) r.2⟩)
    (Cert.AttnReferenceIdeal.Value.run (F := Ideal) m g)

end Cert.Proof

end
-- ==== Proof.GValue.lean ====
module

public import proofs.«01_k».proof.Defs
public import proofs.«01_k».proof.Proof.GFrames
public import Idealize.ShloMosaic.Lib.Pointwise

@[expose] public section

noncomputable section

/-! # The rows worked out are the reference's attention -/

namespace Cert.AttnReferenceIdeal.AG

open Idealize.ShloMosaic Idealize.ShloMosaic.TcCoe Idealize.SL.Sem
open Cert.AttnReferenceIdeal Cert.AttnReferenceIdeal.Facts₀
open scoped BigOperators

/-- The scores of every head, query row and key row. -/
def refScores (x : FVec Ideal S1024x2048 .f32) (wq : FVec Ideal S2048x2048 .f32) (wqr : FVec Ideal S2048x512 .f32)
    (wkr : FVec Ideal S2048x32 .f32) (kv : FVec Ideal S1024x4096 .bf16) : FVec Ideal S16x1024x1024 .f32 :=
  mulf (addf (Host.dotGeneral dot_S1024x16x128_S1024x16x128_S16x1024x1024_2_2_0_0_1_1 none
      (shapeCast _ (Host.dotGeneral dot_S1024x2048_S2048x2048_S1024x2048_1_0_0_1_n_n none x wq) shapeCasts_S1024x2048_S1024x16x128)
      (shapeCast _ (extf .f32 (extractStridedSlice S1024x2048 ![0, 0] kv slices_S1024x4096_S1024x2048_0_0) bitsLt_bf16_f32) shapeCasts_S1024x2048_S1024x16x128))
    (transpose S16x1024x1024 [2, 1, 0]
      (Host.dotGeneral dot_S1024x32_S1024x16x32_S1024x1024x16_1_2_0_01_n_n none
        (Host.dotGeneral dot_S1024x2048_S2048x32_S1024x32_1_0_0_1_n_n none x wkr)
        (shapeCast _ (Host.dotGeneral dot_S1024x2048_S2048x512_S1024x512_1_0_0_1_n_n none x wqr) shapeCasts_S1024x512_S1024x16x32))
      transposes_S1024x1024x16_S16x1024x1024_2_1_0))
    (broadcastInDim S16x1024x1024 ![] bcast_S_S16x1024x1024 (constant S_ .f32 0x3DA1E89B#32))

/-- The exponentials under each row's maximum. -/
def refExp (s : FVec Ideal S16x1024x1024 .f32) : FVec Ideal S16x1024x1024 .f32 :=
  Host.exp (subf s (broadcastInDim S16x1024x1024 ![0, 1, 2] bcast_S16x1024x1_S16x1024x1024_0_1_2
    (broadcastInDim S16x1024x1 ![0, 1] bcast_S16x1024_S16x1024x1_0_1
      (Host.reduce FloatOps.maximumf s (constant S_ .f32 0xFF800000#32) reducesTo_S16x1024x1024_S16x1024_d2 h_S_))))

/-- The weights: each row's exponentials over their sum. -/
def refWeights (e : FVec Ideal S16x1024x1024 .f32) : FVec Ideal S16x1024x1024 .f32 :=
  Host.divf e (broadcastInDim S16x1024x1024 ![0, 1, 2] bcast_S16x1024x1_S16x1024x1024_0_1_2
    (broadcastInDim S16x1024x1 ![0, 1] bcast_S16x1024_S16x1024x1_0_1
      (Host.reduceAdd e (constant S_ .f32 0x00000000#32) reducesTo_S16x1024x1024_S16x1024_d2 h_S_)))

/-- The rows out of the weights. -/
def refRows (w : FVec Ideal S16x1024x1024 .f32) (kv : FVec Ideal S1024x4096 .bf16) (wo : FVec Ideal S2048x2048 .f32) :
    FVec Ideal S1024x2048 .bf16 :=
  truncf .bf16 (Host.dotGeneral dot_S1024x2048_S2048x2048_S1024x2048_1_0_0_1_n_n none
    (shapeCast _ (transpose S1024x16x128 [2, 0, 1]
      (Host.dotGeneral dot_S1024x16x128_S16x1024x1024_S16x128x1024_0_2_2_1_1_0 none
        (shapeCast _ (extf .f32 (extractStridedSlice S1024x2048 ![0, 2048] kv slices_S1024x4096_S1024x2048_0_2048) bitsLt_bf16_f32) shapeCasts_S1024x2048_S1024x16x128) w)
      transposes_S16x128x1024_S1024x16x128_2_0_1) shapeCasts_S1024x16x128_S1024x2048) wo) bitsLt_bf16_f32

theorem refScores_at (x : FVec Ideal S1024x2048 .f32) (wq : FVec Ideal S2048x2048 .f32) (wqr : FVec Ideal S2048x512 .f32)
    (wkr : FVec Ideal S2048x32 .f32) (kv : FVec Ideal S1024x4096 .bf16) (h : Fin 16) (t s : Fin 1024) :
    refScores x wq wqr wkr kv (ix3 h t s)
      = ((∑ d : Fin 128, (∑ l : Fin 2048, x (ix2 t l) * wq (ix2 l (⟨h.val * 128 + d.val, by omega⟩ : Fin 2048)))
            * kv (ix2 s (⟨h.val * 128 + d.val, by omega⟩ : Fin 4096)))
          + ∑ e : Fin 32, (∑ l : Fin 2048, x (ix2 s l) * wkr (ix2 l e))
              * ∑ l : Fin 2048, x (ix2 t l) * wqr (ix2 l (⟨h.val * 32 + e.val, by omega⟩ : Fin 512)))
        * Ideal.ofBits .f32 0x3DA1E89B#32 := by
  pointwise [refScores]
theorem refExp_at (e : FVec Ideal S16x1024x1024 .f32) (h : Fin 16) (t s : Fin 1024) :
    refExp e (ix3 h t s)
      = Ideal.exp (e (ix3 h t s) - Finset.fold max (Ideal.ofBits .f32 0xFF800000#32) (fun s' : Fin 1024 => e (ix3 h t s')) Finset.univ) := by
  pointwise [refExp]
theorem refWeights_at (e : FVec Ideal S16x1024x1024 .f32) (h : Fin 16) (t s : Fin 1024) :
    refWeights e (ix3 h t s) = Ideal.div (e (ix3 h t s)) (∑ s' : Fin 1024, e (ix3 h t s')) := by
  pointwise [refWeights]
theorem refRows_at (w : FVec Ideal S16x1024x1024 .f32) (kv : FVec Ideal S1024x4096 .bf16) (wo : FVec Ideal S2048x2048 .f32)
    (t : Fin 1024) (b : Fin 2048) :
    refRows w kv wo (ix2 t b)
      = ∑ l : Fin 2048, (∑ s : Fin 1024, kv (ix2 s (⟨2048 + l.val, by omega⟩ : Fin 4096)) * w (ix3 (⟨l.val / 128, by omega⟩ : Fin 16) t s))
          * wo (ix2 l b) := by
  pointwise [refRows]

/-- The reference's result out of its arguments. -/
def refA (x : FVec Ideal S1024x2048 .f32) (wq : FVec Ideal S2048x2048 .f32) (wqr : FVec Ideal S2048x512 .f32)
    (wkr : FVec Ideal S2048x32 .f32)
    (wo : FVec Ideal S2048x2048 .f32) (kv : FVec Ideal S1024x4096 .bf16) : FVec Ideal S1024x2048 .bf16 :=
  refRows (refWeights (refExp (refScores x wq wqr wkr kv))) kv wo

theorem res_eq (m : (ℓ : Loc nD τ sig) → Buf (Elt Ideal) ℓ) (c : Dev nD) :
    Cert.AttnReferenceIdeal.Value.res_main_v30 (F := Ideal) m c
      = refA (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

/-- A column of the heads' results: the head's number and the column of the head. -/
def hcol (h : Fin 16) (d : Fin 128) : Fin 2048 := ⟨128 * h.val + d.val, by omega⟩

theorem sum_hcol (f : Fin 2048 → EReal) : ∑ h : Fin 16, ∑ d : Fin 128, f (hcol h d) = ∑ l : Fin 2048, f l := by
  rw [← Fintype.sum_prod_type' (f := fun h d => f (hcol h d)), ← (finProdFinEquiv (m := 16) (n := 128)).sum_comp f]
  refine Finset.sum_congr rfl fun p _ => congrArg f (Fin.ext ?_)
  show 128 * p.1.val + p.2.val = p.2.val + 128 * p.1.val
  omega

/-- The result's rows as a sum over heads. -/
theorem refRows_heads (w : FVec Ideal S16x1024x1024 .f32) (kv : FVec Ideal S1024x4096 .bf16) (wo : FVec Ideal S2048x2048 .f32)
    (t : Fin 1024) (b : Fin 2048) :
    refRows w kv wo (ix2 t b)
      = ∑ h : Fin 16, ∑ d : Fin 128, (∑ s : Fin 1024, w (ix3 h t s) * kv (ix2 s (⟨2048 + 128 * h.val + d.val, by omega⟩ : Fin 4096)))
          * wo (ix2 (hcol h d) b) := by
  rw [refRows_at, ← sum_hcol]
  refine Finset.sum_congr rfl fun h _ => Finset.sum_congr rfl fun d _ => ?_
  refine congrArg (· * wo (ix2 (hcol h d) b)) (Finset.sum_congr rfl fun s _ => ?_)
  have e1 : (⟨2048 + (hcol h d).val, by omega⟩ : Fin 4096) = ⟨2048 + 128 * h.val + d.val, by omega⟩ := Fin.ext (by
    show 2048 + (128 * h.val + d.val) = 2048 + 128 * h.val + d.val; omega)
  have e2 : (⟨(hcol h d).val / 128, by omega⟩ : Fin 16) = h := Fin.ext (by
    show (128 * h.val + d.val) / 128 = h.val; omega)
  rw [e1, e2]
  exact mul_comm _ _

end Cert.AttnReferenceIdeal.AG

namespace Cert.AttnKernelIdeal.AG

open Idealize.ShloMosaic Idealize.ShloMosaic.TcCoe Idealize.SL.Sem
open Cert.AttnKernelIdeal Cert.AttnKernelIdeal.Gen
open Cert.AttnReferenceIdeal.AG (refScores refExp refWeights refRows refA refScores_at refExp_at refWeights_at refRows_heads hcol)
open scoped BigOperators

/-! ## The pieces of a device's rows, read at an index -/

theorem qOf_at (x : FVec Ideal S32x2048 .f32) (w : FVec Ideal S2048x2048 .f32) (a : Fin 32) (b : Fin 2048) :
    qOf (F := Ideal) x w (ix2 a b) = ∑ l : Fin 2048, x (ix2 a l) * w (ix2 l b) := by
  pointwise [qOf]
theorem qrOf_at (x : FVec Ideal S32x2048 .f32) (w : FVec Ideal S2048x512 .f32) (a : Fin 32) (b : Fin 512) :
    qrOf (F := Ideal) x w (ix2 a b) = ∑ l : Fin 2048, x (ix2 a l) * w (ix2 l b) := by
  pointwise [qrOf]
theorem krOf_at (x : FVec Ideal S1024x2048 .f32) (w : FVec Ideal S2048x32 .f32) (a : Fin 1024) (b : Fin 32) :
    krOf (F := Ideal) x w (ix2 a b) = ∑ l : Fin 2048, x (ix2 a l) * w (ix2 l b) := by
  pointwise [krOf]
theorem scoresOf_at (h : Fin 16) (q : FVec Ideal S32x2048 .f32) (qr : FVec Ideal S32x512 .f32) (kr : FVec Ideal S1024x32 .f32)
    (kh : FVec Ideal S1024x128 .bf16) (a : Fin 32) (s : Fin 1024) :
    scoresOf (F := Ideal) h q qr kr kh (ix2 a s)
      = ((∑ d : Fin 128, q (ix2 a (⟨128 * h.val + d.val, by omega⟩ : Fin 2048)) * kh (ix2 s d))
          + ∑ e : Fin 32, qr (ix2 a (⟨32 * h.val + e.val, by omega⟩ : Fin 512)) * kr (ix2 s e)) * Ideal.ofBits .f32 0x3DA1E89B#32 := by
  pointwise [scoresOf]
theorem softOf_at (s : FVec Ideal S32x1024 .f32) (a : Fin 32) (b : Fin 1024) :
    softOf (F := Ideal) s (ix2 a b)
      = Ideal.div (Ideal.exp (s (ix2 a b) - Finset.fold max (Ideal.ofBits .f32 0xFF800000#32) (fun k : Fin 1024 => s (ix2 a k)) Finset.univ))
          (∑ k : Fin 1024, Ideal.exp (s (ix2 a k) - Finset.fold max (Ideal.ofBits .f32 0xFF800000#32) (fun k : Fin 1024 => s (ix2 a k)) Finset.univ)) := by
  pointwise [softOf]
theorem headOf_at (s : FVec Ideal S32x1024 .f32) (v : FVec Ideal S1024x128 .bf16) (w : FVec Ideal S128x2048 .f32) (a : Fin 32) (b : Fin 2048) :
    headOf (F := Ideal) s v w (ix2 a b)
      = ∑ d : Fin 128, (∑ k : Fin 1024, softOf (F := Ideal) s (ix2 a k) * v (ix2 k d)) * w (ix2 d b) := by
  pointwise [headOf]

theorem accOf_at (q : FVec Ideal S32x2048 .f32) (qr : FVec Ideal S32x512 .f32) (kr : FVec Ideal S1024x32 .f32)
    (wo : FVec Ideal S2048x2048 .f32) (kv : FVec Ideal S1024x4096 .bf16) (n : ℕ) (i : S32x2048.Idx) :
    (accOf (F := Ideal) q qr kr wo kv n i : EReal)
      = ∑ k ∈ Finset.range n, (headOf (F := Ideal) (scoresOf (Fin.ofNat 16 k) q qr kr (fun j => kv ((kR (Fin.ofNat 16 k)).emb j)))
          (fun j => kv ((vR (Fin.ofNat 16 k)).emb j)) (fun j => wo ((oR (Fin.ofNat 16 k)).emb j)) i : EReal) := by
  induction n with
  | zero =>
    rw [Finset.range_zero, Finset.sum_empty]
    exact Ideal.ofBits_zero .f32
  | succ n ih =>
    rw [Finset.sum_range_succ, ← ih]
    rfl

/-! ## Where the rectangles lie -/

/-- A row of device `d`. -/
def drow (d : Dev nD) (a : Fin 32) : Fin 1024 := ⟨32 * d.val + a.val, by have h : d.val < 32 := d.isLt; omega⟩

theorem rw_emb (d : Dev nD) (a : Fin 32) (l : Fin 2048) : (rwR d).emb (ix2 a l) = ix2 (drow d a) l := by
  funext i; apply Fin.ext
  fin_cases i
  · exact congrArg (32 * d.val + ·) (Nat.one_mul _)
  · exact (Nat.zero_add _).trans (Nat.one_mul _)
theorem k_emb (h : Fin 16) (s : Fin 1024) (d : Fin 128) :
    (kR h).emb (ix2 s d) = ix2 s (⟨128 * h.val + d.val, by omega⟩ : Fin 4096) := by
  funext i; apply Fin.ext
  fin_cases i
  · exact (Nat.zero_add _).trans (Nat.one_mul _)
  · exact congrArg (128 * h.val + ·) (Nat.one_mul _)
theorem v_emb (h : Fin 16) (s : Fin 1024) (d : Fin 128) :
    (vR h).emb (ix2 s d) = ix2 s (⟨2048 + 128 * h.val + d.val, by omega⟩ : Fin 4096) := by
  funext i; apply Fin.ext
  fin_cases i
  · exact (Nat.zero_add _).trans (Nat.one_mul _)
  · exact congrArg (2048 + 128 * h.val + ·) (Nat.one_mul _)
theorem o_emb (h : Fin 16) (d : Fin 128) (b : Fin 2048) : (oR h).emb (ix2 d b) = ix2 (hcol h d) b := by
  funext i; apply Fin.ext
  fin_cases i
  · exact congrArg (128 * h.val + ·) (Nat.one_mul _)
  · exact (Nat.zero_add _).trans (Nat.one_mul _)

/-! ## A device's rows are the reference's -/

section Rows
variable (x : FVec Ideal S1024x2048 .f32) (wq : FVec Ideal S2048x2048 .f32) (wqr : FVec Ideal S2048x512 .f32)
  (wkr : FVec Ideal S2048x32 .f32) (wo : FVec Ideal S2048x2048 .f32) (kv : FVec Ideal S1024x4096 .bf16)

/-- A head's scores as device `d` works them out. -/
def devScores (d : Dev nD) (h : Fin 16) : FVec Ideal S32x1024 .f32 :=
  scoresOf (F := Ideal) h (qOf (fun j => x ((rwR d).emb j)) wq) (qrOf (fun j => x ((rwR d).emb j)) wqr) (krOf x wkr) (fun j => kv ((kR h).emb j))

theorem devScores_eq (d : Dev nD) (h : Fin 16) (a : Fin 32) (s : Fin 1024) :
    devScores x wq wqr wkr kv d h (ix2 a s) = refScores x wq wqr wkr kv (ix3 h (drow d a) s) := by
  rw [devScores, scoresOf_at, refScores_at]
  refine congrArg (· * Ideal.ofBits .f32 0x3DA1E89B#32) (congrArg₂ (· + ·) (Finset.sum_congr rfl fun k _ => ?_) (Finset.sum_congr rfl fun e _ => ?_))
  · rw [qOf_at]
    refine congrArg₂ (· * ·) (Finset.sum_congr rfl fun l _ => ?_) ?_
    · rw [rw_emb]
      exact congrArg (fun z : Fin 2048 => x (ix2 (drow d a) l) * wq (ix2 l z)) (Fin.ext (by show 128 * h.val + k.val = h.val * 128 + k.val; omega))
    · rw [k_emb]
      exact congrArg (fun z : Fin 4096 => kv (ix2 s z)) (Fin.ext (by show 128 * h.val + k.val = h.val * 128 + k.val; omega))
  · rw [qrOf_at, krOf_at]
    refine (mul_comm _ _).trans (congrArg₂ (· * ·) rfl (Finset.sum_congr rfl fun l _ => ?_))
    rw [rw_emb]
    exact congrArg (fun z : Fin 512 => x (ix2 (drow d a) l) * wqr (ix2 l z)) (Fin.ext (by show 32 * h.val + e.val = h.val * 32 + e.val; omega))

theorem devSoft_eq (d : Dev nD) (h : Fin 16) (a : Fin 32) (s : Fin 1024) :
    softOf (F := Ideal) (devScores x wq wqr wkr kv d h) (ix2 a s) = refWeights (refExp (refScores x wq wqr wkr kv)) (ix3 h (drow d a) s) := by
  rw [softOf_at, refWeights_at]
  simp only [refExp_at, devScores_eq]

theorem devHead_eq (d : Dev nD) (h : Fin 16) (a : Fin 32) (b : Fin 2048) :
    headOf (F := Ideal) (devScores x wq wqr wkr kv d h) (fun j => kv ((vR h).emb j)) (fun j => wo ((oR h).emb j)) (ix2 a b)
      = ∑ k : Fin 128, (∑ s : Fin 1024, refWeights (refExp (refScores x wq wqr wkr kv)) (ix3 h (drow d a) s)
          * kv (ix2 s (⟨2048 + 128 * h.val + k.val, by omega⟩ : Fin 4096))) * wo (ix2 (hcol h k) b) := by
  rw [headOf_at]
  refine Finset.sum_congr rfl fun k _ => ?_
  rw [o_emb]
  refine congrArg (· * wo (ix2 (hcol h k) b)) (Finset.sum_congr rfl fun s _ => ?_)
  rw [devSoft_eq, v_emb]

theorem ofNat16 (h : Fin 16) : Fin.ofNat 16 h.val = h := Fin.ext (Nat.mod_eq_of_lt h.isLt)

theorem rowVal_eq (d : Dev nD) (a : Fin 32) (b : Fin 2048) :
    rowVal (F := Ideal) d x wq wqr wkr wo kv (ix2 a b) = refA x wq wqr wkr wo kv (ix2 (drow d a) b) := by
  refine (accOf_at _ _ _ wo kv 16 (ix2 a b)).trans ?_
  rw [Finset.sum_range]
  refine Eq.trans (Finset.sum_congr rfl fun h _ => ?_) (refRows_heads _ kv wo (drow d a) b).symm
  rw [ofNat16]
  exact devHead_eq x wq wqr wkr wo kv d h a b

end Rows

/-! ## A window that is a whole array -/

variable (m : (ℓ : Loc nD τ sig) → Buf (Elt Ideal) ℓ) (ρ : Dev nD → PrngReg)

theorem emb_0 (j : S1024x2048.Idx) : (win0_0.blk (0 : Fin 1)).view.emb j = j := by
  funext a; apply Fin.ext
  fin_cases a <;> exact (Nat.zero_add _).trans (Nat.one_mul _)
theorem emb_1 (j : S2048x2048.Idx) : (win0_1.blk (0 : Fin 1)).view.emb j = j := by
  funext a; apply Fin.ext
  fin_cases a <;> exact (Nat.zero_add _).trans (Nat.one_mul _)
theorem emb_2 (j : S2048x512.Idx) : (win0_2.blk (0 : Fin 1)).view.emb j = j := by
  funext a; apply Fin.ext
  fin_cases a <;> exact (Nat.zero_add _).trans (Nat.one_mul _)
theorem emb_3 (j : S2048x32.Idx) : (win0_3.blk (0 : Fin 1)).view.emb j = j := by
  funext a; apply Fin.ext
  fin_cases a <;> exact (Nat.zero_add _).trans (Nat.one_mul _)
theorem emb_4 (j : S2048x2048.Idx) : (win0_4.blk (0 : Fin 1)).view.emb j = j := by
  funext a; apply Fin.ext
  fin_cases a <;> exact (Nat.zero_add _).trans (Nat.one_mul _)
theorem emb_5 (j : S1024x4096.Idx) : (win0_5.blk (0 : Fin 1)).view.emb j = j := by
  funext a; apply Fin.ext
  fin_cases a <;> exact (Nat.zero_add _).trans (Nat.one_mul _)
theorem emb_6 (j : S1024x2048.Idx) : (win0_6.blk (0 : Fin 1)).view.emb j = j := by
  funext a; apply Fin.ext
  fin_cases a <;> exact (Nat.zero_add _).trans (Nat.one_mul _)

theorem xin_eq (c : Dev nD) : xin m ρ c = m ((c : Thread nD τ).loc main_arg0) := funext fun j => congrArg (m ((c : Thread nD τ).loc main_arg0)) (emb_0 j)
theorem wqin_eq (c : Dev nD) : wqin m ρ c = m ((c : Thread nD τ).loc main_arg1) := funext fun j => congrArg (m ((c : Thread nD τ).loc main_arg1)) (emb_1 j)
theorem wqrin_eq (c : Dev nD) : wqrin m ρ c = m ((c : Thread nD τ).loc main_arg2) := funext fun j => congrArg (m ((c : Thread nD τ).loc main_arg2)) (emb_2 j)
theorem wkrin_eq (c : Dev nD) : wkrin m ρ c = m ((c : Thread nD τ).loc main_arg3) := funext fun j => congrArg (m ((c : Thread nD τ).loc main_arg3)) (emb_3 j)
theorem woin_eq (c : Dev nD) : woin m ρ c = m ((c : Thread nD τ).loc main_arg4) := funext fun j => congrArg (m ((c : Thread nD τ).loc main_arg4)) (emb_4 j)
theorem kvin_eq (c : Dev nD) : kvin m ρ c = m ((c : Thread nD τ).loc main_arg5) := funext fun j => congrArg (m ((c : Thread nD τ).loc main_arg5)) (emb_5 j)

theorem flushed_out (c : Dev nD) (t : Fin cfg0.N) :
    (dats m ρ 0 c).flushed (6 : Fin 7) t = (win0_6.blk t).view.read (Elt Ideal) (Ain m ρ) := by
  have ht : t = (0 : Fin 1) := fin_N0 t
  subst ht
  exact funext fun j => congrArg (Ain m ρ) (emb_6 j).symm

theorem finalA_6 (c : Dev nD) : finalA m ρ c (6 : Fin 7) = Ain m ρ :=
  (dats m ρ 0 c).arrAt_eq_of_cover (6 : Fin 7) (Ain m ρ) (fun t _ => flushed_out m ρ c t) fun i =>
    ⟨(0 : Fin 1), flush0_6 _, Finset.mem_map.mpr ⟨i, Finset.mem_univ _, emb_6 i⟩⟩

/-- The gathered array is the reference's result. -/
theorem Ain_ref (x : FVec Ideal S1024x2048 .f32) (wq : FVec Ideal S2048x2048 .f32) (wqr : FVec Ideal S2048x512 .f32)
    (wkr : FVec Ideal S2048x32 .f32) (wo : FVec Ideal S2048x2048 .f32) (kv : FVec Ideal S1024x4096 .bf16)
    (hx : ∀ c, xin m ρ c = x) (hq : ∀ c, wqin m ρ c = wq) (hqr : ∀ c, wqrin m ρ c = wqr) (hkr : ∀ c, wkrin m ρ c = wkr)
    (ho : ∀ c, woin m ρ c = wo) (hkv : ∀ c, kvin m ρ c = kv) (i : S1024x2048.Idx) :
    Ain m ρ i = refA x wq wqr wkr wo kv i := by
  obtain ⟨d, j, rfl⟩ : ∃ (d : Dev nD) (j : S32x2048.Idx), (rwR d).emb j = i := by
    have h := (row_mem _ i).mpr rfl
    rw [← Rect.map_emb_univ] at h
    obtain ⟨j, -, hj⟩ := Finset.mem_map.mp h
    exact ⟨_, j, hj⟩
  obtain ⟨a, b, rfl⟩ : ∃ (a : Fin 32) (b : Fin 2048), j = ix2 a b := ⟨j 0, j 1, eq_ix2 j⟩
  refine (congrFun (Ain_row m ρ d) (ix2 a b)).trans ?_
  show rowVal (F := Ideal) d (xin m ρ d) (wqin m ρ d) (wqrin m ρ d) (wkrin m ρ d) (woin m ρ d) (kvin m ρ d) (ix2 a b) = _
  rw [hx, hq, hqr, hkr, ho, hkv, rowVal_eq, rw_emb]

end Cert.AttnKernelIdeal.AG

namespace Cert.Proof

open Idealize.ShloMosaic Idealize.ShloMosaic.TcCoe Idealize.SL.Sem
open Cert.AttnKernelIdeal.AG (finalA_0 finalA_1 finalA_2 finalA_3 finalA_4 finalA_5 finalA_6 run_main Ain_ref xin_eq wqin_eq wqrin_eq wkrin_eq woin_eq kvin_eq)
open Cert.AttnReferenceIdeal.AG (refA)

/-- Every device ends with the reference's result. -/
theorem attn_algebraic : Cert.algebraic_AttnKernelIdeal_AttnReferenceIdeal := by
  intro m g m' g' _ hm
  refine ⟨refA (m' (((0 : Dev Cert.AttnReferenceIdeal.nD).tc : Thread Cert.AttnReferenceIdeal.nD Cert.AttnReferenceIdeal.τ).loc Cert.AttnReferenceIdeal.main_arg0))
    (m' (((0 : Dev Cert.AttnReferenceIdeal.nD).tc : Thread Cert.AttnReferenceIdeal.nD Cert.AttnReferenceIdeal.τ).loc Cert.AttnReferenceIdeal.main_arg1))
    (m' (((0 : Dev Cert.AttnReferenceIdeal.nD).tc : Thread Cert.AttnReferenceIdeal.nD Cert.AttnReferenceIdeal.τ).loc Cert.AttnReferenceIdeal.main_arg2))
    (m' (((0 : Dev Cert.AttnReferenceIdeal.nD).tc : Thread Cert.AttnReferenceIdeal.nD Cert.AttnReferenceIdeal.τ).loc Cert.AttnReferenceIdeal.main_arg3))
    (m' (((0 : Dev Cert.AttnReferenceIdeal.nD).tc : Thread Cert.AttnReferenceIdeal.nD Cert.AttnReferenceIdeal.τ).loc Cert.AttnReferenceIdeal.main_arg4))
    (m' (((0 : Dev Cert.AttnReferenceIdeal.nD).tc : Thread Cert.AttnReferenceIdeal.nD Cert.AttnReferenceIdeal.τ).loc Cert.AttnReferenceIdeal.main_arg5)), ?_, ?_⟩
  · refine (θ_run Cert.AttnKernelIdeal.defs _ _).mono (fun r h c => ⟨(h.1 c 6).trans ((finalA_6 m g c).trans (funext fun i => ?_)),
      (h.1 c 0).trans (finalA_0 m g c), (h.1 c 1).trans (finalA_1 m g c), (h.1 c 2).trans (finalA_2 m g c), (h.1 c 3).trans (finalA_3 m g c),
      (h.1 c 4).trans (finalA_4 m g c), (h.1 c 5).trans (finalA_5 m g c)⟩)
      (run_main (F := Ideal) m g)
    exact Ain_ref m g _ _ _ _ _ _ (fun d => (xin_eq m g d).trans (hm d).1) (fun d => (wqin_eq m g d).trans (hm d).2.1)
      (fun d => (wqrin_eq m g d).trans (hm d).2.2.1) (fun d => (wkrin_eq m g d).trans (hm d).2.2.2.1)
      (fun d => (woin_eq m g d).trans (hm d).2.2.2.2.1) (fun d => (kvin_eq m g d).trans (hm d).2.2.2.2.2) i
  · exact (θ_run Cert.AttnReferenceIdeal.defs _ _).mono (fun r h => h 0) (Cert.AttnReferenceIdeal.Value.run (F := Ideal) m' g')

end Cert.Proof

end
-- ==== Proof.lean ====
module

public import proofs.«01_k».proof.Defs
public import proofs.«01_k».proof.Proof.Value
public import proofs.«01_k».proof.Proof.GValue

@[expose] public section

noncomputable section

namespace Cert.Proof

theorem claim : Cert.Claim := ⟨Cert.Kernel.Gen.facts, Cert.KernelIdeal.Gen.facts, Cert.ReferenceIdeal.Gen.facts,
  Cert.AttnKernel.Gen.facts, Cert.AttnKernelIdeal.Gen.facts, Cert.AttnReferenceIdeal.Gen.facts,
  frame_kernel, frame_kernelIdeal, frame_reference, attn_frame_kernel, attn_frame_kernelIdeal, attn_frame_reference,
  trivial, algebraic, trivial, attn_algebraic⟩

end Cert.Proof

end
